-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v173) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v13) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v14) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v2) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v1_0)) (v1 : (c : Dev Cert.Kernel32Ideal.nD) → Buf (Elt Ideal) ((c.tc : Thread Cert.Kernel32Ideal.nD Cert.Kernel32Ideal.τ).loc Cert.Kernel32Ideal.main_v1_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1_0) = v0 c
          ∧ r.2.mem ((c.tc : Thread Cert.Kernel32Ideal.nD Cert.Kernel32Ideal.τ).loc Cert.Kernel32Ideal.main_v1_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v36) = v0 c
          ∧ r.2.mem ((c.tc : Thread Cert.Reference32Ideal.nD Cert.Reference32Ideal.τ).loc Cert.Reference32Ideal.main_v37) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v1_0)) (v1 : (c : Dev Cert.Kernel33Ideal.nD) → Buf (Elt Ideal) ((c.tc : Thread Cert.Kernel33Ideal.nD Cert.Kernel33Ideal.τ).loc Cert.Kernel33Ideal.main_v1_1)) (v2 : (c : Dev Cert.Kernel33Ideal.nD) → Buf (Elt Ideal) ((c.tc : Thread Cert.Kernel33Ideal.nD Cert.Kernel33Ideal.τ).loc Cert.Kernel33Ideal.main_v1_2)) (v3 : (c : Dev Cert.Kernel33Ideal.nD) → Buf (Elt Ideal) ((c.tc : Thread Cert.Kernel33Ideal.nD Cert.Kernel33Ideal.τ).loc Cert.Kernel33Ideal.main_v1_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1_0) = v0 c
          ∧ r.2.mem ((c.tc : Thread Cert.Kernel33Ideal.nD Cert.Kernel33Ideal.τ).loc Cert.Kernel33Ideal.main_v1_1) = v1 c
          ∧ r.2.mem ((c.tc : Thread Cert.Kernel33Ideal.nD Cert.Kernel33Ideal.τ).loc Cert.Kernel33Ideal.main_v1_2) = v2 c
          ∧ r.2.mem ((c.tc : Thread Cert.Kernel33Ideal.nD Cert.Kernel33Ideal.τ).loc Cert.Kernel33Ideal.main_v1_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v30) = v0 c
          ∧ r.2.mem ((c.tc : Thread Cert.Reference33Ideal.nD Cert.Reference33Ideal.τ).loc Cert.Reference33Ideal.main_v31) = v1 c
          ∧ r.2.mem ((c.tc : Thread Cert.Reference33Ideal.nD Cert.Reference33Ideal.τ).loc Cert.Reference33Ideal.main_v32) = v2 c
          ∧ r.2.mem ((c.tc : Thread Cert.Reference33Ideal.nD Cert.Reference33Ideal.τ).loc Cert.Reference33Ideal.main_v33) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v2_0)) (v1 : (c : Dev Cert.Kernel34Ideal.nD) → Buf (Elt Ideal) ((c.tc : Thread Cert.Kernel34Ideal.nD Cert.Kernel34Ideal.τ).loc Cert.Kernel34Ideal.main_v2_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v2_0) = v0 c
          ∧ r.2.mem ((c.tc : Thread Cert.Kernel34Ideal.nD Cert.Kernel34Ideal.τ).loc Cert.Kernel34Ideal.main_v2_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v36) = v0 c
          ∧ r.2.mem ((c.tc : Thread Cert.Reference34Ideal.nD Cert.Reference34Ideal.τ).loc Cert.Reference34Ideal.main_v37) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite.lean ====
abbrev S4096x768 : Shape := ⟨2, ![4096, 768]⟩
abbrev S4096x2304 : Shape := ⟨2, ![4096, 2304]⟩
abbrev S4096x256 : Shape := ⟨2, ![4096, 256]⟩
abbrev S_ : Shape := ⟨0, ![]⟩

class Facts : Prop where
  bcast_S_S4096x768 : S_.BroadcastsInDim S4096x768 (![] : Fin 0 → Fin S4096x768.rank)
  bcast_S_S4096x2304 : S_.BroadcastsInDim S4096x2304 (![] : Fin 0 → Fin S4096x2304.rank)
  bcast_S_S4096x256 : S_.BroadcastsInDim S4096x256 (![] : Fin 0 → Fin S4096x256.rank)

variable [Facts]

def fn {F : FTy → Type} [FloatOps F] (main_arg0 : FVec F S4096x768 .f32) (main_arg1 : FVec F S4096x768 .f32) (main_arg2 : FVec F S4096x2304 .f32) (main_arg3 : FVec F S4096x256 .f32) (main_arg4 : FVec F S4096x256 .f32) : IVec S4096x768 1 × IVec S4096x768 1 × IVec S4096x2304 1 × IVec S4096x256 1 × IVec S4096x256 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_v3 : FVec F S4096x768 .f32 := Host.absf main_arg1
  let main_cst_0 : FVec F S_ .f32 := constant S_ .f32 0x7F800000#32
  let main_v4 : FVec F S4096x768 .f32 := broadcastInDim S4096x768 ![] bcast_S_S4096x768 main_cst_0
  let main_v5 : IVec S4096x768 1 := cmpf .olt main_v3 main_v4
  let main_v6 : FVec F S4096x2304 .f32 := Host.absf main_arg2
  let main_cst_1 : FVec F S_ .f32 := constant S_ .f32 0x7F800000#32
  let main_v7 : FVec F S4096x2304 .f32 := broadcastInDim S4096x2304 ![] bcast_S_S4096x2304 main_cst_1
  let main_v8 : IVec S4096x2304 1 := cmpf .olt main_v6 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_v12 : FVec F S4096x256 .f32 := Host.absf main_arg4
  let main_cst_3 : FVec F S_ .f32 := constant S_ .f32 0x7F800000#32
  let main_v13 : FVec F S4096x256 .f32 := broadcastInDim S4096x256 ![] bcast_S_S4096x256 main_cst_3
  let main_v14 : IVec S4096x256 1 := cmpf .olt main_v12 main_v13
  (main_v2, main_v5, main_v8, main_v11, main_v14)
-- ==== Kernel.lean ====
abbrev S4096x768 : Shape := ⟨2, ![4096, 768]⟩
abbrev S4096x2304 : Shape := ⟨2, ![4096, 2304]⟩
abbrev S4096x256 : Shape := ⟨2, ![4096, 256]⟩
abbrev S256x256 : Shape := ⟨2, ![256, 256]⟩
abbrev S128x256 : Shape := ⟨2, ![128, 256]⟩
abbrev S128x64 : Shape := ⟨2, ![128, 64]⟩
abbrev S128x128 : Shape := ⟨2, ![128, 128]⟩
abbrev S128 : Shape := ⟨1, ![128]⟩
abbrev S128x1 : Shape := ⟨2, ![128, 1]⟩

abbrev nBuf : Space → Nat
  | .hbm => 8
  | .vmem => 22
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x2304, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S128x256, .f32⟩
  | .local _ .vmem, ⟨5, _⟩ => ⟨S128x256, .f32⟩
  | .local _ .vmem, ⟨6, _⟩ => ⟨S256x256, .f32⟩
  | .local _ .vmem, ⟨7, _⟩ => ⟨S256x256, .f32⟩
  | .local _ .vmem, ⟨8, _⟩ => ⟨S128x256, .f32⟩
  | .local _ .vmem, ⟨9, _⟩ => ⟨S128x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S128x256, .f32⟩
  | .local _ .vmem, ⟨21, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c6_i32 : BitVec 32 := 6#32
  let c0_i32_0 : BitVec 32 := 0#32
  ![v3.toNat, c6_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x768 : Shape := ⟨2, ![4096, 768]⟩
abbrev S4096x2304 : Shape := ⟨2, ![4096, 2304]⟩
abbrev S4096x256 : Shape := ⟨2, ![4096, 256]⟩
abbrev S1x4096x12x64 : Shape := ⟨4, ![1, 4096, 12, 64]⟩
abbrev S1x4096x4x64 : Shape := ⟨4, ![1, 4096, 4, 64]⟩
abbrev S1x4096x1x4x64 : Shape := ⟨5, ![1, 4096, 1, 4, 64]⟩
abbrev S1x1x4096x4x64 : Shape := ⟨5, ![1, 1, 4096, 4, 64]⟩
abbrev S_ : Shape := ⟨0, ![]⟩
abbrev S1x1x32x128x4x64 : Shape := ⟨6, ![1, 1, 32, 128, 4, 64]⟩
abbrev S1x1x1x128x4x64 : Shape := ⟨6, ![1, 1, 1, 128, 4, 64]⟩
abbrev S1x1x33x128x4x64 : Shape := ⟨6, ![1, 1, 33, 128, 4, 64]⟩
abbrev S1x1x32x256x4x64 : Shape := ⟨6, ![1, 1, 32, 256, 4, 64]⟩
abbrev S1x1x32x4x128x256 : Shape := ⟨6, ![1, 1, 32, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x1x32x1x128x256 : Shape := ⟨6, ![1, 1, 32, 1, 128, 256]⟩
abbrev S1x1x32x4x128 : Shape := ⟨5, ![1, 1, 32, 4, 128]⟩
abbrev S1x1x32x4x128x1 : Shape := ⟨6, ![1, 1, 32, 4, 128, 1]⟩
abbrev S1x1x32x4x64x128 : Shape := ⟨6, ![1, 1, 32, 4, 64, 128]⟩
abbrev S1x1x32x128x4 : Shape := ⟨5, ![1, 1, 32, 128, 4]⟩
abbrev S1x1x4096x4 : Shape := ⟨4, ![1, 1, 4096, 4]⟩
abbrev S1x4096x1x4 : Shape := ⟨4, ![1, 4096, 1, 4]⟩
abbrev S1x4096x4 : Shape := ⟨3, ![1, 4096, 4]⟩
abbrev S1x4096x4x1 : Shape := ⟨4, ![1, 4096, 4, 1]⟩
abbrev S4096x4 : Shape := ⟨2, ![4096, 4]⟩
abbrev S1x1x32x4x64x256 : Shape := ⟨6, ![1, 1, 32, 4, 64, 256]⟩
abbrev S32x4x128 : Shape := ⟨3, ![32, 4, 128]⟩
abbrev S1x1x32x4x256x64 : Shape := ⟨6, ![1, 1, 32, 4, 256, 64]⟩
abbrev S1x1x32x4x128x64 : Shape := ⟨6, ![1, 1, 32, 4, 128, 64]⟩

abbrev nBuf : Space → Nat
  | .hbm => 226
  | .vmem => 0
  | .smem => 0
  | _ => 0

abbrev hbmTy0_0 (i : Nat) : BufTy := match i % 128 with
  | 0 => ⟨S4096x768, .f32⟩
  | 1 => ⟨S4096x768, .f32⟩
  | 2 => ⟨S4096x2304, .f32⟩
  | 3 => ⟨S4096x256, .f32⟩
  | 4 => ⟨S4096x256, .f32⟩
  | 5 => ⟨S1x4096x12x64, .f32⟩
  | 6 => ⟨S1x4096x4x64, .f32⟩
  | 7 => ⟨S1x4096x12x64, .f32⟩
  | 8 => ⟨S1x4096x4x64, .f32⟩
  | 9 => ⟨S4096x768, .f32⟩
  | 10 => ⟨S1x4096x12x64, .f32⟩
  | 11 => ⟨S1x4096x4x64, .f32⟩
  | 12 => ⟨S1x4096x1x4x64, .f32⟩
  | 13 => ⟨S1x1x4096x4x64, .f32⟩
  | 14 => ⟨S_, .i32⟩
  | 15 => ⟨S_, .f32⟩
  | 16 => ⟨S1x1x4096x4x64, .f32⟩
  | 17 => ⟨S_, .f32⟩
  | 18 => ⟨S1x1x32x128x4x64, .f32⟩
  | 19 => ⟨S1x4096x1x4x64, .f32⟩
  | 20 => ⟨S1x1x4096x4x64, .f32⟩
  | 21 => ⟨S_, .i32⟩
  | 22 => ⟨S_, .f32⟩
  | 23 => ⟨S1x1x4096x4x64, .f32⟩
  | 24 => ⟨S_, .f32⟩
  | 25 => ⟨S1x1x32x128x4x64, .f32⟩
  | 26 => ⟨S1x1x1x128x4x64, .f32⟩
  | 27 => ⟨S_, .f32⟩
  | 28 => ⟨S1x1x1x128x4x64, .f32⟩
  | 29 => ⟨S1x1x33x128x4x64, .f32⟩
  | 30 => ⟨S_, .f32⟩
  | 31 => ⟨S1x1x1x128x4x64, .f32⟩
  | 32 => ⟨S1x1x32x128x4x64, .f32⟩
  | 33 => ⟨S1x1x32x128x4x64, .f32⟩
  | 34 => ⟨S1x1x32x256x4x64, .f32⟩
  | 35 => ⟨S1x4096x1x4x64, .f32⟩
  | 36 => ⟨S1x1x4096x4x64, .f32⟩
  | 37 => ⟨S_, .i32⟩
  | 38 => ⟨S_, .f32⟩
  | 39 => ⟨S1x1x4096x4x64, .f32⟩
  | 40 => ⟨S_, .f32⟩
  | 41 => ⟨S1x1x32x128x4x64, .f32⟩
  | 42 => ⟨S1x1x1x128x4x64, .f32⟩
  | 43 => ⟨S_, .f32⟩
  | 44 => ⟨S1x1x1x128x4x64, .f32⟩
  | 45 => ⟨S1x1x33x128x4x64, .f32⟩
  | 46 => ⟨S_, .f32⟩
  | 47 => ⟨S1x1x1x128x4x64, .f32⟩
  | 48 => ⟨S1x1x32x128x4x64, .f32⟩
  | 49 => ⟨S1x1x32x128x4x64, .f32⟩
  | 50 => ⟨S1x1x32x256x4x64, .f32⟩
  | 51 => ⟨S1x1x32x4x128x256, .f32⟩
  | 52 => ⟨S128, .i32⟩
  | 53 => ⟨S128x1, .i32⟩
  | 54 => ⟨S256, .i32⟩
  | 55 => ⟨S1x256, .i32⟩
  | 56 => ⟨S_, .i32⟩
  | 57 => ⟨S128x1, .i32⟩
  | 58 => ⟨S128x1, .i32⟩
  | 59 => ⟨S128x256, .i32⟩
  | 60 => ⟨S128x256, .i32⟩
  | 61 => ⟨S128x256, .i32⟩
  | 62 => ⟨S32, .i32⟩
  | 63 => ⟨S32x1x1, .i32⟩
  | 64 => ⟨S_, .i32⟩
  | 65 => ⟨S128x256, .i32⟩
  | 66 => ⟨S128x256, .i1⟩
  | 67 => ⟨S_, .i32⟩
  | 68 => ⟨S128x256, .i32⟩
  | 69 => ⟨S128x256, .i1⟩
  | 70 => ⟨S128x256, .i1⟩
  | 71 => ⟨S_, .i32⟩
  | 72 => ⟨S32x1x1, .i32⟩
  | 73 => ⟨S32x1x1, .i32⟩
  | 74 => ⟨S1x1x256, .i32⟩
  | 75 => ⟨S32x1x256, .i32⟩
  | 76 => ⟨S32x1x256, .i32⟩
  | 77 => ⟨S32x1x256, .i32⟩
  | 78 => ⟨S_, .i32⟩
  | 79 => ⟨S32x1x256, .i32⟩
  | 80 => ⟨S32x1x256, .i32⟩
  | 81 => ⟨S_, .i32⟩
  | 82 => ⟨S32x1x256, .i32⟩
  | 83 => ⟨S32x1x256, .i1⟩
  | 84 => ⟨S1x128x256, .i1⟩
  | 85 => ⟨S32x128x256, .i1⟩
  | 86 => ⟨S32x128x256, .i1⟩
  | 87 => ⟨S32x128x256, .i1⟩
  | 88 => ⟨S1x1x32x1x128x256, .i1⟩
  | 89 => ⟨S_, .f32⟩
  | 90 => ⟨S_, .f32⟩
  | 91 => ⟨S1x1x32x4x128x256, .i1⟩
  | 92 => ⟨S1x1x32x4x128x256, .f32⟩
  | 93 => ⟨S1x1x32x4x128x256, .f32⟩
  | 94 => ⟨S_, .f32⟩
  | 95 => ⟨S1x1x32x4x128x256, .f32⟩
  | 96 => ⟨S_, .f32⟩
  | 97 => ⟨S1x1x32x4x128, .f32⟩
  | 98 => ⟨S1x1x32x4x128x1, .f32⟩
  | 99 => ⟨S1x1x32x4x128x256, .f32⟩
  | 100 => ⟨S1x1x32x4x128x256, .i1⟩
  | 101 => ⟨S1x1x32x4x128x256, .f32⟩
  | 102 => ⟨S_, .f32⟩
  | 103 => ⟨S1x1x32x4x128, .f32⟩
  | 104 => ⟨S1x1x32x4x128x1, .f32⟩
  | 105 => ⟨S1x1x32x4x128x256, .f32⟩
  | 106 => ⟨S1x1x32x4x128x256, .f32⟩
  | 107 => ⟨S1x1x32x4x128x256, .f32⟩
  | 108 => ⟨S_, .f32⟩
  | 109 => ⟨S1x1x32x4x128, .f32⟩
  | 110 => ⟨S1x1x32x4x128x1, .f32⟩
  | 111 => ⟨S1x1x32x4x128x256, .f32⟩
  | 112 => ⟨S1x1x32x4x128x256, .f32⟩
  | 113 => ⟨S1x1x32x4x128x1, .f32⟩
  | 114 => ⟨S_, .f32⟩
  | 115 => ⟨S1x1x32x4x128x1, .f32⟩
  | 116 => ⟨S1x1x32x4x128x1, .f32⟩
  | 117 => ⟨S1x1x32x4x64x128, .f32⟩
  | 118 => ⟨S1x1x32x128x4x64, .f32⟩
  | 119 => ⟨S1x1x32x4x128x1, .f32⟩
  | 120 => ⟨S1x1x32x4x128x1, .f32⟩
  | 121 => ⟨S1x1x32x4x128, .f32⟩
  | 122 => ⟨S1x1x32x128x4, .f32⟩
  | 123 => ⟨S1x1x4096x4x64, .f32⟩
  | 124 => ⟨S1x4096x1x4x64, .f32⟩
  | 125 => ⟨S1x4096x4x64, .f32⟩
  | 126 => ⟨S1x1x4096x4, .f32⟩
  | 127 => ⟨S1x4096x1x4, .f32⟩
  | _ => ⟨S4096x768, .f32⟩

abbrev hbmTy0_1 (i : Nat) : BufTy := match i % 128 with
  | 0 => ⟨S1x4096x4, .f32⟩
  | 1 => ⟨S1x4096x4x1, .f32⟩
  | 2 => ⟨S1x4096x4x64, .f32⟩
  | 3 => ⟨S1x4096x4x64, .f32⟩
  | 4 => ⟨S1x4096x4x64, .f32⟩
  | 5 => ⟨S_, .f32⟩
  | 6 => ⟨S4096x4, .f32⟩
  | 7 => ⟨S1x4096x4x1, .f32⟩
  | 8 => ⟨S_, .f32⟩
  | 9 => ⟨S4096x4, .f32⟩
  | 10 => ⟨S1x4096x4, .f32⟩
  | 11 => ⟨S1x4096x1x4, .f32⟩
  | 12 => ⟨S1x1x4096x4, .f32⟩
  | 13 => ⟨S1x1x32x128x4, .f32⟩
  | 14 => ⟨S1x4096x1x4x64, .f32⟩
  | 15 => ⟨S1x1x4096x4x64, .f32⟩
  | 16 => ⟨S1x1x32x128x4x64, .f32⟩
  | 17 => ⟨S1x1x32x4x128, .f32⟩
  | 18 => ⟨S1x1x32x4x128x1, .f32⟩
  | 19 => ⟨S1x1x32x4x128x1, .f32⟩
  | 20 => ⟨S1x1x32x4x64x128, .f32⟩
  | 21 => ⟨S1x1x32x4x128x256, .f32⟩
  | 22 => ⟨S1x1x32x4x64x256, .f32⟩
  | 23 => ⟨S1x1x32x256x4x64, .f32⟩
  | 24 => ⟨S1x1x32x4x128x256, .f32⟩
  | 25 => ⟨S1x1x32x4x128x256, .f32⟩
  | 26 => ⟨S1x1x32x4x128x256, .f32⟩
  | 27 => ⟨S_, .f32⟩
  | 28 => ⟨S1x1x32x4x128, .f32⟩
  | 29 => ⟨S1x1x32x4x128x1, .f32⟩
  | 30 => ⟨S1x1x32x4x128x1, .f32⟩
  | 31 => ⟨S1x1x32x4x128x1, .f32⟩
  | 32 => ⟨S1x1x32x4x128x256, .f32⟩
  | 33 => ⟨S1x1x32x4x128x256, .f32⟩
  | 34 => ⟨S_, .f32⟩
  | 35 => ⟨S32x4x128, .f32⟩
  | 36 => ⟨S1x1x32x4x128, .f32⟩
  | 37 => ⟨S1x1x32x4x128x256, .f32⟩
  | 38 => ⟨S1x1x32x4x128x256, .f32⟩
  | 39 => ⟨S1x1x32x4x128x256, .f32⟩
  | 40 => ⟨S1x1x32x4x128x256, .f32⟩
  | 41 => ⟨S_, .f32⟩
  | 42 => ⟨S1x1x32x4x128, .f32⟩
  | 43 => ⟨S1x1x32x4x128x1, .f32⟩
  | 44 => ⟨S1x1x32x4x128x1, .f32⟩
  | 45 => ⟨S_, .f32⟩
  | 46 => ⟨S32x4x128, .f32⟩
  | 47 => ⟨S1x1x32x4x128, .f32⟩
  | 48 => ⟨S1x1x32x4x128, .f32⟩
  | 49 => ⟨S1x1x32x4x128x256, .f32⟩
  | 50 => ⟨S1x1x32x4x128x256, .f32⟩
  | 51 => ⟨S1x1x32x4x128x256, .f32⟩
  | 52 => ⟨S_, .f32⟩
  | 53 => ⟨S1x1x32x4x128x256, .f32⟩
  | 54 => ⟨S1x1x32x4x128x256, .f32⟩
  | 55 => ⟨S1x1x32x4x256x64, .f32⟩
  | 56 => ⟨S1x1x32x256x4x64, .f32⟩
  | 57 => ⟨S1x1x32x4x128x64, .f32⟩
  | 58 => ⟨S1x1x32x128x4x64, .f32⟩
  | 59 => ⟨S1x1x32x128x4x64, .f32⟩
  | 60 => ⟨S1x1x32x128x4x64, .f32⟩
  | 61 => ⟨S_, .f32⟩
  | 62 => ⟨S1x1x33x128x4x64, .f32⟩
  | 63 => ⟨S_, .f32⟩
  | 64 => ⟨S1x1x33x128x4x64, .f32⟩
  | 65 => ⟨S1x1x33x128x4x64, .f32⟩
  | 66 => ⟨S1x1x1x128x4x64, .f32⟩
  | 67 => ⟨S1x1x32x128x4x64, .f32⟩
  | 68 => ⟨S1x1x4096x4x64, .f32⟩
  | 69 => ⟨S_, .f32⟩
  | 70 => ⟨S1x1x4096x4x64, .f32⟩
  | 71 => ⟨S1x1x4096x4x64, .f32⟩
  | 72 => ⟨S1x4096x1x4x64, .f32⟩
  | 73 => ⟨S1x4096x4x64, .f32⟩
  | 74 => ⟨S1x1x32x128x4x64, .f32⟩
  | 75 => ⟨S1x1x32x128x4x64, .f32⟩
  | 76 => ⟨S_, .f32⟩
  | 77 => ⟨S1x1x33x128x4x64, .f32⟩
  | 78 => ⟨S_, .f32⟩
  | 79 => ⟨S1x1x33x128x4x64, .f32⟩
  | 80 => ⟨S1x1x33x128x4x64, .f32⟩
  | 81 => ⟨S1x1x1x128x4x64, .f32⟩
  | 82 => ⟨S1x1x32x128x4x64, .f32⟩
  | 83 => ⟨S1x1x4096x4x64, .f32⟩
  | 84 => ⟨S_, .f32⟩
  | 85 => ⟨S1x1x4096x4x64, .f32⟩
  | 86 => ⟨S1x1x4096x4x64, .f32⟩
  | 87 => ⟨S1x4096x1x4x64, .f32⟩
  | 88 => ⟨S1x4096x4x64, .f32⟩
  | 89 => ⟨S1x1x4096x4x64, .f32⟩
  | 90 => ⟨S_, .f32⟩
  | 91 => ⟨S1x1x4096x4x64, .f32⟩
  | 92 => ⟨S1x1x4096x4x64, .f32⟩
  | 93 => ⟨S1x4096x1x4x64, .f32⟩
  | 94 => ⟨S1x4096x4x64, .f32⟩
  | 95 => ⟨S4096x256, .f32⟩
  | 96 => ⟨S4096x256, .f32⟩
  | 97 => ⟨S4096x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_call2_v0 : Ref sig .tc := ⟨.hbm, 38, rfl⟩
abbrev main_v24_0 : Ref sig .tc := ⟨.hbm, 39, rfl⟩
abbrev main_v24_1 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_call3_v0 : Ref sig .tc := ⟨.hbm, 90, rfl⟩
abbrev main_v65_1 : Ref sig .tc := ⟨.hbm, 91, rfl⟩
abbrev main_call3_v2 : Ref sig .tc := ⟨.hbm, 92, rfl⟩
abbrev main_v65_0 : Ref sig .tc := ⟨.hbm, 93, rfl⟩
abbrev main_call3_cst : Ref sig .tc := ⟨.hbm, 94, rfl⟩
abbrev main_v65_2 : Ref sig .tc := ⟨.hbm, 95, rfl⟩
abbrev main_cst_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_15 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_16 : Ref sig .tc := ⟨.hbm, 133, rfl⟩
abbrev main_v99 : Ref sig .tc := ⟨.hbm, 134, rfl⟩
abbrev main_v100 : Ref sig .tc := ⟨.hbm, 135, rfl⟩
abbrev main_cst_17 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_18 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_19 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_20 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_21 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_call4_cst : Ref sig .tc := ⟨.hbm, 180, rfl⟩
abbrev main_call4_v0 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_22 : Ref sig .tc := ⟨.hbm, 189, rfl⟩
abbrev main_v147 : Ref sig .tc := ⟨.hbm, 190, rfl⟩
abbrev main_cst_23 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_call5_cst : Ref sig .tc := ⟨.hbm, 197, rfl⟩
abbrev main_call5_v0 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_24 : Ref sig .tc := ⟨.hbm, 204, rfl⟩
abbrev main_v158 : Ref sig .tc := ⟨.hbm, 205, rfl⟩
abbrev main_cst_25 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_call6_cst : Ref sig .tc := ⟨.hbm, 212, rfl⟩
abbrev main_call6_v0 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_call7_cst : Ref sig .tc := ⟨.hbm, 218, rfl⟩
abbrev main_call7_v0 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩
abbrev S8x128 : Shape := ⟨2, ![8, 128]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩
abbrev S1x1 : Shape := ⟨2, ![1, 1]⟩

abbrev nBuf : Space → Nat
  | .hbm => 12
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S1x4096x2816, .f32⟩
  | .hbm, ⟨5, _⟩ => ⟨S1x4096x2816, .f32⟩
  | .hbm, ⟨6, _⟩ => ⟨S2x4096x2816, .f32⟩
  | .hbm, ⟨7, _⟩ => ⟨S2x4096x2816, .bf16⟩
  | .hbm, ⟨8, _⟩ => ⟨S4096x1024, .bf16⟩
  | .hbm, ⟨9, _⟩ => ⟨S_, .f32⟩
  | .hbm, ⟨10, _⟩ => ⟨S8x128, .f32⟩
  | .hbm, ⟨11, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S8x128, .f32⟩
  | .local _ .vmem, ⟨5, _⟩ => ⟨S1x1024x1408, .f32⟩
  | .local _ .vmem, ⟨6, _⟩ => ⟨S1x1024x1408, .f32⟩
  | .local _ .vmem, ⟨7, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S1024x5632 : Shape := ⟨2, ![1024, 5632]⟩
abbrev S4096x2816 : Shape := ⟨2, ![4096, 2816]⟩
abbrev S4096x5632 : Shape := ⟨2, ![4096, 5632]⟩
abbrev S_ : Shape := ⟨0, ![]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel3.lean ====
abbrev S4096x1024 : Shape := ⟨2, ![4096, 1024]⟩
abbrev S1024x5632 : Shape := ⟨2, ![1024, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S_ : Shape := ⟨0, ![]⟩
abbrev S8x128 : Shape := ⟨2, ![8, 128]⟩
abbrev S1x1024x1408 : Shape := ⟨3, ![1, 1024, 1408]⟩
abbrev S1024x1024 : Shape := ⟨2, ![1024, 1024]⟩
abbrev S1024x1408 : Shape := ⟨2, ![1024, 1408]⟩
abbrev S1x1 : Shape := ⟨2, ![1, 1]⟩

abbrev nBuf : Space → Nat
  | .hbm => 13
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S1x4096x2816, .f32⟩
  | .hbm, ⟨5, _⟩ => ⟨S1x4096x2816, .f32⟩
  | .hbm, ⟨6, _⟩ => ⟨S2x4096x2816, .f32⟩
  | .hbm, ⟨7, _⟩ => ⟨S2x4096x2816, .bf16⟩
  | .hbm, ⟨8, _⟩ => ⟨S1024x4x1408, .f32⟩
  | .hbm, ⟨9, _⟩ => ⟨S4x1024x1408, .f32⟩
  | .hbm, ⟨10, _⟩ => ⟨S_, .f32⟩
  | .hbm, ⟨11, _⟩ => ⟨S8x128, .f32⟩
  | .hbm, ⟨12, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .f32⟩
  | .local _ .vmem, ⟨3, _⟩ => ⟨S1x1024x1408, .f32⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x1024 : Shape := ⟨2, ![4096, 1024]⟩
abbrev S1024x5632 : Shape := ⟨2, ![1024, 5632]⟩
abbrev S4096x2816 : Shape := ⟨2, ![4096, 2816]⟩
abbrev S4096x5632 : Shape := ⟨2, ![4096, 5632]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S1024x2816, .f32⟩
  | .hbm, ⟨11, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S4096x2816 : Shape := ⟨2, ![4096, 2816]⟩
abbrev S2816x1024 : Shape := ⟨2, ![2816, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S512x1024 : Shape := ⟨2, ![512, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S1x512x1408 : Shape := ⟨3, ![1, 512, 1408]⟩
abbrev S1024x1408 : Shape := ⟨2, ![1024, 1408]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x4x1408, .f32⟩
  | .hbm, ⟨4, _⟩ => ⟨S4x1024x1408, .f32⟩
  | .hbm, ⟨5, _⟩ => ⟨S2x4096x2816, .f32⟩
  | .hbm, ⟨6, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .f32⟩
  | .local _ .vmem, ⟨3, _⟩ => ⟨S1x1024x1408, .f32⟩
  | .local _ .vmem, ⟨4, _⟩ => ⟨S1x1024x1408, .f32⟩
  | .local _ .vmem, ⟨5, _⟩ => ⟨S1x1024x1408, .f32⟩
  | .local _ .vmem, ⟨6, _⟩ => ⟨S2x512x1408, .f32⟩
  | .local _ .vmem, ⟨7, _⟩ => ⟨S2x512x1408, .f32⟩
  | .local _ .vmem, ⟨8, _⟩ => ⟨S512x1408, .bf16⟩
  | .local _ .vmem, ⟨9, _⟩ => ⟨S512x1408, .bf16⟩
  | .local _ .vmem, ⟨10, _⟩ => ⟨S2x512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_20 : BitVec 32 := 0#32
  let v25 : BitVec 1 := Scalar.cmpi .eq arg2 c0_i32_20
  let v26 : BitVec 32 := Scalar.extui v25
  let c0_i32_21 : BitVec 32 := 0#32
  let v27 : BitVec 1 := Scalar.cmpi .ne v26 c0_i32_21
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![v0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference6Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S1x4096x2816, .f32⟩
  | .hbm, ⟨6, _⟩ => ⟨S1x4096x2816, .f32⟩
  | .hbm, ⟨7, _⟩ => ⟨S2x4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1x4096x2816 : Shape := ⟨3, ![1, 4096, 2816]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 8
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S1x4096x2816, .f32⟩
  | .hbm, ⟨5, _⟩ => ⟨S1x4096x2816, .f32⟩
  | .hbm, ⟨6, _⟩ => ⟨S2x4096x2816, .f32⟩
  | .hbm, ⟨7, _⟩ => ⟨S2x4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .f32⟩
  | .local _ .vmem, ⟨3, _⟩ => ⟨S1408x1024, .f32⟩
  | .local _ .vmem, ⟨4, _⟩ => ⟨S2x512x1408, .f32⟩
  | .local _ .vmem, ⟨5, _⟩ => ⟨S2x512x1408, .f32⟩
  | .local _ .vmem, ⟨6, _⟩ => ⟨S2x512x1408, .bf16⟩
  | .local _ .vmem, ⟨7, _⟩ => ⟨S2x512x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S1x4096x2816, .f32⟩
  | .hbm, ⟨34, _⟩ => ⟨S2x4096x2816, .f32⟩
  | .hbm, ⟨35, _⟩ => ⟨S2x4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel8.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S4096x3072, .bf16⟩
  | .hbm, ⟨5, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x1152 : Shape := ⟨2, ![1024, 1152]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | .hbm, ⟨3, _⟩ => ⟨S4096x1024, .bf16⟩
  | .hbm, ⟨4, _⟩ => ⟨S4096x2304, .bf16⟩
  | .hbm, ⟨5, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x2304 : Shape := ⟨2, ![1024, 2304]⟩
abbrev S4096x2304 : Shape := ⟨2, ![4096, 2304]⟩
abbrev S2304x1024 : Shape := ⟨2, ![2304, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | .hbm, ⟨3, _⟩ => ⟨S4096x2304, .f32⟩
  | .hbm, ⟨4, _⟩ => ⟨S2304x1024, .f32⟩
  | .hbm, ⟨5, _⟩ => ⟨S1024x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .bf16⟩
  | .hbm, ⟨4, _⟩ => ⟨S4096x2048, .bf16⟩
  | .hbm, ⟨5, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4096x1024 : Shape := ⟨2, ![4096, 1024]⟩
abbrev S1024x7712 : Shape := ⟨2, ![1024, 7712]⟩
abbrev S4096x3072 : Shape := ⟨2, ![4096, 3072]⟩
abbrev S1024x3072 : Shape := ⟨2, ![1024, 3072]⟩
abbrev S1024x1536 : Shape := ⟨2, ![1024, 1536]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x3072, .f32⟩
  | .hbm, ⟨3, _⟩ => ⟨S4096x3072, .bf16⟩
  | .hbm, ⟨4, _⟩ => ⟨S1024x3072, .f32⟩
  | .hbm, ⟨5, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .f32⟩
  | .local _ .vmem, ⟨3, _⟩ => ⟨S1024x1536, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x7712 : Shape := ⟨2, ![1024, 7712]⟩
abbrev S4096x3072 : Shape := ⟨2, ![4096, 3072]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x3072, .f32⟩
  | .hbm, ⟨3, _⟩ => ⟨S1024x3072, .f32⟩
  | .hbm, ⟨4, _⟩ => ⟨S4096x3072, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S1024x7712 : Shape := ⟨2, ![1024, 7712]⟩
abbrev S4096x2304 : Shape := ⟨2, ![4096, 2304]⟩
abbrev S1024x2304 : Shape := ⟨2, ![1024, 2304]⟩
abbrev S1024x1152 : Shape := ⟨2, ![1024, 1152]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x2304, .f32⟩
  | .hbm, ⟨3, _⟩ => ⟨S4096x1024, .f32⟩
  | .hbm, ⟨4, _⟩ => ⟨S4096x2304, .bf16⟩
  | .hbm, ⟨5, _⟩ => ⟨S1024x2304, .f32⟩
  | .hbm, ⟨6, _⟩ => ⟨S4096x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .f32⟩
  | .local _ .vmem, ⟨3, _⟩ => ⟨S1024x1152, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x1024 : Shape := ⟨2, ![4096, 1024]⟩
abbrev S1024x7712 : Shape := ⟨2, ![1024, 7712]⟩
abbrev S4096x2304 : Shape := ⟨2, ![4096, 2304]⟩
abbrev S1024x2304 : Shape := ⟨2, ![1024, 2304]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x2304, .f32⟩
  | .hbm, ⟨3, _⟩ => ⟨S4096x1024, .f32⟩
  | .hbm, ⟨4, _⟩ => ⟨S1024x2304, .f32⟩
  | .hbm, ⟨5, _⟩ => ⟨S4096x2304, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x7712 : Shape := ⟨2, ![1024, 7712]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x2048, .f32⟩
  | .hbm, ⟨3, _⟩ => ⟨S4096x1024, .f32⟩
  | .hbm, ⟨4, _⟩ => ⟨S4096x2048, .bf16⟩
  | .hbm, ⟨5, _⟩ => ⟨S1024x2048, .f32⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x1024 : Shape := ⟨2, ![4096, 1024]⟩
abbrev S1024x7712 : Shape := ⟨2, ![1024, 7712]⟩
abbrev S4096x2048 : Shape := ⟨2, ![4096, 2048]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x2048, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024x7712 : Shape := ⟨2, ![1024, 7712]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x1024, .bf16⟩
  | .hbm, ⟨3, _⟩ => ⟨S1024x3072, .f32⟩
  | .hbm, ⟨4, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x7712 : Shape := ⟨2, ![1024, 7712]⟩
abbrev S1024x3072 : Shape := ⟨2, ![1024, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S1024x3072, .f32⟩
  | .hbm, ⟨3, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S4096x1024 : Shape := ⟨2, ![4096, 1024]⟩
abbrev S1024x7712 : Shape := ⟨2, ![1024, 7712]⟩
abbrev S1024x2304 : Shape := ⟨2, ![1024, 2304]⟩
abbrev S4096x2304 : Shape := ⟨2, ![4096, 2304]⟩
abbrev S1024x1024 : Shape := ⟨2, ![1024, 1024]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x1024, .bf16⟩
  | .hbm, ⟨3, _⟩ => ⟨S1024x2304, .f32⟩
  | .hbm, ⟨4, _⟩ => ⟨S4096x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .f32⟩
  | .local _ .vmem, ⟨3, _⟩ => ⟨S1024x1152, .f32⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x7712 : Shape := ⟨2, ![1024, 7712]⟩
abbrev S1024x2304 : Shape := ⟨2, ![1024, 2304]⟩
abbrev S4096x2304 : Shape := ⟨2, ![4096, 2304]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S1024x2304, .f32⟩
  | .hbm, ⟨3, _⟩ => ⟨S4096x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S4096x1024 : Shape := ⟨2, ![4096, 1024]⟩
abbrev S1024x7712 : Shape := ⟨2, ![1024, 7712]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x1024, .bf16⟩
  | .hbm, ⟨3, _⟩ => ⟨S1024x2048, .f32⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x7712 : Shape := ⟨2, ![1024, 7712]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S1024x2048, .f32⟩
  | .hbm, ⟨3, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S4096x768 : Shape := ⟨2, ![4096, 768]⟩
abbrev S768x1024 : Shape := ⟨2, ![768, 1024]⟩
abbrev S4096x1024 : Shape := ⟨2, ![4096, 1024]⟩
abbrev S1024x768 : Shape := ⟨2, ![1024, 768]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S768x1024, .f32⟩
  | .hbm, ⟨2, _⟩ => ⟨S4096x1024, .f32⟩
  | .hbm, ⟨3, _⟩ => ⟨S4096x768, .bf16⟩
  | .hbm, ⟨4, _⟩ => ⟨S4096x1024, .bf16⟩
  | .hbm, ⟨5, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S4096x768 : Shape := ⟨2, ![4096, 768]⟩
abbrev S768x1024 : Shape := ⟨2, ![768, 1024]⟩
abbrev S4096x1024 : Shape := ⟨2, ![4096, 1024]⟩
abbrev S1024x768 : Shape := ⟨2, ![1024, 768]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x1024, .f32⟩
  | .hbm, ⟨2, _⟩ => ⟨S4096x1024, .f32⟩
  | .hbm, ⟨3, _⟩ => ⟨S4096x1024, .f32⟩
  | .hbm, ⟨4, _⟩ => ⟨S1024x768, .f32⟩
  | .hbm, ⟨5, _⟩ => ⟨S768x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S4096x768 : Shape := ⟨2, ![4096, 768]⟩
abbrev S768x1024 : Shape := ⟨2, ![768, 1024]⟩
abbrev S4096x1024 : Shape := ⟨2, ![4096, 1024]⟩
abbrev S1024x1024 : Shape := ⟨2, ![1024, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S768x1024, .f32⟩
  | .hbm, ⟨2, _⟩ => ⟨S4096x1024, .f32⟩
  | .hbm, ⟨3, _⟩ => ⟨S4096x1024, .bf16⟩
  | .hbm, ⟨4, _⟩ => ⟨S4096x768, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x768 : Shape := ⟨2, ![4096, 768]⟩
abbrev S768x1024 : Shape := ⟨2, ![768, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x1024, .f32⟩
  | .hbm, ⟨2, _⟩ => ⟨S4096x1024, .f32⟩
  | .hbm, ⟨3, _⟩ => ⟨S4096x1024, .f32⟩
  | .hbm, ⟨4, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel25.lean ====
abbrev S4096x768 : Shape := ⟨2, ![4096, 768]⟩
abbrev S768x1024 : Shape := ⟨2, ![768, 1024]⟩
abbrev S4096x1024 : Shape := ⟨2, ![4096, 1024]⟩
abbrev S1024x768 : Shape := ⟨2, ![1024, 768]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S768x1024, .f32⟩
  | .hbm, ⟨2, _⟩ => ⟨S4096x768, .bf16⟩
  | .hbm, ⟨3, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S768x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x768 : Shape := ⟨2, ![4096, 768]⟩
abbrev S768x1024 : Shape := ⟨2, ![768, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x1024, .f32⟩
  | .hbm, ⟨2, _⟩ => ⟨S4096x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S4096x1024 : Shape := ⟨2, ![4096, 1024]⟩
abbrev S1024x288 : Shape := ⟨2, ![1024, 288]⟩
abbrev S4096x288 : Shape := ⟨2, ![4096, 288]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x288, .f32⟩
  | .hbm, ⟨2, _⟩ => ⟨S4096x288, .f32⟩
  | .hbm, ⟨3, _⟩ => ⟨S4096x1024, .bf16⟩
  | .hbm, ⟨4, _⟩ => ⟨S4096x288, .bf16⟩
  | .hbm, ⟨5, _⟩ => ⟨S1024x288, .f32⟩
  | .local _ .vmem, ⟨0, _⟩ => ⟨S1024x1024, .bf16⟩
  | .local _ .vmem, ⟨1, _⟩ => ⟨S1024x1024, .bf16⟩
  | .local _ .vmem, ⟨2, _⟩ => ⟨S1024x288, .bf16⟩
  | .local _ .vmem, ⟨3, _⟩ => ⟨S1024x288, .bf16⟩
  | .local _ .vmem, ⟨4, _⟩ => ⟨S1024x288, .f32⟩
  | .local _ .vmem, ⟨5, _⟩ => ⟨S1024x288, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S4096x1024 : Shape := ⟨2, ![4096, 1024]⟩
abbrev S1024x288 : Shape := ⟨2, ![1024, 288]⟩
abbrev S4096x288 : Shape := ⟨2, ![4096, 288]⟩
abbrev S288x1024 : Shape := ⟨2, ![288, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x288, .f32⟩
  | .hbm, ⟨2, _⟩ => ⟨S4096x288, .f32⟩
  | .hbm, ⟨3, _⟩ => ⟨S4096x288, .f32⟩
  | .hbm, ⟨4, _⟩ => ⟨S288x1024, .f32⟩
  | .hbm, ⟨5, _⟩ => ⟨S1024x288, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel27.lean ====
abbrev S4096x1024 : Shape := ⟨2, ![4096, 1024]⟩
abbrev S1024x7712 : Shape := ⟨2, ![1024, 7712]⟩
abbrev S4096x288 : Shape := ⟨2, ![4096, 288]⟩
abbrev S1024x288 : Shape := ⟨2, ![1024, 288]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x288, .f32⟩
  | .hbm, ⟨3, _⟩ => ⟨S4096x1024, .f32⟩
  | .hbm, ⟨4, _⟩ => ⟨S4096x288, .bf16⟩
  | .hbm, ⟨5, _⟩ => ⟨S1024x288, .f32⟩
  | .hbm, ⟨6, _⟩ => ⟨S4096x1024, .f32⟩
  | .local _ .vmem, ⟨0, _⟩ => ⟨S1024x288, .bf16⟩
  | .local _ .vmem, ⟨1, _⟩ => ⟨S1024x288, .bf16⟩
  | .local _ .vmem, ⟨2, _⟩ => ⟨S1024x288, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference27Ideal.lean ====
abbrev S4096x1024 : Shape := ⟨2, ![4096, 1024]⟩
abbrev S1024x7712 : Shape := ⟨2, ![1024, 7712]⟩
abbrev S4096x288 : Shape := ⟨2, ![4096, 288]⟩
abbrev S1024x288 : Shape := ⟨2, ![1024, 288]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x288, .f32⟩
  | .hbm, ⟨3, _⟩ => ⟨S4096x1024, .f32⟩
  | .hbm, ⟨4, _⟩ => ⟨S1024x288, .f32⟩
  | .hbm, ⟨5, _⟩ => ⟨S4096x288, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel28.lean ====
abbrev S4096x1024 : Shape := ⟨2, ![4096, 1024]⟩
abbrev S1024x7712 : Shape := ⟨2, ![1024, 7712]⟩
abbrev S1024x288 : Shape := ⟨2, ![1024, 288]⟩
abbrev S4096x288 : Shape := ⟨2, ![4096, 288]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S4096x1024, .bf16⟩
  | .hbm, ⟨3, _⟩ => ⟨S1024x288, .f32⟩
  | .hbm, ⟨4, _⟩ => ⟨S4096x288, .f32⟩
  | .local _ .vmem, ⟨0, _⟩ => ⟨S1024x1024, .bf16⟩
  | .local _ .vmem, ⟨1, _⟩ => ⟨S1024x1024, .bf16⟩
  | .local _ .vmem, ⟨2, _⟩ => ⟨S1024x288, .f32⟩
  | .local _ .vmem, ⟨3, _⟩ => ⟨S1024x288, .f32⟩
  | .local _ .vmem, ⟨4, _⟩ => ⟨S1024x288, .f32⟩
  | .local _ .vmem, ⟨5, _⟩ => ⟨S1024x288, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x1024 : Shape := ⟨2, ![4096, 1024]⟩
abbrev S1024x7712 : Shape := ⟨2, ![1024, 7712]⟩
abbrev S1024x288 : Shape := ⟨2, ![1024, 288]⟩
abbrev S4096x288 : Shape := ⟨2, ![4096, 288]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7712, .f32⟩
  | .hbm, ⟨2, _⟩ => ⟨S1024x288, .f32⟩
  | .hbm, ⟨3, _⟩ => ⟨S4096x288, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel29.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel30.lean ====
abbrev S4096x2048 : Shape := ⟨2, ![4096, 2048]⟩
abbrev S4096x1024 : Shape := ⟨2, ![4096, 1024]⟩
abbrev S2048 : Shape := ⟨1, ![2048]⟩
abbrev S1x2048 : Shape := ⟨2, ![1, 2048]⟩
abbrev S256x2048 : Shape := ⟨2, ![256, 2048]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S2048, .f32⟩
  | .hbm, ⟨4, _⟩ => ⟨S1x2048, .f32⟩
  | .hbm, ⟨5, _⟩ => ⟨S4096x1024, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x2048, .f32⟩
  | .local _ .vmem, ⟨7, _⟩ => ⟨S256x1024, .bf16⟩
  | .local _ .vmem, ⟨8, _⟩ => ⟨S256x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S4096x2048 : Shape := ⟨2, ![4096, 2048]⟩
abbrev S4096x1024 : Shape := ⟨2, ![4096, 1024]⟩
abbrev S2048 : Shape := ⟨1, ![2048]⟩
abbrev S1x2048 : Shape := ⟨2, ![1, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel31.lean ====
abbrev S4096x1024 : Shape := ⟨2, ![4096, 1024]⟩
abbrev S1024 : Shape := ⟨1, ![1024]⟩
abbrev S_ : Shape := ⟨0, ![]⟩
abbrev S8x128 : Shape := ⟨2, ![8, 128]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x1 : Shape := ⟨2, ![1, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S_, .f32⟩
  | .hbm, ⟨3, _⟩ => ⟨S8x128, .f32⟩
  | .hbm, ⟨4, _⟩ => ⟨S1x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x128, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel32.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference32Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel33.lean ====
abbrev S4096x2048 : Shape := ⟨2, ![4096, 2048]⟩
abbrev S4096x1024 : Shape := ⟨2, ![4096, 1024]⟩
abbrev S2048 : Shape := ⟨1, ![2048]⟩
abbrev S1x2048 : Shape := ⟨2, ![1, 2048]⟩
abbrev S256x2048 : Shape := ⟨2, ![256, 2048]⟩
abbrev S256x1024 : Shape := ⟨2, ![256, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S2048, .f32⟩
  | .hbm, ⟨5, _⟩ => ⟨S1x2048, .f32⟩
  | .hbm, ⟨6, _⟩ => ⟨S4096x2048, .bf16⟩
  | .hbm, ⟨7, _⟩ => ⟨S4096x1024, .bf16⟩
  | .hbm, ⟨8, _⟩ => ⟨S4096x1024, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x2048, .f32⟩
  | .local _ .vmem, ⟨9, _⟩ => ⟨S256x2048, .bf16⟩
  | .local _ .vmem, ⟨10, _⟩ => ⟨S256x2048, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference33Ideal.lean ====
abbrev S4096x2048 : Shape := ⟨2, ![4096, 2048]⟩
abbrev S4096x1024 : Shape := ⟨2, ![4096, 1024]⟩
abbrev S2048 : Shape := ⟨1, ![2048]⟩
abbrev S1x2048 : Shape := ⟨2, ![1, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S_, .f32⟩
  | .hbm, ⟨41, _⟩ => ⟨S2048, .f32⟩
  | .hbm, ⟨42, _⟩ => ⟨S4096x2048, .bf16⟩
  | .hbm, ⟨43, _⟩ => ⟨S4096x1024, .bf16⟩
  | .hbm, ⟨44, _⟩ => ⟨S4096x1024, .bf16⟩
  | .hbm, ⟨45, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel34.lean ====
abbrev S4096x1024 : Shape := ⟨2, ![4096, 1024]⟩
abbrev S1024 : Shape := ⟨1, ![1024]⟩
abbrev S_ : Shape := ⟨0, ![]⟩
abbrev S8x128 : Shape := ⟨2, ![8, 128]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1x1 : Shape := ⟨2, ![1, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S8x128, .f32⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S8x128, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference34Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.KernelFrame.lean ====
/- The frame of the attention backward kernel, with what its outputs hold after every grid point.

The kernel's body has two cases: at the first grid point it zeroes the two carried blocks before it works,
at the others it works over what the point before left in them. `runA` and `runB` are the two runs of the
body (found in the modules this one imports); here they are joined into the contents of the outputs and of
the carried blocks after every point (`res`), the pipeline's proof data, and the frame. -/
module

public import proofs.«01_k».proof.Proof.Gen.KernelIdeal.Frame.RunB
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The run of the body at the first point, at the point's buffers and input blocks. -/
def runA (c : Dev nD) (t : Fin cfg0.N) (h0 : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)

/-- The run of the body at a later point, over what the carried blocks hold. -/
def runB (c : Dev nD) (t : Fin cfg0.N) (h0 : ¬t.val % 16 = 0) (s0 s1 : Vec F S128x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) s0 s1

/-- The stores of the run cover output block 0. -/
theorem coverA0 (c : Dev nD) (t : Fin cfg0.N) (h0 : t.val % 16 = 0) (y : S256x256.Idx) :
    ∃ pc ∈ (runA m c t h0).1, y ∈ pc.1.set :=
  View.cover_of_tiledL (runA m c t h0).1 S128x64.size (by unfold runA; sl_kernel_rfl) y

/-- The stores of the run cover output block 1. -/
theorem coverA1 (c : Dev nD) (t : Fin cfg0.N) (h0 : t.val % 16 = 0) (y : S256x256.Idx) :
    ∃ pc ∈ (runA m c t h0).2.1, y ∈ pc.1.set :=
  View.cover_of_tiledL (runA m c t h0).2.1 S128x64.size (by unfold runA; sl_kernel_rfl) y

/-- The stores of the run cover output block 2. -/
theorem coverA2 (c : Dev nD) (t : Fin cfg0.N) (h0 : t.val % 16 = 0) (y : S256x256.Idx) :
    ∃ pc ∈ (runA m c t h0).2.2.1, y ∈ pc.1.set :=
  View.cover_of_tiledL (runA m c t h0).2.2.1 S128x64.size (by unfold runA; sl_kernel_rfl) y

/-- The stores of the run cover carried block 0. -/
theorem coverA3 (c : Dev nD) (t : Fin cfg0.N) (h0 : t.val % 16 = 0) (y : S128x256.Idx) :
    ∃ pc ∈ (runA m c t h0).2.2.2.1, y ∈ pc.1.set :=
  View.cover_of_wholeMem (runA m c t h0).2.2.2.1 (by unfold runA; sl_whole_mem) y

/-- The stores of the run cover carried block 1. -/
theorem coverA4 (c : Dev nD) (t : Fin cfg0.N) (h0 : t.val % 16 = 0) (y : S128x256.Idx) :
    ∃ pc ∈ (runA m c t h0).2.2.2.2.1, y ∈ pc.1.set :=
  View.cover_of_wholeMem (runA m c t h0).2.2.2.2.1 (by unfold runA; sl_whole_mem) y

/-- The stores of the run cover output block 0. -/
theorem coverB0 (c : Dev nD) (t : Fin cfg0.N) (h0 : ¬t.val % 16 = 0) (s0 s1 : Vec F S128x256 .f32) (y : S256x256.Idx) :
    ∃ pc ∈ (runB m c t h0 s0 s1).1, y ∈ pc.1.set :=
  View.cover_of_tiledL (runB m c t h0 s0 s1).1 S128x64.size (by unfold runB; sl_kernel_rfl) y

/-- The stores of the run cover output block 1. -/
theorem coverB1 (c : Dev nD) (t : Fin cfg0.N) (h0 : ¬t.val % 16 = 0) (s0 s1 : Vec F S128x256 .f32) (y : S256x256.Idx) :
    ∃ pc ∈ (runB m c t h0 s0 s1).2.1, y ∈ pc.1.set :=
  View.cover_of_tiledL (runB m c t h0 s0 s1).2.1 S128x64.size (by unfold runB; sl_kernel_rfl) y

/-- The stores of the run cover output block 2. -/
theorem coverB2 (c : Dev nD) (t : Fin cfg0.N) (h0 : ¬t.val % 16 = 0) (s0 s1 : Vec F S128x256 .f32) (y : S256x256.Idx) :
    ∃ pc ∈ (runB m c t h0 s0 s1).2.2.1, y ∈ pc.1.set :=
  View.cover_of_tiledL (runB m c t h0 s0 s1).2.2.1 S128x64.size (by unfold runB; sl_kernel_rfl) y

/-- The stores of the run cover carried block 0. -/
theorem coverB3 (c : Dev nD) (t : Fin cfg0.N) (h0 : ¬t.val % 16 = 0) (s0 s1 : Vec F S128x256 .f32) (y : S128x256.Idx) :
    ∃ pc ∈ (runB m c t h0 s0 s1).2.2.2.1, y ∈ pc.1.set :=
  View.cover_of_tiledL (runB m c t h0 s0 s1).2.2.2.1 S128x64.size (by unfold runB; sl_kernel_rfl) y

/-- The stores of the run cover carried block 1. -/
theorem coverB4 (c : Dev nD) (t : Fin cfg0.N) (h0 : ¬t.val % 16 = 0) (s0 s1 : Vec F S128x256 .f32) (y : S128x256.Idx) :
    ∃ pc ∈ (runB m c t h0 s0 s1).2.2.2.2.1, y ∈ pc.1.set :=
  View.cover_of_tiledL (runB m c t h0 s0 s1).2.2.2.2.1 S128x64.size (by unfold runB; sl_kernel_rfl) y

/-! ## What the outputs and the carried blocks hold after each point -/

/-- The three output blocks and the two carried blocks after the first point's body. -/
def resA (c : Dev nD) (t : Fin cfg0.N) (h0 : t.val % 16 = 0) :
    Vec F S256x256 .f32 × Vec F S256x256 .f32 × Vec F S256x256 .f32 × Vec F S128x256 .f32 × Vec F S128x256 .f32 :=
  (VO0_7.read (Elt F) (VO0_7.writes (Elt F) VO0_7.junk (runA m c t h0).1),
    VO0_8.read (Elt F) (VO0_8.writes (Elt F) VO0_8.junk (runA m c t h0).2.1),
    VO0_9.read (Elt F) (VO0_9.writes (Elt F) VO0_9.junk (runA m c t h0).2.2.1),
    VS0_0.read (Elt F) (VS0_0.writes (Elt F) VS0_0.junk (runA m c t h0).2.2.2.1),
    VS0_1.read (Elt F) (VS0_1.writes (Elt F) VS0_1.junk (runA m c t h0).2.2.2.2.1))

/-- The same after a later point's body, over what the carried blocks held before it. -/
def resB (c : Dev nD) (t : Fin cfg0.N) (h0 : ¬t.val % 16 = 0) (s0 s1 : Vec F S128x256 .f32) :
    Vec F S256x256 .f32 × Vec F S256x256 .f32 × Vec F S256x256 .f32 × Vec F S128x256 .f32 × Vec F S128x256 .f32 :=
  (VO0_7.read (Elt F) (VO0_7.writes (Elt F) VO0_7.junk (runB m c t h0 s0 s1).1),
    VO0_8.read (Elt F) (VO0_8.writes (Elt F) VO0_8.junk (runB m c t h0 s0 s1).2.1),
    VO0_9.read (Elt F) (VO0_9.writes (Elt F) VO0_9.junk (runB m c t h0 s0 s1).2.2.1),
    VS0_0.read (Elt F) (VS0_0.writes (Elt F) VS0_0.junk (runB m c t h0 s0 s1).2.2.2.1),
    VS0_1.read (Elt F) (VS0_1.writes (Elt F) VS0_1.junk (runB m c t h0 s0 s1).2.2.2.2.1))

/-- The outputs and the carried blocks after the body at point `n`. -/
def res (c : Dev nD) : (n : ℕ) → n < cfg0.N → Vec F S256x256 .f32 × Vec F S256x256 .f32 × Vec F S256x256 .f32 × Vec F S128x256 .f32 × Vec F S128x256 .f32
  | 0, hn => resA m c ⟨0, hn⟩ rfl
  | n + 1, hn =>
    if h0 : (n + 1) % 16 = 0 then resA m c ⟨n + 1, hn⟩ h0
    else resB m c ⟨n + 1, hn⟩ h0 (res c n (Nat.lt_of_succ_lt hn)).2.2.2.1 (res c n (Nat.lt_of_succ_lt hn)).2.2.2.2

theorem res_A (c : Dev nD) (t : Fin cfg0.N) (h0 : t.val % 16 = 0) : res m c t.val t.isLt = resA m c t h0 := by
  obtain ⟨n, hn⟩ := t
  cases n with
  | zero => dsimp only [res]
  | succ n => dsimp only at h0; dsimp only [res]; rw [dif_pos h0]

theorem res_B (c : Dev nD) (t : Fin cfg0.N) (h0 : ¬t.val % 16 = 0) :
    res m c t.val t.isLt = resB m c t h0
      (res m c (t.val - 1) (Nat.lt_of_le_of_lt (Nat.sub_le _ _) t.isLt)).2.2.2.1
      (res m c (t.val - 1) (Nat.lt_of_le_of_lt (Nat.sub_le _ _) t.isLt)).2.2.2.2 := by
  obtain ⟨n, hn⟩ := t
  cases n with
  | zero => exact absurd (Nat.zero_mod 16) h0
  | succ n => dsimp only at h0; dsimp only [res]; rw [dif_neg h0]; simp only [Nat.add_sub_cancel]

/-- The invariant between points: each carried block at what the point before left in it. -/
def PhiS (c : Dev nD) : (n : ℕ) → n ≤ cfg0.N → sProp 𝕄
  | 0, _ => Pipeline.ΦA spec0 c
  | n + 1, hn => iprop(iprop(owns (c : Thread nD τ) scM0_0 fullShare ((res m c n hn).2.2.2.1) ∗ owns (c : Thread nD τ) scM0_1 fullShare ((res m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((res m c n hn).2.2.2.1) ∗ owns (c : Thread nD τ) scM0_1 fullShare ((res m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((res m c (n - 1) (by omega)).2.2.2.1) ∗ owns (c : Thread nD τ) scM0_1 fullShare ((res m c (n - 1) (by omega)).2.2.2.2)) ∗ (∃ r, prngReg c r)) := by
  cases n with
  | zero => exact absurd rfl hz
  | succ n => rfl

/-! ## The pipeline's proof data -/

/-- The proof data of the pipeline: the arrays as launched, each input buffer at its block, the outputs at `res`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (res m c t.val t.isLt).1
    | ⟨8, _⟩ => (res m c t.val t.isLt).2.1
    | ⟨9, _⟩ => (res m c t.val t.isLt).2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (res m c t.val t.isLt).1 := by dsimp only [dats]
theorem after0_8 (c : Dev nD) (t : Fin cfg0.N) : (dats m 0 c).after 8 t = (res m c t.val t.isLt).2.1 := by dsimp only [dats]
theorem after0_9 (c : Dev nD) (t : Fin cfg0.N) : (dats m 0 c).after 9 t = (res m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [res_A m c t h0]
      unfold resA; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA m c t h0).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e7, H7⟩, ⟨%e8, H8⟩, ⟨%e9, H9⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA3 m c t h0)
          unfold owns; iexists _; isplitr
          swap; · iexact HS1
          ipureintro; exact View.read_writes_of_cover _ _ _ _ _ (coverA4 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverA0 m c t h0)
      isplitl [H8]
      · unfold owns; iexists _; isplitr
        swap; · iexact H8
        ipureintro; exact View.read_writes_of_cover _ _ _ _ _ (coverA1 m c t h0)
      unfold owns; iexists _; isplitr
      swap; · iexact H9
      ipureintro; exact View.read_writes_of_cover _ _ _ _ _ (coverA2 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [res_B m c t h0]
      unfold resB; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB m c t h0 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e7, H7⟩, ⟨%e8, H8⟩, ⟨%e9, H9⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverB3 m c t h0 _ _)
          unfold owns; iexists _; isplitr
          swap; · iexact HS1
          ipureintro; exact View.read_writes_of_cover _ _ _ _ _ (coverB4 m c t h0 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverB0 m c t h0 _ _)
      isplitl [H8]
      · unfold owns; iexists _; isplitr
        swap; · iexact H8
        ipureintro; exact View.read_writes_of_cover _ _ _ _ _ (coverB1 m c t h0 _ _)
      unfold owns; iexists _; isplitr
      swap; · iexact H9
      ipureintro; exact View.read_writes_of_cover _ _ _ _ _ (coverB2 m c t h0 _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution ends with each array at what the proof data computes. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every execution ends, the arguments are unchanged and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Head.lean ====
/- One head of the attention backward kernel at one block of 128 query rows, as functions of the blocks it reads.

The kernel does the same work for each head and each of the two halves of its row block: a query block `q`, the
key and value blocks of its own rows (`kc`, `vc`) and of the 128 rows before (`kp`, `vp`), the gradient `o` of the
output, and the gradient `l` of the log-sum-exp spread over 64 columns. These definitions name its steps. -/
module

public import proofs.«01_k».proof.Proof.Gen.KernelIdeal
public import Idealize.ShloMosaic.Lib.Claim
public import Idealize.ShloMosaic.Lib.Pointwise

@[expose] public section

set_option maxRecDepth 16384

noncomputable section

namespace Cert.Attn

open Idealize.ShloMosaic
open Cert.KernelIdeal Cert.KernelIdeal.Facts₀

variable {F : FTy → Type} [FloatOps F] [Named F]

/-- A key of the own block is seen by the rows from its own on. -/
def ownMask : IVec S128x128 1 :=
  cmpi .sle (iota .tc S128x128 32 [1] iota_S128x128_d1_w32) (iota .tc S128x128 32 [0] iota_S128x128_d0_w32)

/-- A key of the block before is seen by the rows up to its own, if there is a block before (`fl` below one half). -/
def prevMask (fl : F .f32) : IVec S128x128 1 :=
  andi (cmpi .sge (iota .tc S128x128 32 [1] iota_S128x128_d1_w32) (iota .tc S128x128 32 [0] iota_S128x128_d0_w32))
    (broadcast S128x128 (Scalar.cmpf .olt fl (Scalar.ofBits .f32 0x3F000000#32)))

/-- The scores `q · kᵀ`, masked. -/
def score (mask : IVec S128x128 1) (q k : FVec F S128x64 .f32) : FVec F S128x128 .f32 :=
  select mask
    (matmul dot_S128x64_S128x64_S128x128_1_1_0_0_n_n none (truncf .bf16 q bitsLt_bf16_f32)
      (truncf .bf16 k bitsLt_bf16_f32) (constant S128x128 .f32 0x00000000#32))
    (broadcast S128x128 (Named.named κ "mask" 0xF149F2CA#32))

/-- The greatest score of each row. -/
def top (s : FVec F S128x128 .f32) : FVec F S128 .f32 :=
  multiReduction .maximumf [1] S128 s 0xFF800000#32 reduces_S128x128_S128 (.inl rfl) rfl

/-- A vector over the rows as a column. -/
def col (x : FVec F S128 .f32) : FVec F S128x1 .f32 := shapeCast S128x1 x shapeCasts_S128_S128x1

/-- A column spread over 128 columns. -/
def wide (x : FVec F S128x1 .f32) : FVec F S128x128 .f32 := broadcastTo S128x128 x broadcasts_S128x1_S128x128

/-- One where a score is its row's greatest, zero elsewhere. -/
def ties (s : FVec F S128x128 .f32) : FVec F S128x128 .f32 :=
  sitofp .f32 (extui 32 (cmpf .oeq s (wide (col (top s)))) natLt_1_32)

/-- The sum of each row. -/
def rowSum (x : FVec F S128x128 .f32) : FVec F S128 .f32 :=
  multiReduction .add [1] S128 x 0x00000000#32 reduces_S128x128_S128 (.inl rfl) rfl

/-- The sum of each row of a 64-column block, as a column. -/
def colSum (x : FVec F S128x64 .f32) : FVec F S128x1 .f32 :=
  col (multiReduction .add [1] S128 x 0x00000000#32 reduces_S128x64_S128 (.inl rfl) rfl)

/-- A column's sum over its unit axis. -/
def unitSum (x : FVec F S128x1 .f32) : FVec F S128 .f32 :=
  multiReduction .add [1] S128 x 0x00000000#32 reduces_S128x1_S128 (.inl rfl) rfl

/-- The share of the gradient of `max a b` that goes to `a`. -/
def share (a b : FVec F S128x1 .f32) : FVec F S128x1 .f32 :=
  select (cmpf .ogt a b) (broadcast S128x1 (Scalar.ofBits .f32 0x3F800000#32))
    (select (cmpf .oeq a b) (broadcast S128x1 (Scalar.ofBits .f32 0x3F000000#32))
      (broadcast S128x1 (Scalar.ofBits .f32 0x00000000#32)))

/-- The weights `exp (s - m)`. -/
def weight (s : FVec F S128x128 .f32) (mx : FVec F S128x1 .f32) : FVec F S128x128 .f32 :=
  exp (subf s (wide mx))

/-- The denominator: both blocks' weights summed. -/
def denom (eC eP : FVec F S128x128 .f32) : FVec F S128x1 .f32 := addf (col (rowSum eC)) (col (rowSum eP))

/-- Weights times a block of rows. -/
def timesRows (e : FVec F S128x128 .f32) (v : FVec F S128x64 .f32) : FVec F S128x64 .f32 :=
  matmul dot_S128x128_S128x64_S128x64_1_0_0_1_n_n none (truncf .bf16 e bitsLt_bf16_f32)
    (truncf .bf16 v bitsLt_bf16_f32) (constant S128x64 .f32 0x00000000#32)

/-- Transposed weights times a block of rows. -/
def timesCols (e : FVec F S128x128 .f32) (v : FVec F S128x64 .f32) : FVec F S128x64 .f32 :=
  matmul dot_S128x128_S128x64_S128x64_0_0_1_1_n_n none (truncf .bf16 e bitsLt_bf16_f32)
    (truncf .bf16 v bitsLt_bf16_f32) (constant S128x64 .f32 0x00000000#32)

/-- A block of rows times a transposed block of rows. -/
def outer (a b : FVec F S128x64 .f32) : FVec F S128x128 .f32 :=
  matmul dot_S128x64_S128x64_S128x128_1_1_0_0_n_n none (truncf .bf16 a bitsLt_bf16_f32)
    (truncf .bf16 b bitsLt_bf16_f32) (constant S128x128 .f32 0x00000000#32)

/-- The output's gradient divided by the denominator. -/
def scaled (o : FVec F S128x64 .f32) (d : FVec F S128x1 .f32) : FVec F S128x64 .f32 :=
  mulf o (broadcastTo S128x64 (divf (broadcast S128x1 (Scalar.ofBits .f32 0x3F800000#32)) d) broadcasts_S128x1_S128x64)

/-- The denominator's gradient: from the log-sum-exp, and from the division of the output. -/
def dDenom (d : FVec F S128x1 .f32) (eC eP : FVec F S128x128 .f32) (vc vp o l : FVec F S128x64 .f32) :
    FVec F S128x1 .f32 :=
  addf (divf (colSum l) d)
    (subf (broadcast S128x1 (Scalar.ofBits .f32 0x00000000#32))
      (mulf
        (mulf (colSum (mulf (addf (timesRows eC vc) (timesRows eP vp)) o))
          (divf (broadcast S128x1 (Scalar.ofBits .f32 0x3F800000#32)) (mulf d d)))
        (broadcast S128x1 (Scalar.ofBits .f32 0x3F800000#32))))

/-- The scores' gradient through the weights. -/
def dWeight (e : FVec F S128x128 .f32) (ov : FVec F S128x64 .f32) (v : FVec F S128x64 .f32)
    (dd : FVec F S128x1 .f32) : FVec F S128x128 .f32 :=
  mulf (addf (outer ov v) (wide (col (unitSum dd)))) e

/-- The sum of each row of a negated block, as a column. -/
def negSum (x : FVec F S128x128 .f32) : FVec F S128x1 .f32 :=
  col (rowSum (subf (broadcast S128x128 (Scalar.ofBits .f32 0x00000000#32)) x))

/-- The greatest scores' gradient. -/
def dTop (l : FVec F S128x64 .f32) (dwC dwP : FVec F S128x128 .f32) : FVec F S128x1 .f32 :=
  addf (addf (colSum l) (negSum dwP)) (negSum dwC)

/-- The scores' whole gradient, masked. -/
def dScore (mask : IVec S128x128 1) (s dw : FVec F S128x128 .f32) (dm sh : FVec F S128x1 .f32) :
    FVec F S128x128 .f32 :=
  select mask
    (addf dw (mulf (wide (col (divf (unitSum (mulf dm sh)) (rowSum (ties s))))) (ties s)))
    (broadcast S128x128 (Scalar.ofBits .f32 0x00000000#32))

section Head
variable (fl : F .f32) (q kc kp vc vp o l : FVec F S128x64 .f32)

/-- The scores at the own block. -/
def sC : FVec F S128x128 .f32 := score ownMask q kc
/-- The scores at the block before. -/
def sP : FVec F S128x128 .f32 := score (prevMask fl) q kp
/-- Each row's greatest score over both blocks. -/
def mx : FVec F S128x1 .f32 := maximumf (col (top (sC q kc))) (col (top (sP fl q kp)))
/-- The weights at the own block. -/
def eC : FVec F S128x128 .f32 := weight (sC q kc) (mx fl q kc kp)
/-- The weights at the block before. -/
def eP : FVec F S128x128 .f32 := weight (sP fl q kp) (mx fl q kc kp)
/-- The denominator. -/
def dn : FVec F S128x1 .f32 := denom (eC fl q kc kp) (eP fl q kc kp)
/-- The output's gradient over the denominator. -/
def ov : FVec F S128x64 .f32 := scaled o (dn fl q kc kp)
/-- The denominator's gradient. -/
def dd : FVec F S128x1 .f32 := dDenom (dn fl q kc kp) (eC fl q kc kp) (eP fl q kc kp) vc vp o l
/-- The scores' gradient through the weights, own block. -/
def dwC : FVec F S128x128 .f32 :=
  dWeight (eC fl q kc kp) (ov fl q kc kp o) vc (dd fl q kc kp vc vp o l)
/-- The scores' gradient through the weights, block before. -/
def dwP : FVec F S128x128 .f32 :=
  dWeight (eP fl q kc kp) (ov fl q kc kp o) vp (dd fl q kc kp vc vp o l)
/-- The gradient of the rows' greatest scores. -/
def dm : FVec F S128x1 .f32 := dTop l (dwC fl q kc kp vc vp o l) (dwP fl q kc kp vc vp o l)
/-- The scores' gradient, own block. -/
def dsC : FVec F S128x128 .f32 :=
  dScore ownMask (sC q kc) (dwC fl q kc kp vc vp o l) (dm fl q kc kp vc vp o l)
    (share (col (top (sC q kc))) (col (top (sP fl q kp))))
/-- The scores' gradient, block before. -/
def dsP : FVec F S128x128 .f32 :=
  dScore (prevMask fl) (sP fl q kp) (dwP fl q kc kp vc vp o l) (dm fl q kc kp vc vp o l)
    (share (col (top (sP fl q kp))) (col (top (sC q kc))))
/-- The queries' gradient. -/
def dqH : FVec F S128x64 .f32 :=
  addf (timesRows (dsP fl q kc kp vc vp o l) kp) (timesRows (dsC fl q kc kp vc vp o l) kc)
/-- What the block gives to its own keys' gradient. -/
def dkcH : FVec F S128x64 .f32 := timesCols (dsC fl q kc kp vc vp o l) q
/-- What the block gives to the gradient of the keys of the block before. -/
def dkpH : FVec F S128x64 .f32 := timesCols (dsP fl q kc kp vc vp o l) q
/-- What the block gives to its own values' gradient. -/
def dvcH : FVec F S128x64 .f32 := timesCols (eC fl q kc kp) (ov fl q kc kp o)
/-- What the block gives to the gradient of the values of the block before. -/
def dvpH : FVec F S128x64 .f32 := timesCols (eP fl q kc kp) (ov fl q kc kp o)
end Head

end Cert.Attn
-- ==== Proof.KernelPieces.lean ====
/- What the attention backward kernel's body stores, each store named by the head function it computes.

For each head (64 columns) and each half of the point's 256 rows the body stores the queries' gradient; the
keys' and the values' gradients of the second half are completed by what the point before carried over, those
of the first half by the second half's share; what the first half gives to the block before is carried on. -/
module

public import proofs.«01_k».proof.Proof.KernelFrame
public import proofs.«01_k».proof.Proof.Head

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

theorem off_zero : (![0, 0] : Fin S128x256.rank → ℕ) = fun _ => 0 := by
  funext i; revert i; decide

/-- What a load of the first carried block reads just after it is cleared. -/
theorem carry_zero0 (v : View sig .tc .vmem S128x256 .f32) (B : LoadRect S128x256) :
    v.readCov (Val := Elt F) [⟨Rect.unit ![0, 0] ![128, 256] inb_S128x256_S128x256_0_0, k0_pay4 (F := F)⟩] B =
      fun _ => Scalar.ofBits .f32 0x00000000#32 := by
  rw [View.readCov_eq_canon', View.canon_unit_zero off_zero]; rfl

/-- What a load of the second carried block reads just after it is cleared. -/
theorem carry_zero1 (v : View sig .tc .vmem S128x256 .f32) (B : LoadRect S128x256) :
    v.readCov (Val := Elt F) [⟨Rect.unit ![0, 0] ![128, 256] inb_S128x256_S128x256_0_0, k0_pay5 (F := F)⟩] B =
      fun _ => Scalar.ofBits .f32 0x00000000#32 := by
  rw [View.readCov_eq_canon', View.canon_unit_zero off_zero]; rfl

/-- A whole buffer that holds `X` reads `X`. -/
theorem carried_read (b : Ref sig .tc) (h : (Memref.whole b).IsWhole) (X : b.ty.shape.Idx → Elt F b.ty.elt) :
    View.read (Elt F) (View.whole b) (h.unread X) = X :=
  h.read_unread X

set_option maxHeartbeats 4000000 in
/-- The stores of the queries' gradient (first point). -/
theorem piecesA0 (c : Dev nD) (t : Fin cfg0.N) (h0 : t.val % 16 = 0) :
    (runA m c t h0).1 = [⟨Rect.unit ![128, 192] S128x64.size inb_S256x256_S128x64_128_192,
      Attn.dqH (k0_pay3 (grid0.coords t)) (View.ld (iblk m c 0 t) (Rect.unit ![128, 192] S128x64.size inb_S256x256_S128x64_128_192)) (View.ld (iblk m c 1 t) (Rect.unit ![128, 192] S128x64.size inb_S256x256_S128x64_128_192)) (View.ld (iblk m c 1 t) (Rect.unit ![0, 192] S128x64.size inb_S256x256_S128x64_0_192)) (View.ld (iblk m c 3 t) (Rect.unit ![128, 192] S128x64.size inb_S256x256_S128x64_128_192)) (View.ld (iblk m c 3 t) (Rect.unit ![0, 192] S128x64.size inb_S256x256_S128x64_0_192)) (View.ld (iblk m c 5 t) (Rect.unit ![128, 192] S128x64.size inb_S256x256_S128x64_128_192)) (View.ld (iblk m c 6 t) (Rect.unit ![128, 192] S128x64.size inb_S256x256_S128x64_128_192))⟩,
    ⟨Rect.unit ![0, 192] S128x64.size inb_S256x256_S128x64_0_192,
      Attn.dqH (k0_pay2 (grid0.coords t)) (View.ld (iblk m c 0 t) (Rect.unit ![0, 192] S128x64.size inb_S256x256_S128x64_0_192)) (View.ld (iblk m c 1 t) (Rect.unit ![0, 192] S128x64.size inb_S256x256_S128x64_0_192)) (View.ld (iblk m c 2 t) (Rect.unit ![0, 192] S128x64.size inb_S128x256_S128x64_0_192)) (View.ld (iblk m c 3 t) (Rect.unit ![0, 192] S128x64.size inb_S256x256_S128x64_0_192)) (View.ld (iblk m c 4 t) (Rect.unit ![0, 192] S128x64.size inb_S128x256_S128x64_0_192)) (View.ld (iblk m c 5 t) (Rect.unit ![0, 192] S128x64.size inb_S256x256_S128x64_0_192)) (View.ld (iblk m c 6 t) (Rect.unit ![0, 192] S128x64.size inb_S256x256_S128x64_0_192))⟩,
    ⟨Rect.unit ![128, 128] S128x64.size inb_S256x256_S128x64_128_128,
      Attn.dqH (k0_pay3 (grid0.coords t)) (View.ld (iblk m c 0 t) (Rect.unit ![128, 128] S128x64.size inb_S256x256_S128x64_128_128)) (View.ld (iblk m c 1 t) (Rect.unit ![128, 128] S128x64.size inb_S256x256_S128x64_128_128)) (View.ld (iblk m c 1 t) (Rect.unit ![0, 128] S128x64.size inb_S256x256_S128x64_0_128)) (View.ld (iblk m c 3 t) (Rect.unit ![128, 128] S128x64.size inb_S256x256_S128x64_128_128)) (View.ld (iblk m c 3 t) (Rect.unit ![0, 128] S128x64.size inb_S256x256_S128x64_0_128)) (View.ld (iblk m c 5 t) (Rect.unit ![128, 128] S128x64.size inb_S256x256_S128x64_128_128)) (View.ld (iblk m c 6 t) (Rect.unit ![128, 128] S128x64.size inb_S256x256_S128x64_128_128))⟩,
    ⟨Rect.unit ![0, 128] S128x64.size inb_S256x256_S128x64_0_128,
      Attn.dqH (k0_pay2 (grid0.coords t)) (View.ld (iblk m c 0 t) (Rect.unit ![0, 128] S128x64.size inb_S256x256_S128x64_0_128)) (View.ld (iblk m c 1 t) (Rect.unit ![0, 128] S128x64.size inb_S256x256_S128x64_0_128)) (View.ld (iblk m c 2 t) (Rect.unit ![0, 128] S128x64.size inb_S128x256_S128x64_0_128)) (View.ld (iblk m c 3 t) (Rect.unit ![0, 128] S128x64.size inb_S256x256_S128x64_0_128)) (View.ld (iblk m c 4 t) (Rect.unit ![0, 128] S128x64.size inb_S128x256_S128x64_0_128)) (View.ld (iblk m c 5 t) (Rect.unit ![0, 128] S128x64.size inb_S256x256_S128x64_0_128)) (View.ld (iblk m c 6 t) (Rect.unit ![0, 128] S128x64.size inb_S256x256_S128x64_0_128))⟩,
    ⟨Rect.unit ![128, 64] S128x64.size inb_S256x256_S128x64_128_64,
      Attn.dqH (k0_pay3 (grid0.coords t)) (View.ld (iblk m c 0 t) (Rect.unit ![128, 64] S128x64.size inb_S256x256_S128x64_128_64)) (View.ld (iblk m c 1 t) (Rect.unit ![128, 64] S128x64.size inb_S256x256_S128x64_128_64)) (View.ld (iblk m c 1 t) (Rect.unit ![0, 64] S128x64.size inb_S256x256_S128x64_0_64)) (View.ld (iblk m c 3 t) (Rect.unit ![128, 64] S128x64.size inb_S256x256_S128x64_128_64)) (View.ld (iblk m c 3 t) (Rect.unit ![0, 64] S128x64.size inb_S256x256_S128x64_0_64)) (View.ld (iblk m c 5 t) (Rect.unit ![128, 64] S128x64.size inb_S256x256_S128x64_128_64)) (View.ld (iblk m c 6 t) (Rect.unit ![128, 64] S128x64.size inb_S256x256_S128x64_128_64))⟩,
    ⟨Rect.unit ![0, 64] S128x64.size inb_S256x256_S128x64_0_64,
      Attn.dqH (k0_pay2 (grid0.coords t)) (View.ld (iblk m c 0 t) (Rect.unit ![0, 64] S128x64.size inb_S256x256_S128x64_0_64)) (View.ld (iblk m c 1 t) (Rect.unit ![0, 64] S128x64.size inb_S256x256_S128x64_0_64)) (View.ld (iblk m c 2 t) (Rect.unit ![0, 64] S128x64.size inb_S128x256_S128x64_0_64)) (View.ld (iblk m c 3 t) (Rect.unit ![0, 64] S128x64.size inb_S256x256_S128x64_0_64)) (View.ld (iblk m c 4 t) (Rect.unit ![0, 64] S128x64.size inb_S128x256_S128x64_0_64)) (View.ld (iblk m c 5 t) (Rect.unit ![0, 64] S128x64.size inb_S256x256_S128x64_0_64)) (View.ld (iblk m c 6 t) (Rect.unit ![0, 64] S128x64.size inb_S256x256_S128x64_0_64))⟩,
    ⟨Rect.unit ![128, 0] S128x64.size inb_S256x256_S128x64_128_0,
      Attn.dqH (k0_pay3 (grid0.coords t)) (View.ld (iblk m c 0 t) (Rect.unit ![128, 0] S128x64.size inb_S256x256_S128x64_128_0)) (View.ld (iblk m c 1 t) (Rect.unit ![128, 0] S128x64.size inb_S256x256_S128x64_128_0)) (View.ld (iblk m c 1 t) (Rect.unit ![0, 0] S128x64.size inb_S256x256_S128x64_0_0)) (View.ld (iblk m c 3 t) (Rect.unit ![128, 0] S128x64.size inb_S256x256_S128x64_128_0)) (View.ld (iblk m c 3 t) (Rect.unit ![0, 0] S128x64.size inb_S256x256_S128x64_0_0)) (View.ld (iblk m c 5 t) (Rect.unit ![128, 0] S128x64.size inb_S256x256_S128x64_128_0)) (View.ld (iblk m c 6 t) (Rect.unit ![128, 0] S128x64.size inb_S256x256_S128x64_128_0))⟩,
    ⟨Rect.unit ![0, 0] S128x64.size inb_S256x256_S128x64_0_0,
      Attn.dqH (k0_pay2 (grid0.coords t)) (View.ld (iblk m c 0 t) (Rect.unit ![0, 0] S128x64.size inb_S256x256_S128x64_0_0)) (View.ld (iblk m c 1 t) (Rect.unit ![0, 0] S128x64.size inb_S256x256_S128x64_0_0)) (View.ld (iblk m c 2 t) (Rect.unit ![0, 0] S128x64.size inb_S128x256_S128x64_0_0)) (View.ld (iblk m c 3 t) (Rect.unit ![0, 0] S128x64.size inb_S256x256_S128x64_0_0)) (View.ld (iblk m c 4 t) (Rect.unit ![0, 0] S128x64.size inb_S128x256_S128x64_0_0)) (View.ld (iblk m c 5 t) (Rect.unit ![0, 0] S128x64.size inb_S256x256_S128x64_0_0)) (View.ld (iblk m c 6 t) (Rect.unit ![0, 0] S128x64.size inb_S256x256_S128x64_0_0))⟩] := by
  unfold runA kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, carried_read, carry_zero0, carry_zero1]
  rfl

set_option maxHeartbeats 4000000 in
/-- The stores of the keys' gradient (first point). -/
theorem piecesA1 (c : Dev nD) (t : Fin cfg0.N) (h0 : t.val % 16 = 0) :
    (runA m c t h0).2.1 = [⟨Rect.unit ![128, 192] S128x64.size inb_S256x256_S128x64_128_192,
      addf (Attn.dkcH (k0_pay3 (grid0.coords t)) (View.ld (iblk m c 0 t) (Rect.unit ![128, 192] S128x64.size inb_S256x256_S128x64_128_192)) (View.ld (iblk m c 1 t) (Rect.unit ![128, 192] S128x64.size inb_S256x256_S128x64_128_192)) (View.ld (iblk m c 1 t) (Rect.unit ![0, 192] S128x64.size inb_S256x256_S128x64_0_192)) (View.ld (iblk m c 3 t) (Rect.unit ![128, 192] S128x64.size inb_S256x256_S128x64_128_192)) (View.ld (iblk m c 3 t) (Rect.unit ![0, 192] S128x64.size inb_S256x256_S128x64_0_192)) (View.ld (iblk m c 5 t) (Rect.unit ![128, 192] S128x64.size inb_S256x256_S128x64_128_192)) (View.ld (iblk m c 6 t) (Rect.unit ![128, 192] S128x64.size inb_S256x256_S128x64_128_192))) (fun _ => Scalar.ofBits .f32 0x00000000#32)⟩,
    ⟨Rect.unit ![0, 192] S128x64.size inb_S256x256_S128x64_0_192,
      addf (Attn.dkpH (k0_pay3 (grid0.coords t)) (View.ld (iblk m c 0 t) (Rect.unit ![128, 192] S128x64.size inb_S256x256_S128x64_128_192)) (View.ld (iblk m c 1 t) (Rect.unit ![128, 192] S128x64.size inb_S256x256_S128x64_128_192)) (View.ld (iblk m c 1 t) (Rect.unit ![0, 192] S128x64.size inb_S256x256_S128x64_0_192)) (View.ld (iblk m c 3 t) (Rect.unit ![128, 192] S128x64.size inb_S256x256_S128x64_128_192)) (View.ld (iblk m c 3 t) (Rect.unit ![0, 192] S128x64.size inb_S256x256_S128x64_0_192)) (View.ld (iblk m c 5 t) (Rect.unit ![128, 192] S128x64.size inb_S256x256_S128x64_128_192)) (View.ld (iblk m c 6 t) (Rect.unit ![128, 192] S128x64.size inb_S256x256_S128x64_128_192))) (Attn.dkcH (k0_pay2 (grid0.coords t)) (View.ld (iblk m c 0 t) (Rect.unit ![0, 192] S128x64.size inb_S256x256_S128x64_0_192)) (View.ld (iblk m c 1 t) (Rect.unit ![0, 192] S128x64.size inb_S256x256_S128x64_0_192)) (View.ld (iblk m c 2 t) (Rect.unit ![0, 192] S128x64.size inb_S128x256_S128x64_0_192)) (View.ld (iblk m c 3 t) (Rect.unit ![0, 192] S128x64.size inb_S256x256_S128x64_0_192)) (View.ld (iblk m c 4 t) (Rect.unit ![0, 192] S128x64.size inb_S128x256_S128x64_0_192)) (View.ld (iblk m c 5 t) (Rect.unit ![0, 192] S128x64.size inb_S256x256_S128x64_0_192)) (View.ld (iblk m c 6 t) (Rect.unit ![0, 192] S128x64.size inb_S256x256_S128x64_0_192)))⟩,
    ⟨Rect.unit ![128, 128] S128x64.size inb_S256x256_S128x64_128_128,
      addf (Attn.dkcH (k0_pay3 (grid0.coords t)) (View.ld (iblk m c 0 t) (Rect.unit ![128, 128] S128x64.size inb_S256x256_S128x64_128_128)) (View.ld (iblk m c 1 t) (Rect.unit ![128, 128] S128x64.size inb_S256x256_S128x64_128_128)) (View.ld (iblk m c 1 t) (Rect.unit ![0, 128] S128x64.size inb_S256x256_S128x64_0_128)) (View.ld (iblk m c 3 t) (Rect.unit ![128, 128] S128x64.size inb_S256x256_S128x64_128_128)) (View.ld (iblk m c 3 t) (Rect.unit ![0, 128] S128x64.size inb_S256x256_S128x64_0_128)) (View.ld (iblk m c 5 t) (Rect.unit ![128, 128] S128x64.size inb_S256x256_S128x64_128_128)) (View.ld (iblk m c 6 t) (Rect.unit ![128, 128] S128x64.size inb_S256x256_S128x64_128_128))) (fun _ => Scalar.ofBits .f32 0x00000000#32)⟩,
    ⟨Rect.unit ![0, 128] S128x64.size inb_S256x256_S128x64_0_128,
      addf (Attn.dkpH (k0_pay3 (grid0.coords t)) (View.ld (iblk m c 0 t) (Rect.unit ![128, 128] S128x64.size inb_S256x256_S128x64_128_128)) (View.ld (iblk m c 1 t) (Rect.unit ![128, 128] S128x64.size inb_S256x256_S128x64_128_128)) (View.ld (iblk m c 1 t) (Rect.unit ![0, 128] S128x64.size inb_S256x256_S128x64_0_128)) (View.ld (iblk m c 3 t) (Rect.unit ![128, 128] S128x64.size inb_S256x256_S128x64_128_128)) (View.ld (iblk m c 3 t) (Rect.unit ![0, 128] S128x64.size inb_S256x256_S128x64_0_128)) (View.ld (iblk m c 5 t) (Rect.unit ![128, 128] S128x64.size inb_S256x256_S128x64_128_128)) (View.ld (iblk m c 6 t) (Rect.unit ![128, 128] S128x64.size inb_S256x256_S128x64_128_128))) (Attn.dkcH (k0_pay2 (grid0.coords t)) (View.ld (iblk m c 0 t) (Rect.unit ![0, 128] S128x64.size inb_S256x256_S128x64_0_128)) (View.ld (iblk m c 1 t) (Rect.unit ![0, 128] S128x64.size inb_S256x256_S128x64_0_128)) (View.ld (iblk m c 2 t) (Rect.unit ![0, 128] S128x64.size inb_S128x256_S128x64_0_128)) (View.ld (iblk m c 3 t) (Rect.unit ![0, 128] S128x64.size inb_S256x256_S128x64_0_128)) (View.ld (iblk m c 4 t) (Rect.unit ![0, 128] S128x64.size inb_S128x256_S128x64_0_128)) (View.ld (iblk m c 5 t) (Rect.unit ![0, 128] S128x64.size inb_S256x256_S128x64_0_128)) (View.ld (iblk m c 6 t) (Rect.unit ![0, 128] S128x64.size inb_S256x256_S128x64_0_128)))⟩,
    ⟨Rect.unit ![128, 64] S128x64.size inb_S256x256_S128x64_128_64,
      addf (Attn.dkcH (k0_pay3 (grid0.coords t)) (View.ld (iblk m c 0 t) (Rect.unit ![128, 64] S128x64.size inb_S256x256_S128x64_128_64)) (View.ld (iblk m c 1 t) (Rect.unit ![128, 64] S128x64.size inb_S256x256_S128x64_128_64)) (View.ld (iblk m c 1 t) (Rect.unit ![0, 64] S128x64.size inb_S256x256_S128x64_0_64)) (View.ld (iblk m c 3 t) (Rect.unit ![128, 64] S128x64.size inb_S256x256_S128x64_128_64)) (View.ld (iblk m c 3 t) (Rect.unit ![0, 64] S128x64.size inb_S256x256_S128x64_0_64)) (View.ld (iblk m c 5 t) (Rect.unit ![128, 64] S128x64.size inb_S256x256_S128x64_128_64)) (View.ld (iblk m c 6 t) (Rect.unit ![128, 64] S128x64.size inb_S256x256_S128x64_128_64))) (fun _ => Scalar.ofBits .f32 0x00000000#32)⟩,
    ⟨Rect.unit ![0, 64] S128x64.size inb_S256x256_S128x64_0_64,
      addf (Attn.dkpH (k0_pay3 (grid0.coords t)) (View.ld (iblk m c 0 t) (Rect.unit ![128, 64] S128x64.size inb_S256x256_S128x64_128_64)) (View.ld (iblk m c 1 t) (Rect.unit ![128, 64] S128x64.size inb_S256x256_S128x64_128_64)) (View.ld (iblk m c 1 t) (Rect.unit ![0, 64] S128x64.size inb_S256x256_S128x64_0_64)) (View.ld (iblk m c 3 t) (Rect.unit ![128, 64] S128x64.size inb_S256x256_S128x64_128_64)) (View.ld (iblk m c 3 t) (Rect.unit ![0, 64] S128x64.size inb_S256x256_S128x64_0_64)) (View.ld (iblk m c 5 t) (Rect.unit ![128, 64] S128x64.size inb_S256x256_S128x64_128_64)) (View.ld (iblk m c 6 t) (Rect.unit ![128, 64] S128x64.size inb_S256x256_S128x64_128_64))) (Attn.dkcH (k0_pay2 (grid0.coords t)) (View.ld (iblk m c 0 t) (Rect.unit ![0, 64] S128x64.size inb_S256x256_S128x64_0_64)) (View.ld (iblk m c 1 t) (Rect.unit ![0, 64] S128x64.size inb_S256x256_S128x64_0_64)) (View.ld (iblk m c 2 t) (Rect.unit ![0, 64] S128x64.size inb_S128x256_S128x64_0_64)) (View.ld (iblk m c 3 t) (Rect.unit ![0, 64] S128x64.size inb_S256x256_S128x64_0_64)) (View.ld (iblk m c 4 t) (Rect.unit ![0, 64] S128x64.size inb_S128x256_S128x64_0_64)) (View.ld (iblk m c 5 t) (Rect.unit ![0, 64] S128x64.size inb_S256x256_S128x64_0_64)) (View.ld (iblk m c 6 t) (Rect.unit ![0, 64] S128x64.size inb_S256x256_S128x64_0_64)))⟩,
    ⟨Rect.unit ![128, 0] S128x64.size inb_S256x256_S128x64_128_0,
      addf (Attn.dkcH (k0_pay3 (grid0.coords t)) (View.ld (iblk m c 0 t) (Rect.unit ![128, 0] S128x64.size inb_S256x256_S128x64_128_0)) (View.ld (iblk m c 1 t) (Rect.unit ![128, 0] S128x64.size inb_S256x256_S128x64_128_0)) (View.ld (iblk m c 1 t) (Rect.unit ![0, 0] S128x64.size inb_S256x256_S128x64_0_0)) (View.ld (iblk m c 3 t) (Rect.unit ![128, 0] S128x64.size inb_S256x256_S128x64_128_0)) (View.ld (iblk m c 3 t) (Rect.unit ![0, 0] S128x64.size inb_S256x256_S128x64_0_0)) (View.ld (iblk m c 5 t) (Rect.unit ![128, 0] S128x64.size inb_S256x256_S128x64_128_0)) (View.ld (iblk m c 6 t) (Rect.unit ![128, 0] S128x64.size inb_S256x256_S128x64_128_0))) (fun _ => Scalar.ofBits .f32 0x00000000#32)⟩,
    ⟨Rect.unit ![0, 0] S128x64.size inb_S256x256_S128x64_0_0,
      addf (Attn.dkpH (k0_pay3 (grid0.coords t)) (View.ld (iblk m c 0 t) (Rect.unit ![128, 0] S128x64.size inb_S256x256_S128x64_128_0)) (View.ld (iblk m c 1 t) (Rect.unit ![128, 0] S128x64.size inb_S256x256_S128x64_128_0)) (View.ld (iblk m c 1 t) (Rect.unit ![0, 0] S128x64.size inb_S256x256_S128x64_0_0)) (View.ld (iblk m c 3 t) (Rect.unit ![128, 0] S128x64.size inb_S256x256_S128x64_128_0)) (View.ld (iblk m c 3 t) (Rect.unit ![0, 0] S128x64.size inb_S256x256_S128x64_0_0)) (View.ld (iblk m c 5 t) (Rect.unit ![128, 0] S128x64.size inb_S256x256_S128x64_128_0)) (View.ld (iblk m c 6 t) (Rect.unit ![128, 0] S128x64.size inb_S256x256_S128x64_128_0))) (Attn.dkcH (k0_pay2 (grid0.coords t)) (View.ld (iblk m c 0 t) (Rect.unit ![0, 0] S128x64.size inb_S256x256_S128x64_0_0)) (View.ld (iblk m c 1 t) (Rect.unit ![0, 0] S128x64.size inb_S256x256_S128x64_0_0)) (View.ld (iblk m c 2 t) (Rect.unit ![0, 0] S128x64.size inb_S128x256_S128x64_0_0)) (View.ld (iblk m c 3 t) (Rect.unit ![0, 0] S128x64.size inb_S256x256_S128x64_0_0)) (View.ld (iblk m c 4 t) (Rect.unit ![0, 0] S128x64.size inb_S128x256_S128x64_0_0)) (View.ld (iblk m c 5 t) (Rect.unit ![0, 0] S128x64.size inb_S256x256_S128x64_0_0)) (View.ld (iblk m c 6 t) (Rect.unit ![0, 0] S128x64.size inb_S256x256_S128x64_0_0)))⟩] := by
  unfold runA kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, carried_read, carry_zero0, carry_zero1]
  rfl

set_option maxHeartbeats 4000000 in
/-- The stores of the values' gradient (first point). -/
theorem piecesA2 (c : Dev nD) (t : Fin cfg0.N) (h0 : t.val % 16 = 0) :
    (runA m c t h0).2.2.1 = [⟨Rect.unit ![128, 192] S128x64.size inb_S256x256_S128x64_128_192,
      addf (Attn.dvcH (k0_pay3 (grid0.coords t)) (View.ld (iblk m c 0 t) (Rect.unit ![128, 192] S128x64.size inb_S256x256_S128x64_128_192)) (View.ld (iblk m c 1 t) (Rect.unit ![128, 192] S128x64.size inb_S256x256_S128x64_128_192)) (View.ld (iblk m c 1 t) (Rect.unit ![0, 192] S128x64.size inb_S256x256_S128x64_0_192)) (View.ld (iblk m c 5 t) (Rect.unit ![128, 192] S128x64.size inb_S256x256_S128x64_128_192))) (fun _ => Scalar.ofBits .f32 0x00000000#32)⟩,
    ⟨Rect.unit ![0, 192] S128x64.size inb_S256x256_S128x64_0_192,
      addf (Attn.dvpH (k0_pay3 (grid0.coords t)) (View.ld (iblk m c 0 t) (Rect.unit ![128, 192] S128x64.size inb_S256x256_S128x64_128_192)) (View.ld (iblk m c 1 t) (Rect.unit ![128, 192] S128x64.size inb_S256x256_S128x64_128_192)) (View.ld (iblk m c 1 t) (Rect.unit ![0, 192] S128x64.size inb_S256x256_S128x64_0_192)) (View.ld (iblk m c 5 t) (Rect.unit ![128, 192] S128x64.size inb_S256x256_S128x64_128_192))) (Attn.dvcH (k0_pay2 (grid0.coords t)) (View.ld (iblk m c 0 t) (Rect.unit ![0, 192] S128x64.size inb_S256x256_S128x64_0_192)) (View.ld (iblk m c 1 t) (Rect.unit ![0, 192] S128x64.size inb_S256x256_S128x64_0_192)) (View.ld (iblk m c 2 t) (Rect.unit ![0, 192] S128x64.size inb_S128x256_S128x64_0_192)) (View.ld (iblk m c 5 t) (Rect.unit ![0, 192] S128x64.size inb_S256x256_S128x64_0_192)))⟩,
    ⟨Rect.unit ![128, 128] S128x64.size inb_S256x256_S128x64_128_128,
      addf (Attn.dvcH (k0_pay3 (grid0.coords t)) (View.ld (iblk m c 0 t) (Rect.unit ![128, 128] S128x64.size inb_S256x256_S128x64_128_128)) (View.ld (iblk m c 1 t) (Rect.unit ![128, 128] S128x64.size inb_S256x256_S128x64_128_128)) (View.ld (iblk m c 1 t) (Rect.unit ![0, 128] S128x64.size inb_S256x256_S128x64_0_128)) (View.ld (iblk m c 5 t) (Rect.unit ![128, 128] S128x64.size inb_S256x256_S128x64_128_128))) (fun _ => Scalar.ofBits .f32 0x00000000#32)⟩,
    ⟨Rect.unit ![0, 128] S128x64.size inb_S256x256_S128x64_0_128,
      addf (Attn.dvpH (k0_pay3 (grid0.coords t)) (View.ld (iblk m c 0 t) (Rect.unit ![128, 128] S128x64.size inb_S256x256_S128x64_128_128)) (View.ld (iblk m c 1 t) (Rect.unit ![128, 128] S128x64.size inb_S256x256_S128x64_128_128)) (View.ld (iblk m c 1 t) (Rect.unit ![0, 128] S128x64.size inb_S256x256_S128x64_0_128)) (View.ld (iblk m c 5 t) (Rect.unit ![128, 128] S128x64.size inb_S256x256_S128x64_128_128))) (Attn.dvcH (k0_pay2 (grid0.coords t)) (View.ld (iblk m c 0 t) (Rect.unit ![0, 128] S128x64.size inb_S256x256_S128x64_0_128)) (View.ld (iblk m c 1 t) (Rect.unit ![0, 128] S128x64.size inb_S256x256_S128x64_0_128)) (View.ld (iblk m c 2 t) (Rect.unit ![0, 128] S128x64.size inb_S128x256_S128x64_0_128)) (View.ld (iblk m c 5 t) (Rect.unit ![0, 128] S128x64.size inb_S256x256_S128x64_0_128)))⟩,
    ⟨Rect.unit ![128, 64] S128x64.size inb_S256x256_S128x64_128_64,
      addf (Attn.dvcH (k0_pay3 (grid0.coords t)) (View.ld (iblk m c 0 t) (Rect.unit ![128, 64] S128x64.size inb_S256x256_S128x64_128_64)) (View.ld (iblk m c 1 t) (Rect.unit ![128, 64] S128x64.size inb_S256x256_S128x64_128_64)) (View.ld (iblk m c 1 t) (Rect.unit ![0, 64] S128x64.size inb_S256x256_S128x64_0_64)) (View.ld (iblk m c 5 t) (Rect.unit ![128, 64] S128x64.size inb_S256x256_S128x64_128_64))) (fun _ => Scalar.ofBits .f32 0x00000000#32)⟩,
    ⟨Rect.unit ![0, 64] S128x64.size inb_S256x256_S128x64_0_64,
      addf (Attn.dvpH (k0_pay3 (grid0.coords t)) (View.ld (iblk m c 0 t) (Rect.unit ![128, 64] S128x64.size inb_S256x256_S128x64_128_64)) (View.ld (iblk m c 1 t) (Rect.unit ![128, 64] S128x64.size inb_S256x256_S128x64_128_64)) (View.ld (iblk m c 1 t) (Rect.unit ![0, 64] S128x64.size inb_S256x256_S128x64_0_64)) (View.ld (iblk m c 5 t) (Rect.unit ![128, 64] S128x64.size inb_S256x256_S128x64_128_64))) (Attn.dvcH (k0_pay2 (grid0.coords t)) (View.ld (iblk m c 0 t) (Rect.unit ![0, 64] S128x64.size inb_S256x256_S128x64_0_64)) (View.ld (iblk m c 1 t) (Rect.unit ![0, 64] S128x64.size inb_S256x256_S128x64_0_64)) (View.ld (iblk m c 2 t) (Rect.unit ![0, 64] S128x64.size inb_S128x256_S128x64_0_64)) (View.ld (iblk m c 5 t) (Rect.unit ![0, 64] S128x64.size inb_S256x256_S128x64_0_64)))⟩,
    ⟨Rect.unit ![128, 0] S128x64.size inb_S256x256_S128x64_128_0,
      addf (Attn.dvcH (k0_pay3 (grid0.coords t)) (View.ld (iblk m c 0 t) (Rect.unit ![128, 0] S128x64.size inb_S256x256_S128x64_128_0)) (View.ld (iblk m c 1 t) (Rect.unit ![128, 0] S128x64.size inb_S256x256_S128x64_128_0)) (View.ld (iblk m c 1 t) (Rect.unit ![0, 0] S128x64.size inb_S256x256_S128x64_0_0)) (View.ld (iblk m c 5 t) (Rect.unit ![128, 0] S128x64.size inb_S256x256_S128x64_128_0))) (fun _ => Scalar.ofBits .f32 0x00000000#32)⟩,
    ⟨Rect.unit ![0, 0] S128x64.size inb_S256x256_S128x64_0_0,
      addf (Attn.dvpH (k0_pay3 (grid0.coords t)) (View.ld (iblk m c 0 t) (Rect.unit ![128, 0] S128x64.size inb_S256x256_S128x64_128_0)) (View.ld (iblk m c 1 t) (Rect.unit ![128, 0] S128x64.size inb_S256x256_S128x64_128_0)) (View.ld (iblk m c 1 t) (Rect.unit ![0, 0] S128x64.size inb_S256x256_S128x64_0_0)) (View.ld (iblk m c 5 t) (Rect.unit ![128, 0] S128x64.size inb_S256x256_S128x64_128_0))) (Attn.dvcH (k0_pay2 (grid0.coords t)) (View.ld (iblk m c 0 t) (Rect.unit ![0, 0] S128x64.size inb_S256x256_S128x64_0_0)) (View.ld (iblk m c 1 t) (Rect.unit ![0, 0] S128x64.size inb_S256x256_S128x64_0_0)) (View.ld (iblk m c 2 t) (Rect.unit ![0, 0] S128x64.size inb_S128x256_S128x64_0_0)) (View.ld (iblk m c 5 t) (Rect.unit ![0, 0] S128x64.size inb_S256x256_S128x64_0_0)))⟩] := by
  unfold runA kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, carried_read, carry_zero0, carry_zero1]
  rfl

set_option maxHeartbeats 4000000 in
/-- The stores of the carried keys' gradient (first point). -/
theorem piecesA3 (c : Dev nD) (t : Fin cfg0.N) (h0 : t.val % 16 = 0) :
    (runA m c t h0).2.2.2.1 = [⟨Rect.unit ![0, 192] S128x64.size inb_S128x256_S128x64_0_192,
      shapeCast S128x64 (Attn.dkpH (k0_pay2 (grid0.coords t)) (View.ld (iblk m c 0 t) (Rect.unit ![0, 192] S128x64.size inb_S256x256_S128x64_0_192)) (View.ld (iblk m c 1 t) (Rect.unit ![0, 192] S128x64.size inb_S256x256_S128x64_0_192)) (View.ld (iblk m c 2 t) (Rect.unit ![0, 192] S128x64.size inb_S128x256_S128x64_0_192)) (View.ld (iblk m c 3 t) (Rect.unit ![0, 192] S128x64.size inb_S256x256_S128x64_0_192)) (View.ld (iblk m c 4 t) (Rect.unit ![0, 192] S128x64.size inb_S128x256_S128x64_0_192)) (View.ld (iblk m c 5 t) (Rect.unit ![0, 192] S128x64.size inb_S256x256_S128x64_0_192)) (View.ld (iblk m c 6 t) (Rect.unit ![0, 192] S128x64.size inb_S256x256_S128x64_0_192))) shapeCasts_S128x64_S128x64⟩,
    ⟨Rect.unit ![0, 128] S128x64.size inb_S128x256_S128x64_0_128,
      shapeCast S128x64 (Attn.dkpH (k0_pay2 (grid0.coords t)) (View.ld (iblk m c 0 t) (Rect.unit ![0, 128] S128x64.size inb_S256x256_S128x64_0_128)) (View.ld (iblk m c 1 t) (Rect.unit ![0, 128] S128x64.size inb_S256x256_S128x64_0_128)) (View.ld (iblk m c 2 t) (Rect.unit ![0, 128] S128x64.size inb_S128x256_S128x64_0_128)) (View.ld (iblk m c 3 t) (Rect.unit ![0, 128] S128x64.size inb_S256x256_S128x64_0_128)) (View.ld (iblk m c 4 t) (Rect.unit ![0, 128] S128x64.size inb_S128x256_S128x64_0_128)) (View.ld (iblk m c 5 t) (Rect.unit ![0, 128] S128x64.size inb_S256x256_S128x64_0_128)) (View.ld (iblk m c 6 t) (Rect.unit ![0, 128] S128x64.size inb_S256x256_S128x64_0_128))) shapeCasts_S128x64_S128x64⟩,
    ⟨Rect.unit ![0, 64] S128x64.size inb_S128x256_S128x64_0_64,
      shapeCast S128x64 (Attn.dkpH (k0_pay2 (grid0.coords t)) (View.ld (iblk m c 0 t) (Rect.unit ![0, 64] S128x64.size inb_S256x256_S128x64_0_64)) (View.ld (iblk m c 1 t) (Rect.unit ![0, 64] S128x64.size inb_S256x256_S128x64_0_64)) (View.ld (iblk m c 2 t) (Rect.unit ![0, 64] S128x64.size inb_S128x256_S128x64_0_64)) (View.ld (iblk m c 3 t) (Rect.unit ![0, 64] S128x64.size inb_S256x256_S128x64_0_64)) (View.ld (iblk m c 4 t) (Rect.unit ![0, 64] S128x64.size inb_S128x256_S128x64_0_64)) (View.ld (iblk m c 5 t) (Rect.unit ![0, 64] S128x64.size inb_S256x256_S128x64_0_64)) (View.ld (iblk m c 6 t) (Rect.unit ![0, 64] S128x64.size inb_S256x256_S128x64_0_64))) shapeCasts_S128x64_S128x64⟩,
    ⟨Rect.unit ![0, 0] S128x64.size inb_S128x256_S128x64_0_0,
      shapeCast S128x64 (Attn.dkpH (k0_pay2 (grid0.coords t)) (View.ld (iblk m c 0 t) (Rect.unit ![0, 0] S128x64.size inb_S256x256_S128x64_0_0)) (View.ld (iblk m c 1 t) (Rect.unit ![0, 0] S128x64.size inb_S256x256_S128x64_0_0)) (View.ld (iblk m c 2 t) (Rect.unit ![0, 0] S128x64.size inb_S128x256_S128x64_0_0)) (View.ld (iblk m c 3 t) (Rect.unit ![0, 0] S128x64.size inb_S256x256_S128x64_0_0)) (View.ld (iblk m c 4 t) (Rect.unit ![0, 0] S128x64.size inb_S128x256_S128x64_0_0)) (View.ld (iblk m c 5 t) (Rect.unit ![0, 0] S128x64.size inb_S256x256_S128x64_0_0)) (View.ld (iblk m c 6 t) (Rect.unit ![0, 0] S128x64.size inb_S256x256_S128x64_0_0))) shapeCasts_S128x64_S128x64⟩,
    ⟨Rect.unit ![0, 0] S128x256.size inb_S128x256_S128x256_0_0, k0_pay4 (F := F)⟩] := by
  unfold runA kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, carried_read, carry_zero0, carry_zero1]
  rfl

set_option maxHeartbeats 4000000 in
/-- The stores of the carried values' gradient (first point). -/
theorem piecesA4 (c : Dev nD) (t : Fin cfg0.N) (h0 : t.val % 16 = 0) :
    (runA m c t h0).2.2.2.2.1 = [⟨Rect.unit ![0, 192] S128x64.size inb_S128x256_S128x64_0_192,
      shapeCast S128x64 (Attn.dvpH (k0_pay2 (grid0.coords t)) (View.ld (iblk m c 0 t) (Rect.unit ![0, 192] S128x64.size inb_S256x256_S128x64_0_192)) (View.ld (iblk m c 1 t) (Rect.unit ![0, 192] S128x64.size inb_S256x256_S128x64_0_192)) (View.ld (iblk m c 2 t) (Rect.unit ![0, 192] S128x64.size inb_S128x256_S128x64_0_192)) (View.ld (iblk m c 5 t) (Rect.unit ![0, 192] S128x64.size inb_S256x256_S128x64_0_192))) shapeCasts_S128x64_S128x64⟩,
    ⟨Rect.unit ![0, 128] S128x64.size inb_S128x256_S128x64_0_128,
      shapeCast S128x64 (Attn.dvpH (k0_pay2 (grid0.coords t)) (View.ld (iblk m c 0 t) (Rect.unit ![0, 128] S128x64.size inb_S256x256_S128x64_0_128)) (View.ld (iblk m c 1 t) (Rect.unit ![0, 128] S128x64.size inb_S256x256_S128x64_0_128)) (View.ld (iblk m c 2 t) (Rect.unit ![0, 128] S128x64.size inb_S128x256_S128x64_0_128)) (View.ld (iblk m c 5 t) (Rect.unit ![0, 128] S128x64.size inb_S256x256_S128x64_0_128))) shapeCasts_S128x64_S128x64⟩,
    ⟨Rect.unit ![0, 64] S128x64.size inb_S128x256_S128x64_0_64,
      shapeCast S128x64 (Attn.dvpH (k0_pay2 (grid0.coords t)) (View.ld (iblk m c 0 t) (Rect.unit ![0, 64] S128x64.size inb_S256x256_S128x64_0_64)) (View.ld (iblk m c 1 t) (Rect.unit ![0, 64] S128x64.size inb_S256x256_S128x64_0_64)) (View.ld (iblk m c 2 t) (Rect.unit ![0, 64] S128x64.size inb_S128x256_S128x64_0_64)) (View.ld (iblk m c 5 t) (Rect.unit ![0, 64] S128x64.size inb_S256x256_S128x64_0_64))) shapeCasts_S128x64_S128x64⟩,
    ⟨Rect.unit ![0, 0] S128x64.size inb_S128x256_S128x64_0_0,
      shapeCast S128x64 (Attn.dvpH (k0_pay2 (grid0.coords t)) (View.ld (iblk m c 0 t) (Rect.unit ![0, 0] S128x64.size inb_S256x256_S128x64_0_0)) (View.ld (iblk m c 1 t) (Rect.unit ![0, 0] S128x64.size inb_S256x256_S128x64_0_0)) (View.ld (iblk m c 2 t) (Rect.unit ![0, 0] S128x64.size inb_S128x256_S128x64_0_0)) (View.ld (iblk m c 5 t) (Rect.unit ![0, 0] S128x64.size inb_S256x256_S128x64_0_0))) shapeCasts_S128x64_S128x64⟩,
    ⟨Rect.unit ![0, 0] S128x256.size inb_S128x256_S128x256_0_0, k0_pay5 (F := F)⟩] := by
  unfold runA kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, carried_read, carry_zero0, carry_zero1]
  rfl

set_option maxHeartbeats 4000000 in
/-- The stores of the queries' gradient (later points). -/
theorem piecesB0 (c : Dev nD) (t : Fin cfg0.N) (h0 : ¬t.val % 16 = 0) (s0 s1 : Vec F S128x256 .f32) :
    (runB m c t h0 s0 s1).1 = [⟨Rect.unit ![128, 192] S128x64.size inb_S256x256_S128x64_128_192,
      Attn.dqH (k0_pay3 (grid0.coords t)) (View.ld (iblk m c 0 t) (Rect.unit ![128, 192] S128x64.size inb_S256x256_S128x64_128_192)) (View.ld (iblk m c 1 t) (Rect.unit ![128, 192] S128x64.size inb_S256x256_S128x64_128_192)) (View.ld (iblk m c 1 t) (Rect.unit ![0, 192] S128x64.size inb_S256x256_S128x64_0_192)) (View.ld (iblk m c 3 t) (Rect.unit ![128, 192] S128x64.size inb_S256x256_S128x64_128_192)) (View.ld (iblk m c 3 t) (Rect.unit ![0, 192] S128x64.size inb_S256x256_S128x64_0_192)) (View.ld (iblk m c 5 t) (Rect.unit ![128, 192] S128x64.size inb_S256x256_S128x64_128_192)) (View.ld (iblk m c 6 t) (Rect.unit ![128, 192] S128x64.size inb_S256x256_S128x64_128_192))⟩,
    ⟨Rect.unit ![0, 192] S128x64.size inb_S256x256_S128x64_0_192,
      Attn.dqH (k0_pay2 (grid0.coords t)) (View.ld (iblk m c 0 t) (Rect.unit ![0, 192] S128x64.size inb_S256x256_S128x64_0_192)) (View.ld (iblk m c 1 t) (Rect.unit ![0, 192] S128x64.size inb_S256x256_S128x64_0_192)) (View.ld (iblk m c 2 t) (Rect.unit ![0, 192] S128x64.size inb_S128x256_S128x64_0_192)) (View.ld (iblk m c 3 t) (Rect.unit ![0, 192] S128x64.size inb_S256x256_S128x64_0_192)) (View.ld (iblk m c 4 t) (Rect.unit ![0, 192] S128x64.size inb_S128x256_S128x64_0_192)) (View.ld (iblk m c 5 t) (Rect.unit ![0, 192] S128x64.size inb_S256x256_S128x64_0_192)) (View.ld (iblk m c 6 t) (Rect.unit ![0, 192] S128x64.size inb_S256x256_S128x64_0_192))⟩,
    ⟨Rect.unit ![128, 128] S128x64.size inb_S256x256_S128x64_128_128,
      Attn.dqH (k0_pay3 (grid0.coords t)) (View.ld (iblk m c 0 t) (Rect.unit ![128, 128] S128x64.size inb_S256x256_S128x64_128_128)) (View.ld (iblk m c 1 t) (Rect.unit ![128, 128] S128x64.size inb_S256x256_S128x64_128_128)) (View.ld (iblk m c 1 t) (Rect.unit ![0, 128] S128x64.size inb_S256x256_S128x64_0_128)) (View.ld (iblk m c 3 t) (Rect.unit ![128, 128] S128x64.size inb_S256x256_S128x64_128_128)) (View.ld (iblk m c 3 t) (Rect.unit ![0, 128] S128x64.size inb_S256x256_S128x64_0_128)) (View.ld (iblk m c 5 t) (Rect.unit ![128, 128] S128x64.size inb_S256x256_S128x64_128_128)) (View.ld (iblk m c 6 t) (Rect.unit ![128, 128] S128x64.size inb_S256x256_S128x64_128_128))⟩,
    ⟨Rect.unit ![0, 128] S128x64.size inb_S256x256_S128x64_0_128,
      Attn.dqH (k0_pay2 (grid0.coords t)) (View.ld (iblk m c 0 t) (Rect.unit ![0, 128] S128x64.size inb_S256x256_S128x64_0_128)) (View.ld (iblk m c 1 t) (Rect.unit ![0, 128] S128x64.size inb_S256x256_S128x64_0_128)) (View.ld (iblk m c 2 t) (Rect.unit ![0, 128] S128x64.size inb_S128x256_S128x64_0_128)) (View.ld (iblk m c 3 t) (Rect.unit ![0, 128] S128x64.size inb_S256x256_S128x64_0_128)) (View.ld (iblk m c 4 t) (Rect.unit ![0, 128] S128x64.size inb_S128x256_S128x64_0_128)) (View.ld (iblk m c 5 t) (Rect.unit ![0, 128] S128x64.size inb_S256x256_S128x64_0_128)) (View.ld (iblk m c 6 t) (Rect.unit ![0, 128] S128x64.size inb_S256x256_S128x64_0_128))⟩,
    ⟨Rect.unit ![128, 64] S128x64.size inb_S256x256_S128x64_128_64,
      Attn.dqH (k0_pay3 (grid0.coords t)) (View.ld (iblk m c 0 t) (Rect.unit ![128, 64] S128x64.size inb_S256x256_S128x64_128_64)) (View.ld (iblk m c 1 t) (Rect.unit ![128, 64] S128x64.size inb_S256x256_S128x64_128_64)) (View.ld (iblk m c 1 t) (Rect.unit ![0, 64] S128x64.size inb_S256x256_S128x64_0_64)) (View.ld (iblk m c 3 t) (Rect.unit ![128, 64] S128x64.size inb_S256x256_S128x64_128_64)) (View.ld (iblk m c 3 t) (Rect.unit ![0, 64] S128x64.size inb_S256x256_S128x64_0_64)) (View.ld (iblk m c 5 t) (Rect.unit ![128, 64] S128x64.size inb_S256x256_S128x64_128_64)) (View.ld (iblk m c 6 t) (Rect.unit ![128, 64] S128x64.size inb_S256x256_S128x64_128_64))⟩,
    ⟨Rect.unit ![0, 64] S128x64.size inb_S256x256_S128x64_0_64,
      Attn.dqH (k0_pay2 (grid0.coords t)) (View.ld (iblk m c 0 t) (Rect.unit ![0, 64] S128x64.size inb_S256x256_S128x64_0_64)) (View.ld (iblk m c 1 t) (Rect.unit ![0, 64] S128x64.size inb_S256x256_S128x64_0_64)) (View.ld (iblk m c 2 t) (Rect.unit ![0, 64] S128x64.size inb_S128x256_S128x64_0_64)) (View.ld (iblk m c 3 t) (Rect.unit ![0, 64] S128x64.size inb_S256x256_S128x64_0_64)) (View.ld (iblk m c 4 t) (Rect.unit ![0, 64] S128x64.size inb_S128x256_S128x64_0_64)) (View.ld (iblk m c 5 t) (Rect.unit ![0, 64] S128x64.size inb_S256x256_S128x64_0_64)) (View.ld (iblk m c 6 t) (Rect.unit ![0, 64] S128x64.size inb_S256x256_S128x64_0_64))⟩,
    ⟨Rect.unit ![128, 0] S128x64.size inb_S256x256_S128x64_128_0,
      Attn.dqH (k0_pay3 (grid0.coords t)) (View.ld (iblk m c 0 t) (Rect.unit ![128, 0] S128x64.size inb_S256x256_S128x64_128_0)) (View.ld (iblk m c 1 t) (Rect.unit ![128, 0] S128x64.size inb_S256x256_S128x64_128_0)) (View.ld (iblk m c 1 t) (Rect.unit ![0, 0] S128x64.size inb_S256x256_S128x64_0_0)) (View.ld (iblk m c 3 t) (Rect.unit ![128, 0] S128x64.size inb_S256x256_S128x64_128_0)) (View.ld (iblk m c 3 t) (Rect.unit ![0, 0] S128x64.size inb_S256x256_S128x64_0_0)) (View.ld (iblk m c 5 t) (Rect.unit ![128, 0] S128x64.size inb_S256x256_S128x64_128_0)) (View.ld (iblk m c 6 t) (Rect.unit ![128, 0] S128x64.size inb_S256x256_S128x64_128_0))⟩,
    ⟨Rect.unit ![0, 0] S128x64.size inb_S256x256_S128x64_0_0,
      Attn.dqH (k0_pay2 (grid0.coords t)) (View.ld (iblk m c 0 t) (Rect.unit ![0, 0] S128x64.size inb_S256x256_S128x64_0_0)) (View.ld (iblk m c 1 t) (Rect.unit ![0, 0] S128x64.size inb_S256x256_S128x64_0_0)) (View.ld (iblk m c 2 t) (Rect.unit ![0, 0] S128x64.size inb_S128x256_S128x64_0_0)) (View.ld (iblk m c 3 t) (Rect.unit ![0, 0] S128x64.size inb_S256x256_S128x64_0_0)) (View.ld (iblk m c 4 t) (Rect.unit ![0, 0] S128x64.size inb_S128x256_S128x64_0_0)) (View.ld (iblk m c 5 t) (Rect.unit ![0, 0] S128x64.size inb_S256x256_S128x64_0_0)) (View.ld (iblk m c 6 t) (Rect.unit ![0, 0] S128x64.size inb_S256x256_S128x64_0_0))⟩] := by
  unfold runB kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, carried_read, carry_zero0, carry_zero1]
  rfl

set_option maxHeartbeats 4000000 in
/-- The stores of the keys' gradient (later points). -/
theorem piecesB1 (c : Dev nD) (t : Fin cfg0.N) (h0 : ¬t.val % 16 = 0) (s0 s1 : Vec F S128x256 .f32) :
    (runB m c t h0 s0 s1).2.1 = [⟨Rect.unit ![128, 192] S128x64.size inb_S256x256_S128x64_128_192,
      addf (Attn.dkcH (k0_pay3 (grid0.coords t)) (View.ld (iblk m c 0 t) (Rect.unit ![128, 192] S128x64.size inb_S256x256_S128x64_128_192)) (View.ld (iblk m c 1 t) (Rect.unit ![128, 192] S128x64.size inb_S256x256_S128x64_128_192)) (View.ld (iblk m c 1 t) (Rect.unit ![0, 192] S128x64.size inb_S256x256_S128x64_0_192)) (View.ld (iblk m c 3 t) (Rect.unit ![128, 192] S128x64.size inb_S256x256_S128x64_128_192)) (View.ld (iblk m c 3 t) (Rect.unit ![0, 192] S128x64.size inb_S256x256_S128x64_0_192)) (View.ld (iblk m c 5 t) (Rect.unit ![128, 192] S128x64.size inb_S256x256_S128x64_128_192)) (View.ld (iblk m c 6 t) (Rect.unit ![128, 192] S128x64.size inb_S256x256_S128x64_128_192))) (View.ld s0 (Rect.unit ![0, 192] S128x64.size inb_S128x256_S128x64_0_192))⟩,
    ⟨Rect.unit ![0, 192] S128x64.size inb_S256x256_S128x64_0_192,
      addf (Attn.dkpH (k0_pay3 (grid0.coords t)) (View.ld (iblk m c 0 t) (Rect.unit ![128, 192] S128x64.size inb_S256x256_S128x64_128_192)) (View.ld (iblk m c 1 t) (Rect.unit ![128, 192] S128x64.size inb_S256x256_S128x64_128_192)) (View.ld (iblk m c 1 t) (Rect.unit ![0, 192] S128x64.size inb_S256x256_S128x64_0_192)) (View.ld (iblk m c 3 t) (Rect.unit ![128, 192] S128x64.size inb_S256x256_S128x64_128_192)) (View.ld (iblk m c 3 t) (Rect.unit ![0, 192] S128x64.size inb_S256x256_S128x64_0_192)) (View.ld (iblk m c 5 t) (Rect.unit ![128, 192] S128x64.size inb_S256x256_S128x64_128_192)) (View.ld (iblk m c 6 t) (Rect.unit ![128, 192] S128x64.size inb_S256x256_S128x64_128_192))) (Attn.dkcH (k0_pay2 (grid0.coords t)) (View.ld (iblk m c 0 t) (Rect.unit ![0, 192] S128x64.size inb_S256x256_S128x64_0_192)) (View.ld (iblk m c 1 t) (Rect.unit ![0, 192] S128x64.size inb_S256x256_S128x64_0_192)) (View.ld (iblk m c 2 t) (Rect.unit ![0, 192] S128x64.size inb_S128x256_S128x64_0_192)) (View.ld (iblk m c 3 t) (Rect.unit ![0, 192] S128x64.size inb_S256x256_S128x64_0_192)) (View.ld (iblk m c 4 t) (Rect.unit ![0, 192] S128x64.size inb_S128x256_S128x64_0_192)) (View.ld (iblk m c 5 t) (Rect.unit ![0, 192] S128x64.size inb_S256x256_S128x64_0_192)) (View.ld (iblk m c 6 t) (Rect.unit ![0, 192] S128x64.size inb_S256x256_S128x64_0_192)))⟩,
    ⟨Rect.unit ![128, 128] S128x64.size inb_S256x256_S128x64_128_128,
      addf (Attn.dkcH (k0_pay3 (grid0.coords t)) (View.ld (iblk m c 0 t) (Rect.unit ![128, 128] S128x64.size inb_S256x256_S128x64_128_128)) (View.ld (iblk m c 1 t) (Rect.unit ![128, 128] S128x64.size inb_S256x256_S128x64_128_128)) (View.ld (iblk m c 1 t) (Rect.unit ![0, 128] S128x64.size inb_S256x256_S128x64_0_128)) (View.ld (iblk m c 3 t) (Rect.unit ![128, 128] S128x64.size inb_S256x256_S128x64_128_128)) (View.ld (iblk m c 3 t) (Rect.unit ![0, 128] S128x64.size inb_S256x256_S128x64_0_128)) (View.ld (iblk m c 5 t) (Rect.unit ![128, 128] S128x64.size inb_S256x256_S128x64_128_128)) (View.ld (iblk m c 6 t) (Rect.unit ![128, 128] S128x64.size inb_S256x256_S128x64_128_128))) (View.ld s0 (Rect.unit ![0, 128] S128x64.size inb_S128x256_S128x64_0_128))⟩,
    ⟨Rect.unit ![0, 128] S128x64.size inb_S256x256_S128x64_0_128,
      addf (Attn.dkpH (k0_pay3 (grid0.coords t)) (View.ld (iblk m c 0 t) (Rect.unit ![128, 128] S128x64.size inb_S256x256_S128x64_128_128)) (View.ld (iblk m c 1 t) (Rect.unit ![128, 128] S128x64.size inb_S256x256_S128x64_128_128)) (View.ld (iblk m c 1 t) (Rect.unit ![0, 128] S128x64.size inb_S256x256_S128x64_0_128)) (View.ld (iblk m c 3 t) (Rect.unit ![128, 128] S128x64.size inb_S256x256_S128x64_128_128)) (View.ld (iblk m c 3 t) (Rect.unit ![0, 128] S128x64.size inb_S256x256_S128x64_0_128)) (View.ld (iblk m c 5 t) (Rect.unit ![128, 128] S128x64.size inb_S256x256_S128x64_128_128)) (View.ld (iblk m c 6 t) (Rect.unit ![128, 128] S128x64.size inb_S256x256_S128x64_128_128))) (Attn.dkcH (k0_pay2 (grid0.coords t)) (View.ld (iblk m c 0 t) (Rect.unit ![0, 128] S128x64.size inb_S256x256_S128x64_0_128)) (View.ld (iblk m c 1 t) (Rect.unit ![0, 128] S128x64.size inb_S256x256_S128x64_0_128)) (View.ld (iblk m c 2 t) (Rect.unit ![0, 128] S128x64.size inb_S128x256_S128x64_0_128)) (View.ld (iblk m c 3 t) (Rect.unit ![0, 128] S128x64.size inb_S256x256_S128x64_0_128)) (View.ld (iblk m c 4 t) (Rect.unit ![0, 128] S128x64.size inb_S128x256_S128x64_0_128)) (View.ld (iblk m c 5 t) (Rect.unit ![0, 128] S128x64.size inb_S256x256_S128x64_0_128)) (View.ld (iblk m c 6 t) (Rect.unit ![0, 128] S128x64.size inb_S256x256_S128x64_0_128)))⟩,
    ⟨Rect.unit ![128, 64] S128x64.size inb_S256x256_S128x64_128_64,
      addf (Attn.dkcH (k0_pay3 (grid0.coords t)) (View.ld (iblk m c 0 t) (Rect.unit ![128, 64] S128x64.size inb_S256x256_S128x64_128_64)) (View.ld (iblk m c 1 t) (Rect.unit ![128, 64] S128x64.size inb_S256x256_S128x64_128_64)) (View.ld (iblk m c 1 t) (Rect.unit ![0, 64] S128x64.size inb_S256x256_S128x64_0_64)) (View.ld (iblk m c 3 t) (Rect.unit ![128, 64] S128x64.size inb_S256x256_S128x64_128_64)) (View.ld (iblk m c 3 t) (Rect.unit ![0, 64] S128x64.size inb_S256x256_S128x64_0_64)) (View.ld (iblk m c 5 t) (Rect.unit ![128, 64] S128x64.size inb_S256x256_S128x64_128_64)) (View.ld (iblk m c 6 t) (Rect.unit ![128, 64] S128x64.size inb_S256x256_S128x64_128_64))) (View.ld s0 (Rect.unit ![0, 64] S128x64.size inb_S128x256_S128x64_0_64))⟩,
    ⟨Rect.unit ![0, 64] S128x64.size inb_S256x256_S128x64_0_64,
      addf (Attn.dkpH (k0_pay3 (grid0.coords t)) (View.ld (iblk m c 0 t) (Rect.unit ![128, 64] S128x64.size inb_S256x256_S128x64_128_64)) (View.ld (iblk m c 1 t) (Rect.unit ![128, 64] S128x64.size inb_S256x256_S128x64_128_64)) (View.ld (iblk m c 1 t) (Rect.unit ![0, 64] S128x64.size inb_S256x256_S128x64_0_64)) (View.ld (iblk m c 3 t) (Rect.unit ![128, 64] S128x64.size inb_S256x256_S128x64_128_64)) (View.ld (iblk m c 3 t) (Rect.unit ![0, 64] S128x64.size inb_S256x256_S128x64_0_64)) (View.ld (iblk m c 5 t) (Rect.unit ![128, 64] S128x64.size inb_S256x256_S128x64_128_64)) (View.ld (iblk m c 6 t) (Rect.unit ![128, 64] S128x64.size inb_S256x256_S128x64_128_64))) (Attn.dkcH (k0_pay2 (grid0.coords t)) (View.ld (iblk m c 0 t) (Rect.unit ![0, 64] S128x64.size inb_S256x256_S128x64_0_64)) (View.ld (iblk m c 1 t) (Rect.unit ![0, 64] S128x64.size inb_S256x256_S128x64_0_64)) (View.ld (iblk m c 2 t) (Rect.unit ![0, 64] S128x64.size inb_S128x256_S128x64_0_64)) (View.ld (iblk m c 3 t) (Rect.unit ![0, 64] S128x64.size inb_S256x256_S128x64_0_64)) (View.ld (iblk m c 4 t) (Rect.unit ![0, 64] S128x64.size inb_S128x256_S128x64_0_64)) (View.ld (iblk m c 5 t) (Rect.unit ![0, 64] S128x64.size inb_S256x256_S128x64_0_64)) (View.ld (iblk m c 6 t) (Rect.unit ![0, 64] S128x64.size inb_S256x256_S128x64_0_64)))⟩,
    ⟨Rect.unit ![128, 0] S128x64.size inb_S256x256_S128x64_128_0,
      addf (Attn.dkcH (k0_pay3 (grid0.coords t)) (View.ld (iblk m c 0 t) (Rect.unit ![128, 0] S128x64.size inb_S256x256_S128x64_128_0)) (View.ld (iblk m c 1 t) (Rect.unit ![128, 0] S128x64.size inb_S256x256_S128x64_128_0)) (View.ld (iblk m c 1 t) (Rect.unit ![0, 0] S128x64.size inb_S256x256_S128x64_0_0)) (View.ld (iblk m c 3 t) (Rect.unit ![128, 0] S128x64.size inb_S256x256_S128x64_128_0)) (View.ld (iblk m c 3 t) (Rect.unit ![0, 0] S128x64.size inb_S256x256_S128x64_0_0)) (View.ld (iblk m c 5 t) (Rect.unit ![128, 0] S128x64.size inb_S256x256_S128x64_128_0)) (View.ld (iblk m c 6 t) (Rect.unit ![128, 0] S128x64.size inb_S256x256_S128x64_128_0))) (View.ld s0 (Rect.unit ![0, 0] S128x64.size inb_S128x256_S128x64_0_0))⟩,
    ⟨Rect.unit ![0, 0] S128x64.size inb_S256x256_S128x64_0_0,
      addf (Attn.dkpH (k0_pay3 (grid0.coords t)) (View.ld (iblk m c 0 t) (Rect.unit ![128, 0] S128x64.size inb_S256x256_S128x64_128_0)) (View.ld (iblk m c 1 t) (Rect.unit ![128, 0] S128x64.size inb_S256x256_S128x64_128_0)) (View.ld (iblk m c 1 t) (Rect.unit ![0, 0] S128x64.size inb_S256x256_S128x64_0_0)) (View.ld (iblk m c 3 t) (Rect.unit ![128, 0] S128x64.size inb_S256x256_S128x64_128_0)) (View.ld (iblk m c 3 t) (Rect.unit ![0, 0] S128x64.size inb_S256x256_S128x64_0_0)) (View.ld (iblk m c 5 t) (Rect.unit ![128, 0] S128x64.size inb_S256x256_S128x64_128_0)) (View.ld (iblk m c 6 t) (Rect.unit ![128, 0] S128x64.size inb_S256x256_S128x64_128_0))) (Attn.dkcH (k0_pay2 (grid0.coords t)) (View.ld (iblk m c 0 t) (Rect.unit ![0, 0] S128x64.size inb_S256x256_S128x64_0_0)) (View.ld (iblk m c 1 t) (Rect.unit ![0, 0] S128x64.size inb_S256x256_S128x64_0_0)) (View.ld (iblk m c 2 t) (Rect.unit ![0, 0] S128x64.size inb_S128x256_S128x64_0_0)) (View.ld (iblk m c 3 t) (Rect.unit ![0, 0] S128x64.size inb_S256x256_S128x64_0_0)) (View.ld (iblk m c 4 t) (Rect.unit ![0, 0] S128x64.size inb_S128x256_S128x64_0_0)) (View.ld (iblk m c 5 t) (Rect.unit ![0, 0] S128x64.size inb_S256x256_S128x64_0_0)) (View.ld (iblk m c 6 t) (Rect.unit ![0, 0] S128x64.size inb_S256x256_S128x64_0_0)))⟩] := by
  unfold runB kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, carried_read, carry_zero0, carry_zero1]
  rfl

set_option maxHeartbeats 4000000 in
/-- The stores of the values' gradient (later points). -/
theorem piecesB2 (c : Dev nD) (t : Fin cfg0.N) (h0 : ¬t.val % 16 = 0) (s0 s1 : Vec F S128x256 .f32) :
    (runB m c t h0 s0 s1).2.2.1 = [⟨Rect.unit ![128, 192] S128x64.size inb_S256x256_S128x64_128_192,
      addf (Attn.dvcH (k0_pay3 (grid0.coords t)) (View.ld (iblk m c 0 t) (Rect.unit ![128, 192] S128x64.size inb_S256x256_S128x64_128_192)) (View.ld (iblk m c 1 t) (Rect.unit ![128, 192] S128x64.size inb_S256x256_S128x64_128_192)) (View.ld (iblk m c 1 t) (Rect.unit ![0, 192] S128x64.size inb_S256x256_S128x64_0_192)) (View.ld (iblk m c 5 t) (Rect.unit ![128, 192] S128x64.size inb_S256x256_S128x64_128_192))) (View.ld s1 (Rect.unit ![0, 192] S128x64.size inb_S128x256_S128x64_0_192))⟩,
    ⟨Rect.unit ![0, 192] S128x64.size inb_S256x256_S128x64_0_192,
      addf (Attn.dvpH (k0_pay3 (grid0.coords t)) (View.ld (iblk m c 0 t) (Rect.unit ![128, 192] S128x64.size inb_S256x256_S128x64_128_192)) (View.ld (iblk m c 1 t) (Rect.unit ![128, 192] S128x64.size inb_S256x256_S128x64_128_192)) (View.ld (iblk m c 1 t) (Rect.unit ![0, 192] S128x64.size inb_S256x256_S128x64_0_192)) (View.ld (iblk m c 5 t) (Rect.unit ![128, 192] S128x64.size inb_S256x256_S128x64_128_192))) (Attn.dvcH (k0_pay2 (grid0.coords t)) (View.ld (iblk m c 0 t) (Rect.unit ![0, 192] S128x64.size inb_S256x256_S128x64_0_192)) (View.ld (iblk m c 1 t) (Rect.unit ![0, 192] S128x64.size inb_S256x256_S128x64_0_192)) (View.ld (iblk m c 2 t) (Rect.unit ![0, 192] S128x64.size inb_S128x256_S128x64_0_192)) (View.ld (iblk m c 5 t) (Rect.unit ![0, 192] S128x64.size inb_S256x256_S128x64_0_192)))⟩,
    ⟨Rect.unit ![128, 128] S128x64.size inb_S256x256_S128x64_128_128,
      addf (Attn.dvcH (k0_pay3 (grid0.coords t)) (View.ld (iblk m c 0 t) (Rect.unit ![128, 128] S128x64.size inb_S256x256_S128x64_128_128)) (View.ld (iblk m c 1 t) (Rect.unit ![128, 128] S128x64.size inb_S256x256_S128x64_128_128)) (View.ld (iblk m c 1 t) (Rect.unit ![0, 128] S128x64.size inb_S256x256_S128x64_0_128)) (View.ld (iblk m c 5 t) (Rect.unit ![128, 128] S128x64.size inb_S256x256_S128x64_128_128))) (View.ld s1 (Rect.unit ![0, 128] S128x64.size inb_S128x256_S128x64_0_128))⟩,
    ⟨Rect.unit ![0, 128] S128x64.size inb_S256x256_S128x64_0_128,
      addf (Attn.dvpH (k0_pay3 (grid0.coords t)) (View.ld (iblk m c 0 t) (Rect.unit ![128, 128] S128x64.size inb_S256x256_S128x64_128_128)) (View.ld (iblk m c 1 t) (Rect.unit ![128, 128] S128x64.size inb_S256x256_S128x64_128_128)) (View.ld (iblk m c 1 t) (Rect.unit ![0, 128] S128x64.size inb_S256x256_S128x64_0_128)) (View.ld (iblk m c 5 t) (Rect.unit ![128, 128] S128x64.size inb_S256x256_S128x64_128_128))) (Attn.dvcH (k0_pay2 (grid0.coords t)) (View.ld (iblk m c 0 t) (Rect.unit ![0, 128] S128x64.size inb_S256x256_S128x64_0_128)) (View.ld (iblk m c 1 t) (Rect.unit ![0, 128] S128x64.size inb_S256x256_S128x64_0_128)) (View.ld (iblk m c 2 t) (Rect.unit ![0, 128] S128x64.size inb_S128x256_S128x64_0_128)) (View.ld (iblk m c 5 t) (Rect.unit ![0, 128] S128x64.size inb_S256x256_S128x64_0_128)))⟩,
    ⟨Rect.unit ![128, 64] S128x64.size inb_S256x256_S128x64_128_64,
      addf (Attn.dvcH (k0_pay3 (grid0.coords t)) (View.ld (iblk m c 0 t) (Rect.unit ![128, 64] S128x64.size inb_S256x256_S128x64_128_64)) (View.ld (iblk m c 1 t) (Rect.unit ![128, 64] S128x64.size inb_S256x256_S128x64_128_64)) (View.ld (iblk m c 1 t) (Rect.unit ![0, 64] S128x64.size inb_S256x256_S128x64_0_64)) (View.ld (iblk m c 5 t) (Rect.unit ![128, 64] S128x64.size inb_S256x256_S128x64_128_64))) (View.ld s1 (Rect.unit ![0, 64] S128x64.size inb_S128x256_S128x64_0_64))⟩,
    ⟨Rect.unit ![0, 64] S128x64.size inb_S256x256_S128x64_0_64,
      addf (Attn.dvpH (k0_pay3 (grid0.coords t)) (View.ld (iblk m c 0 t) (Rect.unit ![128, 64] S128x64.size inb_S256x256_S128x64_128_64)) (View.ld (iblk m c 1 t) (Rect.unit ![128, 64] S128x64.size inb_S256x256_S128x64_128_64)) (View.ld (iblk m c 1 t) (Rect.unit ![0, 64] S128x64.size inb_S256x256_S128x64_0_64)) (View.ld (iblk m c 5 t) (Rect.unit ![128, 64] S128x64.size inb_S256x256_S128x64_128_64))) (Attn.dvcH (k0_pay2 (grid0.coords t)) (View.ld (iblk m c 0 t) (Rect.unit ![0, 64] S128x64.size inb_S256x256_S128x64_0_64)) (View.ld (iblk m c 1 t) (Rect.unit ![0, 64] S128x64.size inb_S256x256_S128x64_0_64)) (View.ld (iblk m c 2 t) (Rect.unit ![0, 64] S128x64.size inb_S128x256_S128x64_0_64)) (View.ld (iblk m c 5 t) (Rect.unit ![0, 64] S128x64.size inb_S256x256_S128x64_0_64)))⟩,
    ⟨Rect.unit ![128, 0] S128x64.size inb_S256x256_S128x64_128_0,
      addf (Attn.dvcH (k0_pay3 (grid0.coords t)) (View.ld (iblk m c 0 t) (Rect.unit ![128, 0] S128x64.size inb_S256x256_S128x64_128_0)) (View.ld (iblk m c 1 t) (Rect.unit ![128, 0] S128x64.size inb_S256x256_S128x64_128_0)) (View.ld (iblk m c 1 t) (Rect.unit ![0, 0] S128x64.size inb_S256x256_S128x64_0_0)) (View.ld (iblk m c 5 t) (Rect.unit ![128, 0] S128x64.size inb_S256x256_S128x64_128_0))) (View.ld s1 (Rect.unit ![0, 0] S128x64.size inb_S128x256_S128x64_0_0))⟩,
    ⟨Rect.unit ![0, 0] S128x64.size inb_S256x256_S128x64_0_0,
      addf (Attn.dvpH (k0_pay3 (grid0.coords t)) (View.ld (iblk m c 0 t) (Rect.unit ![128, 0] S128x64.size inb_S256x256_S128x64_128_0)) (View.ld (iblk m c 1 t) (Rect.unit ![128, 0] S128x64.size inb_S256x256_S128x64_128_0)) (View.ld (iblk m c 1 t) (Rect.unit ![0, 0] S128x64.size inb_S256x256_S128x64_0_0)) (View.ld (iblk m c 5 t) (Rect.unit ![128, 0] S128x64.size inb_S256x256_S128x64_128_0))) (Attn.dvcH (k0_pay2 (grid0.coords t)) (View.ld (iblk m c 0 t) (Rect.unit ![0, 0] S128x64.size inb_S256x256_S128x64_0_0)) (View.ld (iblk m c 1 t) (Rect.unit ![0, 0] S128x64.size inb_S256x256_S128x64_0_0)) (View.ld (iblk m c 2 t) (Rect.unit ![0, 0] S128x64.size inb_S128x256_S128x64_0_0)) (View.ld (iblk m c 5 t) (Rect.unit ![0, 0] S128x64.size inb_S256x256_S128x64_0_0)))⟩] := by
  unfold runB kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, carried_read, carry_zero0, carry_zero1]
  rfl

set_option maxHeartbeats 4000000 in
/-- The stores of the carried keys' gradient (later points). -/
theorem piecesB3 (c : Dev nD) (t : Fin cfg0.N) (h0 : ¬t.val % 16 = 0) (s0 s1 : Vec F S128x256 .f32) :
    (runB m c t h0 s0 s1).2.2.2.1 = [⟨Rect.unit ![0, 192] S128x64.size inb_S128x256_S128x64_0_192,
      shapeCast S128x64 (Attn.dkpH (k0_pay2 (grid0.coords t)) (View.ld (iblk m c 0 t) (Rect.unit ![0, 192] S128x64.size inb_S256x256_S128x64_0_192)) (View.ld (iblk m c 1 t) (Rect.unit ![0, 192] S128x64.size inb_S256x256_S128x64_0_192)) (View.ld (iblk m c 2 t) (Rect.unit ![0, 192] S128x64.size inb_S128x256_S128x64_0_192)) (View.ld (iblk m c 3 t) (Rect.unit ![0, 192] S128x64.size inb_S256x256_S128x64_0_192)) (View.ld (iblk m c 4 t) (Rect.unit ![0, 192] S128x64.size inb_S128x256_S128x64_0_192)) (View.ld (iblk m c 5 t) (Rect.unit ![0, 192] S128x64.size inb_S256x256_S128x64_0_192)) (View.ld (iblk m c 6 t) (Rect.unit ![0, 192] S128x64.size inb_S256x256_S128x64_0_192))) shapeCasts_S128x64_S128x64⟩,
    ⟨Rect.unit ![0, 128] S128x64.size inb_S128x256_S128x64_0_128,
      shapeCast S128x64 (Attn.dkpH (k0_pay2 (grid0.coords t)) (View.ld (iblk m c 0 t) (Rect.unit ![0, 128] S128x64.size inb_S256x256_S128x64_0_128)) (View.ld (iblk m c 1 t) (Rect.unit ![0, 128] S128x64.size inb_S256x256_S128x64_0_128)) (View.ld (iblk m c 2 t) (Rect.unit ![0, 128] S128x64.size inb_S128x256_S128x64_0_128)) (View.ld (iblk m c 3 t) (Rect.unit ![0, 128] S128x64.size inb_S256x256_S128x64_0_128)) (View.ld (iblk m c 4 t) (Rect.unit ![0, 128] S128x64.size inb_S128x256_S128x64_0_128)) (View.ld (iblk m c 5 t) (Rect.unit ![0, 128] S128x64.size inb_S256x256_S128x64_0_128)) (View.ld (iblk m c 6 t) (Rect.unit ![0, 128] S128x64.size inb_S256x256_S128x64_0_128))) shapeCasts_S128x64_S128x64⟩,
    ⟨Rect.unit ![0, 64] S128x64.size inb_S128x256_S128x64_0_64,
      shapeCast S128x64 (Attn.dkpH (k0_pay2 (grid0.coords t)) (View.ld (iblk m c 0 t) (Rect.unit ![0, 64] S128x64.size inb_S256x256_S128x64_0_64)) (View.ld (iblk m c 1 t) (Rect.unit ![0, 64] S128x64.size inb_S256x256_S128x64_0_64)) (View.ld (iblk m c 2 t) (Rect.unit ![0, 64] S128x64.size inb_S128x256_S128x64_0_64)) (View.ld (iblk m c 3 t) (Rect.unit ![0, 64] S128x64.size inb_S256x256_S128x64_0_64)) (View.ld (iblk m c 4 t) (Rect.unit ![0, 64] S128x64.size inb_S128x256_S128x64_0_64)) (View.ld (iblk m c 5 t) (Rect.unit ![0, 64] S128x64.size inb_S256x256_S128x64_0_64)) (View.ld (iblk m c 6 t) (Rect.unit ![0, 64] S128x64.size inb_S256x256_S128x64_0_64))) shapeCasts_S128x64_S128x64⟩,
    ⟨Rect.unit ![0, 0] S128x64.size inb_S128x256_S128x64_0_0,
      shapeCast S128x64 (Attn.dkpH (k0_pay2 (grid0.coords t)) (View.ld (iblk m c 0 t) (Rect.unit ![0, 0] S128x64.size inb_S256x256_S128x64_0_0)) (View.ld (iblk m c 1 t) (Rect.unit ![0, 0] S128x64.size inb_S256x256_S128x64_0_0)) (View.ld (iblk m c 2 t) (Rect.unit ![0, 0] S128x64.size inb_S128x256_S128x64_0_0)) (View.ld (iblk m c 3 t) (Rect.unit ![0, 0] S128x64.size inb_S256x256_S128x64_0_0)) (View.ld (iblk m c 4 t) (Rect.unit ![0, 0] S128x64.size inb_S128x256_S128x64_0_0)) (View.ld (iblk m c 5 t) (Rect.unit ![0, 0] S128x64.size inb_S256x256_S128x64_0_0)) (View.ld (iblk m c 6 t) (Rect.unit ![0, 0] S128x64.size inb_S256x256_S128x64_0_0))) shapeCasts_S128x64_S128x64⟩] := by
  unfold runB kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, carried_read, carry_zero0, carry_zero1]
  rfl

set_option maxHeartbeats 4000000 in
/-- The stores of the carried values' gradient (later points). -/
theorem piecesB4 (c : Dev nD) (t : Fin cfg0.N) (h0 : ¬t.val % 16 = 0) (s0 s1 : Vec F S128x256 .f32) :
    (runB m c t h0 s0 s1).2.2.2.2.1 = [⟨Rect.unit ![0, 192] S128x64.size inb_S128x256_S128x64_0_192,
      shapeCast S128x64 (Attn.dvpH (k0_pay2 (grid0.coords t)) (View.ld (iblk m c 0 t) (Rect.unit ![0, 192] S128x64.size inb_S256x256_S128x64_0_192)) (View.ld (iblk m c 1 t) (Rect.unit ![0, 192] S128x64.size inb_S256x256_S128x64_0_192)) (View.ld (iblk m c 2 t) (Rect.unit ![0, 192] S128x64.size inb_S128x256_S128x64_0_192)) (View.ld (iblk m c 5 t) (Rect.unit ![0, 192] S128x64.size inb_S256x256_S128x64_0_192))) shapeCasts_S128x64_S128x64⟩,
    ⟨Rect.unit ![0, 128] S128x64.size inb_S128x256_S128x64_0_128,
      shapeCast S128x64 (Attn.dvpH (k0_pay2 (grid0.coords t)) (View.ld (iblk m c 0 t) (Rect.unit ![0, 128] S128x64.size inb_S256x256_S128x64_0_128)) (View.ld (iblk m c 1 t) (Rect.unit ![0, 128] S128x64.size inb_S256x256_S128x64_0_128)) (View.ld (iblk m c 2 t) (Rect.unit ![0, 128] S128x64.size inb_S128x256_S128x64_0_128)) (View.ld (iblk m c 5 t) (Rect.unit ![0, 128] S128x64.size inb_S256x256_S128x64_0_128))) shapeCasts_S128x64_S128x64⟩,
    ⟨Rect.unit ![0, 64] S128x64.size inb_S128x256_S128x64_0_64,
      shapeCast S128x64 (Attn.dvpH (k0_pay2 (grid0.coords t)) (View.ld (iblk m c 0 t) (Rect.unit ![0, 64] S128x64.size inb_S256x256_S128x64_0_64)) (View.ld (iblk m c 1 t) (Rect.unit ![0, 64] S128x64.size inb_S256x256_S128x64_0_64)) (View.ld (iblk m c 2 t) (Rect.unit ![0, 64] S128x64.size inb_S128x256_S128x64_0_64)) (View.ld (iblk m c 5 t) (Rect.unit ![0, 64] S128x64.size inb_S256x256_S128x64_0_64))) shapeCasts_S128x64_S128x64⟩,
    ⟨Rect.unit ![0, 0] S128x64.size inb_S128x256_S128x64_0_0,
      shapeCast S128x64 (Attn.dvpH (k0_pay2 (grid0.coords t)) (View.ld (iblk m c 0 t) (Rect.unit ![0, 0] S128x64.size inb_S256x256_S128x64_0_0)) (View.ld (iblk m c 1 t) (Rect.unit ![0, 0] S128x64.size inb_S256x256_S128x64_0_0)) (View.ld (iblk m c 2 t) (Rect.unit ![0, 0] S128x64.size inb_S128x256_S128x64_0_0)) (View.ld (iblk m c 5 t) (Rect.unit ![0, 0] S128x64.size inb_S256x256_S128x64_0_0))) shapeCasts_S128x64_S128x64⟩] := by
  unfold runB kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, carried_read, carry_zero0, carry_zero1]
  rfl

end Cert.KernelIdeal.Hand
-- ==== Proof.Soft.lean ====
/- The mathematics of a softmax row and of its gradient, over the reals, and its rows of extended reals. -/
module

public import Idealize.ShloMosaic.Lib.Claim
public import Idealize.ShloMosaic.Lib.IdealHost
public import Idealize.ShloMosaic.Lib.Pointwise

@[expose] public section

noncomputable section

namespace Cert.Attn

open Idealize.ShloMosaic
open scoped BigOperators

section Real
variable {ι : Type} [Fintype ι] (ok : ι → Prop) (s g : ι → ℝ) (l : ℝ)

open Classical in
/-- A key's weight: the exponential of its score where the row sees it, zero elsewhere. -/
def wt (k : ι) : ℝ := if ok k then Real.exp (s k) else 0

/-- A key's probability. -/
def prob (k : ι) : ℝ := wt ok s k / ∑ j, wt ok s j

/-- The gradient of a key's score, `g` the gradients of the probabilities and `l` that of the row's log-sum-exp. -/
def dprob (k : ι) : ℝ := prob ok s k * (g k - ∑ j, prob ok s j * g j + l)

open Classical in
/-- The weight with the row's greatest score taken off first. -/
def wtAt (m : ℝ) (k : ι) : ℝ := if ok k then Real.exp (s k - m) else 0

theorem wtAt_eq (m : ℝ) (k : ι) : wtAt ok s m k = wt ok s k * Real.exp (-m) := by
  unfold wtAt wt
  split_ifs
  · rw [sub_eq_add_neg, Real.exp_add]
  · rw [zero_mul]

theorem wt_nonneg (k : ι) : 0 ≤ wt ok s k := by
  unfold wt; split_ifs
  · exact (Real.exp_pos _).le
  · exact le_rfl

theorem sum_wt_pos (h : ∃ k, ok k) : 0 < ∑ j, wt ok s j := by
  obtain ⟨k, hk⟩ := h
  refine Finset.sum_pos' (fun j _ => wt_nonneg ok s j) ⟨k, Finset.mem_univ k, ?_⟩
  unfold wt; rw [if_pos hk]; exact Real.exp_pos _

theorem sum_wtAt (m : ℝ) : ∑ j, wtAt ok s m j = (∑ j, wt ok s j) * Real.exp (-m) := by
  rw [Finset.sum_mul]; exact Finset.sum_congr rfl fun j _ => wtAt_eq ok s m j

theorem sum_wtAt_pos (m : ℝ) (h : ∃ k, ok k) : 0 < ∑ j, wtAt ok s m j := by
  rw [sum_wtAt]; exact mul_pos (sum_wt_pos ok s h) (Real.exp_pos _)

/-- The probability does not depend on what is taken off. -/
theorem wtAt_div (m : ℝ) (k : ι) : wtAt ok s m k / ∑ j, wtAt ok s m j = prob ok s k := by
  rw [sum_wtAt, wtAt_eq, prob, mul_div_mul_right _ _ (Real.exp_pos _).ne']

/-- The gradient as it is taken through the division: by the weight, by the denominator. -/
theorem wtAt_grad (m : ℝ) (h : ∃ k, ok k) (k : ι) :
    (g k * (1 / ∑ j, wtAt ok s m j) + (l / (∑ j, wtAt ok s m j) - (∑ j, wtAt ok s m j * g j) * (1 / ((∑ j, wtAt ok s m j) * ∑ j, wtAt ok s m j)))) *
      wtAt ok s m k = dprob ok s g l k := by
  have hD := (sum_wtAt_pos ok s m h).ne'
  have hT : ∑ j, prob ok s j * g j = (∑ j, wtAt ok s m j * g j) / ∑ j, wtAt ok s m j := by
    rw [Finset.sum_div]
    exact Finset.sum_congr rfl fun j _ => by rw [← wtAt_div ok s m j]; ring
  rw [dprob, hT, ← wtAt_div ok s m k]
  generalize (∑ j, wtAt ok s m j) = D at *
  generalize (∑ j, wtAt ok s m j * g j) = T at *
  field_simp
  ring

theorem sum_prob (h : ∃ k, ok k) : ∑ k, prob ok s k = 1 := by
  unfold prob
  rw [← Finset.sum_div, div_self (sum_wt_pos ok s h).ne']

/-- The scores' gradients sum to the log-sum-exp's. -/
theorem sum_dprob (h : ∃ k, ok k) : ∑ k, dprob ok s g l k = l := by
  unfold dprob
  have : ∀ k, prob ok s k * (g k - ∑ j, prob ok s j * g j + l) =
      prob ok s k * g k - prob ok s k * (∑ j, prob ok s j * g j) + prob ok s k * l := fun k => by ring
  rw [Finset.sum_congr rfl fun k _ => this k, Finset.sum_add_distrib, Finset.sum_sub_distrib, ← Finset.sum_mul,
    ← Finset.sum_mul, sum_prob ok s h]
  ring

theorem dprob_of_not (k : ι) (h : ¬ok k) : dprob ok s g l k = 0 := by
  unfold dprob prob wt; rw [if_neg h]; ring

theorem wtAt_of_not (m : ℝ) (k : ι) (h : ¬ok k) : wtAt ok s m k = 0 := if_neg h

end Real

section Rows
variable {n : ℕ}

theorem coe_sum {ι : Type} (t : Finset ι) (f : ι → ℝ) : ∑ k ∈ t, ((f k : ℝ) : EReal) = ((∑ k ∈ t, f k : ℝ) : EReal) := by
  classical
  induction t using Finset.induction_on with
  | empty => simp
  | insert a t ha ih => rw [Finset.sum_insert ha, Finset.sum_insert ha, ih, EReal.coe_add]

/-- A row's greatest entry, from below everything. -/
def fmax (f : Fin n → EReal) : EReal := Finset.univ.fold max ⊥ f

theorem fmax_eq (f : Fin n → EReal) : fmax f = Finset.univ.sup f := rfl

theorem fmax_ne_top (f : Fin n → EReal) (h : ∀ k, f k ≠ ⊤) : fmax f ≠ ⊤ := by
  rw [fmax_eq]
  refine ne_of_lt ((Finset.sup_lt_iff (by decide : (⊥ : EReal) < ⊤)).2 fun k _ => lt_top_iff_ne_top.2 (h k))

theorem le_fmax (f : Fin n → EReal) (k : Fin n) : f k ≤ fmax f := by
  rw [fmax_eq]; exact Finset.le_sup (Finset.mem_univ k)

/-- The greatest entry is one of the entries. -/
theorem fmax_attained [NeZero n] (f : Fin n → EReal) : ∃ k, f k = fmax f := by
  obtain ⟨k, _, hk⟩ := Finset.exists_mem_eq_sup Finset.univ ⟨(0 : Fin n), Finset.mem_univ _⟩ f
  exact ⟨k, by rw [fmax_eq, hk]⟩

/-- A masked row of reals with one entry seen has a real greatest entry. -/
theorem fmax_real (f : Fin n → EReal) (h : ∀ k, f k ≠ ⊤) (k : Fin n) (hk : f k ≠ ⊥) : ∃ m : ℝ, fmax f = m := by
  refine ⟨(fmax f).toReal, (EReal.coe_toReal (fmax_ne_top f h) fun hb => hk ?_).symm⟩
  exact le_bot_iff.1 (hb ▸ le_fmax f k)

/-- A count of at least one entry is not zero. -/
theorem count_ne_zero (f : Fin n → EReal) (h : ∀ k, 0 ≤ f k) (k : Fin n) (hk : f k = 1) : ∑ j, f j ≠ 0 := by
  intro h0
  have := Finset.single_le_sum (f := f) (s := Finset.univ) (fun j _ => h j) (Finset.mem_univ k)
  rw [h0, hk] at this
  exact absurd this (by norm_num)

end Rows

end Cert.Attn
-- ==== Proof.HeadValue.lean ====
/- What one head of the attention backward kernel computes over real blocks: the softmax's gradient. -/
module

public import proofs.«01_k».proof.Proof.Head
public import proofs.«01_k».proof.Proof.Soft

@[expose] public section

set_option maxRecDepth 16384

noncomputable section

namespace Cert.Attn

open Idealize.ShloMosaic
open Cert.KernelIdeal Cert.KernelIdeal.Facts₀
open scoped BigOperators

/-- The keys a block of rows sees: those of the block before, then those of its own. -/
abbrev Keys := Fin 128 ⊕ Fin 128

/-- A block of reals: a row for each of the 128 positions, a column for each of a head's 64 coordinates. -/
abbrev Blk := Fin 128 → Fin 64 → ℝ

/-- The keys that row `a` sees: no more than 128 behind it, none after it. -/
def seen (hp : Prop) (a : Fin 128) : Keys → Prop := Sum.elim (fun k => a ≤ k ∧ hp) (fun k => k ≤ a)

/-- The product of row `a` of one block with each row of the two key (or value) blocks. -/
def dots (x : Blk) (yp yc : Blk) (a : Fin 128) : Keys → ℝ :=
  Sum.elim (fun k => ∑ d, x a d * yp k d) (fun k => ∑ d, x a d * yc k d)

theorem seen_self (hp : Prop) (a : Fin 128) : ∃ k, seen hp a k := ⟨.inr a, le_refl a⟩

/-- The probabilities of row `a`. -/
def pr (hp : Prop) (q kp kc : Blk) (a : Fin 128) : Keys → ℝ := prob (seen hp a) (dots q kp kc a)

/-- The gradients of row `a`'s scores. -/
def ds (hp : Prop) (q kp kc vp vc o l : Blk) (a : Fin 128) : Keys → ℝ :=
  dprob (seen hp a) (dots q kp kc a) (dots o vp vc a) (∑ d, l a d)

theorem cmpi_sle (a b : Fin 128) :
    IntOp.cmpi .sle (BitVec.ofNat 32 b.val) (BitVec.ofNat 32 a.val) = BitVec.ofBool (decide (b ≤ a)) := by
  decide +kernel +revert

theorem cmpi_sge (a b : Fin 128) :
    IntOp.cmpi .sge (BitVec.ofNat 32 b.val) (BitVec.ofNat 32 a.val) = BitVec.ofBool (decide (a ≤ b)) := by
  decide +kernel +revert

theorem select_decide {p p' : Prop} {x y : EReal} (h : p ↔ p') [Decidable p] [Decidable p'] :
    Scalar.select (BitVec.ofBool (decide p)) x y = if p' then x else y := by
  by_cases hp : p
  · simp [hp, h.1 hp, Scalar.select]
  · simp [hp, fun hp' => hp (h.2 hp'), show ¬p' from fun hp' => hp (h.2 hp'), Scalar.select]

theorem andi_ofBool (a b : Bool) : IntOp.andi (BitVec.ofBool a) (BitVec.ofBool b) = BitVec.ofBool (a && b) := by
  decide +revert

theorem mask_eq : (Named.named κ "mask" 0xF149F2CA#32 : Ideal .f32) = (⊥ : EReal) :=
  IdealRules.named_const.ideal_named_scalar _ _ _ _ rfl

/-- The block before is there. -/
def Before (fl : Ideal .f32) : Prop := fl < Ideal.ofBits .f32 0x3F000000#32

section
variable {fl : Ideal .f32} {q kc kp vc vp o l : FVec Ideal S128x64 .f32} {q' kc' kp' vc' vp' o' l' : Blk}

open Classical in
theorem sC_eq (hq : ∀ a d, q (ix2 a d) = q' a d) (hk : ∀ a d, kc (ix2 a d) = kc' a d) (a k : Fin 128) :
    sC q kc (ix2 a k) =
      if seen (Before fl) a (.inr k) then ((dots q' kp' kc' a (.inr k) : ℝ) : EReal) else ⊥ := by
  pointwise [sC, score, ownMask]
  simp only [hq, hk, ← EReal.coe_mul, coe_sum]
  rw [cmpi_sle, mask_eq]
  exact select_decide (by exact Iff.rfl)

open Classical in
theorem sP_eq (hq : ∀ a d, q (ix2 a d) = q' a d) (hk : ∀ a d, kp (ix2 a d) = kp' a d) (a k : Fin 128) :
    sP fl q kp (ix2 a k) =
      if seen (Before fl) a (.inl k) then ((dots q' kp' kc' a (.inl k) : ℝ) : EReal) else ⊥ := by
  pointwise [sP, score, prevMask]
  simp only [hq, hk, ← EReal.coe_mul, coe_sum]
  rw [cmpi_sge, mask_eq, andi_ofBool, ← Bool.decide_and]
  exact select_decide (by exact Iff.rfl)

theorem top_eq (s : FVec Ideal S128x128 .f32) (a : Fin 128) : top s (ix1 a) = fmax fun k => s (ix2 a k) := by
  pointwise [top]
  rw [show Ideal.ofBits .f32 0xFF800000#32 = ⊥ by simp [Ideal.ofBits, Ideal.ieee]]
  rfl

theorem colTop_eq (s : FVec Ideal S128x128 .f32) (a : Fin 128) :
    col (top s) (ix2 a 0) = fmax fun k => s (ix2 a k) := by
  rw [← top_eq]; pointwise [col]

theorem ties_eq (s : FVec Ideal S128x128 .f32) (a b : Fin 128) :
    ties s (ix2 a b) = 0 ∨ ties s (ix2 a b) = 1 := by
  pointwise [ties, wide, col]
  by_cases h : s (ix2 a b) = top s (ix1 a) <;> simp [h, FloatOps.sitofp]

theorem ties_one (s : FVec Ideal S128x128 .f32) (a b : Fin 128) (h : s (ix2 a b) = fmax fun k => s (ix2 a k)) :
    ties s (ix2 a b) = 1 := by
  rw [← top_eq] at h
  pointwise [ties, wide, col]
  simp [h, FloatOps.sitofp]

/-- Every row has an entry that is its greatest. -/
theorem count_ne (s : FVec Ideal S128x128 .f32) (a : Fin 128) : rowSum (ties s) (ix1 a) ≠ 0 := by
  obtain ⟨k, hk⟩ := fmax_attained fun k => s (ix2 a k)
  pointwise [rowSum]
  refine count_ne_zero _ (fun j => ?_) k (ties_one s a k hk)
  rcases ties_eq s a j with h | h <;> rw [h]
  norm_num

variable (hq : ∀ a d, q (ix2 a d) = q' a d) (hkc : ∀ a d, kc (ix2 a d) = kc' a d)
  (hkp : ∀ a d, kp (ix2 a d) = kp' a d)

theorem sC_ne_top (hq : ∀ a d, q (ix2 a d) = q' a d) (hkc : ∀ a d, kc (ix2 a d) = kc' a d) (a k : Fin 128) :
    sC q kc (ix2 a k) ≠ ⊤ := by
  rw [sC_eq (fl := 0) (kp' := kc') hq hkc]; split_ifs
  · exact EReal.coe_ne_top _
  · exact bot_ne_top

theorem sP_ne_top (hq : ∀ a d, q (ix2 a d) = q' a d) (hkp : ∀ a d, kp (ix2 a d) = kp' a d) (a k : Fin 128) :
    sP fl q kp (ix2 a k) ≠ ⊤ := by
  rw [sP_eq (kc' := kp') hq hkp]; split_ifs
  · exact EReal.coe_ne_top _
  · exact bot_ne_top

include hq hkc hkp in
theorem mx_real (a : Fin 128) : ∃ m : ℝ, mx fl q kc kp (ix2 a 0) = m := by
  have hC : ∃ m : ℝ, col (top (sC q kc)) (ix2 a 0) = m := by
    rw [colTop_eq]
    refine fmax_real _ (fun k => sC_ne_top hq hkc a k) a ?_
    rw [sC_eq (fl := 0) (kp' := kc') hq hkc, if_pos (show seen _ a (.inr a) from le_refl a)]
    exact EReal.coe_ne_bot _
  have hP : col (top (sP fl q kp)) (ix2 a 0) ≠ ⊤ := by
    rw [colTop_eq]; exact fmax_ne_top _ fun k => sP_ne_top hq hkp a k
  obtain ⟨m, hm⟩ := hC
  have h : mx fl q kc kp (ix2 a 0) = max (col (top (sC q kc)) (ix2 a 0)) (col (top (sP fl q kp)) (ix2 a 0)) := by
    pointwise [mx]
  rw [h, hm]
  refine ⟨_, (EReal.coe_toReal (ne_of_lt (max_lt (EReal.coe_lt_top m) (lt_top_iff_ne_top.2 hP))) ?_).symm⟩
  exact ne_of_gt (lt_of_lt_of_le (EReal.bot_lt_coe m) (le_max_left _ _))

open Classical in
theorem exp_masked (p : Prop) (s m : ℝ) :
    Ideal.exp ((if p then (s : EReal) else ⊥) - (m : EReal)) = ((if p then Real.exp (s - m) else 0 : ℝ) : EReal) := by
  by_cases h : p
  · simp only [if_pos h, ← EReal.coe_sub]; rfl
  · simp only [if_neg h, EReal.bot_sub]; rfl

theorem weight_apply (s : FVec Ideal S128x128 .f32) (x : FVec Ideal S128x1 .f32) (a k : Fin 128) :
    weight s x (ix2 a k) = Ideal.exp (s (ix2 a k) - x (ix2 a 0)) := by
  pointwise [weight, wide]

/-- The weight of row `a` at each key, `m` the row's greatest score. -/
abbrev wH (hp : Prop) (q kp kc : Blk) (a : Fin 128) (m : ℝ) : Keys → ℝ := wtAt (seen hp a) (dots q kp kc a) m

variable {a : Fin 128} {m : ℝ} (hm : mx fl q kc kp (ix2 a 0) = m)

include hq hkc hm in
theorem eC_eq (k : Fin 128) : eC fl q kc kp (ix2 a k) = (wH (Before fl) q' kp' kc' a m (.inr k) : ℝ) := by
  rw [eC, weight_apply, hm, sC_eq (fl := fl) (kp' := kp') hq hkc, exp_masked]; rfl

include hq hkp hm in
theorem eP_eq (k : Fin 128) : eP fl q kc kp (ix2 a k) = (wH (Before fl) q' kp' kc' a m (.inl k) : ℝ) := by
  rw [eP, weight_apply, hm, sP_eq (kc' := kc') hq hkp, exp_masked]; rfl

include hq hkc hkp hm in
theorem dn_eq : dn fl q kc kp (ix2 a 0) = (∑ j, wH (Before fl) q' kp' kc' a m j : ℝ) := by
  pointwise [dn, denom, col, rowSum]
  simp only [eC_eq hq hkc hm (kp' := kp'), eP_eq hq hkp hm (kc' := kc'), coe_sum, ← EReal.coe_add]
  rw [Fintype.sum_sum_type, add_comm]

theorem one_div_real {d : ℝ} (h : d ≠ 0) : Ideal.div 1 (d : EReal) = ((1 / d : ℝ) : EReal) := by
  rw [Ideal.div_coe h, one_mul]

include hq hkc hkp hm in
theorem dn_ne : (∑ j, wH (Before fl) q' kp' kc' a m j) ≠ 0 :=
  (sum_wtAt_pos _ _ m (seen_self (Before fl) a)).ne'

include hq hkc hkp hm in
theorem ov_eq (ho : ∀ a d, o (ix2 a d) = o' a d) (d : Fin 64) :
    ov fl q kc kp o (ix2 a d) = (o' a d * (1 / ∑ j, wH (Before fl) q' kp' kc' a m j) : ℝ) := by
  pointwise [ov, scaled]
  rw [ho, dn_eq hq hkc hkp hm, one_div_real (dn_ne hq hkc hkp hm), ← EReal.coe_mul]

variable (hvc : ∀ a d, vc (ix2 a d) = vc' a d) (hvp : ∀ a d, vp (ix2 a d) = vp' a d)
  (ho : ∀ a d, o (ix2 a d) = o' a d) (hl : ∀ a d, l (ix2 a d) = l' a d)

include hl in
theorem colSum_l (a : Fin 128) : colSum l (ix2 a 0) = (∑ d, l' a d : ℝ) := by
  pointwise [colSum, col]
  simp only [hl, coe_sum]

/-- The rows' weighted values against the output's gradient, as a sum over the keys. -/
theorem swap_sums (wP wC : Fin 128 → ℝ) (vp vc : Blk) (o : Fin 64 → ℝ) :
    ∑ d, (∑ k, wC k * vc k d + ∑ k, wP k * vp k d) * o d =
      ∑ k, wP k * (∑ d, o d * vp k d) + ∑ k, wC k * (∑ d, o d * vc k d) := by
  simp only [add_mul, Finset.sum_add_distrib, Finset.sum_mul, Finset.mul_sum]
  rw [add_comm, Finset.sum_comm]
  congr 1
  · exact Finset.sum_congr rfl fun _ _ => Finset.sum_congr rfl fun _ _ => by ring
  · rw [Finset.sum_comm]
    exact Finset.sum_congr rfl fun _ _ => Finset.sum_congr rfl fun _ _ => by ring

include hq hkc hkp hm hvc hvp ho hl in
theorem dd_eq : dd fl q kc kp vc vp o l (ix2 a 0) =
    ((∑ d, l' a d) / (∑ j, wH (Before fl) q' kp' kc' a m j) -
      (∑ j, wH (Before fl) q' kp' kc' a m j * dots o' vp' vc' a j) *
        (1 / ((∑ j, wH (Before fl) q' kp' kc' a m j) * ∑ j, wH (Before fl) q' kp' kc' a m j)) : ℝ) := by
  have hD := dn_ne (kp' := kp') hq hkc hkp hm
  have hd := dn_eq hq hkc hkp hm
  have hT : colSum (mulf (addf (timesRows (eC fl q kc kp) vc) (timesRows (eP fl q kc kp) vp)) o) (ix2 a 0) =
      (∑ j, wH (Before fl) q' kp' kc' a m j * dots o' vp' vc' a j : ℝ) := by
    pointwise [colSum, col, timesRows]
    simp only [eC_eq hq hkc hm (kp' := kp'), eP_eq hq hkp hm (kc' := kc'), hvc, hvp, ho, ← EReal.coe_mul, coe_sum,
      ← EReal.coe_add]
    rw [Fintype.sum_sum_type]
    exact congrArg _ (swap_sums _ _ vp' vc' (o' a))
  have h1 : dd fl q kc kp vc vp o l (ix2 a 0) = Ideal.div (colSum l (ix2 a 0)) (dn fl q kc kp (ix2 a 0)) +
      (0 - colSum (mulf (addf (timesRows (eC fl q kc kp) vc) (timesRows (eP fl q kc kp) vp)) o) (ix2 a 0) *
        Ideal.div 1 (dn fl q kc kp (ix2 a 0) * dn fl q kc kp (ix2 a 0)) * 1) := by
    pointwise [dd, dDenom]
  rw [h1, hT, hd, colSum_l hl, ← EReal.coe_mul, one_div_real (mul_ne_zero hD hD), Ideal.div_coe hD, mul_one]
  generalize (∑ j, wH (Before fl) q' kp' kc' a m j) = D
  generalize (∑ j, wH (Before fl) q' kp' kc' a m j * dots o' vp' vc' a j) = T
  rw [← EReal.coe_mul, ← EReal.coe_mul, zero_sub, ← EReal.coe_neg, ← EReal.coe_add]
  exact congrArg Real.toEReal (by ring)

theorem dWeight_apply (e : FVec Ideal S128x128 .f32) (w v : FVec Ideal S128x64 .f32) (x : FVec Ideal S128x1 .f32)
    (a k : Fin 128) :
    dWeight e w v x (ix2 a k) = (∑ d, w (ix2 a d) * v (ix2 k d) + x (ix2 a 0)) * e (ix2 a k) := by
  pointwise [dWeight, outer, wide, col, unitSum]
  simp

theorem scaled_dot (o v : Fin 64 → ℝ) (c : ℝ) : ∑ d, o d * c * v d = (∑ d, o d * v d) * c := by
  rw [Finset.sum_mul]; exact Finset.sum_congr rfl fun d _ => by ring

include hq hkc hkp hm hvc hvp ho hl in
theorem dwC_eq' (k : Fin 128) : dwC fl q kc kp vc vp o l (ix2 a k) =
    (ds (Before fl) q' kp' kc' vp' vc' o' l' a (.inr k) : ℝ) := by
  rw [dwC, dWeight_apply, dd_eq hq hkc hkp hm hvc hvp ho hl, eC_eq hq hkc hm (kp' := kp')]
  simp only [ov_eq hq hkc hkp hm ho, hvc, ← EReal.coe_mul, coe_sum, ← EReal.coe_add]
  rw [scaled_dot, ds, ← wtAt_grad _ _ _ _ m (seen_self (Before fl) a)]
  rfl

include hq hkc hkp hm hvc hvp ho hl in
theorem dwP_eq' (k : Fin 128) : dwP fl q kc kp vc vp o l (ix2 a k) =
    (ds (Before fl) q' kp' kc' vp' vc' o' l' a (.inl k) : ℝ) := by
  rw [dwP, dWeight_apply, dd_eq hq hkc hkp hm hvc hvp ho hl, eP_eq hq hkp hm (kc' := kc')]
  simp only [ov_eq hq hkc hkp hm ho, hvp, ← EReal.coe_mul, coe_sum, ← EReal.coe_add]
  rw [scaled_dot, ds, ← wtAt_grad _ _ _ _ m (seen_self (Before fl) a)]
  rfl
end

section
variable {fl : Ideal .f32} {q kc kp vc vp o l : FVec Ideal S128x64 .f32} {q' kc' kp' vc' vp' o' l' : Blk}
  (hq : ∀ a d, q (ix2 a d) = q' a d) (hkc : ∀ a d, kc (ix2 a d) = kc' a d) (hkp : ∀ a d, kp (ix2 a d) = kp' a d)
  (hvc : ∀ a d, vc (ix2 a d) = vc' a d) (hvp : ∀ a d, vp (ix2 a d) = vp' a d)
  (ho : ∀ a d, o (ix2 a d) = o' a d) (hl : ∀ a d, l (ix2 a d) = l' a d)

include hq hkc hkp hvc hvp ho hl in
theorem dwC_eq (a k : Fin 128) : dwC fl q kc kp vc vp o l (ix2 a k) =
    (ds (Before fl) q' kp' kc' vp' vc' o' l' a (.inr k) : ℝ) := by
  obtain ⟨m, hm⟩ := mx_real (fl := fl) hq hkc hkp a
  exact dwC_eq' hq hkc hkp hm hvc hvp ho hl k

include hq hkc hkp hvc hvp ho hl in
theorem dwP_eq (a k : Fin 128) : dwP fl q kc kp vc vp o l (ix2 a k) =
    (ds (Before fl) q' kp' kc' vp' vc' o' l' a (.inl k) : ℝ) := by
  obtain ⟨m, hm⟩ := mx_real (fl := fl) hq hkc hkp a
  exact dwP_eq' hq hkc hkp hm hvc hvp ho hl k

include hq hkc hkp hvc hvp ho hl in
/-- The gradients of the rows' greatest scores are zero. -/
theorem dm_eq (a : Fin 128) : dm fl q kc kp vc vp o l (ix2 a 0) = 0 := by
  pointwise [dm, dTop, negSum, col, rowSum]
  simp only [dwC_eq hq hkc hkp hvc hvp ho hl, dwP_eq hq hkc hkp hvc hvp ho hl, colSum_l hl, zero_sub,
    ← EReal.coe_neg, coe_sum, ← EReal.coe_add]
  rw [← EReal.coe_zero]
  congr 1
  have := sum_dprob (seen (Before fl) a) (dots q' kp' kc' a) (dots o' vp' vc' a) (∑ d, l' a d) (seen_self _ a)
  rw [Fintype.sum_sum_type] at this
  simp only [Finset.sum_neg_distrib]
  unfold ds
  linarith

theorem dScore_apply (mask : IVec S128x128 1) (s dw : FVec Ideal S128x128 .f32) (x sh : FVec Ideal S128x1 .f32)
    (a k : Fin 128) (h : x (ix2 a 0) = 0) :
    dScore mask s dw x sh (ix2 a k) = Scalar.select (mask (ix2 a k)) (dw (ix2 a k)) 0 := by
  pointwise [dScore, wide, col, unitSum]
  simp [h, Ideal.zero_div (count_ne s a)]

include hq hkc hkp hvc hvp ho hl in
theorem dsC_eq (a k : Fin 128) : dsC fl q kc kp vc vp o l (ix2 a k) =
    (ds (Before fl) q' kp' kc' vp' vc' o' l' a (.inr k) : ℝ) := by
  rw [dsC, dScore_apply _ _ _ _ _ _ _ (dm_eq hq hkc hkp hvc hvp ho hl a), dwC_eq hq hkc hkp hvc hvp ho hl]
  pointwise [ownMask]
  rw [cmpi_sle]
  by_cases h : k ≤ a
  · simp [h, Scalar.select]
  · have : ds (Before fl) q' kp' kc' vp' vc' o' l' a (.inr k) = 0 := dprob_of_not _ _ _ _ _ h
    simp [h, Scalar.select, this]

include hq hkc hkp hvc hvp ho hl in
theorem dsP_eq (a k : Fin 128) : dsP fl q kc kp vc vp o l (ix2 a k) =
    (ds (Before fl) q' kp' kc' vp' vc' o' l' a (.inl k) : ℝ) := by
  classical
  rw [dsP, dScore_apply _ _ _ _ _ _ _ (dm_eq hq hkc hkp hvc hvp ho hl a), dwP_eq hq hkc hkp hvc hvp ho hl]
  pointwise [prevMask]
  rw [cmpi_sge, andi_ofBool]
  by_cases h : a ≤ k ∧ Before fl
  · have h2 : fl < Ideal.ofBits .f32 0x3F000000#32 := h.2
    simp [h.1, h2, Scalar.select]
  · have : ds (Before fl) q' kp' kc' vp' vc' o' l' a (.inl k) = 0 := dprob_of_not _ _ _ _ _ h
    simp [this, Scalar.select]

include hq hkc hkp hvc hvp ho hl in
theorem dqH_eq (a : Fin 128) (d : Fin 64) : dqH fl q kc kp vc vp o l (ix2 a d) =
    (∑ k, ds (Before fl) q' kp' kc' vp' vc' o' l' a (.inl k) * kp' k d +
      ∑ k, ds (Before fl) q' kp' kc' vp' vc' o' l' a (.inr k) * kc' k d : ℝ) := by
  pointwise [dqH, timesRows]
  simp only [dsC_eq hq hkc hkp hvc hvp ho hl, dsP_eq hq hkc hkp hvc hvp ho hl, hkc, hkp, ← EReal.coe_mul, coe_sum,
    ← EReal.coe_add]

include hq hkc hkp hvc hvp ho hl in
theorem dkcH_eq (k : Fin 128) (d : Fin 64) : dkcH fl q kc kp vc vp o l (ix2 k d) =
    (∑ a, ds (Before fl) q' kp' kc' vp' vc' o' l' a (.inr k) * q' a d : ℝ) := by
  pointwise [dkcH, timesCols]
  simp only [dsC_eq hq hkc hkp hvc hvp ho hl, hq, ← EReal.coe_mul, coe_sum]

include hq hkc hkp hvc hvp ho hl in
theorem dkpH_eq (k : Fin 128) (d : Fin 64) : dkpH fl q kc kp vc vp o l (ix2 k d) =
    (∑ a, ds (Before fl) q' kp' kc' vp' vc' o' l' a (.inl k) * q' a d : ℝ) := by
  pointwise [dkpH, timesCols]
  simp only [dsP_eq hq hkc hkp hvc hvp ho hl, hq, ← EReal.coe_mul, coe_sum]

include hq hkc hkp ho in
theorem dvcH_eq (k : Fin 128) (d : Fin 64) : dvcH fl q kc kp o (ix2 k d) =
    (∑ a, pr (Before fl) q' kp' kc' a (.inr k) * o' a d : ℝ) := by
  pointwise [dvcH, timesCols]
  rw [← coe_sum]
  refine Finset.sum_congr rfl fun a _ => ?_
  obtain ⟨m, hm⟩ := mx_real (fl := fl) hq hkc hkp a
  rw [eC_eq hq hkc hm (kp' := kp'), ov_eq hq hkc hkp hm ho, ← EReal.coe_mul, pr, ← wtAt_div _ _ m]
  exact congrArg Real.toEReal (by ring)

include hq hkc hkp ho in
theorem dvpH_eq (k : Fin 128) (d : Fin 64) : dvpH fl q kc kp o (ix2 k d) =
    (∑ a, pr (Before fl) q' kp' kc' a (.inl k) * o' a d : ℝ) := by
  pointwise [dvpH, timesCols]
  rw [← coe_sum]
  refine Finset.sum_congr rfl fun a _ => ?_
  obtain ⟨m, hm⟩ := mx_real (fl := fl) hq hkc hkp a
  rw [eP_eq hq hkp hm (kc' := kc'), ov_eq hq hkc hkp hm ho, ← EReal.coe_mul, pr, ← wtAt_div _ _ m]
  exact congrArg Real.toEReal (by ring)
end

end Cert.Attn
-- ==== Proof.Spec.lean ====
/- The gradients of the banded attention, block by block and head by head, over real arrays.

Rows come in blocks of 128, columns in heads of 64. A row of block `i` sees its own block's rows up to itself and
the rows of block `i - 1` that lie no more than 128 behind it, where block `i` is not the first of its sequence.
The gradient of block `j`'s keys (values) is the sum of what block `j`'s rows and block `j + 1`'s rows give. -/
module

public import proofs.«01_k».proof.Proof.HeadValue

@[expose] public section

noncomputable section

namespace Cert.Attn

/-- Block `i`, head `n` of an array. -/
def blk (X : ℕ → ℕ → ℝ) (i n : ℕ) : Blk := fun a d => X (128 * i + a) (64 * n + d)

/-- Block `i` has a block before it: it is not the first of its sequence of `per` blocks. -/
def hasPrev (per i : ℕ) : Prop := i % per ≠ 0

section
variable (per : ℕ) (Q K V O L : ℕ → ℕ → ℝ)

/-- The probabilities of block `i`'s rows. -/
def probs (i n : ℕ) : Fin 128 → Keys → ℝ := pr (hasPrev per i) (blk Q i n) (blk K (i - 1) n) (blk K i n)

/-- The gradients of the scores of block `i`'s rows. -/
def dscores (i n : ℕ) : Fin 128 → Keys → ℝ :=
  ds (hasPrev per i) (blk Q i n) (blk K (i - 1) n) (blk K i n) (blk V (i - 1) n) (blk V i n) (blk O i n) (blk L i n)

/-- The queries' gradient. -/
def gradQ (i n : ℕ) (a : Fin 128) (d : Fin 64) : ℝ :=
  ∑ k, dscores per Q K V O L i n a (.inl k) * blk K (i - 1) n k d + ∑ k, dscores per Q K V O L i n a (.inr k) * blk K i n k d

/-- What block `i`'s rows give to the keys' gradient of the block before. -/
def keyPrev (i n : ℕ) (k : Fin 128) (d : Fin 64) : ℝ := ∑ a, dscores per Q K V O L i n a (.inl k) * blk Q i n a d

/-- What block `i`'s rows give to the keys' gradient of their own block. -/
def keyOwn (i n : ℕ) (k : Fin 128) (d : Fin 64) : ℝ := ∑ a, dscores per Q K V O L i n a (.inr k) * blk Q i n a d

/-- What block `i`'s rows give to the values' gradient of the block before. -/
def valPrev (i n : ℕ) (k : Fin 128) (d : Fin 64) : ℝ := ∑ a, probs per Q K i n a (.inl k) * blk O i n a d

/-- What block `i`'s rows give to the values' gradient of their own block. -/
def valOwn (i n : ℕ) (k : Fin 128) (d : Fin 64) : ℝ := ∑ a, probs per Q K i n a (.inr k) * blk O i n a d

/-- What the rows of block `i` give to the block before, where there is a block `i` of the 32. -/
def fromNext (g : ℕ → ℕ → Fin 128 → Fin 64 → ℝ) (i n : ℕ) (k : Fin 128) (d : Fin 64) : ℝ :=
  if i < 32 then g i n k d else 0

/-- The keys' gradient. -/
def gradK (j n : ℕ) (k : Fin 128) (d : Fin 64) : ℝ :=
  fromNext (keyPrev per Q K V O L) (j + 1) n k d + keyOwn per Q K V O L j n k d

/-- The values' gradient. -/
def gradV (j n : ℕ) (k : Fin 128) (d : Fin 64) : ℝ :=
  fromNext (valPrev per Q K O) (j + 1) n k d + valOwn per Q K O j n k d

end

/-- An array given block by block and head by head. -/
def flat (g : ℕ → ℕ → Fin 128 → Fin 64 → ℝ) (r c : ℕ) : ℝ :=
  g (r / 128) (c / 64) ⟨r % 128, Nat.mod_lt _ (by decide)⟩ ⟨c % 64, Nat.mod_lt _ (by decide)⟩

theorem flat_at (g : ℕ → ℕ → Fin 128 → Fin 64 → ℝ) (i n : ℕ) (a : Fin 128) (d : Fin 64) :
    flat g (128 * i + a) (64 * n + d) = g i n a d := by
  unfold flat
  have h1 : (128 * i + a.val) / 128 = i := by omega
  have h2 : (64 * n + d.val) / 64 = n := by omega
  have h3 : (⟨(128 * i + a.val) % 128, Nat.mod_lt _ (by decide)⟩ : Fin 128) = a := Fin.ext (by simp only; omega)
  have h4 : (⟨(64 * n + d.val) % 64, Nat.mod_lt _ (by decide)⟩ : Fin 64) = d := Fin.ext (by simp only; omega)
  rw [h1, h2, h3, h4]

section
open Idealize.ShloMosaic Cert.KernelIdeal
variable {per : ℕ} {Q K V O L : ℕ → ℕ → ℝ} {fl : Ideal .f32} {q kc kp vc vp o l : FVec Ideal S128x64 .f32} {i n : ℕ}

/-- The head functions at blocks of the arrays. -/
theorem head_dq (hf : Before fl ↔ hasPrev per i) (hq : ∀ a d, q (ix2 a d) = blk Q i n a d)
    (hkc : ∀ a d, kc (ix2 a d) = blk K i n a d) (hkp : ∀ a d, kp (ix2 a d) = blk K (i - 1) n a d)
    (hvc : ∀ a d, vc (ix2 a d) = blk V i n a d) (hvp : ∀ a d, vp (ix2 a d) = blk V (i - 1) n a d)
    (ho : ∀ a d, o (ix2 a d) = blk O i n a d) (hl : ∀ a d, l (ix2 a d) = blk L i n a d) (a : Fin 128) (d : Fin 64) :
    dqH fl q kc kp vc vp o l (ix2 a d) = (gradQ per Q K V O L i n a d : ℝ) := by
  rw [dqH_eq hq hkc hkp hvc hvp ho hl, propext hf]; rfl

theorem head_dkc (hf : Before fl ↔ hasPrev per i) (hq : ∀ a d, q (ix2 a d) = blk Q i n a d)
    (hkc : ∀ a d, kc (ix2 a d) = blk K i n a d) (hkp : ∀ a d, kp (ix2 a d) = blk K (i - 1) n a d)
    (hvc : ∀ a d, vc (ix2 a d) = blk V i n a d) (hvp : ∀ a d, vp (ix2 a d) = blk V (i - 1) n a d)
    (ho : ∀ a d, o (ix2 a d) = blk O i n a d) (hl : ∀ a d, l (ix2 a d) = blk L i n a d) (a : Fin 128) (d : Fin 64) :
    dkcH fl q kc kp vc vp o l (ix2 a d) = (keyOwn per Q K V O L i n a d : ℝ) := by
  rw [dkcH_eq hq hkc hkp hvc hvp ho hl, propext hf]; rfl

theorem head_dkp (hf : Before fl ↔ hasPrev per i) (hq : ∀ a d, q (ix2 a d) = blk Q i n a d)
    (hkc : ∀ a d, kc (ix2 a d) = blk K i n a d) (hkp : ∀ a d, kp (ix2 a d) = blk K (i - 1) n a d)
    (hvc : ∀ a d, vc (ix2 a d) = blk V i n a d) (hvp : ∀ a d, vp (ix2 a d) = blk V (i - 1) n a d)
    (ho : ∀ a d, o (ix2 a d) = blk O i n a d) (hl : ∀ a d, l (ix2 a d) = blk L i n a d) (a : Fin 128) (d : Fin 64) :
    dkpH fl q kc kp vc vp o l (ix2 a d) = (keyPrev per Q K V O L i n a d : ℝ) := by
  rw [dkpH_eq hq hkc hkp hvc hvp ho hl, propext hf]; rfl

theorem head_dvc (hf : Before fl ↔ hasPrev per i) (hq : ∀ a d, q (ix2 a d) = blk Q i n a d)
    (hkc : ∀ a d, kc (ix2 a d) = blk K i n a d) (hkp : ∀ a d, kp (ix2 a d) = blk K (i - 1) n a d)
    (ho : ∀ a d, o (ix2 a d) = blk O i n a d) (a : Fin 128) (d : Fin 64) :
    dvcH fl q kc kp o (ix2 a d) = (valOwn per Q K O i n a d : ℝ) := by
  rw [dvcH_eq hq hkc hkp ho, propext hf]; rfl

theorem head_dvp (hf : Before fl ↔ hasPrev per i) (hq : ∀ a d, q (ix2 a d) = blk Q i n a d)
    (hkc : ∀ a d, kc (ix2 a d) = blk K i n a d) (hkp : ∀ a d, kp (ix2 a d) = blk K (i - 1) n a d)
    (ho : ∀ a d, o (ix2 a d) = blk O i n a d) (a : Fin 128) (d : Fin 64) :
    dvpH fl q kc kp o (ix2 a d) = (valPrev per Q K O i n a d : ℝ) := by
  rw [dvpH_eq hq hkc hkp ho, propext hf]; rfl

end

end Cert.Attn
-- ==== Proof.KernelValue.lean ====
/- What the attention backward kernel's three result arrays hold, over real arguments. -/
module

public import proofs.«01_k».proof.Proof.KernelPieces
public import proofs.«01_k».proof.Proof.Spec
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.Attn (blk flat flat_at hasPrev gradQ gradK gradV keyPrev keyOwn valPrev valOwn fromNext)

/-! ## The index maps: point `t` handles the pair of blocks `15 - t` -/

theorem index_pair : ∀ t : Fin cfg0.N, (cfg0.win 0).index t = ![15 - t.val, 0] ∧ (cfg0.win 1).index t = ![15 - t.val, 0] ∧
    (cfg0.win 3).index t = ![15 - t.val, 6] ∧ (cfg0.win 5).index t = ![15 - t.val, 0] ∧ (cfg0.win 6).index t = ![15 - t.val, 0] ∧
    (cfg0.win 7).index t = ![15 - t.val, 0] ∧ (cfg0.win 8).index t = ![15 - t.val, 0] ∧ (cfg0.win 9).index t = ![15 - t.val, 0] := by
  decide +kernel

theorem index_prev : ∀ t : Fin cfg0.N, (cfg0.win 2).index t = ![2 * (15 - t.val) - 1, 0] ∧
    (cfg0.win 4).index t = ![2 * (15 - t.val) - 1, 6] := by
  decide +kernel

/-- Where an index of a head's rectangle lies in the block. -/
theorem emb_at {R : ℕ} (r0 c0 : ℕ) (inb : ∀ a : Fin 2, (![r0, c0] : Fin 2 → ℕ) a + (![128, 64] : Fin 2 → ℕ) a ≤ (⟨2, ![R, 256]⟩ : Shape).size a)
    (a : Fin 128) (d : Fin 64) (hr : r0 + 128 ≤ R) (hc : c0 + 64 ≤ 256) :
    (Rect.unit (s := ⟨2, ![R, 256]⟩) ![r0, c0] ![128, 64] inb).emb (ix2 a d) =
      ix2 (n0 := R) (n1 := 256) ⟨r0 + a, by have := a.isLt; omega⟩ ⟨c0 + d, by have := d.isLt; omega⟩ := by
  funext x; apply Fin.ext
  rw [ValueKit.rect_emb_unit_val]
  match x with
  | ⟨0, _⟩ => rfl
  | ⟨1, _⟩ => rfl

variable (m : (ℓ : Loc nD τ sig) → Buf (Elt Ideal) ℓ) (ρ : Dev nD → PrngReg) (c : Dev nD)

/-- The arguments hold the real arrays. -/
structure Reals (Q K W O L : ℕ → ℕ → ℝ) : Prop where
  q : ∀ (r : Fin 4096) (d : Fin 768), m ((c : Thread nD τ).loc main_arg0) (ix2 r d) = ((Q r d : ℝ) : EReal)
  k : ∀ (r : Fin 4096) (d : Fin 768), m ((c : Thread nD τ).loc main_arg1) (ix2 r d) = ((K r d : ℝ) : EReal)
  v : ∀ (r : Fin 4096) (d : Fin 2304), m ((c : Thread nD τ).loc main_arg2) (ix2 r d) = ((W r d : ℝ) : EReal)
  o : ∀ (r : Fin 4096) (d : Fin 256), m ((c : Thread nD τ).loc main_arg3) (ix2 r d) = ((O r d : ℝ) : EReal)
  l : ∀ (r : Fin 4096) (d : Fin 256), m ((c : Thread nD τ).loc main_arg4) (ix2 r d) = ((L r d : ℝ) : EReal)

section
variable {m c} {Q K W O L : ℕ → ℕ → ℝ} (H : Reals m c Q K W O L)
include H

theorem iblk_0 (t : Fin cfg0.N) (a : Fin 256) (d : Fin 256) :
    iblk m c 0 t (ix2 a d) = ((Q (256 * (15 - t.val) + a) (0 + d) : ℝ) : EReal) := by
  have e := H.q ⟨256 * (15 - t.val) + a, by have := a.isLt; omega⟩ ⟨0 + d, by have := d.isLt; omega⟩
  refine Eq.trans ?_ e
  blk_ext [iblk, V, index_pair t]

theorem iblk_1 (t : Fin cfg0.N) (a : Fin 256) (d : Fin 256) :
    iblk m c 1 t (ix2 a d) = ((K (256 * (15 - t.val) + a) (0 + d) : ℝ) : EReal) := by
  have e := H.k ⟨256 * (15 - t.val) + a, by have := a.isLt; omega⟩ ⟨0 + d, by have := d.isLt; omega⟩
  refine Eq.trans ?_ e
  blk_ext [iblk, V, index_pair t]

theorem iblk_3 (t : Fin cfg0.N) (a : Fin 256) (d : Fin 256) :
    iblk m c 3 t (ix2 a d) = ((W (256 * (15 - t.val) + a) (1536 + d) : ℝ) : EReal) := by
  have e := H.v ⟨256 * (15 - t.val) + a, by have := a.isLt; omega⟩ ⟨1536 + d, by have := d.isLt; omega⟩
  refine Eq.trans ?_ e
  blk_ext [iblk, V, index_pair t]

theorem iblk_5 (t : Fin cfg0.N) (a : Fin 256) (d : Fin 256) :
    iblk m c 5 t (ix2 a d) = ((O (256 * (15 - t.val) + a) (0 + d) : ℝ) : EReal) := by
  have e := H.o ⟨256 * (15 - t.val) + a, by have := a.isLt; omega⟩ ⟨0 + d, by have := d.isLt; omega⟩
  refine Eq.trans ?_ e
  blk_ext [iblk, V, index_pair t]

theorem iblk_6 (t : Fin cfg0.N) (a : Fin 256) (d : Fin 256) :
    iblk m c 6 t (ix2 a d) = ((L (256 * (15 - t.val) + a) (0 + d) : ℝ) : EReal) := by
  have e := H.l ⟨256 * (15 - t.val) + a, by have := a.isLt; omega⟩ ⟨0 + d, by have := d.isLt; omega⟩
  refine Eq.trans ?_ e
  blk_ext [iblk, V, index_pair t]

theorem iblk_2 (t : Fin cfg0.N) (a : Fin 128) (d : Fin 256) :
    iblk m c 2 t (ix2 a d) = ((K (128 * (2 * (15 - t.val) - 1) + a) (0 + d) : ℝ) : EReal) := by
  have e := H.k ⟨128 * (2 * (15 - t.val) - 1) + a, by have := a.isLt; omega⟩ ⟨0 + d, by have := d.isLt; omega⟩
  refine Eq.trans ?_ e
  blk_ext [iblk, V, index_prev t]

theorem iblk_4 (t : Fin cfg0.N) (a : Fin 128) (d : Fin 256) :
    iblk m c 4 t (ix2 a d) = ((W (128 * (2 * (15 - t.val) - 1) + a) (1536 + d) : ℝ) : EReal) := by
  have e := H.v ⟨128 * (2 * (15 - t.val) - 1) + a, by have := a.isLt; omega⟩ ⟨1536 + d, by have := d.isLt; omega⟩
  refine Eq.trans ?_ e
  blk_ext [iblk, V, index_prev t]

/-! ## The heads' blocks of the staged blocks -/

/-- The columns of an array from `off` on. -/
def colsFrom (off : ℕ) (X : ℕ → ℕ → ℝ) (r d : ℕ) : ℝ := X r (off + d)

theorem ld_0 (t : Fin cfg0.N) (h n : ℕ) (inb) (a : Fin 128) (d : Fin 64) :
    View.ld (iblk m c 0 t) (Rect.unit ![128 * h, 64 * n] S128x64.size inb) (ix2 a d) =
      ((blk (colsFrom 0 Q) (2 * (15 - t.val) + h) n a d : ℝ) : EReal) := by
  have i0 : 128 * h + 128 ≤ 256 := inb 0
  have i1 : 64 * n + 64 ≤ 256 := inb 1
  have e := iblk_0 H t ⟨128 * h + a, by have := a.isLt; omega⟩ ⟨64 * n + d, by have := d.isLt; omega⟩
  have e2 : Q (256 * (15 - t.val) + (128 * h + a)) (0 + (64 * n + d)) = blk (colsFrom 0 Q) (2 * (15 - t.val) + h) n a d := by
    unfold blk colsFrom; congr 1; omega
  rw [← e2]
  refine Eq.trans ?_ e
  exact congrArg (iblk m c 0 t) (emb_at (128 * h) (64 * n) inb a d i0 i1)

theorem ld_1 (t : Fin cfg0.N) (h n : ℕ) (inb) (a : Fin 128) (d : Fin 64) :
    View.ld (iblk m c 1 t) (Rect.unit ![128 * h, 64 * n] S128x64.size inb) (ix2 a d) =
      ((blk (colsFrom 0 K) (2 * (15 - t.val) + h) n a d : ℝ) : EReal) := by
  have i0 : 128 * h + 128 ≤ 256 := inb 0
  have i1 : 64 * n + 64 ≤ 256 := inb 1
  have e := iblk_1 H t ⟨128 * h + a, by have := a.isLt; omega⟩ ⟨64 * n + d, by have := d.isLt; omega⟩
  have e2 : K (256 * (15 - t.val) + (128 * h + a)) (0 + (64 * n + d)) = blk (colsFrom 0 K) (2 * (15 - t.val) + h) n a d := by
    unfold blk colsFrom; congr 1; omega
  rw [← e2]
  refine Eq.trans ?_ e
  exact congrArg (iblk m c 1 t) (emb_at (128 * h) (64 * n) inb a d i0 i1)

theorem ld_3 (t : Fin cfg0.N) (h n : ℕ) (inb) (a : Fin 128) (d : Fin 64) :
    View.ld (iblk m c 3 t) (Rect.unit ![128 * h, 64 * n] S128x64.size inb) (ix2 a d) =
      ((blk (colsFrom 1536 W) (2 * (15 - t.val) + h) n a d : ℝ) : EReal) := by
  have i0 : 128 * h + 128 ≤ 256 := inb 0
  have i1 : 64 * n + 64 ≤ 256 := inb 1
  have e := iblk_3 H t ⟨128 * h + a, by have := a.isLt; omega⟩ ⟨64 * n + d, by have := d.isLt; omega⟩
  have e2 : W (256 * (15 - t.val) + (128 * h + a)) (1536 + (64 * n + d)) = blk (colsFrom 1536 W) (2 * (15 - t.val) + h) n a d := by
    unfold blk colsFrom; congr 1; omega
  rw [← e2]
  refine Eq.trans ?_ e
  exact congrArg (iblk m c 3 t) (emb_at (128 * h) (64 * n) inb a d i0 i1)

theorem ld_5 (t : Fin cfg0.N) (h n : ℕ) (inb) (a : Fin 128) (d : Fin 64) :
    View.ld (iblk m c 5 t) (Rect.unit ![128 * h, 64 * n] S128x64.size inb) (ix2 a d) =
      ((blk (colsFrom 0 O) (2 * (15 - t.val) + h) n a d : ℝ) : EReal) := by
  have i0 : 128 * h + 128 ≤ 256 := inb 0
  have i1 : 64 * n + 64 ≤ 256 := inb 1
  have e := iblk_5 H t ⟨128 * h + a, by have := a.isLt; omega⟩ ⟨64 * n + d, by have := d.isLt; omega⟩
  have e2 : O (256 * (15 - t.val) + (128 * h + a)) (0 + (64 * n + d)) = blk (colsFrom 0 O) (2 * (15 - t.val) + h) n a d := by
    unfold blk colsFrom; congr 1; omega
  rw [← e2]
  refine Eq.trans ?_ e
  exact congrArg (iblk m c 5 t) (emb_at (128 * h) (64 * n) inb a d i0 i1)

theorem ld_6 (t : Fin cfg0.N) (h n : ℕ) (inb) (a : Fin 128) (d : Fin 64) :
    View.ld (iblk m c 6 t) (Rect.unit ![128 * h, 64 * n] S128x64.size inb) (ix2 a d) =
      ((blk (colsFrom 0 L) (2 * (15 - t.val) + h) n a d : ℝ) : EReal) := by
  have i0 : 128 * h + 128 ≤ 256 := inb 0
  have i1 : 64 * n + 64 ≤ 256 := inb 1
  have e := iblk_6 H t ⟨128 * h + a, by have := a.isLt; omega⟩ ⟨64 * n + d, by have := d.isLt; omega⟩
  have e2 : L (256 * (15 - t.val) + (128 * h + a)) (0 + (64 * n + d)) = blk (colsFrom 0 L) (2 * (15 - t.val) + h) n a d := by
    unfold blk colsFrom; congr 1; omega
  rw [← e2]
  refine Eq.trans ?_ e
  exact congrArg (iblk m c 6 t) (emb_at (128 * h) (64 * n) inb a d i0 i1)

theorem ld_2 (t : Fin cfg0.N) (n : ℕ) (inb) (a : Fin 128) (d : Fin 64) :
    View.ld (iblk m c 2 t) (Rect.unit ![0, 64 * n] S128x64.size inb) (ix2 a d) =
      ((blk (colsFrom 0 K) (2 * (15 - t.val) - 1) n a d : ℝ) : EReal) := by
  have i1 : 64 * n + 64 ≤ 256 := inb 1
  have e := iblk_2 H t a ⟨64 * n + d, by have := d.isLt; omega⟩
  refine Eq.trans ?_ e
  refine congrArg (iblk m c 2 t) ((emb_at 0 (64 * n) inb a d (by omega) i1).trans ?_)
  exact congrArg (fun z => ix2 z _) (Fin.ext (Nat.zero_add _))

theorem ld_4 (t : Fin cfg0.N) (n : ℕ) (inb) (a : Fin 128) (d : Fin 64) :
    View.ld (iblk m c 4 t) (Rect.unit ![0, 64 * n] S128x64.size inb) (ix2 a d) =
      ((blk (colsFrom 1536 W) (2 * (15 - t.val) - 1) n a d : ℝ) : EReal) := by
  have i1 : 64 * n + 64 ≤ 256 := inb 1
  have e := iblk_4 H t a ⟨64 * n + d, by have := d.isLt; omega⟩
  refine Eq.trans ?_ e
  refine congrArg (iblk m c 4 t) ((emb_at 0 (64 * n) inb a d (by omega) i1).trans ?_)
  exact congrArg (fun z => ix2 z _) (Fin.ext (Nat.zero_add _))
end

/-! ## The flag of a first block -/

theorem half_pos : (0 : EReal) < Ideal.ofBits .f32 0x3F000000#32 ∧ ¬(1 : EReal) < Ideal.ofBits .f32 0x3F000000#32 := by
  have e : Ideal.ofBits .f32 0x3F000000#32 = ((1 / 2 : ℝ) : EReal) := by
    simp [Ideal.ofBits, Ideal.ieee]
    rw [← EReal.coe_mul]; exact congrArg Real.toEReal (by norm_num)
  rw [e]
  exact ⟨by exact_mod_cast (by norm_num : (0 : ℝ) < 1 / 2), by exact_mod_cast (by norm_num : ¬(1 : ℝ) < 1 / 2)⟩

theorem before_flag {w : BitVec 32} {p : Prop} [Decidable p] (h : w = if p then 0#32 else 1#32) :
    Attn.Before (Scalar.sitofp .f32 w : Ideal .f32) ↔ p := by
  unfold Attn.Before
  subst h
  by_cases hp : p
  · simp only [hp, if_true, iff_true]
    rw [show (Scalar.sitofp .f32 0#32 : Ideal .f32) = (0 : EReal) by
      show ((((0#32 : BitVec 32).toInt : ℤ) : ℝ) : EReal) = 0; norm_num]
    exact half_pos.1
  · simp only [hp, if_false, iff_false]
    rw [show (Scalar.sitofp .f32 1#32 : Ideal .f32) = (1 : EReal) by
      show ((((1#32 : BitVec 32).toInt : ℤ) : ℝ) : EReal) = 1; norm_num]
    exact half_pos.2

theorem before_0 (t : Fin cfg0.N) : Attn.Before (k0_pay2 (F := Ideal) (grid0.coords t)) ↔ hasPrev 32 (2 * (15 - t.val) + 0) :=
  before_flag (w := Scalar.extui (Scalar.cmpi .eq (Scalar.remsi (Scalar.muli 2#32 (Scalar.subi 15#32 (BitVec.ofNat 32 (grid0.coords t 0).val))) 32#32) 0#32))
    (p := (2 * (15 - t.val) + 0) % 32 ≠ 0)
    ((by decide +kernel : ∀ t : Fin grid0.N, Scalar.extui (Scalar.cmpi .eq (Scalar.remsi (Scalar.muli 2#32 (Scalar.subi 15#32 (BitVec.ofNat 32 (grid0.coords t 0).val))) 32#32) 0#32) = if (2 * (15 - t.val) + 0) % 32 ≠ 0 then 0#32 else 1#32) t)

theorem before_1 (t : Fin cfg0.N) : Attn.Before (k0_pay3 (F := Ideal) (grid0.coords t)) ↔ hasPrev 32 (2 * (15 - t.val) + 1) :=
  before_flag (w := Scalar.extui (Scalar.cmpi .eq (Scalar.remsi (Scalar.addi (Scalar.muli 2#32 (Scalar.subi 15#32 (BitVec.ofNat 32 (grid0.coords t 0).val))) 1#32) 32#32) 0#32))
    (p := (2 * (15 - t.val) + 1) % 32 ≠ 0)
    ((by decide +kernel : ∀ t : Fin grid0.N, Scalar.extui (Scalar.cmpi .eq (Scalar.remsi (Scalar.addi (Scalar.muli 2#32 (Scalar.subi 15#32 (BitVec.ofNat 32 (grid0.coords t 0).val))) 1#32) 32#32) 0#32) = if (2 * (15 - t.val) + 1) % 32 ≠ 0 then 0#32 else 1#32) t)

/-! ## The blocks each point leaves -/

section
variable {m c} {Q K W O L : ℕ → ℕ → ℝ} (H : Reals m c Q K W O L)
include H

theorem dq_0 (t : Fin cfg0.N) (n : ℕ) (i0) (j) (a : Fin 128) (d : Fin 64) :
    Attn.dqH (F := Ideal) (k0_pay2 (grid0.coords t)) (View.ld (iblk m c 0 t) (Rect.unit ![128 * 0, 64 * n] S128x64.size i0)) (View.ld (iblk m c 1 t) (Rect.unit ![128 * 0, 64 * n] S128x64.size i0)) (View.ld (iblk m c 2 t) (Rect.unit ![0, 64 * n] S128x64.size j)) (View.ld (iblk m c 3 t) (Rect.unit ![128 * 0, 64 * n] S128x64.size i0)) (View.ld (iblk m c 4 t) (Rect.unit ![0, 64 * n] S128x64.size j)) (View.ld (iblk m c 5 t) (Rect.unit ![128 * 0, 64 * n] S128x64.size i0)) (View.ld (iblk m c 6 t) (Rect.unit ![128 * 0, 64 * n] S128x64.size i0)) (ix2 a d) =
      ((gradQ 32 (colsFrom 0 Q) (colsFrom 0 K) (colsFrom 1536 W) (colsFrom 0 O) (colsFrom 0 L) (2 * (15 - t.val) + 0) n a d : ℝ) : EReal) :=
  Attn.head_dq (before_0 t) (ld_0 H t 0 n _) (ld_1 H t 0 n _) (ld_2 H t n _) (ld_3 H t 0 n _) (ld_4 H t n _) (ld_5 H t 0 n _) (ld_6 H t 0 n _) a d

theorem dkc_0 (t : Fin cfg0.N) (n : ℕ) (i0) (j) (a : Fin 128) (d : Fin 64) :
    Attn.dkcH (F := Ideal) (k0_pay2 (grid0.coords t)) (View.ld (iblk m c 0 t) (Rect.unit ![128 * 0, 64 * n] S128x64.size i0)) (View.ld (iblk m c 1 t) (Rect.unit ![128 * 0, 64 * n] S128x64.size i0)) (View.ld (iblk m c 2 t) (Rect.unit ![0, 64 * n] S128x64.size j)) (View.ld (iblk m c 3 t) (Rect.unit ![128 * 0, 64 * n] S128x64.size i0)) (View.ld (iblk m c 4 t) (Rect.unit ![0, 64 * n] S128x64.size j)) (View.ld (iblk m c 5 t) (Rect.unit ![128 * 0, 64 * n] S128x64.size i0)) (View.ld (iblk m c 6 t) (Rect.unit ![128 * 0, 64 * n] S128x64.size i0)) (ix2 a d) =
      ((keyOwn 32 (colsFrom 0 Q) (colsFrom 0 K) (colsFrom 1536 W) (colsFrom 0 O) (colsFrom 0 L) (2 * (15 - t.val) + 0) n a d : ℝ) : EReal) :=
  Attn.head_dkc (before_0 t) (ld_0 H t 0 n _) (ld_1 H t 0 n _) (ld_2 H t n _) (ld_3 H t 0 n _) (ld_4 H t n _) (ld_5 H t 0 n _) (ld_6 H t 0 n _) a d

theorem dkp_0 (t : Fin cfg0.N) (n : ℕ) (i0) (j) (a : Fin 128) (d : Fin 64) :
    Attn.dkpH (F := Ideal) (k0_pay2 (grid0.coords t)) (View.ld (iblk m c 0 t) (Rect.unit ![128 * 0, 64 * n] S128x64.size i0)) (View.ld (iblk m c 1 t) (Rect.unit ![128 * 0, 64 * n] S128x64.size i0)) (View.ld (iblk m c 2 t) (Rect.unit ![0, 64 * n] S128x64.size j)) (View.ld (iblk m c 3 t) (Rect.unit ![128 * 0, 64 * n] S128x64.size i0)) (View.ld (iblk m c 4 t) (Rect.unit ![0, 64 * n] S128x64.size j)) (View.ld (iblk m c 5 t) (Rect.unit ![128 * 0, 64 * n] S128x64.size i0)) (View.ld (iblk m c 6 t) (Rect.unit ![128 * 0, 64 * n] S128x64.size i0)) (ix2 a d) =
      ((keyPrev 32 (colsFrom 0 Q) (colsFrom 0 K) (colsFrom 1536 W) (colsFrom 0 O) (colsFrom 0 L) (2 * (15 - t.val) + 0) n a d : ℝ) : EReal) :=
  Attn.head_dkp (before_0 t) (ld_0 H t 0 n _) (ld_1 H t 0 n _) (ld_2 H t n _) (ld_3 H t 0 n _) (ld_4 H t n _) (ld_5 H t 0 n _) (ld_6 H t 0 n _) a d

theorem dvc_0 (t : Fin cfg0.N) (n : ℕ) (i0) (j) (a : Fin 128) (d : Fin 64) :
    Attn.dvcH (F := Ideal) (k0_pay2 (grid0.coords t)) (View.ld (iblk m c 0 t) (Rect.unit ![128 * 0, 64 * n] S128x64.size i0)) (View.ld (iblk m c 1 t) (Rect.unit ![128 * 0, 64 * n] S128x64.size i0)) (View.ld (iblk m c 2 t) (Rect.unit ![0, 64 * n] S128x64.size j)) (View.ld (iblk m c 5 t) (Rect.unit ![128 * 0, 64 * n] S128x64.size i0)) (ix2 a d) =
      ((valOwn 32 (colsFrom 0 Q) (colsFrom 0 K) (colsFrom 0 O) (2 * (15 - t.val) + 0) n a d : ℝ) : EReal) :=
  Attn.head_dvc (before_0 t) (ld_0 H t 0 n _) (ld_1 H t 0 n _) (ld_2 H t n _) (ld_5 H t 0 n _) a d

theorem dvp_0 (t : Fin cfg0.N) (n : ℕ) (i0) (j) (a : Fin 128) (d : Fin 64) :
    Attn.dvpH (F := Ideal) (k0_pay2 (grid0.coords t)) (View.ld (iblk m c 0 t) (Rect.unit ![128 * 0, 64 * n] S128x64.size i0)) (View.ld (iblk m c 1 t) (Rect.unit ![128 * 0, 64 * n] S128x64.size i0)) (View.ld (iblk m c 2 t) (Rect.unit ![0, 64 * n] S128x64.size j)) (View.ld (iblk m c 5 t) (Rect.unit ![128 * 0, 64 * n] S128x64.size i0)) (ix2 a d) =
      ((valPrev 32 (colsFrom 0 Q) (colsFrom 0 K) (colsFrom 0 O) (2 * (15 - t.val) + 0) n a d : ℝ) : EReal) :=
  Attn.head_dvp (before_0 t) (ld_0 H t 0 n _) (ld_1 H t 0 n _) (ld_2 H t n _) (ld_5 H t 0 n _) a d

theorem dq_1 (t : Fin cfg0.N) (n : ℕ) (i0) (i1) (a : Fin 128) (d : Fin 64) :
    Attn.dqH (F := Ideal) (k0_pay3 (grid0.coords t)) (View.ld (iblk m c 0 t) (Rect.unit ![128 * 1, 64 * n] S128x64.size i1)) (View.ld (iblk m c 1 t) (Rect.unit ![128 * 1, 64 * n] S128x64.size i1)) (View.ld (iblk m c 1 t) (Rect.unit ![128 * 0, 64 * n] S128x64.size i0)) (View.ld (iblk m c 3 t) (Rect.unit ![128 * 1, 64 * n] S128x64.size i1)) (View.ld (iblk m c 3 t) (Rect.unit ![128 * 0, 64 * n] S128x64.size i0)) (View.ld (iblk m c 5 t) (Rect.unit ![128 * 1, 64 * n] S128x64.size i1)) (View.ld (iblk m c 6 t) (Rect.unit ![128 * 1, 64 * n] S128x64.size i1)) (ix2 a d) =
      ((gradQ 32 (colsFrom 0 Q) (colsFrom 0 K) (colsFrom 1536 W) (colsFrom 0 O) (colsFrom 0 L) (2 * (15 - t.val) + 1) n a d : ℝ) : EReal) :=
  Attn.head_dq (before_1 t) (ld_0 H t 1 n _) (ld_1 H t 1 n _) (ld_1 H t 0 n _) (ld_3 H t 1 n _) (ld_3 H t 0 n _) (ld_5 H t 1 n _) (ld_6 H t 1 n _) a d

theorem dkc_1 (t : Fin cfg0.N) (n : ℕ) (i0) (i1) (a : Fin 128) (d : Fin 64) :
    Attn.dkcH (F := Ideal) (k0_pay3 (grid0.coords t)) (View.ld (iblk m c 0 t) (Rect.unit ![128 * 1, 64 * n] S128x64.size i1)) (View.ld (iblk m c 1 t) (Rect.unit ![128 * 1, 64 * n] S128x64.size i1)) (View.ld (iblk m c 1 t) (Rect.unit ![128 * 0, 64 * n] S128x64.size i0)) (View.ld (iblk m c 3 t) (Rect.unit ![128 * 1, 64 * n] S128x64.size i1)) (View.ld (iblk m c 3 t) (Rect.unit ![128 * 0, 64 * n] S128x64.size i0)) (View.ld (iblk m c 5 t) (Rect.unit ![128 * 1, 64 * n] S128x64.size i1)) (View.ld (iblk m c 6 t) (Rect.unit ![128 * 1, 64 * n] S128x64.size i1)) (ix2 a d) =
      ((keyOwn 32 (colsFrom 0 Q) (colsFrom 0 K) (colsFrom 1536 W) (colsFrom 0 O) (colsFrom 0 L) (2 * (15 - t.val) + 1) n a d : ℝ) : EReal) :=
  Attn.head_dkc (before_1 t) (ld_0 H t 1 n _) (ld_1 H t 1 n _) (ld_1 H t 0 n _) (ld_3 H t 1 n _) (ld_3 H t 0 n _) (ld_5 H t 1 n _) (ld_6 H t 1 n _) a d

theorem dkp_1 (t : Fin cfg0.N) (n : ℕ) (i0) (i1) (a : Fin 128) (d : Fin 64) :
    Attn.dkpH (F := Ideal) (k0_pay3 (grid0.coords t)) (View.ld (iblk m c 0 t) (Rect.unit ![128 * 1, 64 * n] S128x64.size i1)) (View.ld (iblk m c 1 t) (Rect.unit ![128 * 1, 64 * n] S128x64.size i1)) (View.ld (iblk m c 1 t) (Rect.unit ![128 * 0, 64 * n] S128x64.size i0)) (View.ld (iblk m c 3 t) (Rect.unit ![128 * 1, 64 * n] S128x64.size i1)) (View.ld (iblk m c 3 t) (Rect.unit ![128 * 0, 64 * n] S128x64.size i0)) (View.ld (iblk m c 5 t) (Rect.unit ![128 * 1, 64 * n] S128x64.size i1)) (View.ld (iblk m c 6 t) (Rect.unit ![128 * 1, 64 * n] S128x64.size i1)) (ix2 a d) =
      ((keyPrev 32 (colsFrom 0 Q) (colsFrom 0 K) (colsFrom 1536 W) (colsFrom 0 O) (colsFrom 0 L) (2 * (15 - t.val) + 1) n a d : ℝ) : EReal) :=
  Attn.head_dkp (before_1 t) (ld_0 H t 1 n _) (ld_1 H t 1 n _) (ld_1 H t 0 n _) (ld_3 H t 1 n _) (ld_3 H t 0 n _) (ld_5 H t 1 n _) (ld_6 H t 1 n _) a d

theorem dvc_1 (t : Fin cfg0.N) (n : ℕ) (i0) (i1) (a : Fin 128) (d : Fin 64) :
    Attn.dvcH (F := Ideal) (k0_pay3 (grid0.coords t)) (View.ld (iblk m c 0 t) (Rect.unit ![128 * 1, 64 * n] S128x64.size i1)) (View.ld (iblk m c 1 t) (Rect.unit ![128 * 1, 64 * n] S128x64.size i1)) (View.ld (iblk m c 1 t) (Rect.unit ![128 * 0, 64 * n] S128x64.size i0)) (View.ld (iblk m c 5 t) (Rect.unit ![128 * 1, 64 * n] S128x64.size i1)) (ix2 a d) =
      ((valOwn 32 (colsFrom 0 Q) (colsFrom 0 K) (colsFrom 0 O) (2 * (15 - t.val) + 1) n a d : ℝ) : EReal) :=
  Attn.head_dvc (before_1 t) (ld_0 H t 1 n _) (ld_1 H t 1 n _) (ld_1 H t 0 n _) (ld_5 H t 1 n _) a d

theorem dvp_1 (t : Fin cfg0.N) (n : ℕ) (i0) (i1) (a : Fin 128) (d : Fin 64) :
    Attn.dvpH (F := Ideal) (k0_pay3 (grid0.coords t)) (View.ld (iblk m c 0 t) (Rect.unit ![128 * 1, 64 * n] S128x64.size i1)) (View.ld (iblk m c 1 t) (Rect.unit ![128 * 1, 64 * n] S128x64.size i1)) (View.ld (iblk m c 1 t) (Rect.unit ![128 * 0, 64 * n] S128x64.size i0)) (View.ld (iblk m c 5 t) (Rect.unit ![128 * 1, 64 * n] S128x64.size i1)) (ix2 a d) =
      ((valPrev 32 (colsFrom 0 Q) (colsFrom 0 K) (colsFrom 0 O) (2 * (15 - t.val) + 1) n a d : ℝ) : EReal) :=
  Attn.head_dvp (before_1 t) (ld_0 H t 1 n _) (ld_1 H t 1 n _) (ld_1 H t 0 n _) (ld_5 H t 1 n _) a d

/-- The second half's rows, completed by what was carried over. -/
theorem dk_sum_1 (t : Fin cfg0.N) (n : ℕ) (i0) (i1) (cy : FVec Ideal S128x64 .f32)
    (hcy : ∀ a d, cy (ix2 a d) = ((fromNext (keyPrev 32 (colsFrom 0 Q) (colsFrom 0 K) (colsFrom 1536 W) (colsFrom 0 O) (colsFrom 0 L)) (2 * (15 - t.val) + 1 + 1) n a d : ℝ) : EReal)) (a : Fin 128) (d : Fin 64) :
    addf (Attn.dkcH (F := Ideal) (k0_pay3 (grid0.coords t)) (View.ld (iblk m c 0 t) (Rect.unit ![128 * 1, 64 * n] S128x64.size i1)) (View.ld (iblk m c 1 t) (Rect.unit ![128 * 1, 64 * n] S128x64.size i1)) (View.ld (iblk m c 1 t) (Rect.unit ![128 * 0, 64 * n] S128x64.size i0)) (View.ld (iblk m c 3 t) (Rect.unit ![128 * 1, 64 * n] S128x64.size i1)) (View.ld (iblk m c 3 t) (Rect.unit ![128 * 0, 64 * n] S128x64.size i0)) (View.ld (iblk m c 5 t) (Rect.unit ![128 * 1, 64 * n] S128x64.size i1)) (View.ld (iblk m c 6 t) (Rect.unit ![128 * 1, 64 * n] S128x64.size i1))) cy (ix2 a d) =
      ((gradK 32 (colsFrom 0 Q) (colsFrom 0 K) (colsFrom 1536 W) (colsFrom 0 O) (colsFrom 0 L) (2 * (15 - t.val) + 1) n a d : ℝ) : EReal) := by
  refine (congrArg₂ (fun x y : EReal => x + y) (dkc_1 H t n i0 i1 a d) (hcy a d)).trans ?_
  rw [← EReal.coe_add]
  exact congrArg Real.toEReal (add_comm _ _)

/-- The first half's rows, completed by what the second half gives. -/
theorem dk_sum_0 (t : Fin cfg0.N) (n : ℕ) (i0) (i1) (j) (a : Fin 128) (d : Fin 64) :
    addf (Attn.dkpH (F := Ideal) (k0_pay3 (grid0.coords t)) (View.ld (iblk m c 0 t) (Rect.unit ![128 * 1, 64 * n] S128x64.size i1)) (View.ld (iblk m c 1 t) (Rect.unit ![128 * 1, 64 * n] S128x64.size i1)) (View.ld (iblk m c 1 t) (Rect.unit ![128 * 0, 64 * n] S128x64.size i0)) (View.ld (iblk m c 3 t) (Rect.unit ![128 * 1, 64 * n] S128x64.size i1)) (View.ld (iblk m c 3 t) (Rect.unit ![128 * 0, 64 * n] S128x64.size i0)) (View.ld (iblk m c 5 t) (Rect.unit ![128 * 1, 64 * n] S128x64.size i1)) (View.ld (iblk m c 6 t) (Rect.unit ![128 * 1, 64 * n] S128x64.size i1))) (Attn.dkcH (F := Ideal) (k0_pay2 (grid0.coords t)) (View.ld (iblk m c 0 t) (Rect.unit ![128 * 0, 64 * n] S128x64.size i0)) (View.ld (iblk m c 1 t) (Rect.unit ![128 * 0, 64 * n] S128x64.size i0)) (View.ld (iblk m c 2 t) (Rect.unit ![0, 64 * n] S128x64.size j)) (View.ld (iblk m c 3 t) (Rect.unit ![128 * 0, 64 * n] S128x64.size i0)) (View.ld (iblk m c 4 t) (Rect.unit ![0, 64 * n] S128x64.size j)) (View.ld (iblk m c 5 t) (Rect.unit ![128 * 0, 64 * n] S128x64.size i0)) (View.ld (iblk m c 6 t) (Rect.unit ![128 * 0, 64 * n] S128x64.size i0))) (ix2 a d) =
      ((gradK 32 (colsFrom 0 Q) (colsFrom 0 K) (colsFrom 1536 W) (colsFrom 0 O) (colsFrom 0 L) (2 * (15 - t.val) + 0) n a d : ℝ) : EReal) := by
  refine (congrArg₂ (fun x y : EReal => x + y) (dkp_1 H t n i0 i1 a d) (dkc_0 H t n i0 j a d)).trans ?_
  rw [← EReal.coe_add]
  refine congrArg Real.toEReal ?_
  show _ = fromNext (keyPrev 32 (colsFrom 0 Q) (colsFrom 0 K) (colsFrom 1536 W) (colsFrom 0 O) (colsFrom 0 L)) (2 * (15 - t.val) + 0 + 1) n a d + _
  rw [fromNext, if_pos (by omega)]

/-- The second half's rows, completed by what was carried over. -/
theorem dv_sum_1 (t : Fin cfg0.N) (n : ℕ) (i0) (i1) (cy : FVec Ideal S128x64 .f32)
    (hcy : ∀ a d, cy (ix2 a d) = ((fromNext (valPrev 32 (colsFrom 0 Q) (colsFrom 0 K) (colsFrom 0 O)) (2 * (15 - t.val) + 1 + 1) n a d : ℝ) : EReal)) (a : Fin 128) (d : Fin 64) :
    addf (Attn.dvcH (F := Ideal) (k0_pay3 (grid0.coords t)) (View.ld (iblk m c 0 t) (Rect.unit ![128 * 1, 64 * n] S128x64.size i1)) (View.ld (iblk m c 1 t) (Rect.unit ![128 * 1, 64 * n] S128x64.size i1)) (View.ld (iblk m c 1 t) (Rect.unit ![128 * 0, 64 * n] S128x64.size i0)) (View.ld (iblk m c 5 t) (Rect.unit ![128 * 1, 64 * n] S128x64.size i1))) cy (ix2 a d) =
      ((gradV 32 (colsFrom 0 Q) (colsFrom 0 K) (colsFrom 0 O) (2 * (15 - t.val) + 1) n a d : ℝ) : EReal) := by
  refine (congrArg₂ (fun x y : EReal => x + y) (dvc_1 H t n i0 i1 a d) (hcy a d)).trans ?_
  rw [← EReal.coe_add]
  exact congrArg Real.toEReal (add_comm _ _)

/-- The first half's rows, completed by what the second half gives. -/
theorem dv_sum_0 (t : Fin cfg0.N) (n : ℕ) (i0) (i1) (j) (a : Fin 128) (d : Fin 64) :
    addf (Attn.dvpH (F := Ideal) (k0_pay3 (grid0.coords t)) (View.ld (iblk m c 0 t) (Rect.unit ![128 * 1, 64 * n] S128x64.size i1)) (View.ld (iblk m c 1 t) (Rect.unit ![128 * 1, 64 * n] S128x64.size i1)) (View.ld (iblk m c 1 t) (Rect.unit ![128 * 0, 64 * n] S128x64.size i0)) (View.ld (iblk m c 5 t) (Rect.unit ![128 * 1, 64 * n] S128x64.size i1))) (Attn.dvcH (F := Ideal) (k0_pay2 (grid0.coords t)) (View.ld (iblk m c 0 t) (Rect.unit ![128 * 0, 64 * n] S128x64.size i0)) (View.ld (iblk m c 1 t) (Rect.unit ![128 * 0, 64 * n] S128x64.size i0)) (View.ld (iblk m c 2 t) (Rect.unit ![0, 64 * n] S128x64.size j)) (View.ld (iblk m c 5 t) (Rect.unit ![128 * 0, 64 * n] S128x64.size i0))) (ix2 a d) =
      ((gradV 32 (colsFrom 0 Q) (colsFrom 0 K) (colsFrom 0 O) (2 * (15 - t.val) + 0) n a d : ℝ) : EReal) := by
  refine (congrArg₂ (fun x y : EReal => x + y) (dvp_1 H t n i0 i1 a d) (dvc_0 H t n i0 j a d)).trans ?_
  rw [← EReal.coe_add]
  refine congrArg Real.toEReal ?_
  show _ = fromNext (valPrev 32 (colsFrom 0 Q) (colsFrom 0 K) (colsFrom 0 O)) (2 * (15 - t.val) + 0 + 1) n a d + _
  rw [fromNext, if_pos (by omega)]

end

/-- A pair of blocks of a result. -/
def pairArr (g : ℕ → ℕ → Fin 128 → Fin 64 → ℝ) (t : ℕ) (y : S256x256.Idx) : EReal :=
  ((flat g (256 * (15 - t) + (y 0).val) (y 1).val : ℝ) : EReal)

/-- What is carried on for the block before. -/
def carryArr (g : ℕ → ℕ → Fin 128 → Fin 64 → ℝ) (t : ℕ) (y : S128x256.Idx) : EReal :=
  ((flat g (128 * (2 * (15 - t)) + (y 0).val) (y 1).val : ℝ) : EReal)

theorem pair_piece {g : ℕ → ℕ → Fin 128 → Fin 64 → ℝ} {t : ℕ} {f : S128x64.Idx → EReal} (h n : ℕ)
    (hf : ∀ a d, f (ix2 a d) = ((g (2 * (15 - t) + h) n a d : ℝ) : EReal)) (inb) (x : S128x64.Idx) :
    f x = pairArr g t ((Rect.unit (s := S256x256) ![128 * h, 64 * n] S128x64.size inb).emb x) := by
  have i0 : 128 * h + 128 ≤ 256 := inb 0
  have i1 : 64 * n + 64 ≤ 256 := inb 1
  obtain ⟨a, d, rfl⟩ : ∃ (a : Fin 128) (d : Fin 64), x = ix2 a d := ⟨x 0, x 1, eq_ix2 x⟩
  rw [hf]
  have e := emb_at (R := 256) (128 * h) (64 * n) inb a d i0 i1
  refine Eq.trans ?_ (congrArg (pairArr g t) e).symm
  unfold pairArr
  rw [← flat_at g (2 * (15 - t) + h) n a d]
  refine congrArg Real.toEReal (congrArg₂ (flat g) ?_ rfl)
  show _ = 256 * (15 - t) + (128 * h + a.val)
  omega

theorem carry_piece {g : ℕ → ℕ → Fin 128 → Fin 64 → ℝ} {t : ℕ} {f : S128x64.Idx → EReal} (n : ℕ)
    (hf : ∀ a d, f (ix2 a d) = ((g (2 * (15 - t) + 0) n a d : ℝ) : EReal)) (inb) (x : S128x64.Idx) :
    f x = carryArr g t ((Rect.unit (s := S128x256) ![0, 64 * n] S128x64.size inb).emb x) := by
  have i1 : 64 * n + 64 ≤ 256 := inb 1
  obtain ⟨a, d, rfl⟩ : ∃ (a : Fin 128) (d : Fin 64), x = ix2 a d := ⟨x 0, x 1, eq_ix2 x⟩
  rw [hf]
  have e := emb_at (R := 128) 0 (64 * n) inb a d (by omega) i1
  refine Eq.trans ?_ (congrArg (carryArr g t) e).symm
  unfold carryArr
  rw [← flat_at g (2 * (15 - t) + 0) n a d]
  refine congrArg Real.toEReal (congrArg₂ (flat g) ?_ rfl)
  show _ = 128 * (2 * (15 - t)) + (0 + a.val)
  omega

theorem recast (f : FVec Ideal S128x64 .f32) (h) : shapeCast S128x64 f h = f := by
  pointwise

/-- The carry that the first point reads: nothing comes from beyond the last block. -/
theorem carry_first (g : ℕ → ℕ → Fin 128 → Fin 64 → ℝ) (t : Fin cfg0.N) (h0 : t.val % 16 = 0) (n : ℕ) (a : Fin 128) (d : Fin 64) :
    (fun _ => Scalar.ofBits .f32 0x00000000#32 : FVec Ideal S128x64 .f32) (ix2 a d) =
      ((fromNext g (2 * (15 - t.val) + 1 + 1) n a d : ℝ) : EReal) := by
  have ht : t.val < 16 := lt_of_lt_of_eq t.isLt N_0
  rw [fromNext, if_neg (by omega)]
  show Ideal.ofBits .f32 0x00000000#32 = _
  rw [Ideal.ofBits_zero_f32]; rfl

/-- The carry that a later point reads. -/
theorem carry_later (g : ℕ → ℕ → Fin 128 → Fin 64 → ℝ) (t : Fin cfg0.N) (h0 : ¬t.val % 16 = 0) (n : ℕ)
    (s : Vec Ideal S128x256 .f32) (hs : s = carryArr g (t.val - 1)) (inb) (a : Fin 128) (d : Fin 64) :
    View.ld s (Rect.unit (s := S128x256) ![0, 64 * n] S128x64.size inb) (ix2 a d) =
      ((fromNext g (2 * (15 - t.val) + 1 + 1) n a d : ℝ) : EReal) := by
  have ht : t.val < 16 := lt_of_lt_of_eq t.isLt N_0
  have i1 : 64 * n + 64 ≤ 256 := inb 1
  rw [fromNext, if_pos (by omega), hs]
  have e := emb_at (R := 128) 0 (64 * n) inb a d (by omega) i1
  refine (congrArg (carryArr g (t.val - 1)) e).trans ?_
  unfold carryArr
  rw [← flat_at g (2 * (15 - t.val) + 1 + 1) n a d]
  refine congrArg Real.toEReal (congrArg₂ (flat g) ?_ rfl)
  show 128 * (2 * (15 - (t.val - 1))) + (0 + a.val) = _
  omega

section
variable {m c} {Q K W O L : ℕ → ℕ → ℝ} (H : Reals m c Q K W O L)
include H

set_option maxHeartbeats 1000000 in
/-- The queries' gradient after a point (first). -/
theorem leftA0 (t : Fin cfg0.N) (h0 : t.val % 16 = 0) :
    VO0_7.read (Elt Ideal) (VO0_7.writes (Elt Ideal) VO0_7.junk (runA m c t h0).1) = pairArr (gradQ 32 (colsFrom 0 Q) (colsFrom 0 K) (colsFrom 1536 W) (colsFrom 0 O) (colsFrom 0 L)) t.val := by
  have hc := coverA0 m c t h0
  rw [View.read_writes_eq_canon _ _ _ hc]
  rw [piecesA0] at hc ⊢
  funext y
  refine View.canon_apply_of_pieces (pairArr (gradQ 32 (colsFrom 0 Q) (colsFrom 0 K) (colsFrom 1536 W) (colsFrom 0 O) (colsFrom 0 L)) t.val) _ (View.PiecesOf.mem ?_) y (hc y)
  exact ⟨fun x => pair_piece 1 3 (dq_1 H t 3 inb_S256x256_S128x64_0_192 inb_S256x256_S128x64_128_192) inb_S256x256_S128x64_128_192 x,
    fun x => pair_piece 0 3 (dq_0 H t 3 inb_S256x256_S128x64_0_192 inb_S128x256_S128x64_0_192) inb_S256x256_S128x64_0_192 x,
    fun x => pair_piece 1 2 (dq_1 H t 2 inb_S256x256_S128x64_0_128 inb_S256x256_S128x64_128_128) inb_S256x256_S128x64_128_128 x,
    fun x => pair_piece 0 2 (dq_0 H t 2 inb_S256x256_S128x64_0_128 inb_S128x256_S128x64_0_128) inb_S256x256_S128x64_0_128 x,
    fun x => pair_piece 1 1 (dq_1 H t 1 inb_S256x256_S128x64_0_64 inb_S256x256_S128x64_128_64) inb_S256x256_S128x64_128_64 x,
    fun x => pair_piece 0 1 (dq_0 H t 1 inb_S256x256_S128x64_0_64 inb_S128x256_S128x64_0_64) inb_S256x256_S128x64_0_64 x,
    fun x => pair_piece 1 0 (dq_1 H t 0 inb_S256x256_S128x64_0_0 inb_S256x256_S128x64_128_0) inb_S256x256_S128x64_128_0 x,
    fun x => pair_piece 0 0 (dq_0 H t 0 inb_S256x256_S128x64_0_0 inb_S128x256_S128x64_0_0) inb_S256x256_S128x64_0_0 x, trivial⟩

set_option maxHeartbeats 1000000 in
/-- The keys' gradient after a point (first). -/
theorem leftA1 (t : Fin cfg0.N) (h0 : t.val % 16 = 0) :
    VO0_8.read (Elt Ideal) (VO0_8.writes (Elt Ideal) VO0_8.junk (runA m c t h0).2.1) = pairArr (gradK 32 (colsFrom 0 Q) (colsFrom 0 K) (colsFrom 1536 W) (colsFrom 0 O) (colsFrom 0 L)) t.val := by
  have hc := coverA1 m c t h0
  rw [View.read_writes_eq_canon _ _ _ hc]
  rw [piecesA1] at hc ⊢
  funext y
  refine View.canon_apply_of_pieces (pairArr (gradK 32 (colsFrom 0 Q) (colsFrom 0 K) (colsFrom 1536 W) (colsFrom 0 O) (colsFrom 0 L)) t.val) _ (View.PiecesOf.mem ?_) y (hc y)
  exact ⟨fun x => pair_piece 1 3 (dk_sum_1 H t 3 inb_S256x256_S128x64_0_192 inb_S256x256_S128x64_128_192 (fun _ => Scalar.ofBits .f32 0x00000000#32) (carry_first _ t h0 3)) inb_S256x256_S128x64_128_192 x,
    fun x => pair_piece 0 3 (dk_sum_0 H t 3 inb_S256x256_S128x64_0_192 inb_S256x256_S128x64_128_192 inb_S128x256_S128x64_0_192) inb_S256x256_S128x64_0_192 x,
    fun x => pair_piece 1 2 (dk_sum_1 H t 2 inb_S256x256_S128x64_0_128 inb_S256x256_S128x64_128_128 (fun _ => Scalar.ofBits .f32 0x00000000#32) (carry_first _ t h0 2)) inb_S256x256_S128x64_128_128 x,
    fun x => pair_piece 0 2 (dk_sum_0 H t 2 inb_S256x256_S128x64_0_128 inb_S256x256_S128x64_128_128 inb_S128x256_S128x64_0_128) inb_S256x256_S128x64_0_128 x,
    fun x => pair_piece 1 1 (dk_sum_1 H t 1 inb_S256x256_S128x64_0_64 inb_S256x256_S128x64_128_64 (fun _ => Scalar.ofBits .f32 0x00000000#32) (carry_first _ t h0 1)) inb_S256x256_S128x64_128_64 x,
    fun x => pair_piece 0 1 (dk_sum_0 H t 1 inb_S256x256_S128x64_0_64 inb_S256x256_S128x64_128_64 inb_S128x256_S128x64_0_64) inb_S256x256_S128x64_0_64 x,
    fun x => pair_piece 1 0 (dk_sum_1 H t 0 inb_S256x256_S128x64_0_0 inb_S256x256_S128x64_128_0 (fun _ => Scalar.ofBits .f32 0x00000000#32) (carry_first _ t h0 0)) inb_S256x256_S128x64_128_0 x,
    fun x => pair_piece 0 0 (dk_sum_0 H t 0 inb_S256x256_S128x64_0_0 inb_S256x256_S128x64_128_0 inb_S128x256_S128x64_0_0) inb_S256x256_S128x64_0_0 x, trivial⟩

set_option maxHeartbeats 1000000 in
/-- The values' gradient after a point (first). -/
theorem leftA2 (t : Fin cfg0.N) (h0 : t.val % 16 = 0) :
    VO0_9.read (Elt Ideal) (VO0_9.writes (Elt Ideal) VO0_9.junk (runA m c t h0).2.2.1) = pairArr (gradV 32 (colsFrom 0 Q) (colsFrom 0 K) (colsFrom 0 O)) t.val := by
  have hc := coverA2 m c t h0
  rw [View.read_writes_eq_canon _ _ _ hc]
  rw [piecesA2] at hc ⊢
  funext y
  refine View.canon_apply_of_pieces (pairArr (gradV 32 (colsFrom 0 Q) (colsFrom 0 K) (colsFrom 0 O)) t.val) _ (View.PiecesOf.mem ?_) y (hc y)
  exact ⟨fun x => pair_piece 1 3 (dv_sum_1 H t 3 inb_S256x256_S128x64_0_192 inb_S256x256_S128x64_128_192 (fun _ => Scalar.ofBits .f32 0x00000000#32) (carry_first _ t h0 3)) inb_S256x256_S128x64_128_192 x,
    fun x => pair_piece 0 3 (dv_sum_0 H t 3 inb_S256x256_S128x64_0_192 inb_S256x256_S128x64_128_192 inb_S128x256_S128x64_0_192) inb_S256x256_S128x64_0_192 x,
    fun x => pair_piece 1 2 (dv_sum_1 H t 2 inb_S256x256_S128x64_0_128 inb_S256x256_S128x64_128_128 (fun _ => Scalar.ofBits .f32 0x00000000#32) (carry_first _ t h0 2)) inb_S256x256_S128x64_128_128 x,
    fun x => pair_piece 0 2 (dv_sum_0 H t 2 inb_S256x256_S128x64_0_128 inb_S256x256_S128x64_128_128 inb_S128x256_S128x64_0_128) inb_S256x256_S128x64_0_128 x,
    fun x => pair_piece 1 1 (dv_sum_1 H t 1 inb_S256x256_S128x64_0_64 inb_S256x256_S128x64_128_64 (fun _ => Scalar.ofBits .f32 0x00000000#32) (carry_first _ t h0 1)) inb_S256x256_S128x64_128_64 x,
    fun x => pair_piece 0 1 (dv_sum_0 H t 1 inb_S256x256_S128x64_0_64 inb_S256x256_S128x64_128_64 inb_S128x256_S128x64_0_64) inb_S256x256_S128x64_0_64 x,
    fun x => pair_piece 1 0 (dv_sum_1 H t 0 inb_S256x256_S128x64_0_0 inb_S256x256_S128x64_128_0 (fun _ => Scalar.ofBits .f32 0x00000000#32) (carry_first _ t h0 0)) inb_S256x256_S128x64_128_0 x,
    fun x => pair_piece 0 0 (dv_sum_0 H t 0 inb_S256x256_S128x64_0_0 inb_S256x256_S128x64_128_0 inb_S128x256_S128x64_0_0) inb_S256x256_S128x64_0_0 x, trivial⟩

set_option maxHeartbeats 1000000 in
/-- The carried keys' gradient after a point (first). -/
theorem leftA3 (t : Fin cfg0.N) (h0 : t.val % 16 = 0) :
    VS0_0.read (Elt Ideal) (VS0_0.writes (Elt Ideal) VS0_0.junk (runA m c t h0).2.2.2.1) = carryArr (keyPrev 32 (colsFrom 0 Q) (colsFrom 0 K) (colsFrom 1536 W) (colsFrom 0 O) (colsFrom 0 L)) t.val := by
  have hc := coverA3 m c t h0
  rw [View.read_writes_eq_canon _ _ _ hc]
  rw [piecesA3] at hc ⊢
  funext y
  refine View.canon_append_of_piecesOf (Val := Elt Ideal) (s := S128x256) (e := .f32) (carryArr (keyPrev 32 (colsFrom 0 Q) (colsFrom 0 K) (colsFrom 1536 W) (colsFrom 0 O) (colsFrom 0 L)) t.val) [_] [_, _, _, _] ?_ y ?_
  · exact ⟨fun x => (congrFun (recast _ _) x).trans (carry_piece 3 (dkp_0 H t 3 inb_S256x256_S128x64_0_192 inb_S128x256_S128x64_0_192) inb_S128x256_S128x64_0_192 x),
    fun x => (congrFun (recast _ _) x).trans (carry_piece 2 (dkp_0 H t 2 inb_S256x256_S128x64_0_128 inb_S128x256_S128x64_0_128) inb_S128x256_S128x64_0_128 x),
    fun x => (congrFun (recast _ _) x).trans (carry_piece 1 (dkp_0 H t 1 inb_S256x256_S128x64_0_64 inb_S128x256_S128x64_0_64) inb_S128x256_S128x64_0_64 x),
    fun x => (congrFun (recast _ _) x).trans (carry_piece 0 (dkp_0 H t 0 inb_S256x256_S128x64_0_0 inb_S128x256_S128x64_0_0) inb_S128x256_S128x64_0_0 x), trivial⟩
  · exact View.cover_of_tiledL (s := S128x256) _ S128x64.size (by sl_kernel_rfl) y

set_option maxHeartbeats 1000000 in
/-- The carried values' gradient after a point (first). -/
theorem leftA4 (t : Fin cfg0.N) (h0 : t.val % 16 = 0) :
    VS0_1.read (Elt Ideal) (VS0_1.writes (Elt Ideal) VS0_1.junk (runA m c t h0).2.2.2.2.1) = carryArr (valPrev 32 (colsFrom 0 Q) (colsFrom 0 K) (colsFrom 0 O)) t.val := by
  have hc := coverA4 m c t h0
  rw [View.read_writes_eq_canon _ _ _ hc]
  rw [piecesA4] at hc ⊢
  funext y
  refine View.canon_append_of_piecesOf (Val := Elt Ideal) (s := S128x256) (e := .f32) (carryArr (valPrev 32 (colsFrom 0 Q) (colsFrom 0 K) (colsFrom 0 O)) t.val) [_] [_, _, _, _] ?_ y ?_
  · exact ⟨fun x => (congrFun (recast _ _) x).trans (carry_piece 3 (dvp_0 H t 3 inb_S256x256_S128x64_0_192 inb_S128x256_S128x64_0_192) inb_S128x256_S128x64_0_192 x),
    fun x => (congrFun (recast _ _) x).trans (carry_piece 2 (dvp_0 H t 2 inb_S256x256_S128x64_0_128 inb_S128x256_S128x64_0_128) inb_S128x256_S128x64_0_128 x),
    fun x => (congrFun (recast _ _) x).trans (carry_piece 1 (dvp_0 H t 1 inb_S256x256_S128x64_0_64 inb_S128x256_S128x64_0_64) inb_S128x256_S128x64_0_64 x),
    fun x => (congrFun (recast _ _) x).trans (carry_piece 0 (dvp_0 H t 0 inb_S256x256_S128x64_0_0 inb_S128x256_S128x64_0_0) inb_S128x256_S128x64_0_0 x), trivial⟩
  · exact View.cover_of_tiledL (s := S128x256) _ S128x64.size (by sl_kernel_rfl) y

set_option maxHeartbeats 1000000 in
/-- The queries' gradient after a point (later). -/
theorem leftB0 (t : Fin cfg0.N) (h0 : ¬t.val % 16 = 0) (s0 s1 : Vec Ideal S128x256 .f32) :
    VO0_7.read (Elt Ideal) (VO0_7.writes (Elt Ideal) VO0_7.junk (runB m c t h0 s0 s1).1) = pairArr (gradQ 32 (colsFrom 0 Q) (colsFrom 0 K) (colsFrom 1536 W) (colsFrom 0 O) (colsFrom 0 L)) t.val := by
  have hc := coverB0 m c t h0 s0 s1
  rw [View.read_writes_eq_canon _ _ _ hc]
  rw [piecesB0] at hc ⊢
  funext y
  refine View.canon_apply_of_pieces (pairArr (gradQ 32 (colsFrom 0 Q) (colsFrom 0 K) (colsFrom 1536 W) (colsFrom 0 O) (colsFrom 0 L)) t.val) _ (View.PiecesOf.mem ?_) y (hc y)
  exact ⟨fun x => pair_piece 1 3 (dq_1 H t 3 inb_S256x256_S128x64_0_192 inb_S256x256_S128x64_128_192) inb_S256x256_S128x64_128_192 x,
    fun x => pair_piece 0 3 (dq_0 H t 3 inb_S256x256_S128x64_0_192 inb_S128x256_S128x64_0_192) inb_S256x256_S128x64_0_192 x,
    fun x => pair_piece 1 2 (dq_1 H t 2 inb_S256x256_S128x64_0_128 inb_S256x256_S128x64_128_128) inb_S256x256_S128x64_128_128 x,
    fun x => pair_piece 0 2 (dq_0 H t 2 inb_S256x256_S128x64_0_128 inb_S128x256_S128x64_0_128) inb_S256x256_S128x64_0_128 x,
    fun x => pair_piece 1 1 (dq_1 H t 1 inb_S256x256_S128x64_0_64 inb_S256x256_S128x64_128_64) inb_S256x256_S128x64_128_64 x,
    fun x => pair_piece 0 1 (dq_0 H t 1 inb_S256x256_S128x64_0_64 inb_S128x256_S128x64_0_64) inb_S256x256_S128x64_0_64 x,
    fun x => pair_piece 1 0 (dq_1 H t 0 inb_S256x256_S128x64_0_0 inb_S256x256_S128x64_128_0) inb_S256x256_S128x64_128_0 x,
    fun x => pair_piece 0 0 (dq_0 H t 0 inb_S256x256_S128x64_0_0 inb_S128x256_S128x64_0_0) inb_S256x256_S128x64_0_0 x, trivial⟩

set_option maxHeartbeats 1000000 in
/-- The keys' gradient after a point (later). -/
theorem leftB1 (t : Fin cfg0.N) (h0 : ¬t.val % 16 = 0) (s0 s1 : Vec Ideal S128x256 .f32)
    (hs : s0 = carryArr (keyPrev 32 (colsFrom 0 Q) (colsFrom 0 K) (colsFrom 1536 W) (colsFrom 0 O) (colsFrom 0 L)) (t.val - 1)) :
    VO0_8.read (Elt Ideal) (VO0_8.writes (Elt Ideal) VO0_8.junk (runB m c t h0 s0 s1).2.1) = pairArr (gradK 32 (colsFrom 0 Q) (colsFrom 0 K) (colsFrom 1536 W) (colsFrom 0 O) (colsFrom 0 L)) t.val := by
  have hc := coverB1 m c t h0 s0 s1
  rw [View.read_writes_eq_canon _ _ _ hc]
  rw [piecesB1] at hc ⊢
  funext y
  refine View.canon_apply_of_pieces (pairArr (gradK 32 (colsFrom 0 Q) (colsFrom 0 K) (colsFrom 1536 W) (colsFrom 0 O) (colsFrom 0 L)) t.val) _ (View.PiecesOf.mem ?_) y (hc y)
  exact ⟨fun x => pair_piece 1 3 (dk_sum_1 H t 3 inb_S256x256_S128x64_0_192 inb_S256x256_S128x64_128_192 _ (carry_later _ t h0 3 s0 hs inb_S128x256_S128x64_0_192)) inb_S256x256_S128x64_128_192 x,
    fun x => pair_piece 0 3 (dk_sum_0 H t 3 inb_S256x256_S128x64_0_192 inb_S256x256_S128x64_128_192 inb_S128x256_S128x64_0_192) inb_S256x256_S128x64_0_192 x,
    fun x => pair_piece 1 2 (dk_sum_1 H t 2 inb_S256x256_S128x64_0_128 inb_S256x256_S128x64_128_128 _ (carry_later _ t h0 2 s0 hs inb_S128x256_S128x64_0_128)) inb_S256x256_S128x64_128_128 x,
    fun x => pair_piece 0 2 (dk_sum_0 H t 2 inb_S256x256_S128x64_0_128 inb_S256x256_S128x64_128_128 inb_S128x256_S128x64_0_128) inb_S256x256_S128x64_0_128 x,
    fun x => pair_piece 1 1 (dk_sum_1 H t 1 inb_S256x256_S128x64_0_64 inb_S256x256_S128x64_128_64 _ (carry_later _ t h0 1 s0 hs inb_S128x256_S128x64_0_64)) inb_S256x256_S128x64_128_64 x,
    fun x => pair_piece 0 1 (dk_sum_0 H t 1 inb_S256x256_S128x64_0_64 inb_S256x256_S128x64_128_64 inb_S128x256_S128x64_0_64) inb_S256x256_S128x64_0_64 x,
    fun x => pair_piece 1 0 (dk_sum_1 H t 0 inb_S256x256_S128x64_0_0 inb_S256x256_S128x64_128_0 _ (carry_later _ t h0 0 s0 hs inb_S128x256_S128x64_0_0)) inb_S256x256_S128x64_128_0 x,
    fun x => pair_piece 0 0 (dk_sum_0 H t 0 inb_S256x256_S128x64_0_0 inb_S256x256_S128x64_128_0 inb_S128x256_S128x64_0_0) inb_S256x256_S128x64_0_0 x, trivial⟩

set_option maxHeartbeats 1000000 in
/-- The values' gradient after a point (later). -/
theorem leftB2 (t : Fin cfg0.N) (h0 : ¬t.val % 16 = 0) (s0 s1 : Vec Ideal S128x256 .f32)
    (hs : s1 = carryArr (valPrev 32 (colsFrom 0 Q) (colsFrom 0 K) (colsFrom 0 O)) (t.val - 1)) :
    VO0_9.read (Elt Ideal) (VO0_9.writes (Elt Ideal) VO0_9.junk (runB m c t h0 s0 s1).2.2.1) = pairArr (gradV 32 (colsFrom 0 Q) (colsFrom 0 K) (colsFrom 0 O)) t.val := by
  have hc := coverB2 m c t h0 s0 s1
  rw [View.read_writes_eq_canon _ _ _ hc]
  rw [piecesB2] at hc ⊢
  funext y
  refine View.canon_apply_of_pieces (pairArr (gradV 32 (colsFrom 0 Q) (colsFrom 0 K) (colsFrom 0 O)) t.val) _ (View.PiecesOf.mem ?_) y (hc y)
  exact ⟨fun x => pair_piece 1 3 (dv_sum_1 H t 3 inb_S256x256_S128x64_0_192 inb_S256x256_S128x64_128_192 _ (carry_later _ t h0 3 s1 hs inb_S128x256_S128x64_0_192)) inb_S256x256_S128x64_128_192 x,
    fun x => pair_piece 0 3 (dv_sum_0 H t 3 inb_S256x256_S128x64_0_192 inb_S256x256_S128x64_128_192 inb_S128x256_S128x64_0_192) inb_S256x256_S128x64_0_192 x,
    fun x => pair_piece 1 2 (dv_sum_1 H t 2 inb_S256x256_S128x64_0_128 inb_S256x256_S128x64_128_128 _ (carry_later _ t h0 2 s1 hs inb_S128x256_S128x64_0_128)) inb_S256x256_S128x64_128_128 x,
    fun x => pair_piece 0 2 (dv_sum_0 H t 2 inb_S256x256_S128x64_0_128 inb_S256x256_S128x64_128_128 inb_S128x256_S128x64_0_128) inb_S256x256_S128x64_0_128 x,
    fun x => pair_piece 1 1 (dv_sum_1 H t 1 inb_S256x256_S128x64_0_64 inb_S256x256_S128x64_128_64 _ (carry_later _ t h0 1 s1 hs inb_S128x256_S128x64_0_64)) inb_S256x256_S128x64_128_64 x,
    fun x => pair_piece 0 1 (dv_sum_0 H t 1 inb_S256x256_S128x64_0_64 inb_S256x256_S128x64_128_64 inb_S128x256_S128x64_0_64) inb_S256x256_S128x64_0_64 x,
    fun x => pair_piece 1 0 (dv_sum_1 H t 0 inb_S256x256_S128x64_0_0 inb_S256x256_S128x64_128_0 _ (carry_later _ t h0 0 s1 hs inb_S128x256_S128x64_0_0)) inb_S256x256_S128x64_128_0 x,
    fun x => pair_piece 0 0 (dv_sum_0 H t 0 inb_S256x256_S128x64_0_0 inb_S256x256_S128x64_128_0 inb_S128x256_S128x64_0_0) inb_S256x256_S128x64_0_0 x, trivial⟩

set_option maxHeartbeats 1000000 in
/-- The carried keys' gradient after a point (later). -/
theorem leftB3 (t : Fin cfg0.N) (h0 : ¬t.val % 16 = 0) (s0 s1 : Vec Ideal S128x256 .f32) :
    VS0_0.read (Elt Ideal) (VS0_0.writes (Elt Ideal) VS0_0.junk (runB m c t h0 s0 s1).2.2.2.1) = carryArr (keyPrev 32 (colsFrom 0 Q) (colsFrom 0 K) (colsFrom 1536 W) (colsFrom 0 O) (colsFrom 0 L)) t.val := by
  have hc := coverB3 m c t h0 s0 s1
  rw [View.read_writes_eq_canon _ _ _ hc]
  rw [piecesB3] at hc ⊢
  funext y
  refine View.canon_apply_of_pieces (carryArr (keyPrev 32 (colsFrom 0 Q) (colsFrom 0 K) (colsFrom 1536 W) (colsFrom 0 O) (colsFrom 0 L)) t.val) _ (View.PiecesOf.mem ?_) y (hc y)
  exact ⟨fun x => (congrFun (recast _ _) x).trans (carry_piece 3 (dkp_0 H t 3 inb_S256x256_S128x64_0_192 inb_S128x256_S128x64_0_192) inb_S128x256_S128x64_0_192 x),
    fun x => (congrFun (recast _ _) x).trans (carry_piece 2 (dkp_0 H t 2 inb_S256x256_S128x64_0_128 inb_S128x256_S128x64_0_128) inb_S128x256_S128x64_0_128 x),
    fun x => (congrFun (recast _ _) x).trans (carry_piece 1 (dkp_0 H t 1 inb_S256x256_S128x64_0_64 inb_S128x256_S128x64_0_64) inb_S128x256_S128x64_0_64 x),
    fun x => (congrFun (recast _ _) x).trans (carry_piece 0 (dkp_0 H t 0 inb_S256x256_S128x64_0_0 inb_S128x256_S128x64_0_0) inb_S128x256_S128x64_0_0 x), trivial⟩

set_option maxHeartbeats 1000000 in
/-- The carried values' gradient after a point (later). -/
theorem leftB4 (t : Fin cfg0.N) (h0 : ¬t.val % 16 = 0) (s0 s1 : Vec Ideal S128x256 .f32) :
    VS0_1.read (Elt Ideal) (VS0_1.writes (Elt Ideal) VS0_1.junk (runB m c t h0 s0 s1).2.2.2.2.1) = carryArr (valPrev 32 (colsFrom 0 Q) (colsFrom 0 K) (colsFrom 0 O)) t.val := by
  have hc := coverB4 m c t h0 s0 s1
  rw [View.read_writes_eq_canon _ _ _ hc]
  rw [piecesB4] at hc ⊢
  funext y
  refine View.canon_apply_of_pieces (carryArr (valPrev 32 (colsFrom 0 Q) (colsFrom 0 K) (colsFrom 0 O)) t.val) _ (View.PiecesOf.mem ?_) y (hc y)
  exact ⟨fun x => (congrFun (recast _ _) x).trans (carry_piece 3 (dvp_0 H t 3 inb_S256x256_S128x64_0_192 inb_S128x256_S128x64_0_192) inb_S128x256_S128x64_0_192 x),
    fun x => (congrFun (recast _ _) x).trans (carry_piece 2 (dvp_0 H t 2 inb_S256x256_S128x64_0_128 inb_S128x256_S128x64_0_128) inb_S128x256_S128x64_0_128 x),
    fun x => (congrFun (recast _ _) x).trans (carry_piece 1 (dvp_0 H t 1 inb_S256x256_S128x64_0_64 inb_S128x256_S128x64_0_64) inb_S128x256_S128x64_0_64 x),
    fun x => (congrFun (recast _ _) x).trans (carry_piece 0 (dvp_0 H t 0 inb_S256x256_S128x64_0_0 inb_S128x256_S128x64_0_0) inb_S128x256_S128x64_0_0 x), trivial⟩

/-- The carried keys' gradient after every point. -/
theorem carried3 (t : Fin cfg0.N) : (res m c t.val t.isLt).2.2.2.1 = carryArr (keyPrev 32 (colsFrom 0 Q) (colsFrom 0 K) (colsFrom 1536 W) (colsFrom 0 O) (colsFrom 0 L)) t.val := by
  by_cases h0 : t.val % 16 = 0
  · rw [res_A m c t h0]; exact leftA3 H t h0
  · rw [res_B m c t h0]; exact leftB3 H t h0 (res m c (t.val - 1) (Nat.lt_of_le_of_lt (Nat.sub_le _ _) t.isLt)).2.2.2.1 (res m c (t.val - 1) (Nat.lt_of_le_of_lt (Nat.sub_le _ _) t.isLt)).2.2.2.2

/-- The carried values' gradient after every point. -/
theorem carried4 (t : Fin cfg0.N) : (res m c t.val t.isLt).2.2.2.2 = carryArr (valPrev 32 (colsFrom 0 Q) (colsFrom 0 K) (colsFrom 0 O)) t.val := by
  by_cases h0 : t.val % 16 = 0
  · rw [res_A m c t h0]; exact leftA4 H t h0
  · rw [res_B m c t h0]; exact leftB4 H t h0 (res m c (t.val - 1) (Nat.lt_of_le_of_lt (Nat.sub_le _ _) t.isLt)).2.2.2.1 (res m c (t.val - 1) (Nat.lt_of_le_of_lt (Nat.sub_le _ _) t.isLt)).2.2.2.2

/-- The queries' gradient after every point. -/
theorem stored0 (t : Fin cfg0.N) : (res m c t.val t.isLt).1 = pairArr (gradQ 32 (colsFrom 0 Q) (colsFrom 0 K) (colsFrom 1536 W) (colsFrom 0 O) (colsFrom 0 L)) t.val := by
  by_cases h0 : t.val % 16 = 0
  · rw [res_A m c t h0]; exact leftA0 H t h0
  · rw [res_B m c t h0]; exact leftB0 H t h0 (res m c (t.val - 1) (Nat.lt_of_le_of_lt (Nat.sub_le _ _) t.isLt)).2.2.2.1 (res m c (t.val - 1) (Nat.lt_of_le_of_lt (Nat.sub_le _ _) t.isLt)).2.2.2.2

/-- The result array of the queries' gradient. -/
theorem array0 : (dats m 0 c).arrAt 7 cfg0.N = fun y => ((flat (gradQ 32 (colsFrom 0 Q) (colsFrom 0 K) (colsFrom 1536 W) (colsFrom 0 O) (colsFrom 0 L)) (y 0).val (y 1).val : ℝ) : EReal) := by
  refine (dats m 0 c).arrAt_eq_of_covers 7 _ (by decide +kernel) fun t hf y => ?_
  have e : (dats m 0 c).flushed 7 t y = pairArr (gradQ 32 (colsFrom 0 Q) (colsFrom 0 K) (colsFrom 1536 W) (colsFrom 0 O) (colsFrom 0 L)) t.val y := by
    rw [← stored0 H t]
    show (cfg0.win 7).cut (grid0.coords t) ((dats m 0 c).after 7 t) y = _
    rw [after0_7]
  refine e.trans ?_
  unfold pairArr
  refine congrArg Real.toEReal (congrArg₂ (flat _) ?_ ?_)
  · blk_simp [index_pair t]; exact congrArg (· + _) (Nat.mul_comm _ _)
  · blk_simp [index_pair t]

/-- The keys' gradient after every point. -/
theorem stored1 (t : Fin cfg0.N) : (res m c t.val t.isLt).2.1 = pairArr (gradK 32 (colsFrom 0 Q) (colsFrom 0 K) (colsFrom 1536 W) (colsFrom 0 O) (colsFrom 0 L)) t.val := by
  by_cases h0 : t.val % 16 = 0
  · rw [res_A m c t h0]; exact leftA1 H t h0
  · rw [res_B m c t h0]; exact leftB1 H t h0 (res m c (t.val - 1) (Nat.lt_of_le_of_lt (Nat.sub_le _ _) t.isLt)).2.2.2.1 (res m c (t.val - 1) (Nat.lt_of_le_of_lt (Nat.sub_le _ _) t.isLt)).2.2.2.2 (carried3 H ⟨t.val - 1, Nat.lt_of_le_of_lt (Nat.sub_le _ _) t.isLt⟩)

/-- The result array of the keys' gradient. -/
theorem array1 : (dats m 0 c).arrAt 8 cfg0.N = fun y => ((flat (gradK 32 (colsFrom 0 Q) (colsFrom 0 K) (colsFrom 1536 W) (colsFrom 0 O) (colsFrom 0 L)) (y 0).val (y 1).val : ℝ) : EReal) := by
  refine (dats m 0 c).arrAt_eq_of_covers 8 _ (by decide +kernel) fun t hf y => ?_
  have e : (dats m 0 c).flushed 8 t y = pairArr (gradK 32 (colsFrom 0 Q) (colsFrom 0 K) (colsFrom 1536 W) (colsFrom 0 O) (colsFrom 0 L)) t.val y := by
    rw [← stored1 H t]
    show (cfg0.win 8).cut (grid0.coords t) ((dats m 0 c).after 8 t) y = _
    rw [after0_8]
  refine e.trans ?_
  unfold pairArr
  refine congrArg Real.toEReal (congrArg₂ (flat _) ?_ ?_)
  · blk_simp [index_pair t]; exact congrArg (· + _) (Nat.mul_comm _ _)
  · blk_simp [index_pair t]

/-- The values' gradient after every point. -/
theorem stored2 (t : Fin cfg0.N) : (res m c t.val t.isLt).2.2.1 = pairArr (gradV 32 (colsFrom 0 Q) (colsFrom 0 K) (colsFrom 0 O)) t.val := by
  by_cases h0 : t.val % 16 = 0
  · rw [res_A m c t h0]; exact leftA2 H t h0
  · rw [res_B m c t h0]; exact leftB2 H t h0 (res m c (t.val - 1) (Nat.lt_of_le_of_lt (Nat.sub_le _ _) t.isLt)).2.2.2.1 (res m c (t.val - 1) (Nat.lt_of_le_of_lt (Nat.sub_le _ _) t.isLt)).2.2.2.2 (carried4 H ⟨t.val - 1, Nat.lt_of_le_of_lt (Nat.sub_le _ _) t.isLt⟩)

/-- The result array of the values' gradient. -/
theorem array2 : (dats m 0 c).arrAt 9 cfg0.N = fun y => ((flat (gradV 32 (colsFrom 0 Q) (colsFrom 0 K) (colsFrom 0 O)) (y 0).val (y 1).val : ℝ) : EReal) := by
  refine (dats m 0 c).arrAt_eq_of_covers 9 _ (by decide +kernel) fun t hf y => ?_
  have e : (dats m 0 c).flushed 9 t y = pairArr (gradV 32 (colsFrom 0 Q) (colsFrom 0 K) (colsFrom 0 O)) t.val y := by
    rw [← stored2 H t]
    show (cfg0.win 9).cut (grid0.coords t) ((dats m 0 c).after 9 t) y = _
    rw [after0_9]
  refine e.trans ?_
  unfold pairArr
  refine congrArg Real.toEReal (congrArg₂ (flat _) ?_ ?_)
  · blk_simp [index_pair t]; exact congrArg (· + _) (Nat.mul_comm _ _)
  · blk_simp [index_pair t]

end

/-- The run of the program: the three gradients in the result arrays, the arguments unchanged. -/
theorem run_values {Q K W O L : Dev nD → ℕ → ℕ → ℝ} (H : ∀ c, Reals m c (Q c) (K c) (W c) (O c) (L c)) :
    θ_run defs (onTc (τ := τ) (main (F := Ideal))) ⟨m, fun _ => 0, ρ⟩ fun r => ∀ c : Dev nD,
      r.2.mem ((c : Thread nD τ).loc main_v0_0) = (fun y => ((flat (gradQ 32 (colsFrom 0 (Q c)) (colsFrom 0 (K c)) (colsFrom 1536 (W c)) (colsFrom 0 (O c)) (colsFrom 0 (L c))) (y 0).val (y 1).val : ℝ) : EReal))
      ∧ r.2.mem ((c : Thread nD τ).loc main_v0_1) = (fun y => ((flat (gradK 32 (colsFrom 0 (Q c)) (colsFrom 0 (K c)) (colsFrom 1536 (W c)) (colsFrom 0 (O c)) (colsFrom 0 (L c))) (y 0).val (y 1).val : ℝ) : EReal))
      ∧ r.2.mem ((c : Thread nD τ).loc main_v0_2) = (fun y => ((flat (gradV 32 (colsFrom 0 (Q c)) (colsFrom 0 (K c)) (colsFrom 0 (O c))) (y 0).val (y 1).val : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨((h c).1 7).trans (array0 (H c)), ((h c).1 8).trans (array1 (H c)), ((h c).1 9).trans (array2 (H c)),
    ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 3).trans (((dats m 0 c).arrAt_in 3 rfl _).trans ((A_eq m c 3).trans (V_main_arg2 m c))),
    ((h c).1 5).trans (((dats m 0 c).arrAt_in 5 rfl _).trans ((A_eq m c 5).trans (V_main_arg3 m c))), ((h c).1 6).trans (((dats m 0 c).arrAt_in 6 rfl _).trans ((A_eq m c 6).trans (V_main_arg4 m c)))⟩) (run_main m ρ)

end Cert.KernelIdeal.Hand
-- ==== Proof.Window.lean ====
/- The 256 keys that a block of 128 query rows is held against, as the reference lays them out: the 128 rows before
the block, zeros before the first block, then the block's own rows. What the rows before the first block hold does
not matter, for no row sees them. Also three of the reference's sums, read at an index. -/
module

public import proofs.«01_k».proof.Proof.Spec
public import proofs.«01_k».proof.Proof.Gen.ReferenceIdeal
public import Idealize.ShloMosaic.Lib.Pointwise

@[expose] public section

set_option maxRecDepth 16384

noncomputable section

namespace Cert.Attn

open Idealize.ShloMosaic

/-- Key `k`'s place among the 256. -/
def place : Keys ≃ Fin 256 := finSumFinEquiv (m := 128) (n := 128)

theorem place_inl (k : Fin 128) : place (.inl k) = ⟨k.val, by omega⟩ := rfl
theorem place_inr (k : Fin 128) : place (.inr k) = ⟨128 + k.val, by omega⟩ := rfl

theorem sum_place {M : Type} [AddCommMonoid M] (f : Fin 256 → M) : ∑ k, f k = ∑ k, f (place k) :=
  (Equiv.sum_comp place f).symm

/-- The rows before block `i` and its own rows. -/
def win (X : ℕ → ℕ → ℝ) (i n : ℕ) : Keys → Fin 64 → ℝ :=
  Sum.elim (fun k d => if i = 0 then 0 else blk X (i - 1) n k d) (fun k d => blk X i n k d)

/-- The products of row `a` with the rows of the window. -/
def wdots (X Y : ℕ → ℕ → ℝ) (i n : ℕ) (a : Fin 128) (k : Keys) : ℝ := ∑ d, blk X i n a d * win Y i n k d

/-- On the keys seen they are the products with the two blocks. -/
theorem wdots_eq (X Y : ℕ → ℕ → ℝ) (i n : ℕ) (hi : i < 32) (a : Fin 128) (k : Keys) (h : seen (hasPrev 32 i) a k) :
    wdots X Y i n a k = dots (blk X i n) (blk Y (i - 1) n) (blk Y i n) a k := by
  rcases k with k | k
  · have h0 : i ≠ 0 := fun h0 => h.2 (by rw [h0])
    simp only [wdots, win, Sum.elim_inl, if_neg h0, dots]
  · rfl

theorem hasPrev_iff {i : ℕ} (hi : i < 32) : hasPrev 32 i ↔ i ≠ 0 := by
  unfold hasPrev; rw [Nat.mod_eq_of_lt hi]

theorem prob_congr {ι : Type} [Fintype ι] {ok : ι → Prop} {s s' : ι → ℝ} (h : ∀ k, ok k → s k = s' k) (k : ι) :
    prob ok s k = prob ok s' k := by
  have : wt ok s = wt ok s' := funext fun k => by
    unfold wt; split_ifs with hk
    · rw [h k hk]
    · rfl
  unfold prob; rw [this]

theorem prob_of_not {ι : Type} [Fintype ι] (ok : ι → Prop) (s : ι → ℝ) (k : ι) (h : ¬ok k) : prob ok s k = 0 := by
  unfold prob wt; rw [if_neg h, zero_div]

/-- The gradients depend only on what the keys seen hold. -/
theorem dprob_congr {ι : Type} [Fintype ι] {ok : ι → Prop} {s s' g g' : ι → ℝ} (l : ℝ) (h : ∀ k, ok k → s k = s' k)
    (hg : ∀ k, ok k → g k = g' k) (k : ι) : dprob ok s g l k = dprob ok s' g' l k := by
  have hp : prob ok s = prob ok s' := funext (prob_congr h)
  have hpg : ∀ j, prob ok s' j * g j = prob ok s' j * g' j := fun j => by
    by_cases hj : ok j
    · rw [hg j hj]
    · rw [prob_of_not ok s' j hj, zero_mul, zero_mul]
  unfold dprob
  rw [hp, Finset.sum_congr rfl fun j _ => hpg j, mul_add, mul_sub, hpg, mul_add, mul_sub]

section Sums
open Cert.ReferenceIdeal Cert.ReferenceIdeal.Facts₀

/-- The sum over a head's 64 columns. -/
theorem sum_cols (v : FVec Ideal S1x4096x4x64 .f32) (x : EReal) (r : Fin 4096) (n : Fin 4) :
    Ideal.hostReduceAdd reducesTo_S1x4096x4x64_S4096x4_d0_3 v x (ix2 r n) = x + ∑ d : Fin 64, v (ix4 0 r n d) := by
  unfold Ideal.hostReduceAdd
  congr 1
  refine Finset.sum_filter_eq_sum_of_fiber _ (fun d : Fin 64 => (ix4 0 r n d : S1x4096x4x64.Idx))
    (fun _ _ e => congrFun e 3) (fun i => ⟨fun e => ⟨i 3, ?_⟩, ?_⟩) v
  · funext a
    match a with
    | ⟨0, _⟩ => exact Subsingleton.elim (α := Fin 1) _ _
    | ⟨1, _⟩ => exact Fin.ext (congrArg Fin.val (congrFun e 0)).symm
    | ⟨2, _⟩ => exact Fin.ext (congrArg Fin.val (congrFun e 1)).symm
    | ⟨3, _⟩ => rfl
  · rintro ⟨d, rfl⟩
    funext b
    match b with
    | ⟨0, _⟩ => rfl
    | ⟨1, _⟩ => rfl

/-- A sum over axes of size one is its one entry. -/
theorem sum_unit (v : FVec Ideal S1x4096x4x1 .f32) (x : EReal) (r : Fin 4096) (n : Fin 4) :
    Ideal.hostReduceAdd reducesTo_S1x4096x4x1_S4096x4_d0_3 v x (ix2 r n) = x + v (ix4 0 r n 0) := by
  unfold Ideal.hostReduceAdd
  congr 1
  refine (Finset.sum_filter_eq_sum_of_fiber _ (fun d : Fin 1 => (ix4 0 r n d : S1x4096x4x1.Idx))
    (fun _ _ e => congrFun e 3) (fun i => ⟨fun e => ⟨i 3, ?_⟩, ?_⟩) v).trans (Fin.sum_univ_one _)
  · funext a
    match a with
    | ⟨0, _⟩ => exact Subsingleton.elim (α := Fin 1) _ _
    | ⟨1, _⟩ => exact Fin.ext (congrArg Fin.val (congrFun e 0)).symm
    | ⟨2, _⟩ => exact Fin.ext (congrArg Fin.val (congrFun e 1)).symm
    | ⟨3, _⟩ => rfl
  · rintro ⟨d, rfl⟩
    funext b
    match b with
    | ⟨0, _⟩ => rfl
    | ⟨1, _⟩ => rfl

/-- The same for the blocks' rows. -/
theorem sum_unit_rows (v : FVec Ideal S1x1x32x4x128x1 .f32) (x : EReal) (i : Fin 32) (n : Fin 4) (a : Fin 128) :
    Ideal.hostReduceAdd reducesTo_S1x1x32x4x128x1_S32x4x128_d0_1_5 v x (ix3 i n a) = x + v (ix6 0 0 i n a 0) := by
  unfold Ideal.hostReduceAdd
  congr 1
  refine (Finset.sum_filter_eq_sum_of_fiber _ (fun d : Fin 1 => (ix6 0 0 i n a d : S1x1x32x4x128x1.Idx))
    (fun _ _ e => congrFun e 5) (fun i => ⟨fun e => ⟨i 5, ?_⟩, ?_⟩) v).trans (Fin.sum_univ_one _)
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0)).symm
    | ⟨3, _⟩ => exact Fin.ext (congrArg Fin.val (congrFun e 1)).symm
    | ⟨4, _⟩ => exact Fin.ext (congrArg Fin.val (congrFun e 2)).symm
    | ⟨5, _⟩ => rfl
  · rintro ⟨d, rfl⟩
    funext b
    match b with
    | ⟨0, _⟩ => rfl
    | ⟨1, _⟩ => rfl
    | ⟨2, _⟩ => rfl

end Sums

/-! The reference's mask: three comparisons of positions. -/

theorem mask_prev (i : Fin 32) (a k : Fin 128) :
    IntOp.andi
      (IntOp.andi
        (IntOp.cmpi .sge (BitVec.ofNat 32 a.val + 128#32 - BitVec.ofNat 32 k.val) 0#32)
        (IntOp.cmpi .sle (BitVec.ofNat 32 a.val + 128#32 - BitVec.ofNat 32 k.val) 128#32))
      (IntOp.cmpi .sge (BitVec.ofNat 32 i.val * 128#32 + BitVec.ofNat 32 k.val - 128#32) 0#32) =
    BitVec.ofBool (decide (a ≤ k ∧ i ≠ 0)) := by
  have h1 : ∀ a k : Fin 128, IntOp.andi
        (IntOp.cmpi .sge (BitVec.ofNat 32 a.val + 128#32 - BitVec.ofNat 32 k.val) 0#32)
        (IntOp.cmpi .sle (BitVec.ofNat 32 a.val + 128#32 - BitVec.ofNat 32 k.val) 128#32) =
      BitVec.ofBool (decide (a ≤ k)) := by decide +kernel
  have h2 : ∀ (i : Fin 32) (k : Fin 128),
      IntOp.cmpi .sge (BitVec.ofNat 32 i.val * 128#32 + BitVec.ofNat 32 k.val - 128#32) 0#32 =
      BitVec.ofBool (decide (i ≠ 0)) := by decide +kernel
  rw [h1, h2, andi_ofBool, ← Bool.decide_and]

theorem mask_own (i : Fin 32) (a k : Fin 128) :
    IntOp.andi
      (IntOp.andi
        (IntOp.cmpi .sge (BitVec.ofNat 32 a.val + 128#32 - BitVec.ofNat 32 (128 + k.val)) 0#32)
        (IntOp.cmpi .sle (BitVec.ofNat 32 a.val + 128#32 - BitVec.ofNat 32 (128 + k.val)) 128#32))
      (IntOp.cmpi .sge (BitVec.ofNat 32 i.val * 128#32 + BitVec.ofNat 32 (128 + k.val) - 128#32) 0#32) =
    BitVec.ofBool (decide (k ≤ a)) := by
  have h1 : ∀ a k : Fin 128, IntOp.andi
        (IntOp.cmpi .sge (BitVec.ofNat 32 a.val + 128#32 - BitVec.ofNat 32 (128 + k.val)) 0#32)
        (IntOp.cmpi .sle (BitVec.ofNat 32 a.val + 128#32 - BitVec.ofNat 32 (128 + k.val)) 128#32) =
      BitVec.ofBool (decide (k ≤ a)) := by decide +kernel
  have h2 : ∀ (i : Fin 32) (k : Fin 128),
      IntOp.cmpi .sge (BitVec.ofNat 32 i.val * 128#32 + BitVec.ofNat 32 (128 + k.val) - 128#32) 0#32 = 1#1 := by
    decide +kernel
  rw [h1, h2]
  generalize decide (k ≤ a) = b
  decide +revert

end Cert.Attn
-- ==== Proof.ReferenceReads.lean ====
module

public import proofs.«01_k».proof.Proof.Gen.ReferenceIdeal.Run
public import proofs.«01_k».proof.Proof.Window
public import Idealize.ShloMosaic.Lib.Pointwise
public import Idealize.ShloMosaic.Lib.Tactic.CleanTypes

set_option maxRecDepth 16384

@[expose] public section

noncomputable section

namespace Cert.ReferenceIdeal.Hand

open Idealize Idealize.ShloMosaic Cert.Attn
open Cert.ReferenceIdeal Cert.ReferenceIdeal.Facts₀ Cert.ReferenceIdeal.Value

/-- The arguments hold reals. -/
structure Args (V0 : Valuation τ sig (Elt Ideal)) (Q K W O L : ℕ → ℕ → ℝ) : Prop where
  q : ∀ (r : Fin 4096) (d : Fin 768), V0 (Proc.devRef .tc main_arg0) (ix2 r d) = ((Q r d : ℝ) : EReal)
  k : ∀ (r : Fin 4096) (d : Fin 768), V0 (Proc.devRef .tc main_arg1) (ix2 r d) = ((K r d : ℝ) : EReal)
  v : ∀ (r : Fin 4096) (d : Fin 2304), V0 (Proc.devRef .tc main_arg2) (ix2 r d) = ((W r d : ℝ) : EReal)
  o : ∀ (r : Fin 4096) (d : Fin 256), V0 (Proc.devRef .tc main_arg3) (ix2 r d) = ((O r d : ℝ) : EReal)
  l : ∀ (r : Fin 4096) (d : Fin 256), V0 (Proc.devRef .tc main_arg4) (ix2 r d) = ((L r d : ℝ) : EReal)

/-- The columns of an array from `off` on. -/
def colsFrom (off : ℕ) (X : ℕ → ℕ → ℝ) (r d : ℕ) : ℝ := X r (off + d)

theorem keys_fiber (i : Fin 32) (n : Fin 4) (a : Fin 128) (y : S1x1x32x4x128x256.Idx) :
    reducesTo_S1x1x32x4x128x256_S1x1x32x4x128_d5.drop y = ix5 0 0 i n a ↔
      ∃ k : Fin 256, (ix6 0 0 i n a k : S1x1x32x4x128x256.Idx) = y := by
  constructor
  · refine fun e => ⟨y 5, ?_⟩
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e 2)).symm
    | ⟨3, _⟩ => exact Fin.ext (congrArg Fin.val (congrFun e 3)).symm
    | ⟨4, _⟩ => exact Fin.ext (congrArg Fin.val (congrFun e 4)).symm
    | ⟨5, _⟩ => rfl
  · rintro ⟨d, rfl⟩
    funext b
    match b with
    | ⟨0, _⟩ => rfl
    | ⟨1, _⟩ => rfl
    | ⟨2, _⟩ => rfl
    | ⟨3, _⟩ => rfl
    | ⟨4, _⟩ => rfl

/-- The sum over a row's keys. -/
theorem sum_keys (v : FVec Ideal S1x1x32x4x128x256 .f32) (x : EReal) (i : Fin 32) (n : Fin 4) (a : Fin 128) :
    Ideal.hostReduceAdd reducesTo_S1x1x32x4x128x256_S1x1x32x4x128_d5 v x (ix5 0 0 i n a) =
      x + ∑ k : Fin 256, v (ix6 0 0 i n a k) := by
  unfold Ideal.hostReduceAdd
  congr 1
  exact Finset.sum_filter_eq_sum_of_fiber _ (fun k : Fin 256 => (ix6 0 0 i n a k : S1x1x32x4x128x256.Idx))
    (fun _ _ e => congrFun e 5) (keys_fiber i n a) v

/-- The greatest over a row's keys. -/
theorem max_keys (v : S1x1x32x4x128x256.Idx → EReal) (i : Fin 32) (n : Fin 4) (a : Fin 128) :
    (Finset.univ.filter fun y => reducesTo_S1x1x32x4x128x256_S1x1x32x4x128_d5.drop y = ix5 0 0 i n a).fold max ⊥ v =
      fmax fun k => v (ix6 0 0 i n a k) :=
  Finset.fold_filter_eq_fold_of_fiber _ _ (fun k : Fin 256 => (ix6 0 0 i n a k : S1x1x32x4x128x256.Idx))
    (fun _ _ e => congrFun e 5) (keys_fiber i n a) ⊥ v

variable {V0 : Valuation τ sig (Elt Ideal)} {Q K W O L : ℕ → ℕ → ℝ}

/-- The query blocks. -/
theorem queries_at (H : Args V0 Q K W O L) (i : Fin 32) (a : Fin 128) (n : Fin 4) (d : Fin 64) :
    res_main_v10 (F := Ideal) V0 (ix6 0 0 i a n d) = ((blk Q i n a d : ℝ) : EReal) := by
  unfold res_main_v10
  clean_types
  pointwise
  rw [dif_pos (by omega), H.q]
  exact congrArg Real.toEReal (congrArg₂ Q (by simp only; omega) (by simp only; omega))

/-- The key blocks. -/
theorem keys_at (H : Args V0 Q K W O L) (i : Fin 32) (a : Fin 128) (n : Fin 4) (d : Fin 64) :
    res_main_v14 (F := Ideal) V0 (ix6 0 0 i a n d) = ((blk K i n a d : ℝ) : EReal) := by
  unfold res_main_v14
  clean_types
  pointwise
  rw [dif_pos (by omega), H.k]
  exact congrArg Real.toEReal (congrArg₂ K (by simp only; omega) (by simp only; omega))

/-- The value blocks: the third argument's columns from 1536 on. -/
theorem values_at (H : Args V0 Q K W O L) (i : Fin 32) (a : Fin 128) (n : Fin 4) (d : Fin 64) :
    res_main_v25 (F := Ideal) V0 (ix6 0 0 i a n d) = ((blk (colsFrom 1536 W) i n a d : ℝ) : EReal) := by
  unfold res_main_v25
  clean_types
  pointwise
  rw [dif_pos (by omega), H.v]
  exact congrArg Real.toEReal (congrArg₂ W (by simp only; omega) (by simp only; omega))

/-- The keys' windows. -/
theorem keyWin_at (H : Args V0 Q K W O L) (i : Fin 32) (k : Keys) (n : Fin 4) (d : Fin 64) :
    res_main_v21 (F := Ideal) V0 (ix6 0 0 i (place k) n d) = ((win K i n k d : ℝ) : EReal) := by
  rcases k with k | k
  · rw [place_inl]
    unfold res_main_v21 res_main_v17
    clean_types
    pointwise
    simp only [win, Sum.elim_inl]
    by_cases hi : i.val = 0
    · rw [dif_pos (by omega), if_pos hi, EReal.coe_zero]
    · rw [dif_neg (by omega), if_neg hi, keys_at H]
  · rw [place_inr]
    unfold res_main_v21 res_main_v17
    clean_types
    pointwise
    exact keys_at H i k n d

/-- The values' windows. -/
theorem valWin_at (H : Args V0 Q K W O L) (i : Fin 32) (k : Keys) (n : Fin 4) (d : Fin 64) :
    res_main_v32 (F := Ideal) V0 (ix6 0 0 i (place k) n d) = ((win (colsFrom 1536 W) i n k d : ℝ) : EReal) := by
  rcases k with k | k
  · rw [place_inl]
    unfold res_main_v32 res_main_v28
    clean_types
    pointwise
    simp only [win, Sum.elim_inl]
    by_cases hi : i.val = 0
    · rw [dif_pos (by omega), if_pos hi, EReal.coe_zero]
    · rw [dif_neg (by omega), if_neg hi, values_at H]
  · rw [place_inr]
    unfold res_main_v32 res_main_v28
    clean_types
    pointwise
    exact values_at H i k n d

/-- The output's gradient, transposed. -/
theorem dout_at (H : Args V0 Q K W O L) (i : Fin 32) (a : Fin 128) (n : Fin 4) (d : Fin 64) :
    res_main_v112 (F := Ideal) V0 (ix6 0 0 i n d a) = ((blk O i n a d : ℝ) : EReal) := by
  unfold res_main_v112
  clean_types
  pointwise
  rw [H.o]
  exact congrArg Real.toEReal (congrArg₂ O (by simp only; omega) (by simp only; omega))

/-- The log-sum-exp's gradient, summed over the columns it was spread over. -/
theorem dlse_at (H : Args V0 Q K W O L) (i : Fin 32) (a : Fin 128) (n : Fin 4) :
    res_main_v110 (F := Ideal) V0 (ix6 0 0 i n a 0) = ((∑ d, blk L i n a d : ℝ) : EReal) := by
  unfold res_main_v110
  clean_types
  pointwise
  rw [sum_unit, zero_add]
  pointwise
  rw [sum_cols, zero_add, ← coe_sum]
  refine Finset.sum_congr rfl fun d _ => ?_
  pointwise
  rw [H.l]
  exact congrArg Real.toEReal (congrArg₂ L (by simp only; omega) (by simp only; omega))

open Classical in
/-- The mask. -/
theorem mask_at (i : Fin 32) (n : Fin 4) (a : Fin 128) (k : Keys) :
    res_main_v65_1 (F := Ideal) V0 (ix6 0 0 i n a (place k)) = BitVec.ofBool (decide (seen (hasPrev 32 i) a k)) := by
  unfold res_main_v65_1 res_main_v42 res_main_v37
  clean_types
  pointwise
  rcases k with k | k
  · rw [place_inl]
    refine (mask_prev i a k).trans (congrArg BitVec.ofBool (decide_eq_decide.2 ?_))
    simp only [seen, Sum.elim_inl, hasPrev_iff i.isLt, ne_eq, Fin.ext_iff]
    exact Iff.rfl
  · rw [place_inr]
    exact (mask_own i a k).trans (congrArg BitVec.ofBool (decide_eq_decide.2 Iff.rfl))

open Classical in
/-- The masked scores. -/
theorem score_at (H : Args V0 Q K W O L) (i : Fin 32) (n : Fin 4) (a : Fin 128) (k : Keys) :
    res_main_v65_0 (F := Ideal) V0 (ix6 0 0 i n a (place k)) =
      if seen (hasPrev 32 i) a k then ((wdots Q K i n a k : ℝ) : EReal) else ⊥ := by
  unfold res_main_v65_0
  clean_types
  pointwise
  change Scalar.select _ _ (Ideal.ofBits .f32 0xFF800000#32) = _
  rw [mask_at, show Ideal.ofBits .f32 0xFF800000#32 = ⊥ by simp [Ideal.ofBits, Ideal.ieee]]
  simp only [queries_at H, keyWin_at H, ← EReal.coe_mul, coe_sum]
  exact select_decide Iff.rfl

/-- A row's greatest score. -/
theorem top_at (i : Fin 32) (n : Fin 4) (a : Fin 128) :
    res_main_v66 (F := Ideal) V0 (ix5 0 0 i n a) = fmax fun k => res_main_v65_0 (F := Ideal) V0 (ix6 0 0 i n a k) := by
  unfold res_main_v66
  clean_types
  pointwise
  rw [show Ideal.ofBits .f32 0xFF800000#32 = ⊥ by simp [Ideal.ofBits, Ideal.ieee]]
  exact max_keys _ i n a

theorem score_ne_top (H : Args V0 Q K W O L) (i : Fin 32) (n : Fin 4) (a : Fin 128) (k : Fin 256) :
    res_main_v65_0 (F := Ideal) V0 (ix6 0 0 i n a k) ≠ (⊤ : EReal) := by
  obtain ⟨k, rfl⟩ := place.surjective k
  rw [score_at H]; split_ifs
  · exact EReal.coe_ne_top _
  · exact (bot_lt_top (α := EReal)).ne

/-- It is a real: every row sees its own key. -/
theorem top_real (H : Args V0 Q K W O L) (i : Fin 32) (n : Fin 4) (a : Fin 128) :
    ∃ m : ℝ, res_main_v66 (F := Ideal) V0 (ix5 0 0 i n a) = ((m : ℝ) : EReal) := by
  rw [top_at]
  refine fmax_real _ (score_ne_top H i n a) (place (.inr a)) ?_
  rw [score_at H, if_pos (show seen _ a (.inr a) from le_refl a)]
  exact EReal.coe_ne_bot _

/-- The ties: one where a score is its row's greatest, zero elsewhere. -/
theorem ties_at (i : Fin 32) (n : Fin 4) (a : Fin 128) (k : Fin 256) :
    res_main_v70 (F := Ideal) V0 (ix6 0 0 i n a k) =
      if res_main_v65_0 (F := Ideal) V0 (ix6 0 0 i n a k) = res_main_v66 (F := Ideal) V0 (ix5 0 0 i n a) then (1 : EReal) else 0 := by
  unfold res_main_v70
  clean_types
  pointwise
  by_cases h : (res_main_v65_0 (F := Ideal) V0 (ix6 0 0 i n a k) : EReal) = res_main_v66 (F := Ideal) V0 (ix5 0 0 i n a) <;>
    simp [h, FloatOps.uitofp]

/-- Their count is not zero. -/
theorem count_at (i : Fin 32) (n : Fin 4) (a : Fin 128) :
    Finset.sum (M := EReal) Finset.univ (fun k => res_main_v70 (F := Ideal) V0 (ix6 0 0 i n a k)) ≠ 0 := by
  obtain ⟨k, hk⟩ := fmax_attained fun k => res_main_v65_0 (F := Ideal) V0 (ix6 0 0 i n a k)
  refine count_ne_zero _ (fun j => ?_) k ?_
  · rw [ties_at]; split_ifs
    · exact zero_le_one
    · exact le_rfl
  · rw [ties_at, top_at, if_pos hk]

theorem rotate (x y z : ℝ) : x * y * z = z * x * y := by ring

theorem through_division (g d l s w : ℝ) :
    (g * (1 / d) + (l * (1 / d) + -s)) * w = (g * (1 / d) + (l / d - s)) * w := by ring

section Row
variable (H : Args V0 Q K W O L) {i : Fin 32} {n : Fin 4} {a : Fin 128} {m : ℝ}
  (hm : res_main_v66 (F := Ideal) V0 (ix5 0 0 i n a) = ((m : ℝ) : EReal))

/-- The weight of a row at each key, `m` the row's greatest score. -/
local notation "wK" => wtAt (seen (hasPrev 32 i) a) (wdots Q K i n a) m

include H hm

/-- The weights. -/
theorem weight_at (k : Keys) : res_main_v75 (F := Ideal) V0 (ix6 0 0 i n a (place k)) = ((wK k : ℝ) : EReal) := by
  unfold res_main_v75 res_main_v72
  clean_types
  pointwise
  rw [hm, score_at H, exp_masked]
  rfl

/-- The denominators. -/
theorem denom_at : res_main_v77 (F := Ideal) V0 (ix6 0 0 i n a 0) = ((∑ k, wK k : ℝ) : EReal) := by
  unfold res_main_v77
  clean_types
  pointwise
  rw [sum_keys, zero_add, sum_place]
  simp only [weight_at H hm, coe_sum]

omit H hm in
theorem denom_ne : (∑ k, wK k) ≠ 0 := (sum_wtAt_pos _ _ m (seen_self _ a)).ne'

/-- The probabilities. -/
theorem prob_at' (k : Keys) : res_main_v79 (F := Ideal) V0 (ix6 0 0 i n a (place k)) =
    ((prob (seen (hasPrev 32 i) a) (wdots Q K i n a) k : ℝ) : EReal) := by
  unfold res_main_v79
  clean_types
  pointwise
  rw [weight_at H hm, denom_at H hm, Ideal.div_coe denom_ne, ← EReal.coe_mul, ← wtAt_div _ _ m, mul_one_div]

omit hm in
/-- The probabilities' gradients. -/
theorem gprob_at (k : Keys) : res_main_v113 (F := Ideal) V0 (ix6 0 0 i n a (place k)) =
    ((wdots O (colsFrom 1536 W) i n a k : ℝ) : EReal) := by
  unfold res_main_v113
  clean_types
  pointwise
  simp only [dout_at H, valWin_at H, ← EReal.coe_mul, coe_sum]
  rfl

/-- The scores' gradients through the weights. -/
theorem dweight_at (k : Keys) : res_main_v129 (F := Ideal) V0 (ix6 0 0 i n a (place k)) =
    ((dprob (seen (hasPrev 32 i) a) (wdots Q K i n a) (wdots O (colsFrom 1536 W) i n a) (∑ d, blk L i n a d) k : ℝ) : EReal) := by
  unfold res_main_v129
  clean_types
  pointwise
  rw [sum_unit_rows]
  pointwise
  rw [sum_keys, sum_place]
  pointwise
  simp only [gprob_at H, denom_at H hm, weight_at H hm, dlse_at H]
  simp only [Ideal.div_coe (denom_ne (i := i) (n := n) (a := a) (m := m)), ← EReal.coe_mul]
  simp only [one_div_real (mul_ne_zero (denom_ne (i := i) (n := n) (a := a) (m := m)) denom_ne), ← EReal.coe_mul, coe_sum, ← EReal.coe_neg, ← EReal.coe_add]
  rw [← wtAt_grad _ _ _ _ m (seen_self _ a)]
  refine congrArg Real.toEReal ?_
  rw [Finset.sum_congr rfl fun j _ => rotate _ _ _, ← Finset.sum_mul]
  exact through_division _ _ _ _ _

end Row

end Cert.ReferenceIdeal.Hand
-- ==== Proof.ReferenceGrads.lean ====
module

public import proofs.«01_k».proof.Proof.Gen.ReferenceIdeal.Run
public import proofs.«01_k».proof.Proof.ReferenceReads
public import Idealize.ShloMosaic.Lib.Pointwise
public import Idealize.ShloMosaic.Lib.Tactic.CleanTypes

set_option maxRecDepth 16384

@[expose] public section

noncomputable section

namespace Cert.ReferenceIdeal.Hand

open Idealize Idealize.ShloMosaic Cert.Attn
open Cert.ReferenceIdeal Cert.ReferenceIdeal.Facts₀ Cert.ReferenceIdeal.Value

variable {V0 : Valuation τ sig (Elt Ideal)} {Q K W O L : ℕ → ℕ → ℝ}

/-- The scores' gradients. -/
theorem dscore_at (H : Args V0 Q K W O L) (i : Fin 32) (n : Fin 4) (a : Fin 128) (k : Keys) :
    res_main_v140 (F := Ideal) V0 (ix6 0 0 i n a (place k)) = ((dscores 32 Q K (colsFrom 1536 W) O L i n a k : ℝ) : EReal) := by
  obtain ⟨m, hm⟩ := top_real H i n a
  unfold res_main_v140
  clean_types
  pointwise
  rw [mask_at, dweight_at H hm, sum_unit_rows]
  pointwise
  have h0 : Ideal.hostReduceAdd reducesTo_S1x1x32x4x128x256_S1x1x32x4x128_d5
      (Host.negf (F := Ideal) (s := S1x1x32x4x128x256) (φ := .f32) (res_main_v129 (F := Ideal) V0)) 0 (ix5 0 0 i n a) =
        ((-∑ d, blk L i n a d : ℝ) : EReal) := by
    rw [sum_keys, sum_place]
    pointwise
    simp only [dweight_at H hm, ← EReal.coe_neg, coe_sum]
    rw [Finset.sum_neg_distrib, sum_dprob _ _ _ _ (seen_self _ a)]
  have hc := count_at (V0 := V0) i n a
  rw [h0, dlse_at H, ← EReal.coe_add, add_neg_cancel, EReal.coe_zero, sum_keys, zero_add, Ideal.zero_div hc, zero_mul, add_zero]
  split_ifs with hk
  · refine congrArg Real.toEReal ?_
    unfold dscores ds
    exact dprob_congr _ (wdots_eq Q K i n i.isLt a) (wdots_eq O _ i n i.isLt a) k
  · unfold dscores ds
    rw [dprob_of_not _ _ _ _ _ hk, EReal.coe_zero]

theorem dscores_not {i n : ℕ} {a : Fin 128} {k : Keys} (V : ℕ → ℕ → ℝ) (h : ¬seen (hasPrev 32 i) a k) :
    dscores 32 Q K V O L i n a k = 0 := dprob_of_not _ _ _ _ _ h

/-- The probabilities, as the definitions have them. -/
theorem prob_at (H : Args V0 Q K W O L) (i : Fin 32) (n : Fin 4) (a : Fin 128) (k : Keys) :
    res_main_v79 (F := Ideal) V0 (ix6 0 0 i n a (place k)) = ((probs 32 Q K i n a k : ℝ) : EReal) := by
  obtain ⟨m, hm⟩ := top_real H i n a
  rw [prob_at' H hm]
  exact congrArg Real.toEReal (prob_congr (wdots_eq Q K i n i.isLt a) k)

/-- The queries' gradient, from the scores' gradients and the keys. -/
theorem dq_sum {i n : ℕ} {a : Fin 128} {d : Fin 64} {f g : Fin 256 → EReal}
    (hf : ∀ k, f (place k) = ((dscores 32 Q K W O L i n a k : ℝ) : EReal))
    (hg : ∀ k, g (place k) = ((win K i n k d : ℝ) : EReal)) :
    ∑ k, f k * g k = ((gradQ 32 Q K W O L i n a d : ℝ) : EReal) := by
  rw [sum_place]
  simp only [hf, hg, ← EReal.coe_mul, coe_sum]
  refine congrArg Real.toEReal ?_
  rw [Fintype.sum_sum_type]
  refine congrArg (· + _) (Finset.sum_congr rfl fun k _ => ?_)
  simp only [win, Sum.elim_inl]
  split_ifs with hi
  · rw [dscores_not (i := i) (n := n) (a := a) (k := .inl k) W fun h => (show a ≤ k ∧ hasPrev 32 i from h).2 (by rw [hi]), zero_mul, zero_mul]
  · rfl

/-- What a block's rows give to the keys of the block before. -/
theorem dkeyWin_atPrev (H : Args V0 Q K W O L) (i : Fin 32) (k : Fin 128) (n : Fin 4) (d : Fin 64) :
    res_main_v142 (F := Ideal) V0 (ix6 0 0 i (place (.inl k)) n d) = ((keyPrev 32 Q K (colsFrom 1536 W) O L i n k d : ℝ) : EReal) := by
  unfold res_main_v142
  clean_types
  pointwise
  simp only [dscore_at H, queries_at H, ← EReal.coe_mul, coe_sum]
  rfl

/-- What a block's rows give to the keys of their own block. -/
theorem dkeyWin_atOwn (H : Args V0 Q K W O L) (i : Fin 32) (k : Fin 128) (n : Fin 4) (d : Fin 64) :
    res_main_v142 (F := Ideal) V0 (ix6 0 0 i (place (.inr k)) n d) = ((keyOwn 32 Q K (colsFrom 1536 W) O L i n k d : ℝ) : EReal) := by
  unfold res_main_v142
  clean_types
  pointwise
  simp only [dscore_at H, queries_at H, ← EReal.coe_mul, coe_sum]
  rfl

/-- What a block's rows give to the values of the block before. -/
theorem dvalWin_atPrev (H : Args V0 Q K W O L) (i : Fin 32) (k : Fin 128) (n : Fin 4) (d : Fin 64) :
    res_main_v115 (F := Ideal) V0 (ix6 0 0 i (place (.inl k)) n d) = ((valPrev 32 Q K O i n k d : ℝ) : EReal) := by
  unfold res_main_v115
  clean_types
  pointwise
  simp only [prob_at H, dout_at H, ← EReal.coe_mul, coe_sum]
  exact congrArg Real.toEReal (Finset.sum_congr rfl fun a _ => mul_comm _ _)

/-- What a block's rows give to the values of their own block. -/
theorem dvalWin_atOwn (H : Args V0 Q K W O L) (i : Fin 32) (k : Fin 128) (n : Fin 4) (d : Fin 64) :
    res_main_v115 (F := Ideal) V0 (ix6 0 0 i (place (.inr k)) n d) = ((valOwn 32 Q K O i n k d : ℝ) : EReal) := by
  unfold res_main_v115
  clean_types
  pointwise
  simp only [prob_at H, dout_at H, ← EReal.coe_mul, coe_sum]
  exact congrArg Real.toEReal (Finset.sum_congr rfl fun a _ => mul_comm _ _)

/-- The keys' gradient, with room for a block before the first. -/
theorem dkeys_at (H : Args V0 Q K W O L) (i : Fin 32) (k : Fin 128) (n : Fin 4) (d : Fin 64) :
    res_main_v160 (F := Ideal) V0 (ix6 0 0 ⟨1 + i.val, by omega⟩ k n d) = ((gradK 32 Q K (colsFrom 1536 W) O L i n k d : ℝ) : EReal) := by
  unfold res_main_v160
  clean_types
  pointwise
  have hown := dkeyWin_atOwn H i k n d
  rw [place_inr] at hown
  rw [hown, gradK, fromNext, add_comm, EReal.coe_add]
  refine congrArg (· + _) ?_
  by_cases hi : i.val + 1 < 32
  · have hprev := dkeyWin_atPrev H ⟨1 + i.val, by omega⟩ k n d
    rw [place_inl] at hprev
    rw [dif_pos (by omega), if_pos hi, hprev]
    simp only [add_comm 1]
  · rw [dif_neg (by omega), if_neg hi, EReal.coe_zero]

/-- The vals' gradient, with room for a block before the first. -/
theorem dvals_at (H : Args V0 Q K W O L) (i : Fin 32) (k : Fin 128) (n : Fin 4) (d : Fin 64) :
    res_main_v149 (F := Ideal) V0 (ix6 0 0 ⟨1 + i.val, by omega⟩ k n d) = ((gradV 32 Q K O i n k d : ℝ) : EReal) := by
  unfold res_main_v149
  clean_types
  pointwise
  have hown := dvalWin_atOwn H i k n d
  rw [place_inr] at hown
  rw [hown, gradV, fromNext, add_comm, EReal.coe_add]
  refine congrArg (· + _) ?_
  by_cases hi : i.val + 1 < 32
  · have hprev := dvalWin_atPrev H ⟨1 + i.val, by omega⟩ k n d
    rw [place_inl] at hprev
    rw [dif_pos (by omega), if_pos hi, hprev]
    simp only [add_comm 1]
  · rw [dif_neg (by omega), if_neg hi, EReal.coe_zero]

end Cert.ReferenceIdeal.Hand
-- ==== Proof.ReferenceResults.lean ====
/- The three arrays that the reference's run leaves, read entry by entry: the gradients of the queries, the keys and
the values, as the definitions over the reals give them. -/
module

public import proofs.«01_k».proof.Proof.Gen.ReferenceIdeal.Run
public import proofs.«01_k».proof.Proof.ReferenceGrads
public import Idealize.ShloMosaic.Lib.Pointwise
public import Idealize.ShloMosaic.Lib.Tactic.CleanTypes

set_option maxRecDepth 16384
set_option maxHeartbeats 400000

@[expose] public section

noncomputable section

namespace Cert.ReferenceIdeal.Hand

open Idealize Idealize.ShloMosaic Cert.Attn
open Cert.ReferenceIdeal Cert.ReferenceIdeal.Facts₀ Cert.ReferenceIdeal.Value

variable {V0 : Valuation τ sig (Elt Ideal)} {Q K W O L : ℕ → ℕ → ℝ}

/-- The queries' gradient by blocks and heads, as the run names it. -/
def dqBlocks (V0 : Valuation τ sig (Elt Ideal)) : FVec Ideal S1x1x32x4x128x64 .f32 :=
  Host.dotGeneral (F := Ideal) (φ₁ := .f32) (φ₂ := .f32) dot_S1x1x32x4x128x256_S1x1x32x256x4x64_S1x1x32x4x128x64_5_3_4_5_0123_0124 none (res_main_v140 V0) (res_main_v21 V0)

theorem dqBlocks_at (H : Args V0 Q K W O L) (i : Fin 32) (n : Fin 4) (a : Fin 128) (d : Fin 64) :
    dqBlocks V0 (ix6 0 0 i n a d) = ((gradQ 32 Q K (colsFrom 1536 W) O L i n a d : ℝ) : EReal) := by
  unfold dqBlocks
  clean_types
  pointwise
  exact dq_sum (fun k => dscore_at H i n a k) fun k => keyWin_at H i k n d

/-- The gradient of the queries as the run leaves it. -/
def dq_out (V0 : Valuation τ sig (Elt Ideal)) : FVec Ideal S4096x256 .f32 :=
  shapeCast _ (shapeCast _ (transpose S1x4096x1x4x64 [0, 2, 1, 3, 4] (extractStridedSlice S1x1x4096x4x64 ![0, 0, 0, 0, 0] (pad S1x1x4096x4x64 ![0, 0, 0, 0, 0] ![0, 0, 0, 0, 0] ![0, 0, 0, 0, 0] (shapeCast _ (transpose S1x1x32x128x4x64 [0, 1, 2, 4, 3, 5] (dqBlocks V0) transposes_S1x1x32x4x128x64_S1x1x32x128x4x64_0_1_2_4_3_5) shapeCasts_S1x1x32x128x4x64_S1x1x4096x4x64) (constant S_ .f32 0x00000000#32) pads_S1x1x4096x4x64_S1x1x4096x4x64_000_000_000_000_000 h_S_) slices_S1x1x4096x4x64_S1x1x4096x4x64_0_0_0_0_0) transposes_S1x1x4096x4x64_S1x4096x1x4x64_0_2_1_3_4) shapeCasts_S1x4096x1x4x64_S1x4096x4x64) shapeCasts_S1x4096x4x64_S4096x256

theorem dq_out_at (H : Args V0 Q K W O L) (r : Fin 4096) (c : Fin 256) :
    dq_out V0 (ix2 r c) = ((flat (gradQ 32 Q K (colsFrom 1536 W) O L) r c : ℝ) : EReal) := by
  unfold dq_out
  clean_types
  pointwise
  have h : c.val / 64 < 4 ∧ c.val % 64 < 64 := ⟨by omega, by omega⟩
  have e := dqBlocks_at H ⟨r.val / 128, by omega⟩ ⟨c.val / 64, by omega⟩ ⟨r.val % 128, by omega⟩ ⟨c.val % 64, by omega⟩
  rw [dif_pos h]
  unfold flat
  exact e

/-- The gradient of the keys as the run leaves it. -/
def dk_out (V0 : Valuation τ sig (Elt Ideal)) : FVec Ideal S4096x256 .f32 :=
  shapeCast _ (shapeCast _ (transpose S1x4096x1x4x64 [0, 2, 1, 3, 4] (extractStridedSlice S1x1x4096x4x64 ![0, 0, 0, 0, 0] (pad S1x1x4096x4x64 ![0, 0, 0, 0, 0] ![0, 0, 0, 0, 0] ![0, 0, 0, 0, 0] (shapeCast _ (extractStridedSlice S1x1x32x128x4x64 ![0, 0, 1, 0, 0, 0] (res_main_v160 V0) slices_S1x1x33x128x4x64_S1x1x32x128x4x64_0_0_1_0_0_0) shapeCasts_S1x1x32x128x4x64_S1x1x4096x4x64) (constant S_ .f32 0x00000000#32) pads_S1x1x4096x4x64_S1x1x4096x4x64_000_000_000_000_000 h_S_) slices_S1x1x4096x4x64_S1x1x4096x4x64_0_0_0_0_0) transposes_S1x1x4096x4x64_S1x4096x1x4x64_0_2_1_3_4) shapeCasts_S1x4096x1x4x64_S1x4096x4x64) shapeCasts_S1x4096x4x64_S4096x256

theorem dk_out_at (H : Args V0 Q K W O L) (r : Fin 4096) (c : Fin 256) :
    dk_out V0 (ix2 r c) = ((flat (gradK 32 Q K (colsFrom 1536 W) O L) r c : ℝ) : EReal) := by
  unfold dk_out
  clean_types
  pointwise
  have h : c.val / 64 < 4 ∧ c.val % 64 < 64 := ⟨by omega, by omega⟩
  have e := dkeys_at H ⟨r.val / 128, by omega⟩ ⟨r.val % 128, by omega⟩ ⟨c.val / 64, by omega⟩ ⟨c.val % 64, by omega⟩
  rw [dif_pos h]
  unfold flat
  exact e

/-- The gradient of the values as the run leaves it. -/
def dv_out (V0 : Valuation τ sig (Elt Ideal)) : FVec Ideal S4096x256 .f32 :=
  shapeCast _ (shapeCast _ (transpose S1x4096x1x4x64 [0, 2, 1, 3, 4] (extractStridedSlice S1x1x4096x4x64 ![0, 0, 0, 0, 0] (pad S1x1x4096x4x64 ![0, 0, 0, 0, 0] ![0, 0, 0, 0, 0] ![0, 0, 0, 0, 0] (shapeCast _ (extractStridedSlice S1x1x32x128x4x64 ![0, 0, 1, 0, 0, 0] (res_main_v149 V0) slices_S1x1x33x128x4x64_S1x1x32x128x4x64_0_0_1_0_0_0) shapeCasts_S1x1x32x128x4x64_S1x1x4096x4x64) (constant S_ .f32 0x00000000#32) pads_S1x1x4096x4x64_S1x1x4096x4x64_000_000_000_000_000 h_S_) slices_S1x1x4096x4x64_S1x1x4096x4x64_0_0_0_0_0) transposes_S1x1x4096x4x64_S1x4096x1x4x64_0_2_1_3_4) shapeCasts_S1x4096x1x4x64_S1x4096x4x64) shapeCasts_S1x4096x4x64_S4096x256

theorem dv_out_at (H : Args V0 Q K W O L) (r : Fin 4096) (c : Fin 256) :
    dv_out V0 (ix2 r c) = ((flat (gradV 32 Q K O) r c : ℝ) : EReal) := by
  unfold dv_out
  clean_types
  pointwise
  have h : c.val / 64 < 4 ∧ c.val % 64 < 64 := ⟨by omega, by omega⟩
  have e := dvals_at H ⟨r.val / 128, by omega⟩ ⟨r.val % 128, by omega⟩ ⟨c.val / 64, by omega⟩ ⟨c.val % 64, by omega⟩
  rw [dif_pos h]
  unfold flat
  exact e

end Cert.ReferenceIdeal.Hand
-- ==== Proof.ReferenceValue.lean ====
/- The run of the reference from a launch on reals: its three results hold the gradients. -/
module

public import proofs.«01_k».proof.Proof.Gen.ReferenceIdeal.Run
public import proofs.«01_k».proof.Proof.ReferenceResults
public import Idealize.ShloMosaic.Lib.Claim

set_option maxRecDepth 16384
set_option maxHeartbeats 400000

@[expose] public section

noncomputable section

namespace Cert.ReferenceIdeal.Hand

open Idealize Idealize.ShloMosaic Idealize.ShloMosaic.StableHlo Idealize.SL.Sem Cert.Attn
open Cert.ReferenceIdeal Cert.ReferenceIdeal.Facts₀ Cert.ReferenceIdeal.Value

/-- From a launch on reals the reference leaves the gradients, and its arguments as they were. -/
theorem run_values (m : (ℓ : Loc nD τ sig) → Buf (Elt Ideal) ℓ) (ρ : Dev nD → PrngReg)
    (Q K W O L : Dev nD → ℕ → ℕ → ℝ)
    (H : ∀ c : Dev nD, Args (launchContents m c) (Q c) (K c) (W c) (O c) (L c)) :
    θ_run defs (onTc (τ := τ) (main (F := Ideal))) ⟨m, fun _ => 0, ρ⟩ fun r => ∀ c : Dev nD,
      r.2.mem ((c.tc : Thread nD τ).loc main_v171) = (fun y => ((flat (gradQ 32 (Q c) (K c) (colsFrom 1536 (W c)) (O c) (L c)) (y 0).val (y 1).val : ℝ) : EReal))
      ∧ r.2.mem ((c.tc : Thread nD τ).loc main_v172) = (fun y => ((flat (gradK 32 (Q c) (K c) (colsFrom 1536 (W c)) (O c) (L c)) (y 0).val (y 1).val : ℝ) : EReal))
      ∧ r.2.mem ((c.tc : Thread nD τ).loc main_v173) = (fun y => ((flat (gradV 32 (Q c) (K c) (O c)) (y 0).val (y 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run (F := Ideal) m ρ)
  obtain ⟨h0, h1, h2, hargs⟩ := h c
  have e0 : r.2.mem ((c.tc : Thread nD τ).loc main_v171) = dq_out (launchContents m c) := h0
  have e1 : r.2.mem ((c.tc : Thread nD τ).loc main_v172) = dk_out (launchContents m c) := h1
  have e2 : r.2.mem ((c.tc : Thread nD τ).loc main_v173) = dv_out (launchContents m c) := h2
  refine ⟨e0.trans ?_, e1.trans ?_, e2.trans ?_, hargs⟩
  · funext y
    obtain ⟨a, b, rfl⟩ : ∃ (a : Fin 4096) (b : Fin 256), y = ix2 a b := ⟨y 0, y 1, eq_ix2 y⟩
    exact dq_out_at (H c) a b
  · funext y
    obtain ⟨a, b, rfl⟩ : ∃ (a : Fin 4096) (b : Fin 256), y = ix2 a b := ⟨y 0, y 1, eq_ix2 y⟩
    exact dk_out_at (H c) a b
  · funext y
    obtain ⟨a, b, rfl⟩ : ∃ (a : Fin 4096) (b : Fin 256), y = ix2 a b := ⟨y 0, y 1, eq_ix2 y⟩
    exact dv_out_at (H c) a b

end Cert.ReferenceIdeal.Hand
-- ==== Proof.Entries.lean ====
/- An array whose entries all lie strictly between the infinities holds reals: the reading of the precondition. -/
module

public import proofs.«01_k».proof.Pre_finite
public import Idealize.ShloMosaic.PureOps.Ideal
public import Idealize.ShloMosaic.Lib.Pointwise

@[expose] public section

noncomputable section

namespace Cert.Attn

open Idealize Idealize.ShloMosaic

/-- The real entries of an array of `R` rows and `C` columns, zero outside it. -/
def entries {R C : ℕ} (x : FVec Ideal ⟨2, ![R, C]⟩ .f32) (i j : ℕ) : ℝ :=
  if h : i < R ∧ j < C then EReal.toReal (x (ix2 ⟨i, h.1⟩ ⟨j, h.2⟩)) else 0

/-- A value whose magnitude lies below the infinity is a real. -/
theorem real_of_lt (x : EReal)
    (h : Ideal.cmp .olt (max x (-x)) (Ideal.ofBits .f32 0x7F800000#32) = 1#1) : x = ((x.toReal : ℝ) : EReal) := by
  have top : Ideal.ofBits .f32 0x7F800000#32 = ⊤ := by simp [Ideal.ofBits, Ideal.ieee]
  rw [top] at h
  have lt : max x (-x) < ⊤ := by
    by_contra no
    simp [Ideal.cmp, no] at h
  rw [max_lt_iff] at lt
  refine (EReal.coe_toReal lt.1.ne fun e => ?_).symm
  subst e
  simp at lt

/-- Where the comparison of the magnitudes holds everywhere, the entries are the array. -/
theorem entries_at {R C : ℕ} (x : FVec Ideal ⟨2, ![R, C]⟩ .f32)
    (h : ∀ y, Ideal.cmp .olt (max (x y : EReal) (-(x y : EReal))) (Ideal.ofBits .f32 0x7F800000#32) = 1#1)
    (r : Fin R) (d : Fin C) : x (ix2 r d) = ((entries x r d : ℝ) : EReal) := by
  unfold entries
  rw [dif_pos ⟨r.isLt, d.isLt⟩]
  exact real_of_lt _ (h (ix2 r d))

/-- The precondition, array by array and entry by entry. -/
theorem finite_at [Cert.Pre_finite.Facts] (a b : FVec Ideal ⟨2, ![4096, 768]⟩ .f32)
    (c : FVec Ideal ⟨2, ![4096, 2304]⟩ .f32) (d e : FVec Ideal ⟨2, ![4096, 256]⟩ .f32)
    (h : (Cert.Pre_finite.fn (F := Ideal) a b c d e).1 = (fun _ => 1#1)
      ∧ (Cert.Pre_finite.fn (F := Ideal) a b c d e).2.1 = (fun _ => 1#1)
      ∧ (Cert.Pre_finite.fn (F := Ideal) a b c d e).2.2.1 = (fun _ => 1#1)
      ∧ (Cert.Pre_finite.fn (F := Ideal) a b c d e).2.2.2.1 = (fun _ => 1#1)
      ∧ (Cert.Pre_finite.fn (F := Ideal) a b c d e).2.2.2.2 = (fun _ => 1#1)) :
    (∀ (r : Fin 4096) (j : Fin 768), a (ix2 r j) = ((entries a r j : ℝ) : EReal))
      ∧ (∀ (r : Fin 4096) (j : Fin 768), b (ix2 r j) = ((entries b r j : ℝ) : EReal))
      ∧ (∀ (r : Fin 4096) (j : Fin 2304), c (ix2 r j) = ((entries c r j : ℝ) : EReal))
      ∧ (∀ (r : Fin 4096) (j : Fin 256), d (ix2 r j) = ((entries d r j : ℝ) : EReal))
      ∧ (∀ (r : Fin 4096) (j : Fin 256), e (ix2 r j) = ((entries e r j : ℝ) : EReal)) :=
  ⟨entries_at a (congrFun h.1), entries_at b (congrFun h.2.1), entries_at c (congrFun h.2.2.1),
    entries_at d (congrFun h.2.2.2.1), entries_at e (congrFun h.2.2.2.2)⟩

end Cert.Attn

end
-- ==== Proof.Tiles.lean ====
/- Products taken tile by tile: an array read at natural-number places, two arrays side by side, and a sum over tiles
as one sum. -/
module

public import Idealize.ShloMosaic.Lib.Pointwise

@[expose] public section

noncomputable section

namespace Cert.Ffn

open Idealize.ShloMosaic

/-- The entry at row `r`, column `j`; zero outside the array. -/
def entry {R C : ℕ} (x : (⟨2, ![R, C]⟩ : Shape).Idx → EReal) (r j : ℕ) : EReal :=
  if h : r < R ∧ j < C then x (ix2 ⟨r, h.1⟩ ⟨j, h.2⟩) else 0

theorem entry_at {R C : ℕ} (x : (⟨2, ![R, C]⟩ : Shape).Idx → EReal) (r : Fin R) (j : Fin C) :
    x (ix2 r j) = entry x r j := by
  unfold entry; rw [dif_pos ⟨r.isLt, j.isLt⟩]

theorem entry_of_lt {R C : ℕ} (x : (⟨2, ![R, C]⟩ : Shape).Idx → EReal) {r j : ℕ} (hr : r < R) (hj : j < C) :
    entry x r j = x (ix2 ⟨r, hr⟩ ⟨j, hj⟩) := dif_pos ⟨hr, hj⟩

/-- The columns of `g`, then those of `u`. -/
def beside (w : ℕ) (g u : ℕ → ℕ → EReal) (r j : ℕ) : EReal := if j < w then g r j else u r (j - w)

/-- A sum over `n` tiles of `b` terms is the sum over all the terms. -/
theorem sum_tiles (b : ℕ) (f : ℕ → EReal) (n : ℕ) :
    ∑ s ∈ Finset.range n, ∑ k : Fin b, f (b * s + k) = ∑ k : Fin (n * b), f k := by
  rw [Fin.sum_univ_eq_sum_range f (n * b)]
  induction n with
  | zero => simp
  | succ n ih =>
    rw [Finset.sum_range_succ, ih, Nat.succ_mul, Finset.sum_range_add]
    refine congrArg _ ((Fin.sum_univ_eq_sum_range (fun k => f (b * n + k)) b).trans ?_)
    rw [Nat.mul_comm]

/-- What is cleared at every `p`-th point and otherwise added to holds the sum since it was last cleared. -/
theorem sum_since {N p : ℕ} (hp : 0 < p) (acc : (n : ℕ) → n < N → EReal) (step : ℕ → EReal)
    (first : ∀ n h, n % p = 0 → acc n h = step n)
    (next : ∀ n h, (n + 1) % p ≠ 0 → acc (n + 1) h = acc n (Nat.lt_of_succ_lt h) + step (n + 1)) :
    ∀ n h, acc n h = ∑ s ∈ Finset.range (n % p + 1), step (p * (n / p) + s) := by
  have clear : ∀ n h, n % p = 0 → acc n h = ∑ s ∈ Finset.range (n % p + 1), step (p * (n / p) + s) := fun n h e => by
    rw [first n h e, e, Finset.sum_range_one, Nat.add_zero, Nat.mul_div_cancel' (Nat.dvd_of_mod_eq_zero e)]
  intro n
  induction n with
  | zero => exact fun h => clear 0 h (Nat.zero_mod p)
  | succ n ih =>
    intro h
    by_cases e : (n + 1) % p = 0
    · exact clear _ h e
    · have d : (n + 1) / p = n / p := by
        rw [Nat.succ_div, if_neg (fun hd => e (Nat.mod_eq_zero_of_dvd hd)), Nat.add_zero]
      have m : (n + 1) % p = n % p + 1 := by
        have h1 := Nat.div_add_mod (n + 1) p
        have h2 := Nat.div_add_mod n p
        rw [d] at h1; omega
      rw [next n h e, ih, d, m, Finset.sum_range_succ _ (n % p + 1)]
      refine congrArg _ (congrArg step ?_)
      have h2 := Nat.div_add_mod n p
      omega

/-- The constant one half. -/
def half : EReal := Ideal.ofBits .f32 0x3F000000#32

theorem half_eq : half = (((1 / 2 : ℝ) : ℝ) : EReal) := by
  unfold half
  simp [Ideal.ofBits, Ideal.ieee]
  refine (EReal.coe_mul _ _).symm.trans (congrArg Real.toEReal ?_)
  norm_num

/-- Half of a sum is the sum of the halves. -/
theorem half_sum {ι : Type} (s : Finset ι) (f : ι → EReal) : (∑ i ∈ s, f i) * half = ∑ i ∈ s, f i * half := by
  classical
  have nonneg : 0 ≤ half := by rw [half_eq]; exact EReal.coe_nonneg.mpr (by norm_num)
  have finite : half ≠ ⊤ := by rw [half_eq]; exact EReal.coe_ne_top _
  induction s using Finset.induction with
  | empty => rw [Finset.sum_empty, Finset.sum_empty, zero_mul]
  | insert a s h ih =>
    rw [Finset.sum_insert h, Finset.sum_insert h, EReal.right_distrib_of_nonneg_of_ne_top nonneg finite, ih]

/-- The gradient of `g * logistic g * u` in `g`, and in `u`, for a result whose gradient is `d`. -/
def dgate (d g u : EReal) : EReal :=
  d * u * Ideal.logistic g + g * (d * u) * (Ideal.logistic g * (1 - Ideal.logistic g))
def dup (d g : EReal) : EReal := g * Ideal.logistic g * d

end Cert.Ffn
-- ==== Proof.DwinValue.lean ====
/- What the gradient of the FFN's first weight matrix is: the kernel adds up, tile of rows by tile of rows, the products
of the normalised input's columns with the columns of the two halves' gradients. -/
module

public import proofs.«01_k».proof.Proof.Tiles
public import proofs.«01_k».proof.Proof.Gen.Kernel2Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.Ffn

theorem off_zero2 : (![0, 0] : Fin 2 → ℕ) = fun _ => 0 := by funext i; revert i; decide
theorem off_zero3 : (![0, 0, 0] : Fin 3 → ℕ) = fun _ => 0 := by funext i; revert i; decide

/-! ## What each kind of point leaves -/

section
variable {F : FTy → Type} [FloatOps F]
variable (c : Dev nD) (i : grid0.Coords) (a3 : Memref sig .tc .vmem S1024x1024 .bf16) (h3 : a3.IsWhole)
  (a4 : Memref sig .tc .vmem S1x1024x1408 .bf16) (h4 : a4.IsWhole) (a5 : Memref sig .tc .vmem S8x128 .f32) (h5 : a5.IsWhole)
  (a6 : Memref sig .tc .vmem S1x1024x1408 .f32) (h6 : a6.IsWhole) (a7 : Memref sig .tc .vmem S1024x1408 .f32) (h7 : a7.IsWhole)
  (x0 : Vec F S1024x1024 .bf16) (x1 : Vec F S1x1024x1408 .bf16) (x2 : Vec F S8x128 .f32) (xs : Vec F S1024x1408 .f32)

/-- The first point of a run clears the sum and adds its product. -/
theorem sum_first (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1408) off_zero2]
  simp only [View.readCov_unit_zero (S := S1024x1408) _ off_zero2, View.readAt_eq_ld, h3.read_unread, h4.read_unread,
    View.ld_unit_zero (S := S1024x1024) off_zero2, View.ld_unit_zero (S := S1x1024x1408) off_zero3]

/-- A middle point adds its product. -/
theorem sum_middle (hc0 : ¬cond0_0 i) (hc1 : ¬cond0_1 i) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero off_zero2]
  simp only [View.readAt_eq_ld, h3.read_unread, h4.read_unread, h7.read_unread,
    View.ld_unit_zero (S := S1024x1408) off_zero2,
    View.ld_unit_zero (S := S1024x1024) off_zero2, View.ld_unit_zero (S := S1x1024x1408) off_zero3]

/-- So does the last point, which then writes the sum and the token out. -/
theorem sum_last (hc0 : ¬cond0_0 i) (hc1 : cond0_1 i) :
    sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero off_zero2]
  simp only [View.readAt_eq_ld, h3.read_unread, h4.read_unread, h7.read_unread,
    View.ld_unit_zero (S := S1024x1408) off_zero2,
    View.ld_unit_zero (S := S1024x1024) off_zero2, View.ld_unit_zero (S := S1x1024x1408) off_zero3]

theorem out_last (hc0 : ¬cond0_0 i) (hc1 : cond0_1 i) :
    out0_C_3 c i a3 h3 a4 h4 a5 h5 a6 h6 a7 h7 hc0 hc1 x0 x1 x2 xs =
      k0_pay3 (k0_pay2 xs x0 x1) (View.ld x2 (Rect.unit (s := S8x128) ![0, 0] S1x1.size inb_S8x128_S1x1_0_0)) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero off_zero3]
  simp only [View.readCov_unit_zero (S := S1024x1408) _ off_zero2, View.readAt_eq_ld, h3.read_unread, h4.read_unread,
    h5.read_unread, h7.read_unread, View.ld_unit_zero (S := S1024x1408) off_zero2,
    View.ld_unit_zero (S := S1024x1024) off_zero2, View.ld_unit_zero (S := S1x1024x1408) off_zero3]
end

/-! ## The products at an index -/

theorem product_at (acc : FVec Ideal S1024x1408 .f32) (x : FVec Ideal S1024x1024 .bf16) (y : FVec Ideal S1x1024x1408 .bf16)
    (a : Fin 1024) (b : Fin 1408) :
    (k0_pay2 (F := Ideal) acc x y (ix2 a b) : EReal) =
      acc (ix2 a b) + ∑ k : Fin 1024, (x (ix2 k a) : EReal) * y (ix3 0 k b) := by
  unfold k0_pay2
  pointwise

theorem cleared_at (a : Fin 1024) (b : Fin 1408) : (k0_pay1 (F := Ideal) (ix2 a b) : EReal) = 0 := by
  unfold k0_pay1
  pointwise

theorem written_at (s : FVec Ideal S1024x1408 .f32) (t : FVec Ideal S1x1 .f32) (a : Fin 1024) (b : Fin 1408) :
    (k0_pay3 (F := Ideal) s t (ix3 0 a b) : EReal) = s (ix2 a b) + t (ix2 0 0) := by
  unfold k0_pay3
  pointwise

/-! ## The arrays that the kernel is launched on -/

theorem index_maps : ∀ t : Fin cfg0.N, (cfg0.win 0).index t = ![t.val % 4, 0] ∧
    (cfg0.win 1).index t = ![t.val / 8, t.val % 4, t.val / 4 % 2] ∧ (cfg0.win 2).index t = ![0, 0] := by
  decide +kernel

variable (m : (ℓ : Loc nD τ sig) → Buf (Elt Ideal) ℓ) (c : Dev nD)

/-- The normalised input and the two halves' gradients. -/
abbrev H : ℕ → ℕ → EReal := entry (R := 4096) (C := 1024) (m ((c : Thread nD τ).loc main_arg0))
abbrev G : ℕ → ℕ → EReal := entry (R := 4096) (C := 2816) (m ((c : Thread nD τ).loc main_arg2))
abbrev U : ℕ → ℕ → EReal := entry (R := 4096) (C := 2816) (m ((c : Thread nD τ).loc main_arg3))

/-- The two halves' gradients, one after the other, as the kernel takes them. -/
def halves (g u : FVec Ideal S4096x2816 .f32) : FVec Ideal S2x4096x2816 .bf16 :=
  truncf .bf16 (concatenate S2x4096x2816 0
    [⟨S1x4096x2816, broadcastInDim S1x4096x2816 ![1, 2] bcast_S4096x2816_S1x4096x2816_1_2 g⟩,
     ⟨S1x4096x2816, broadcastInDim S1x4096x2816 ![1, 2] bcast_S4096x2816_S1x4096x2816_1_2 u⟩]
    concatenates_S1x4096x2816_S1x4096x2816_S2x4096x2816_d0) bitsLt_bf16_f32

/-- The token, an array of zeros. -/
def token : FVec Ideal S8x128 .f32 := broadcastInDim S8x128 ![] bcast_S_S8x128 (constant S_ .f32 0x00000000#32)

theorem halves_first (g u : FVec Ideal S4096x2816 .f32) (r : Fin 4096) (j : Fin 2816) :
    (halves g u (ix3 0 r j) : EReal) = g (ix2 r j) := by
  unfold halves
  pointwise

theorem halves_second (g u : FVec Ideal S4096x2816 .f32) (r : Fin 4096) (j : Fin 2816) :
    (halves g u (ix3 1 r j) : EReal) = u (ix2 r j) := by
  unfold halves
  pointwise

theorem token_at (a : Fin 8) (b : Fin 128) : (token (ix2 a b) : EReal) = 0 := by
  unfold token
  pointwise

theorem V_input : V m c main_v4 = (truncf .bf16 (m ((c : Thread nD τ).loc main_arg0) : FVec Ideal S4096x1024 .f32) bitsLt_bf16_f32 :
    FVec Ideal S4096x1024 .bf16) := by
  unfold_abbrev_sides
  after_results

theorem V_halves : V m c main_v3 = halves (m ((c : Thread nD τ).loc main_arg2)) (m ((c : Thread nD τ).loc main_arg3)) := by
  unfold halves
  unfold_abbrev_sides
  after_results

theorem V_token : V m c main_v5 = token := by
  unfold token
  unfold_abbrev_sides
  after_results

/-! ## The blocks that a point sees -/

theorem block_input (t : Fin cfg0.N) (k a : Fin 1024) :
    (iblk m c 0 t (ix2 k a) : EReal) = H m c (1024 * (t.val % 4) + k) a := by
  have e := entry_at (R := 4096) (C := 1024) (m ((c : Thread nD τ).loc main_arg0)) ⟨1024 * (t.val % 4) + k, by have := k.isLt; omega⟩ a
  refine Eq.trans ?_ e
  have v : V m c (Pipeline.arrRef spec0 0) = _ := V_input m c
  unfold iblk
  rw [v]
  blk_ext [index_maps t]

theorem block_halves (t : Fin cfg0.N) (k : Fin 1024) (b : Fin 1408) :
    (iblk m c 1 t (ix3 0 k b) : EReal) = beside 2816 (G m c) (U m c) (1024 * (t.val % 4) + k) (1408 * (t.val / 4) + b) := by
  have hN : t.val < 16 := lt_of_lt_of_eq t.isLt N_0
  have v : V m c (Pipeline.arrRef spec0 1) = _ := V_halves m c
  unfold iblk
  rw [v]
  have hb := b.isLt
  have hk := k.isLt
  by_cases h : t.val / 8 = 0
  · have e := halves_first (m ((c : Thread nD τ).loc main_arg2)) (m ((c : Thread nD τ).loc main_arg3))
      ⟨1024 * (t.val % 4) + k, by omega⟩ ⟨1408 * (t.val / 4) + b, by omega⟩
    unfold beside
    rw [if_pos (by omega)]
    refine Eq.trans ?_ (e.trans (entry_at _ _ _))
    blk_ext [index_maps t]
  · have e := halves_second (m ((c : Thread nD τ).loc main_arg2)) (m ((c : Thread nD τ).loc main_arg3))
      ⟨1024 * (t.val % 4) + k, by omega⟩ ⟨1408 * (t.val / 4) + b - 2816, by omega⟩
    unfold beside
    rw [if_neg (by omega)]
    refine Eq.trans ?_ (e.trans (entry_at _ _ _))
    blk_ext [index_maps t]

theorem block_token (t : Fin cfg0.N) (a : Fin 8) (b : Fin 128) :
    @Eq EReal (iblk m c 2 t (ix2 a b)) 0 := by
  refine Eq.trans ?_ (token_at a b)
  have v : V m c (Pipeline.arrRef spec0 2) = _ := V_token m c
  unfold iblk
  rw [v]
  blk_ext [index_maps t]

/-! ## The sum over the points of a run -/

/-- What point `n` adds at row `a`, column `b` of its block. -/
def step (a b n : ℕ) : EReal :=
  ∑ k : Fin 1024, H m c (1024 * (n % 4) + k) a * beside 2816 (G m c) (U m c) (1024 * (n % 4) + k) (1408 * (n / 4) + b)

theorem product_point (t : Fin cfg0.N) (acc : FVec Ideal S1024x1408 .f32) (a : Fin 1024) (b : Fin 1408) :
    (k0_pay2 (F := Ideal) acc (iblk m c 0 t) (iblk m c 1 t) (ix2 a b) : EReal) = acc (ix2 a b) + step m c a b t.val := by
  refine (product_at acc (iblk m c 0 t) (iblk m c 1 t) a b).trans ?_
  unfold step
  refine congrArg _ (Finset.sum_congr rfl fun k _ => ?_)
  exact congrArg₂ (· * ·) (block_input m c t k a) (block_halves m c t k b)

theorem sum_at (a : Fin 1024) (b : Fin 1408) (n : ℕ) (h : n < cfg0.N) :
    ((outsAt0 m c n h).2 (ix2 a b) : EReal) = ∑ s ∈ Finset.range (n % 4 + 1), step m c a b (4 * (n / 4) + s) := by
  refine sum_since (p := 4) (by decide) (fun n h => ((outsAt0 m c n h).2 (ix2 a b) : EReal)) (step m c a b) ?_ ?_ n h
  · intro n h e
    rw [outsAt0_A m c ⟨n, h⟩ e (by dsimp only; omega)]
    rw [sum_first]
    refine (product_point m c ⟨n, h⟩ _ a b).trans ?_
    rw [cleared_at, zero_add]
  · intro n h e
    by_cases l : (n + 1) % 4 = 3
    · rw [outsAt0_C m c ⟨n + 1, h⟩ e l]
      rw [sum_last]
      exact product_point m c ⟨n + 1, h⟩ _ a b
    · rw [outsAt0_B m c ⟨n + 1, h⟩ e l]
      rw [sum_middle]
      exact product_point m c ⟨n + 1, h⟩ _ a b

/-- What the last point of a run writes out: the products over all the rows. -/
theorem out_at (t : Fin cfg0.N) (l : t.val % 4 = 3) (a : Fin 1024) (b : Fin 1408) :
    ((outsAt0 m c t.val t.isLt).1 (ix3 0 a b) : EReal) =
      ∑ r : Fin 4096, H m c r a * beside 2816 (G m c) (U m c) r (1408 * (t.val / 4) + b) := by
  have s := sum_at m c a b t.val t.isLt
  rw [outsAt0_C m c t (by omega) l] at s ⊢
  dsimp only at s ⊢
  rw [sum_last] at s
  rw [out_last, written_at, s]
  have z : @Eq EReal (View.ld (iblk m c 2 t) (Rect.unit (s := S8x128) ![0, 0] S1x1.size inb_S8x128_S1x1_0_0) (ix2 0 0)) 0 := by
    refine Eq.trans ?_ (block_token m c t 0 0)
    exact congrArg (iblk m c 2 t) (by funext x; match x with | ⟨0, _⟩ => rfl | ⟨1, _⟩ => rfl)
  rw [z, add_zero, l]
  have f := sum_tiles 1024 (fun r => H m c r a * beside 2816 (G m c) (U m c) r (1408 * (t.val / 4) + b)) 4
  refine Eq.trans (Finset.sum_congr rfl fun s hs => ?_) f
  have hs := Finset.mem_range.mp hs
  unfold step
  rw [show (4 * (t.val / 4) + s) % 4 = s by omega, show (4 * (t.val / 4) + s) / 4 = t.val / 4 by omega]

/-! ## The run -/

/-- Column block `q` of the gradient. -/
def result (h g u : ℕ → ℕ → EReal) : FVec Ideal S4x1024x1408 .f32 := fun i =>
  ∑ r : Fin 4096, h r (i 1).val * beside 2816 g u r (1408 * (i 0).val + (i 2).val)

theorem final (i : S4x1024x1408.Idx) : (Value.G3 m c i : EReal) = result (H m c) (G m c) (U m c) i := by
  have h0 : (i 0).val < 4 := (i 0).isLt
  have h1 : (i 1).val < 1024 := (i 1).isLt
  have h2 : (i 2).val < 1408 := (i 2).isLt
  have run : Value.run3Of i = (i 0).val := by unfold Value.run3Of; omega
  have hp : Value.pt3Of i < cfg0.N := by
    rw [show cfg0.N = 16 from N_0]; unfold Value.pt3Of; omega
  unfold Value.G3
  rw [dif_pos hp, ← Value.outsAt0_sweep m c _ hp]
  have e : Value.loc3Of i = ix3 0 ⟨(i 1).val, h1⟩ ⟨(i 2).val, h2⟩ := by
    funext x
    match x with
    | ⟨0, _⟩ => exact Fin.ext (Nat.mod_one _)
    | ⟨1, _⟩ => exact Fin.ext (Nat.mod_eq_of_lt h1)
    | ⟨2, _⟩ => exact Fin.ext (Nat.mod_eq_of_lt h2)
  rw [e]
  refine (out_at m c ⟨Value.pt3Of i, hp⟩ (by dsimp only [Value.pt3Of]; omega) _ _).trans ?_
  unfold result
  dsimp only
  rw [show Value.pt3Of i / 4 = (i 0).val by unfold Value.pt3Of; omega]

theorem run_values (ρ : Dev nD → PrngReg) : θ_run defs (onTc (τ := τ) (main (F := Ideal))) ⟨m, fun _ => 0, ρ⟩ fun r => ∀ c : Dev nD,
    r.2.mem ((c : Thread nD τ).loc main_v6) = result (H m c) (G m c) (U m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (funext fun i => final m c i), (h c).2⟩) (Value.run m ρ)

end Cert.Kernel2Ideal.Hand
-- ==== Proof.DwinReference.lean ====
/- The reference's gradient of the FFN's first weight matrix, entry by entry. -/
module

public import proofs.«01_k».proof.Proof.DwinValue
public import proofs.«01_k».proof.Proof.Gen.Reference2Ideal.Run

@[expose] public section

set_option maxRecDepth 16384

noncomputable section

namespace Cert.Reference2Ideal.Hand

open Cert.Reference2Ideal Cert.Reference2Ideal.Facts₀ Idealize.ShloMosaic Idealize.ShloMosaic.TcCoe Idealize.SL.Sem
open Cert.Ffn

/-- The two halves' gradients as one array. -/
def joined (g u : FVec Ideal S4096x2816 .f32) : FVec Ideal S4096x5632 .f32 :=
  addf (pad S4096x5632 ![0, 2816] ![0, 0] ![0, 0] u (constant S_ .f32 0x00000000#32) pads_S4096x2816_S4096x5632_000_281600 h_S_)
    (pad S4096x5632 ![0, 0] ![0, 2816] ![0, 0] g (constant S_ .f32 0x00000000#32) pads_S4096x2816_S4096x5632_000_028160 h_S_)

theorem joined_at (g u : FVec Ideal S4096x2816 .f32) (r : Fin 4096) (j : Fin 5632) :
    (joined g u (ix2 r j) : EReal) = beside 2816 (entry (R := 4096) (C := 2816) g) (entry (R := 4096) (C := 2816) u) r j := by
  unfold joined beside
  by_cases h : j.val < 2816
  · rw [if_pos h, entry_of_lt _ r.isLt h]
    pointwise
    rw [dif_neg (by omega), dif_pos h, zero_add]
  · rw [if_neg h, entry_of_lt _ r.isLt (by have := j.isLt; omega)]
    pointwise
    rw [dif_pos (by have := j.isLt; omega), dif_neg h, add_zero]

/-- The gradient, laid out in column blocks. -/
def gradient (h : FVec Ideal S4096x1024 .f32) (d : FVec Ideal S4096x5632 .f32) : FVec Ideal S4x1024x1408 .f32 :=
  transpose S4x1024x1408 [1, 0, 2] (shapeCast S1024x4x1408 (transpose S1024x5632 [1, 0]
    (Host.dotGeneral (F := Ideal) (φ₁ := .f32) (φ₂ := .f32) dot_S4096x5632_S4096x1024_S5632x1024_0_0_1_1_n_n none d h)
    transposes_S5632x1024_S1024x5632_1_0) shapeCasts_S1024x5632_S1024x4x1408) transposes_S1024x4x1408_S4x1024x1408_1_0_2

theorem gradient_at (h : FVec Ideal S4096x1024 .f32) (d : FVec Ideal S4096x5632 .f32) (q : Fin 4) (a : Fin 1024) (b : Fin 1408) :
    (gradient h d (ix3 q a b) : EReal) =
      ∑ r : Fin 4096, (d (ix2 r ⟨1408 * q + b, by have := q.isLt; have := b.isLt; omega⟩) : EReal) * h (ix2 r a) := by
  unfold gradient
  pointwise
  refine Finset.sum_congr rfl fun r _ => ?_
  simp only [Nat.mul_comm q.val 1408]

/-- The reference's result is the kernel's. -/
theorem gradient_eq (h : FVec Ideal S4096x1024 .f32) (g u : FVec Ideal S4096x2816 .f32) :
    gradient h (joined g u) = Cert.Kernel2Ideal.Hand.result (entry (R := 4096) (C := 1024) h)
      (entry (R := 4096) (C := 2816) g) (entry (R := 4096) (C := 2816) u) := by
  funext i
  obtain ⟨q, a, b, rfl⟩ : ∃ (q : Fin 4) (a : Fin 1024) (b : Fin 1408), i = ix3 q a b := ⟨i 0, i 1, i 2, eq_ix3 i⟩
  refine (gradient_at h (joined g u) q a b).trans (Finset.sum_congr rfl fun r _ => ?_)
  rw [joined_at, mul_comm, entry_at h r a]
  rfl

variable (m : (ℓ : Loc nD τ sig) → Buf (Elt Ideal) ℓ) (ρ : Dev nD → PrngReg)

theorem run_values : θ_run defs (onTc (τ := τ) (main (F := Ideal))) ⟨m, fun _ => 0, ρ⟩ fun r => ∀ c : Dev nD,
    r.2.mem ((c.tc : Thread nD τ).loc main_v9) = Cert.Kernel2Ideal.Hand.result
        (entry (R := 4096) (C := 1024) (m ((c.tc : Thread nD τ).loc main_arg0)))
        (entry (R := 4096) (C := 2816) (m ((c.tc : Thread nD τ).loc main_arg2)))
        (entry (R := 4096) (C := 2816) (m ((c.tc : Thread nD τ).loc main_arg3)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans (gradient_eq _ _ _), (h c).2⟩) (Value.run (F := Ideal) m ρ)

end Cert.Reference2Ideal.Hand
-- ==== Proof.DhValue.lean ====
/- What the gradient of the FFN's input is: the kernel adds up, column block by column block, the products of the rows of
the two halves' gradients with the rows of the first weight matrix. -/
module

public import proofs.«01_k».proof.Proof.Tiles
public import proofs.«01_k».proof.Proof.Gen.Kernel3Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Cert.Ffn

theorem off_zero2 : (![0, 0] : Fin 2 → ℕ) = fun _ => 0 := by funext i; revert i; decide
theorem off_zero3 : (![0, 0, 0] : Fin 3 → ℕ) = fun _ => 0 := by funext i; revert i; decide

/-! ## What each kind of point leaves -/

section
variable {F : FTy → Type} [FloatOps F]
variable (c : Dev nD) (i : grid0.Coords) (a3 : Memref sig .tc .vmem S1x1024x1408 .bf16) (h3 : a3.IsWhole)
  (a4 : Memref sig .tc .vmem S1x1024x1408 .f32) (h4 : a4.IsWhole) (a5 : Memref sig .tc .vmem S8x128 .f32) (h5 : a5.IsWhole)
  (a6 : Memref sig .tc .vmem S1024x1024 .f32) (h6 : a6.IsWhole) (a7 : Memref sig .tc .vmem S1024x1024 .f32) (h7 : a7.IsWhole)
  (x0 : Vec F S1x1024x1408 .bf16) (x1 : Vec F S1x1024x1408 .f32) (x2 : Vec F S8x128 .f32) (xs : Vec F S1024x1024 .f32)

/-- The first point of a run clears the sum and adds its product. -/
theorem sum_first (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) off_zero2]
  simp only [View.readCov_unit_zero (S := S1024x1024) _ off_zero2, View.readAt_eq_ld, h3.read_unread, h4.read_unread,
    View.ld_unit_zero (S := S1024x1024) off_zero2, View.ld_unit_zero (S := S1x1024x1408) off_zero3]

/-- A middle point adds its product. -/
theorem sum_middle (hc0 : ¬cond0_0 i) (hc1 : ¬cond0_1 i) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero off_zero2]
  simp only [View.readAt_eq_ld, h3.read_unread, h4.read_unread, h7.read_unread,
    View.ld_unit_zero (S := S1024x1024) off_zero2,
    View.ld_unit_zero (S := S1024x1024) off_zero2, View.ld_unit_zero (S := S1x1024x1408) off_zero3]

/-- So does the last point, which then writes the sum and the token out. -/
theorem sum_last (hc0 : ¬cond0_0 i) (hc1 : cond0_1 i) :
    sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero off_zero2]
  simp only [View.readAt_eq_ld, h3.read_unread, h4.read_unread, h7.read_unread,
    View.ld_unit_zero (S := S1024x1024) off_zero2,
    View.ld_unit_zero (S := S1024x1024) off_zero2, View.ld_unit_zero (S := S1x1024x1408) off_zero3]

theorem out_last (hc0 : ¬cond0_0 i) (hc1 : cond0_1 i) :
    out0_C_3 c i a3 h3 a4 h4 a5 h5 a6 h6 a7 h7 hc0 hc1 x0 x1 x2 xs =
      k0_pay3 (k0_pay2 xs x0 x1) (View.ld x2 (Rect.unit (s := S8x128) ![0, 0] S1x1.size inb_S8x128_S1x1_0_0)) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero off_zero2]
  simp only [View.readCov_unit_zero (S := S1024x1024) _ off_zero2, View.readAt_eq_ld, h3.read_unread, h4.read_unread,
    h5.read_unread, h7.read_unread, View.ld_unit_zero (S := S1024x1024) off_zero2,
    View.ld_unit_zero (S := S1024x1024) off_zero2, View.ld_unit_zero (S := S1x1024x1408) off_zero3]
end

/-! ## The products at an index -/

theorem product_at (acc : FVec Ideal S1024x1024 .f32) (x : FVec Ideal S1x1024x1408 .bf16) (y : FVec Ideal S1x1024x1408 .f32)
    (a b : Fin 1024) :
    (k0_pay2 (F := Ideal) acc x y (ix2 a b) : EReal) =
      acc (ix2 a b) + ∑ k : Fin 1408, (x (ix3 0 a k) : EReal) * y (ix3 0 b k) := by
  unfold k0_pay2
  pointwise

theorem cleared_at (a b : Fin 1024) : (k0_pay1 (F := Ideal) (ix2 a b) : EReal) = 0 := by
  unfold k0_pay1
  pointwise

theorem written_at (s : FVec Ideal S1024x1024 .f32) (t : FVec Ideal S1x1 .f32) (a b : Fin 1024) :
    (k0_pay3 (F := Ideal) s t (ix2 a b) : EReal) = s (ix2 a b) + t (ix2 0 0) := by
  unfold k0_pay3
  pointwise

/-! ## The arrays that the kernel is launched on -/

theorem index_maps : ∀ t : Fin cfg0.N, (cfg0.win 0).index t = ![t.val % 4 / 2, t.val / 4, t.val % 2] ∧
    (cfg0.win 1).index t = ![t.val % 4, 0, 0] ∧ (cfg0.win 2).index t = ![0, 0] := by
  decide +kernel

variable (m : (ℓ : Loc nD τ sig) → Buf (Elt Ideal) ℓ) (c : Dev nD)

/-- The weight matrix and the two halves' gradients. -/
abbrev W : ℕ → ℕ → EReal := entry (R := 1024) (C := 5632) (m ((c : Thread nD τ).loc main_arg1))
abbrev G : ℕ → ℕ → EReal := entry (R := 4096) (C := 2816) (m ((c : Thread nD τ).loc main_arg2))
abbrev U : ℕ → ℕ → EReal := entry (R := 4096) (C := 2816) (m ((c : Thread nD τ).loc main_arg3))

/-- The two halves' gradients, one after the other, as the kernel takes them. -/
def halves (g u : FVec Ideal S4096x2816 .f32) : FVec Ideal S2x4096x2816 .bf16 :=
  truncf .bf16 (concatenate S2x4096x2816 0
    [⟨S1x4096x2816, broadcastInDim S1x4096x2816 ![1, 2] bcast_S4096x2816_S1x4096x2816_1_2 g⟩,
     ⟨S1x4096x2816, broadcastInDim S1x4096x2816 ![1, 2] bcast_S4096x2816_S1x4096x2816_1_2 u⟩]
    concatenates_S1x4096x2816_S1x4096x2816_S2x4096x2816_d0) bitsLt_bf16_f32

/-- The token, an array of zeros. -/
def token : FVec Ideal S8x128 .f32 := broadcastInDim S8x128 ![] bcast_S_S8x128 (constant S_ .f32 0x00000000#32)

theorem halves_first (g u : FVec Ideal S4096x2816 .f32) (r : Fin 4096) (j : Fin 2816) :
    (halves g u (ix3 0 r j) : EReal) = g (ix2 r j) := by
  unfold halves
  pointwise

theorem halves_second (g u : FVec Ideal S4096x2816 .f32) (r : Fin 4096) (j : Fin 2816) :
    (halves g u (ix3 1 r j) : EReal) = u (ix2 r j) := by
  unfold halves
  pointwise

theorem token_at (a : Fin 8) (b : Fin 128) : (token (ix2 a b) : EReal) = 0 := by
  unfold token
  pointwise

/-- The weight matrix in column blocks. -/
def blocks (w : FVec Ideal S1024x5632 .f32) : FVec Ideal S4x1024x1408 .f32 :=
  transpose S4x1024x1408 [1, 0, 2] (shapeCast S1024x4x1408 w shapeCasts_S1024x5632_S1024x4x1408)
    transposes_S1024x4x1408_S4x1024x1408_1_0_2

theorem blocks_at (w : FVec Ideal S1024x5632 .f32) (q : Fin 4) (a : Fin 1024) (b : Fin 1408) :
    (blocks w (ix3 q a b) : EReal) = w (ix2 a ⟨1408 * q + b, by have := q.isLt; have := b.isLt; omega⟩) := by
  unfold blocks
  pointwise
  simp only [Nat.mul_comm q.val 1408]

theorem V_blocks : V m c main_v5 = blocks (m ((c : Thread nD τ).loc main_arg1)) := by
  unfold blocks
  unfold_abbrev_sides
  after_results
  rfl

theorem V_halves : V m c main_v3 = halves (m ((c : Thread nD τ).loc main_arg2)) (m ((c : Thread nD τ).loc main_arg3)) := by
  unfold halves
  unfold_abbrev_sides
  after_results

theorem V_token : V m c main_v6 = token := by
  unfold token
  unfold_abbrev_sides
  after_results

/-! ## The blocks that a point sees -/

theorem block_halves (t : Fin cfg0.N) (a : Fin 1024) (k : Fin 1408) :
    (iblk m c 0 t (ix3 0 a k) : EReal) = beside 2816 (G m c) (U m c) (1024 * (t.val / 4) + a) (1408 * (t.val % 4) + k) := by
  have hN : t.val < 16 := lt_of_lt_of_eq t.isLt N_0
  have v : V m c (Pipeline.arrRef spec0 0) = _ := V_halves m c
  unfold iblk
  rw [v]
  have ha := a.isLt
  have hk := k.isLt
  by_cases h : t.val % 4 / 2 = 0
  · have e := halves_first (m ((c : Thread nD τ).loc main_arg2)) (m ((c : Thread nD τ).loc main_arg3))
      ⟨1024 * (t.val / 4) + a, by omega⟩ ⟨1408 * (t.val % 4) + k, by omega⟩
    unfold beside
    rw [if_pos (by omega)]
    refine Eq.trans ?_ (e.trans (entry_at _ _ _))
    blk_ext [index_maps t]
  · have e := halves_second (m ((c : Thread nD τ).loc main_arg2)) (m ((c : Thread nD τ).loc main_arg3))
      ⟨1024 * (t.val / 4) + a, by omega⟩ ⟨1408 * (t.val % 4) + k - 2816, by omega⟩
    unfold beside
    rw [if_neg (by omega)]
    refine Eq.trans ?_ (e.trans (entry_at _ _ _))
    blk_ext [index_maps t]

theorem block_weights (t : Fin cfg0.N) (b : Fin 1024) (k : Fin 1408) :
    (iblk m c 1 t (ix3 0 b k) : EReal) = W m c b (1408 * (t.val % 4) + k) := by
  have v : V m c (Pipeline.arrRef spec0 1) = _ := V_blocks m c
  have e := blocks_at (m ((c : Thread nD τ).loc main_arg1)) ⟨t.val % 4, by omega⟩ b k
  refine Eq.trans ?_ (e.trans (entry_at _ _ _))
  unfold iblk
  rw [v]
  blk_ext [index_maps t]

theorem block_token (t : Fin cfg0.N) (a : Fin 8) (b : Fin 128) :
    @Eq EReal (iblk m c 2 t (ix2 a b)) 0 := by
  refine Eq.trans ?_ (token_at a b)
  have v : V m c (Pipeline.arrRef spec0 2) = _ := V_token m c
  unfold iblk
  rw [v]
  blk_ext [index_maps t]

/-! ## The sum over the points of a run -/

/-- What point `n` adds at row `a`, column `b` of its block. -/
def step (a b n : ℕ) : EReal :=
  ∑ k : Fin 1408, beside 2816 (G m c) (U m c) (1024 * (n / 4) + a) (1408 * (n % 4) + k) * W m c b (1408 * (n % 4) + k)

theorem product_point (t : Fin cfg0.N) (acc : FVec Ideal S1024x1024 .f32) (a b : Fin 1024) :
    (k0_pay2 (F := Ideal) acc (iblk m c 0 t) (iblk m c 1 t) (ix2 a b) : EReal) = acc (ix2 a b) + step m c a b t.val := by
  refine (product_at acc (iblk m c 0 t) (iblk m c 1 t) a b).trans ?_
  unfold step
  refine congrArg _ (Finset.sum_congr rfl fun k _ => ?_)
  exact congrArg₂ (· * ·) (block_halves m c t a k) (block_weights m c t b k)

theorem sum_at (a b : Fin 1024) (n : ℕ) (h : n < cfg0.N) :
    ((outsAt0 m c n h).2 (ix2 a b) : EReal) = ∑ s ∈ Finset.range (n % 4 + 1), step m c a b (4 * (n / 4) + s) := by
  refine sum_since (p := 4) (by decide) (fun n h => ((outsAt0 m c n h).2 (ix2 a b) : EReal)) (step m c a b) ?_ ?_ n h
  · intro n h e
    rw [outsAt0_A m c ⟨n, h⟩ e (by dsimp only; omega)]
    rw [sum_first]
    refine (product_point m c ⟨n, h⟩ _ a b).trans ?_
    rw [cleared_at, zero_add]
  · intro n h e
    by_cases l : (n + 1) % 4 = 3
    · rw [outsAt0_C m c ⟨n + 1, h⟩ e l]
      rw [sum_last]
      exact product_point m c ⟨n + 1, h⟩ _ a b
    · rw [outsAt0_B m c ⟨n + 1, h⟩ e l]
      rw [sum_middle]
      exact product_point m c ⟨n + 1, h⟩ _ a b

/-- What the last point of a run writes out: the products over all the columns. -/
theorem out_at (t : Fin cfg0.N) (l : t.val % 4 = 3) (a b : Fin 1024) :
    ((outsAt0 m c t.val t.isLt).1 (ix2 a b) : EReal) =
      ∑ j : Fin 5632, beside 2816 (G m c) (U m c) (1024 * (t.val / 4) + a) j * W m c b j := by
  have s := sum_at m c a b t.val t.isLt
  rw [outsAt0_C m c t (by omega) l] at s ⊢
  dsimp only at s ⊢
  rw [sum_last] at s
  rw [out_last, written_at, s]
  have z : @Eq EReal (View.ld (iblk m c 2 t) (Rect.unit (s := S8x128) ![0, 0] S1x1.size inb_S8x128_S1x1_0_0) (ix2 0 0)) 0 := by
    refine Eq.trans ?_ (block_token m c t 0 0)
    exact congrArg (iblk m c 2 t) (by funext x; match x with | ⟨0, _⟩ => rfl | ⟨1, _⟩ => rfl)
  rw [z, add_zero, l]
  have f := sum_tiles 1408 (fun j => beside 2816 (G m c) (U m c) (1024 * (t.val / 4) + a) j * W m c b j) 4
  refine Eq.trans (Finset.sum_congr rfl fun s hs => ?_) f
  have hs := Finset.mem_range.mp hs
  unfold step
  rw [show (4 * (t.val / 4) + s) % 4 = s by omega, show (4 * (t.val / 4) + s) / 4 = t.val / 4 by omega]

/-! ## The run -/

/-- The input's gradient. -/
def result (w g u : ℕ → ℕ → EReal) : FVec Ideal S4096x1024 .f32 := fun i =>
  ∑ j : Fin 5632, beside 2816 g u (i 0).val j * w (i 1).val j

theorem final (i : S4096x1024.Idx) : (Value.G3 m c i : EReal) = result (W m c) (G m c) (U m c) i := by
  have h0 : (i 0).val < 4096 := (i 0).isLt
  have h1 : (i 1).val < 1024 := (i 1).isLt
  have run : Value.run3Of i = (i 0).val / 1024 := by unfold Value.run3Of; omega
  have hp : Value.pt3Of i < cfg0.N := by
    rw [show cfg0.N = 16 from N_0]; unfold Value.pt3Of; omega
  unfold Value.G3
  rw [dif_pos hp, ← Value.outsAt0_sweep m c _ hp]
  have e : Value.loc3Of i = ix2 ⟨(i 0).val % 1024, by omega⟩ ⟨(i 1).val, h1⟩ := by
    funext x
    match x with
    | ⟨0, _⟩ => rfl
    | ⟨1, _⟩ => exact Fin.ext (Nat.mod_eq_of_lt h1)
  rw [e]
  refine (out_at m c ⟨Value.pt3Of i, hp⟩ (by dsimp only [Value.pt3Of]; omega) _ _).trans ?_
  unfold result
  dsimp only
  rw [show 1024 * (Value.pt3Of i / 4) + (i 0).val % 1024 = (i 0).val by unfold Value.pt3Of; omega]

theorem run_values (ρ : Dev nD → PrngReg) : θ_run defs (onTc (τ := τ) (main (F := Ideal))) ⟨m, fun _ => 0, ρ⟩ fun r => ∀ c : Dev nD,
    r.2.mem ((c : Thread nD τ).loc main_v7) = result (W m c) (G m c) (U m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (funext fun i => final m c i), (h c).2⟩) (Value.run m ρ)

end Cert.Kernel3Ideal.Hand
-- ==== Proof.DhReference.lean ====
/- The reference's gradient of the FFN's input, entry by entry. -/
module

public import proofs.«01_k».proof.Proof.DhValue
public import proofs.«01_k».proof.Proof.Gen.Reference3Ideal.Run

@[expose] public section

set_option maxRecDepth 16384

noncomputable section

namespace Cert.Reference3Ideal.Hand

open Cert.Reference3Ideal Cert.Reference3Ideal.Facts₀ Idealize.ShloMosaic Idealize.ShloMosaic.TcCoe Idealize.SL.Sem
open Cert.Ffn

/-- The two halves' gradients as one array. -/
def joined (g u : FVec Ideal S4096x2816 .f32) : FVec Ideal S4096x5632 .f32 :=
  addf (pad S4096x5632 ![0, 2816] ![0, 0] ![0, 0] u (constant S_ .f32 0x00000000#32) pads_S4096x2816_S4096x5632_000_281600 h_S_)
    (pad S4096x5632 ![0, 0] ![0, 2816] ![0, 0] g (constant S_ .f32 0x00000000#32) pads_S4096x2816_S4096x5632_000_028160 h_S_)

theorem joined_at (g u : FVec Ideal S4096x2816 .f32) (r : Fin 4096) (j : Fin 5632) :
    (joined g u (ix2 r j) : EReal) = beside 2816 (entry (R := 4096) (C := 2816) g) (entry (R := 4096) (C := 2816) u) r j := by
  unfold joined beside
  by_cases h : j.val < 2816
  · rw [if_pos h, entry_of_lt _ r.isLt h]
    pointwise
    rw [dif_neg (by omega), dif_pos h, zero_add]
  · rw [if_neg h, entry_of_lt _ r.isLt (by have := j.isLt; omega)]
    pointwise
    rw [dif_pos (by have := j.isLt; omega), dif_neg h, add_zero]

/-- The gradient. -/
def gradient (w : FVec Ideal S1024x5632 .f32) (d : FVec Ideal S4096x5632 .f32) : FVec Ideal S4096x1024 .f32 :=
  Host.dotGeneral (F := Ideal) (φ₁ := .f32) (φ₂ := .f32) dot_S4096x5632_S1024x5632_S4096x1024_1_1_0_0_n_n none d w

theorem gradient_at (w : FVec Ideal S1024x5632 .f32) (d : FVec Ideal S4096x5632 .f32) (r : Fin 4096) (a : Fin 1024) :
    (gradient w d (ix2 r a) : EReal) = ∑ j : Fin 5632, (d (ix2 r j) : EReal) * w (ix2 a j) := by
  unfold gradient
  pointwise

/-- The reference's result is the kernel's. -/
theorem gradient_eq (w : FVec Ideal S1024x5632 .f32) (g u : FVec Ideal S4096x2816 .f32) :
    gradient w (joined g u) = Cert.Kernel3Ideal.Hand.result (entry (R := 1024) (C := 5632) w)
      (entry (R := 4096) (C := 2816) g) (entry (R := 4096) (C := 2816) u) := by
  funext i
  obtain ⟨r, a, rfl⟩ : ∃ (r : Fin 4096) (a : Fin 1024), i = ix2 r a := ⟨i 0, i 1, eq_ix2 i⟩
  refine (gradient_at w (joined g u) r a).trans (Finset.sum_congr rfl fun j _ => ?_)
  rw [joined_at, entry_at w a j]
  rfl

variable (m : (ℓ : Loc nD τ sig) → Buf (Elt Ideal) ℓ) (ρ : Dev nD → PrngReg)

theorem run_values : θ_run defs (onTc (τ := τ) (main (F := Ideal))) ⟨m, fun _ => 0, ρ⟩ fun r => ∀ c : Dev nD,
    r.2.mem ((c.tc : Thread nD τ).loc main_v6) = Cert.Kernel3Ideal.Hand.result
        (entry (R := 1024) (C := 5632) (m ((c.tc : Thread nD τ).loc main_arg1)))
        (entry (R := 4096) (C := 2816) (m ((c.tc : Thread nD τ).loc main_arg2)))
        (entry (R := 4096) (C := 2816) (m ((c.tc : Thread nD τ).loc main_arg3)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans (gradient_eq _ _ _), (h c).2⟩) (Value.run (F := Ideal) m ρ)

end Cert.Reference3Ideal.Hand
-- ==== Proof.DwoutValue.lean ====
/- What the gradient of the FFN's second weight matrix is: the kernel adds up, tile by tile of rows, the products of the
columns of the activations with the columns of the output's gradient, and halves the sum. -/
module

public import proofs.«01_k».proof.Proof.Tiles
public import proofs.«01_k».proof.Proof.Gen.Kernel4Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Cert.Ffn

theorem off_zero2 : (![0, 0] : Fin 2 → ℕ) = fun _ => 0 := by funext i; revert i; decide

/-! ## What each kind of point leaves -/

section
variable {F : FTy → Type} [FloatOps F]
variable (c : Dev nD) (i : grid0.Coords) (a3 : Memref sig .tc .vmem S1024x1408 .bf16) (h3 : a3.IsWhole)
  (a4 : Memref sig .tc .vmem S1024x1024 .f32) (h4 : a4.IsWhole) (a5 : Memref sig .tc .vmem S1408x1024 .f32) (h5 : a5.IsWhole)
  (a6 : Memref sig .tc .vmem S1408x1024 .f32) (h6 : a6.IsWhole)
  (x0 : Vec F S1024x1408 .bf16) (x1 : Vec F S1024x1024 .f32) (xs : Vec F S1408x1024 .f32)

/-- The first point of a run clears the sum and adds its product. -/
theorem sum_first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) off_zero2]
  simp only [View.readCov_unit_zero (S := S1408x1024) _ off_zero2, View.readAt_eq_ld, h3.read_unread, h4.read_unread,
    View.ld_unit_zero (S := S1024x1408) off_zero2, View.ld_unit_zero (S := S1024x1024) off_zero2]

/-- A middle point adds its product. -/
theorem sum_middle (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero off_zero2]
  simp only [View.readAt_eq_ld, h3.read_unread, h4.read_unread, h6.read_unread, View.ld_unit_zero (S := S1408x1024) off_zero2,
    View.ld_unit_zero (S := S1024x1408) off_zero2, View.ld_unit_zero (S := S1024x1024) off_zero2]

/-- So does the last point, which then writes half of the sum out. -/
theorem sum_last (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero off_zero2]
  simp only [View.readAt_eq_ld, h3.read_unread, h4.read_unread, h6.read_unread, View.ld_unit_zero (S := S1408x1024) off_zero2,
    View.ld_unit_zero (S := S1024x1408) off_zero2, View.ld_unit_zero (S := S1024x1024) off_zero2]

theorem out_last (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero off_zero2]
  simp only [View.readCov_unit_zero (S := S1408x1024) _ off_zero2, View.readAt_eq_ld, h3.read_unread, h4.read_unread,
    h6.read_unread, View.ld_unit_zero (S := S1408x1024) off_zero2,
    View.ld_unit_zero (S := S1024x1408) off_zero2, View.ld_unit_zero (S := S1024x1024) off_zero2]
end

/-! ## The products at an index -/

theorem product_at (acc : FVec Ideal S1408x1024 .f32) (x : FVec Ideal S1024x1408 .bf16) (y : FVec Ideal S1024x1024 .f32)
    (a : Fin 1408) (b : Fin 1024) :
    (k0_pay2 (F := Ideal) acc x y (ix2 a b) : EReal) =
      acc (ix2 a b) + ∑ k : Fin 1024, (x (ix2 k a) : EReal) * y (ix2 k b) := by
  unfold k0_pay2
  pointwise

theorem cleared_at (a : Fin 1408) (b : Fin 1024) : (k0_pay1 (F := Ideal) (ix2 a b) : EReal) = 0 := by
  unfold k0_pay1
  pointwise

theorem written_at (s : FVec Ideal S1408x1024 .f32) (a : Fin 1408) (b : Fin 1024) :
    (k0_pay3 (F := Ideal) s (ix2 a b) : EReal) = s (ix2 a b) * half := by
  unfold k0_pay3
  pointwise
  rfl

/-! ## The arrays that the kernel is launched on -/

theorem index_maps : ∀ t : Fin cfg0.N, (cfg0.win 0).index t = ![t.val % 4, t.val / 4] ∧
    (cfg0.win 1).index t = ![t.val % 4, 0] := by
  decide +kernel

variable (m : (ℓ : Loc nD τ sig) → Buf (Elt Ideal) ℓ) (c : Dev nD)

/-- The activations and the output's gradient. -/
abbrev X : ℕ → ℕ → EReal := entry (R := 4096) (C := 2816) (m ((c : Thread nD τ).loc main_arg0))
abbrev D : ℕ → ℕ → EReal := entry (R := 4096) (C := 1024) (m ((c : Thread nD τ).loc main_arg2))

/-- The activations as the kernel takes them. -/
def rounded (x : FVec Ideal S4096x2816 .f32) : FVec Ideal S4096x2816 .bf16 := truncf .bf16 x bitsLt_bf16_f32

theorem V_rounded : V m c main_v0 = rounded (m ((c : Thread nD τ).loc main_arg0)) := by
  unfold rounded
  unfold_abbrev_sides
  after_results

/-! ## The blocks that a point sees -/

theorem block_left (t : Fin cfg0.N) (k : Fin 1024) (a : Fin 1408) :
    (iblk m c 0 t (ix2 k a) : EReal) = X m c (1024 * (t.val % 4) + k) (1408 * (t.val / 4) + a) := by
  have hN : t.val < 8 := lt_of_lt_of_eq t.isLt N_0
  have ha := a.isLt
  have hk := k.isLt
  have v : V m c (Pipeline.arrRef spec0 0) = _ := V_rounded m c
  refine Eq.trans ?_ (entry_at (R := 4096) (C := 2816) (m ((c : Thread nD τ).loc main_arg0))
    ⟨1024 * (t.val % 4) + k, by omega⟩ ⟨1408 * (t.val / 4) + a, by omega⟩)
  unfold iblk
  rw [v]
  blk_ext [index_maps t]

theorem block_right (t : Fin cfg0.N) (k b : Fin 1024) :
    (iblk m c 1 t (ix2 k b) : EReal) = D m c (1024 * (t.val % 4) + k) b := by
  have hk := k.isLt
  have v : V m c (Pipeline.arrRef spec0 1) = _ := V_main_arg2 m c
  refine Eq.trans ?_ (entry_at (R := 4096) (C := 1024) (m ((c : Thread nD τ).loc main_arg2))
    ⟨1024 * (t.val % 4) + k, by omega⟩ b)
  unfold iblk
  rw [v]
  blk_ext [index_maps t]

/-! ## The sum over the points of a run -/

/-- What point `n` adds at row `a`, column `b` of its block. -/
def step (a b n : ℕ) : EReal :=
  ∑ k : Fin 1024, X m c (1024 * (n % 4) + k) (1408 * (n / 4) + a) * D m c (1024 * (n % 4) + k) b

theorem product_point (t : Fin cfg0.N) (acc : FVec Ideal S1408x1024 .f32) (a : Fin 1408) (b : Fin 1024) :
    (k0_pay2 (F := Ideal) acc (iblk m c 0 t) (iblk m c 1 t) (ix2 a b) : EReal) = acc (ix2 a b) + step m c a b t.val := by
  refine (product_at acc (iblk m c 0 t) (iblk m c 1 t) a b).trans ?_
  unfold step
  refine congrArg _ (Finset.sum_congr rfl fun k _ => ?_)
  exact congrArg₂ (· * ·) (block_left m c t k a) (block_right m c t k b)

theorem sum_at (a : Fin 1408) (b : Fin 1024) (n : ℕ) (h : n < cfg0.N) :
    ((outsAt0 m c n h).2 (ix2 a b) : EReal) = ∑ s ∈ Finset.range (n % 4 + 1), step m c a b (4 * (n / 4) + s) := by
  refine sum_since (p := 4) (by decide) (fun n h => ((outsAt0 m c n h).2 (ix2 a b) : EReal)) (step m c a b) ?_ ?_ n h
  · intro n h e
    rw [outsAt0_A m c ⟨n, h⟩ e (by dsimp only; omega)]
    rw [sum_first]
    refine (product_point m c ⟨n, h⟩ _ a b).trans ?_
    rw [cleared_at, zero_add]
  · intro n h e
    by_cases l : (n + 1) % 4 = 3
    · rw [outsAt0_C m c ⟨n + 1, h⟩ e l]
      rw [sum_last]
      exact product_point m c ⟨n + 1, h⟩ _ a b
    · rw [outsAt0_B m c ⟨n + 1, h⟩ e l]
      rw [sum_middle]
      exact product_point m c ⟨n + 1, h⟩ _ a b

/-- What the last point of a run writes out: half of the products over all the rows. -/
theorem out_at (t : Fin cfg0.N) (l : t.val % 4 = 3) (a : Fin 1408) (b : Fin 1024) :
    ((outsAt0 m c t.val t.isLt).1 (ix2 a b) : EReal) =
      (∑ r : Fin 4096, X m c r (1408 * (t.val / 4) + a) * D m c r b) * half := by
  have s := sum_at m c a b t.val t.isLt
  rw [outsAt0_C m c t (by omega) l] at s ⊢
  dsimp only at s ⊢
  rw [sum_last] at s
  rw [out_last, written_at, s, l]
  have f := sum_tiles 1024 (fun r => X m c r (1408 * (t.val / 4) + a) * D m c r b) 4
  refine congrArg (· * half) (Eq.trans (Finset.sum_congr rfl fun s hs => ?_) f)
  have hs := Finset.mem_range.mp hs
  unfold step
  rw [show (4 * (t.val / 4) + s) % 4 = s by omega, show (4 * (t.val / 4) + s) / 4 = t.val / 4 by omega]

/-! ## The run -/

/-- The weight matrix's gradient. -/
def result (x d : ℕ → ℕ → EReal) : FVec Ideal S2816x1024 .f32 := fun i =>
  (∑ r : Fin 4096, x r (i 0).val * d r (i 1).val) * half

theorem final (i : S2816x1024.Idx) : (Value.G2 m c i : EReal) = result (X m c) (D m c) i := by
  have h0 : (i 0).val < 2816 := (i 0).isLt
  have h1 : (i 1).val < 1024 := (i 1).isLt
  have run : Value.run2Of i = (i 0).val / 1408 := by unfold Value.run2Of; omega
  have hp : Value.pt2Of i < cfg0.N := by
    rw [show cfg0.N = 8 from N_0]; unfold Value.pt2Of; omega
  unfold Value.G2
  rw [dif_pos hp, ← Value.outsAt0_sweep m c _ hp]
  have e : Value.loc2Of i = ix2 ⟨(i 0).val % 1408, by omega⟩ ⟨(i 1).val, h1⟩ := by
    funext x
    match x with
    | ⟨0, _⟩ => rfl
    | ⟨1, _⟩ => exact Fin.ext (Nat.mod_eq_of_lt h1)
  rw [e]
  refine (out_at m c ⟨Value.pt2Of i, hp⟩ (by dsimp only [Value.pt2Of]; omega) _ _).trans ?_
  unfold result
  dsimp only
  rw [show 1408 * (Value.pt2Of i / 4) + (i 0).val % 1408 = (i 0).val by unfold Value.pt2Of; omega]

theorem run_values (ρ : Dev nD → PrngReg) : θ_run defs (onTc (τ := τ) (main (F := Ideal))) ⟨m, fun _ => 0, ρ⟩ fun r => ∀ c : Dev nD,
    r.2.mem ((c : Thread nD τ).loc main_v1) = result (X m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (funext fun i => final m c i), (h c).2⟩) (Value.run m ρ)

end Cert.Kernel4Ideal.Hand
-- ==== Proof.DwoutReference.lean ====
/- The reference's gradient of the FFN's second weight matrix, entry by entry. -/
module

public import proofs.«01_k».proof.Proof.DwoutValue
public import proofs.«01_k».proof.Proof.Gen.Reference4Ideal.Run

@[expose] public section

set_option maxRecDepth 16384

noncomputable section

namespace Cert.Reference4Ideal.Hand

open Cert.Reference4Ideal Cert.Reference4Ideal.Facts₀ Idealize.ShloMosaic Idealize.ShloMosaic.TcCoe Idealize.SL.Sem
open Cert.Ffn

/-- The gradient. -/
def gradient (x : FVec Ideal S4096x2816 .f32) (d : FVec Ideal S4096x1024 .f32) : FVec Ideal S2816x1024 .f32 :=
  transpose S2816x1024 [1, 0] (Host.dotGeneral (F := Ideal) (φ₁ := .f32) (φ₂ := .f32)
    dot_S4096x1024_S4096x2816_S1024x2816_0_0_1_1_n_n none
    (mulf (broadcastInDim S4096x1024 ![] bcast_S_S4096x1024 (constant S_ .f32 0x3F000000#32)) d) x)
    transposes_S1024x2816_S2816x1024_1_0

theorem gradient_at (x : FVec Ideal S4096x2816 .f32) (d : FVec Ideal S4096x1024 .f32) (a : Fin 2816) (b : Fin 1024) :
    (gradient x d (ix2 a b) : EReal) = ∑ r : Fin 4096, half * (d (ix2 r b) : EReal) * x (ix2 r a) := by
  unfold gradient
  pointwise
  rfl

/-- The reference's result is the kernel's. -/
theorem gradient_eq (x : FVec Ideal S4096x2816 .f32) (d : FVec Ideal S4096x1024 .f32) :
    gradient x d = Cert.Kernel4Ideal.Hand.result (entry (R := 4096) (C := 2816) x) (entry (R := 4096) (C := 1024) d) := by
  funext i
  obtain ⟨a, b, rfl⟩ : ∃ (a : Fin 2816) (b : Fin 1024), i = ix2 a b := ⟨i 0, i 1, eq_ix2 i⟩
  refine (gradient_at x d a b).trans (Eq.trans ?_ (half_sum _ _).symm)
  refine Finset.sum_congr rfl fun r _ => ?_
  rw [mul_comm half, mul_right_comm, mul_comm (d _), entry_at x r a, entry_at d r b]
  rfl

variable (m : (ℓ : Loc nD τ sig) → Buf (Elt Ideal) ℓ) (ρ : Dev nD → PrngReg)

theorem run_values : θ_run defs (onTc (τ := τ) (main (F := Ideal))) ⟨m, fun _ => 0, ρ⟩ fun r => ∀ c : Dev nD,
    r.2.mem ((c.tc : Thread nD τ).loc main_v6) = Cert.Kernel4Ideal.Hand.result
        (entry (R := 4096) (C := 2816) (m ((c.tc : Thread nD τ).loc main_arg0)))
        (entry (R := 4096) (C := 1024) (m ((c.tc : Thread nD τ).loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans (gradient_eq _ _), (h c).2⟩) (Value.run (F := Ideal) m ρ)

end Cert.Reference4Ideal.Hand
-- ==== Proof.OutValue.lean ====
/- What the FFN's output is: the kernel adds up, tile by tile of columns, the products of the rows of the activations with
the columns of the second weight matrix, and adds half of the sum to the input. -/
module

public import proofs.«01_k».proof.Proof.Tiles
public import proofs.«01_k».proof.Proof.Gen.Kernel5Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Cert.Ffn

theorem off_zero2 : (![0, 0] : Fin 2 → ℕ) = fun _ => 0 := by funext i; revert i; decide

/-! ## What each kind of point leaves -/

section
variable {F : FTy → Type} [FloatOps F]
variable (c : Dev nD) (i : grid0.Coords) (a3 : Memref sig .tc .vmem S1024x1408 .bf16) (h3 : a3.IsWhole)
  (a4 : Memref sig .tc .vmem S1408x1024 .f32) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x1408 .bf16) (x1 : Vec F S1408x1024 .f32) (x2 : Vec F S1024x1024 .f32) (xs : Vec F S1024x1024 .f32)

/-- The first of a block's two points clears the sum and adds its product. -/
theorem sum_first (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) off_zero2]
  simp only [View.readCov_unit_zero (S := S1024x1024) _ off_zero2, View.readAt_eq_ld, h3.read_unread, h4.read_unread,
    View.ld_unit_zero (S := S1024x1408) off_zero2, View.ld_unit_zero (S := S1408x1024) off_zero2]

/-- The second adds its product, adds half of the sum to the input's block and writes that out. -/
theorem out_last (hc0 : ¬cond0_0 i) (hc1 : cond0_1 i) :
    out0_B_3 c i a3 h3 a4 h4 a5 h5 a6 h6 a7 h7 hc0 hc1 x0 x1 x2 xs = k0_pay3 (k0_pay2 xs x0 x1) x2 := by
  unfold out0_B_3
  rw [View.read_writes_eq_canon _ _ _ (cover0_B_3 c i a3 h3 a4 h4 a5 h5 a6 h6 a7 h7 hc0 hc1 x0 x1 x2 xs)]
  unfold kernelRun0_B
  dsimp only
  sl_unfold_words
  rw [View.canon_unit_zero off_zero2]
  simp only [View.readCov_unit_zero (S := S1024x1024) _ off_zero2, View.readAt_eq_ld, h3.read_unread, h4.read_unread,
    h5.read_unread, h7.read_unread, View.ld_unit_zero (S := S1024x1024) off_zero2,
    View.ld_unit_zero (S := S1024x1408) off_zero2, View.ld_unit_zero (S := S1408x1024) off_zero2]
end

/-! ## The products at an index -/

theorem product_at (acc : FVec Ideal S1024x1024 .f32) (x : FVec Ideal S1024x1408 .bf16) (y : FVec Ideal S1408x1024 .f32)
    (a b : Fin 1024) :
    (k0_pay2 (F := Ideal) acc x y (ix2 a b) : EReal) =
      acc (ix2 a b) + ∑ k : Fin 1408, (x (ix2 a k) : EReal) * y (ix2 k b) := by
  unfold k0_pay2
  pointwise

theorem cleared_at (a b : Fin 1024) : (k0_pay1 (F := Ideal) (ix2 a b) : EReal) = 0 := by
  unfold k0_pay1
  pointwise

theorem written_at (s x : FVec Ideal S1024x1024 .f32) (a b : Fin 1024) :
    (k0_pay3 (F := Ideal) s x (ix2 a b) : EReal) = x (ix2 a b) + s (ix2 a b) * half := by
  unfold k0_pay3
  pointwise
  rfl

/-! ## The arrays that the kernel is launched on -/

theorem index_maps : ∀ t : Fin cfg0.N, (cfg0.win 0).index t = ![t.val / 2, t.val % 2] ∧
    (cfg0.win 1).index t = ![t.val % 2, 0] ∧ (cfg0.win 2).index t = ![t.val / 2, 0] := by
  decide +kernel

variable (m : (ℓ : Loc nD τ sig) → Buf (Elt Ideal) ℓ) (c : Dev nD)

/-- The input, the activations and the weight matrix. -/
abbrev X : ℕ → ℕ → EReal := entry (R := 4096) (C := 1024) (m ((c : Thread nD τ).loc main_arg0))
abbrev A : ℕ → ℕ → EReal := entry (R := 4096) (C := 2816) (m ((c : Thread nD τ).loc main_arg1))
abbrev W : ℕ → ℕ → EReal := entry (R := 2816) (C := 1024) (m ((c : Thread nD τ).loc main_arg2))

/-- The activations as the kernel takes them. -/
def rounded (x : FVec Ideal S4096x2816 .f32) : FVec Ideal S4096x2816 .bf16 := truncf .bf16 x bitsLt_bf16_f32

theorem V_rounded : V m c main_v0 = rounded (m ((c : Thread nD τ).loc main_arg1)) := by
  unfold rounded
  unfold_abbrev_sides
  after_results

/-! ## The blocks that a point sees -/

theorem block_left (t : Fin cfg0.N) (a : Fin 1024) (k : Fin 1408) :
    (iblk m c 0 t (ix2 a k) : EReal) = A m c (1024 * (t.val / 2) + a) (1408 * (t.val % 2) + k) := by
  have hN : t.val < 8 := lt_of_lt_of_eq t.isLt N_0
  have ha := a.isLt
  have hk := k.isLt
  have v : V m c (Pipeline.arrRef spec0 0) = _ := V_rounded m c
  refine Eq.trans ?_ (entry_at (R := 4096) (C := 2816) (m ((c : Thread nD τ).loc main_arg1))
    ⟨1024 * (t.val / 2) + a, by omega⟩ ⟨1408 * (t.val % 2) + k, by omega⟩)
  unfold iblk
  rw [v]
  blk_ext [index_maps t]

theorem block_right (t : Fin cfg0.N) (k : Fin 1408) (b : Fin 1024) :
    (iblk m c 1 t (ix2 k b) : EReal) = W m c (1408 * (t.val % 2) + k) b := by
  have hk := k.isLt
  have v : V m c (Pipeline.arrRef spec0 1) = _ := V_main_arg2 m c
  refine Eq.trans ?_ (entry_at (R := 2816) (C := 1024) (m ((c : Thread nD τ).loc main_arg2))
    ⟨1408 * (t.val % 2) + k, by omega⟩ b)
  unfold iblk
  rw [v]
  blk_ext [index_maps t]

theorem block_input (t : Fin cfg0.N) (a b : Fin 1024) :
    (iblk m c 2 t (ix2 a b) : EReal) = X m c (1024 * (t.val / 2) + a) b := by
  have hN : t.val < 8 := lt_of_lt_of_eq t.isLt N_0
  have ha := a.isLt
  have v : V m c (Pipeline.arrRef spec0 2) = _ := V_main_arg0 m c
  refine Eq.trans ?_ (entry_at (R := 4096) (C := 1024) (m ((c : Thread nD τ).loc main_arg0))
    ⟨1024 * (t.val / 2) + a, by omega⟩ b)
  unfold iblk
  rw [v]
  blk_ext [index_maps t]

/-! ## The two points of a block -/

/-- What point `n` adds at row `a`, column `b` of its block. -/
def step (a b n : ℕ) : EReal :=
  ∑ k : Fin 1408, A m c (1024 * (n / 2) + a) (1408 * (n % 2) + k) * W m c (1408 * (n % 2) + k) b

theorem product_point (t : Fin cfg0.N) (acc : FVec Ideal S1024x1024 .f32) (a b : Fin 1024) :
    (k0_pay2 (F := Ideal) acc (iblk m c 0 t) (iblk m c 1 t) (ix2 a b) : EReal) = acc (ix2 a b) + step m c a b t.val := by
  refine (product_at acc (iblk m c 0 t) (iblk m c 1 t) a b).trans ?_
  unfold step
  refine congrArg _ (Finset.sum_congr rfl fun k _ => ?_)
  exact congrArg₂ (· * ·) (block_left m c t a k) (block_right m c t k b)

theorem sum_at (t : Fin cfg0.N) (l : t.val % 2 = 0) (a b : Fin 1024) :
    ((outsAt0 m c t.val t.isLt).2 (ix2 a b) : EReal) = step m c a b t.val := by
  rw [outsAt0_A m c t l (by omega)]
  dsimp only
  rw [sum_first]
  refine (product_point m c t _ a b).trans ?_
  rw [cleared_at, zero_add]

/-- What the second point writes out. -/
theorem out_at (t : Fin cfg0.N) (l : t.val % 2 = 1) (a b : Fin 1024) :
    ((outsAt0 m c t.val t.isLt).1 (ix2 a b) : EReal) = X m c (1024 * (t.val / 2) + a) b +
      (∑ j : Fin 2816, A m c (1024 * (t.val / 2) + a) j * W m c j b) * half := by
  have s := sum_at m c ⟨t.val - 1, by have := t.isLt; omega⟩ (by dsimp only; omega) a b
  rw [outsAt0_B m c t (by omega) l]
  dsimp only at s ⊢
  rw [out_last, written_at]
  refine congrArg₂ (· + ·) (block_input m c t a b) (congrArg (· * half) ?_)
  refine (product_point m c t _ a b).trans ?_
  rw [s]
  have f := sum_tiles 1408 (fun j => A m c (1024 * (t.val / 2) + a) j * W m c j b) 2
  refine Eq.trans ?_ f
  rw [Finset.sum_range_succ, Finset.sum_range_one]
  unfold step
  rw [show (t.val - 1) % 2 = 0 by omega, show (t.val - 1) / 2 = t.val / 2 by omega, l]

/-! ## The run -/

/-- The output. -/
def result (x a w : ℕ → ℕ → EReal) : FVec Ideal S4096x1024 .f32 := fun i =>
  x (i 0).val (i 1).val + (∑ j : Fin 2816, a (i 0).val j * w j (i 1).val) * half

theorem final (i : S4096x1024.Idx) : (Value.G3 m c i : EReal) = result (X m c) (A m c) (W m c) i := by
  have h0 : (i 0).val < 4096 := (i 0).isLt
  have h1 : (i 1).val < 1024 := (i 1).isLt
  have run : Value.run3Of i = (i 0).val / 1024 := by unfold Value.run3Of; omega
  have hp : Value.pt3Of i < cfg0.N := by
    rw [show cfg0.N = 8 from N_0]; unfold Value.pt3Of; omega
  unfold Value.G3
  rw [dif_pos hp, ← Value.outsAt0_sweep m c _ hp]
  have e : Value.loc3Of i = ix2 ⟨(i 0).val % 1024, by omega⟩ ⟨(i 1).val, h1⟩ := by
    funext x
    match x with
    | ⟨0, _⟩ => rfl
    | ⟨1, _⟩ => exact Fin.ext (Nat.mod_eq_of_lt h1)
  rw [e]
  refine (out_at m c ⟨Value.pt3Of i, hp⟩ (by dsimp only [Value.pt3Of]; omega) _ _).trans ?_
  unfold result
  dsimp only
  rw [show 1024 * (Value.pt3Of i / 2) + (i 0).val % 1024 = (i 0).val by unfold Value.pt3Of; omega]

theorem run_values (ρ : Dev nD → PrngReg) : θ_run defs (onTc (τ := τ) (main (F := Ideal))) ⟨m, fun _ => 0, ρ⟩ fun r => ∀ c : Dev nD,
    r.2.mem ((c : Thread nD τ).loc main_v1) = result (X m c) (A m c) (W m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (funext fun i => final m c i), (h c).2⟩) (Value.run m ρ)

end Cert.Kernel5Ideal.Hand
-- ==== Proof.OutReference.lean ====
/- The reference's output of the FFN, entry by entry. -/
module

public import proofs.«01_k».proof.Proof.OutValue
public import proofs.«01_k».proof.Proof.Gen.Reference5Ideal.Run

@[expose] public section

set_option maxRecDepth 16384

noncomputable section

namespace Cert.Reference5Ideal.Hand

open Cert.Reference5Ideal Cert.Reference5Ideal.Facts₀ Idealize.ShloMosaic Idealize.ShloMosaic.TcCoe Idealize.SL.Sem
open Cert.Ffn

/-- The output. -/
def output (x : FVec Ideal S4096x1024 .f32) (a : FVec Ideal S4096x2816 .f32) (w : FVec Ideal S2816x1024 .f32) :
    FVec Ideal S4096x1024 .f32 :=
  addf x (mulf (broadcastInDim S4096x1024 ![] bcast_S_S4096x1024 (constant S_ .f32 0x3F000000#32))
    (Host.dotGeneral (F := Ideal) (φ₁ := .f32) (φ₂ := .f32) dot_S4096x2816_S2816x1024_S4096x1024_1_0_0_1_n_n none a w))

theorem output_at (x : FVec Ideal S4096x1024 .f32) (a : FVec Ideal S4096x2816 .f32) (w : FVec Ideal S2816x1024 .f32)
    (r : Fin 4096) (b : Fin 1024) : (output x a w (ix2 r b) : EReal) =
      x (ix2 r b) + half * ∑ j : Fin 2816, (a (ix2 r j) : EReal) * w (ix2 j b) := by
  unfold output
  pointwise
  rfl

/-- The reference's result is the kernel's. -/
theorem output_eq (x : FVec Ideal S4096x1024 .f32) (a : FVec Ideal S4096x2816 .f32) (w : FVec Ideal S2816x1024 .f32) :
    output x a w = Cert.Kernel5Ideal.Hand.result (entry (R := 4096) (C := 1024) x) (entry (R := 4096) (C := 2816) a)
      (entry (R := 2816) (C := 1024) w) := by
  funext i
  obtain ⟨r, b, rfl⟩ : ∃ (r : Fin 4096) (b : Fin 1024), i = ix2 r b := ⟨i 0, i 1, eq_ix2 i⟩
  refine (output_at x a w r b).trans (congrArg₂ (· + ·) (entry_at x r b) ((mul_comm _ _).trans (congrArg (· * half) ?_)))
  exact Finset.sum_congr rfl fun j _ => congrArg₂ (· * ·) (entry_at a r j) (entry_at w j b)

variable (m : (ℓ : Loc nD τ sig) → Buf (Elt Ideal) ℓ) (ρ : Dev nD → PrngReg)

theorem run_values : θ_run defs (onTc (τ := τ) (main (F := Ideal))) ⟨m, fun _ => 0, ρ⟩ fun r => ∀ c : Dev nD,
    r.2.mem ((c.tc : Thread nD τ).loc main_v3) = Cert.Kernel5Ideal.Hand.result
        (entry (R := 4096) (C := 1024) (m ((c.tc : Thread nD τ).loc main_arg0)))
        (entry (R := 4096) (C := 2816) (m ((c.tc : Thread nD τ).loc main_arg1)))
        (entry (R := 2816) (C := 1024) (m ((c.tc : Thread nD τ).loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans (output_eq _ _ _), (h c).2⟩) (Value.run (F := Ideal) m ρ)

end Cert.Reference5Ideal.Hand
-- ==== Proof.InValue.lean ====
/- What the FFN's gate and up projections and their gated product are: the kernel multiplies the rows of the input by two
blocks of the first weight matrix's columns, one of each half, and takes the gated product of the two. -/
module

public import proofs.«01_k».proof.Proof.DhValue
public import proofs.«01_k».proof.Proof.Gen.Kernel6Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Cert.Ffn
open Cert.Kernel3Ideal.Hand (blocks blocks_at)

theorem off_zero2 : (![0, 0] : Fin 2 → ℕ) = fun _ => 0 := by funext i; revert i; decide
theorem off_zero3 : (![0, 0, 0] : Fin 3 → ℕ) = fun _ => 0 := by funext i; revert i; decide

/-! ## What a point computes -/

section
variable {F : FTy → Type} [FloatOps F]
variable (c : Dev nD) (i : grid0.Coords) (a3 : Memref sig .tc .vmem S512x1024 .bf16) (h3 : a3.IsWhole)
  (a4 : Memref sig .tc .vmem S1x1024x1408 .f32) (h4 : a4.IsWhole) (a5 : Memref sig .tc .vmem S1x1024x1408 .f32) (h5 : a5.IsWhole)
  (a6 : Memref sig .tc .vmem S2x512x1408 .f32) (h6 : a6.IsWhole) (a7 : Memref sig .tc .vmem S512x1408 .bf16) (h7 : a7.IsWhole)
  (a8 : Memref sig .tc .vmem S2x512x1408 .f32) (h8 : a8.IsWhole)
  (x0 : Vec F S512x1024 .bf16) (x1 x2 : Vec F S1x1024x1408 .f32)

/-- The rectangles of a block's two halves. -/
abbrev lower : Rect S2x512x1408 := Rect.unit (s := S2x512x1408) ![0, 0, 0] S1x512x1408.size inb_S2x512x1408_S1x512x1408_0_0_0
abbrev upper : Rect S2x512x1408 := Rect.unit (s := S2x512x1408) ![1, 0, 0] S1x512x1408.size inb_S2x512x1408_S1x512x1408_1_0_0

/-- The two halves of the cleared sums, with the products added. -/
def first : Vec F S1x512x1408 .f32 := k0_pay4 x0 (View.ld (Val := Elt F) (e' := .f32) k0_pay2
  lower) x1
def second : Vec F S1x512x1408 .f32 := k0_pay5 x0 (View.ld (Val := Elt F) (e' := .f32) k0_pay2
  upper) x2

/-- The two halves as one block. -/
def pair (p q : Vec F S1x512x1408 .f32) : Vec F S2x512x1408 .f32 := fun y =>
  if (y 0).val = 0 then p (ix3 0 (y 1) (y 2)) else q (ix3 0 (y 1) (y 2))

/-- An index of a half's rectangle reads that half. -/
theorem pair_first (p q : Vec F S1x512x1408 .f32) (x : S1x512x1408.Idx) :
    pair p q (lower.emb x) = p x := by
  obtain ⟨z, a, b, rfl⟩ : ∃ (z : Fin 1) (a : Fin 512) (b : Fin 1408), x = ix3 z a b := ⟨x 0, x 1, x 2, eq_ix3 x⟩
  have hz : z.val = 0 := by omega
  refine (if_pos ((Rect.idx_unit_val ..).trans ((Nat.zero_add _).trans hz))).trans (congrArg p (funext fun
    | ⟨0, _⟩ => Fin.ext hz.symm
    | ⟨1, _⟩ => Fin.ext ((Rect.idx_unit_val ..).trans (Nat.zero_add _))
    | ⟨2, _⟩ => Fin.ext ((Rect.idx_unit_val ..).trans (Nat.zero_add _))))

theorem pair_second (p q : Vec F S1x512x1408 .f32) (x : S1x512x1408.Idx) :
    pair p q (upper.emb x) = q x := by
  obtain ⟨z, a, b, rfl⟩ : ∃ (z : Fin 1) (a : Fin 512) (b : Fin 1408), x = ix3 z a b := ⟨x 0, x 1, x 2, eq_ix3 x⟩
  have hz : z.val = 0 := by omega
  have h1 : (upper.emb
    (ix3 z a b) 0).val = 1 + z.val := Rect.idx_unit_val ..
  refine (if_neg (by omega)).trans (congrArg q (funext fun
    | ⟨0, _⟩ => Fin.ext hz.symm
    | ⟨1, _⟩ => Fin.ext ((Rect.idx_unit_val ..).trans (Nat.zero_add _))
    | ⟨2, _⟩ => Fin.ext ((Rect.idx_unit_val ..).trans (Nat.zero_add _))))

/-- The two halves stored over the cleared sums. -/
theorem canon_pair (p q : Vec F S1x512x1408 .f32) (z : Vec F S2x512x1408 .f32) :
    View.canon (Val := Elt F) (e := .f32) [⟨upper, q⟩, ⟨lower, p⟩,
      ⟨Rect.unit (s := S2x512x1408) ![0, 0, 0] S2x512x1408.size inb_S2x512x1408_S2x512x1408_0_0_0, z⟩] = pair p q := by
  funext y
  obtain ⟨z, a, b, rfl⟩ : ∃ (z : Fin 2) (a : Fin 512) (b : Fin 1408), y = ix3 z a b := ⟨y 0, y 1, y 2, eq_ix3 y⟩
  by_cases hz : z.val = 0
  · have e : ix3 z a b = lower.emb (ix3 0 a b) := funext fun
      | ⟨0, _⟩ => Fin.ext hz
      | ⟨1, _⟩ => Fin.ext ((Rect.idx_unit_val ..).trans (Nat.zero_add _)).symm
      | ⟨2, _⟩ => Fin.ext ((Rect.idx_unit_val ..).trans (Nat.zero_add _)).symm
    have n : ix3 z a b ∉ upper.set := fun h => by
      have h0 : 1 ≤ z.val := (Rect.mem_set_unit.mp h 0).1
      omega
    refine (View.canon_cons_of_not_mem ⟨upper, q⟩ _ n).trans ?_
    rw [e, View.canon_cons_emb, pair_first]
  · have e : ix3 z a b = upper.emb (ix3 0 a b) := funext fun
      | ⟨0, _⟩ => Fin.ext (show z.val = 1 by omega)
      | ⟨1, _⟩ => Fin.ext ((Rect.idx_unit_val ..).trans (Nat.zero_add _)).symm
      | ⟨2, _⟩ => Fin.ext ((Rect.idx_unit_val ..).trans (Nat.zero_add _)).symm
    rw [e, View.canon_cons_emb, pair_second]

theorem out_pair (hc0 : cond0_0 i) (hc1 : cond0_1 i) :
    out0_A_3 c i a3 h3 a4 h4 a5 h5 a6 h6 a7 h7 a8 h8 hc0 hc1 x0 x1 x2 = pair (first x0 x1) (second x0 x2) := by
  unfold out0_A_3
  rw [View.read_writes_eq_canon _ _ _ (cover0_A_3 c i a3 h3 a4 h4 a5 h5 a6 h6 a7 h7 a8 h8 hc0 hc1 x0 x1 x2)]
  unfold kernelRun0_A
  dsimp only
  sl_unfold_words
  rw [View.canon_unit_zero off_zero3]
  simp only [View.readAt_eq_ld, h3.read_unread, h4.read_unread, h5.read_unread,
    View.ld_unit_zero (S := S512x1024) off_zero2, View.ld_unit_zero (S := S1x1024x1408) off_zero3]
  simp (disch := decide) only [↓ View.readCov_skip, ↓ View.readCov_fill]
  rw [View.readCov_eq_canon']
  show View.ld (View.canon _) (Rect.unit (s := S2x512x1408) ![0, 0, 0] S2x512x1408.size inb_S2x512x1408_S2x512x1408_0_0_0) = _
  rw [View.ld_unit_zero (S := S2x512x1408) off_zero3]
  exact canon_pair (first x0 x1) (second x0 x2) k0_pay2

theorem out_act (hc0 : cond0_0 i) (hc1 : cond0_1 i) :
    out0_A_4 c i a3 h3 a4 h4 a5 h5 a6 h6 a7 h7 a8 h8 hc0 hc1 x0 x1 x2 =
      k0_pay1 (first x0 x1) (second x0 x2) := by
  unfold out0_A_4
  rw [View.read_writes_eq_canon _ _ _ (cover0_A_4 c i a3 h3 a4 h4 a5 h5 a6 h6 a7 h7 a8 h8 hc0 hc1 x0 x1 x2)]
  unfold kernelRun0_A
  dsimp only
  sl_unfold_words
  rw [View.canon_unit_zero off_zero2]
  simp only [View.readAt_eq_ld, h3.read_unread, h4.read_unread, h5.read_unread,
    View.ld_unit_zero (S := S512x1024) off_zero2, View.ld_unit_zero (S := S1x1024x1408) off_zero3]
  simp (disch := decide) only [↓ View.readCov_skip, ↓ View.readCov_cons_toLoadRect, ↓ View.readCov_fill]
  rfl
end

/-! ## The products at an index -/

theorem cleared_at (y : S2x512x1408.Idx) : (k0_pay2 (F := Ideal) y : EReal) = 0 := by
  obtain ⟨z, a, b, rfl⟩ : ∃ (z : Fin 2) (a : Fin 512) (b : Fin 1408), y = ix3 z a b := ⟨y 0, y 1, y 2, eq_ix3 y⟩
  unfold k0_pay2
  pointwise

section
variable (x : FVec Ideal S512x1024 .bf16) (v : FVec Ideal S1x512x1408 .f32) (w : FVec Ideal S1x1024x1408 .f32)
  (a : Fin 512) (b : Fin 1408)

theorem product_first : (k0_pay4 (F := Ideal) x v w (ix3 0 a b) : EReal) =
    v (ix3 0 a b) + ∑ k : Fin 1024, (x (ix2 a k) : EReal) * w (ix3 0 k b) := by
  unfold k0_pay4 k0_pay3
  pointwise

theorem product_second : (k0_pay5 (F := Ideal) x v w (ix3 0 a b) : EReal) =
    v (ix3 0 a b) + ∑ k : Fin 1024, (x (ix2 a k) : EReal) * w (ix3 0 k b) := by
  unfold k0_pay5 k0_pay3
  pointwise

theorem first_at : (first (F := Ideal) x w (ix3 0 a b) : EReal) = ∑ k : Fin 1024, (x (ix2 a k) : EReal) * w (ix3 0 k b) :=
  (product_first x _ w a b).trans ((congrArg (· + _) (cleared_at _)).trans (zero_add _))

theorem second_at : (second (F := Ideal) x w (ix3 0 a b) : EReal) = ∑ k : Fin 1024, (x (ix2 a k) : EReal) * w (ix3 0 k b) :=
  (product_second x _ w a b).trans ((congrArg (· + _) (cleared_at _)).trans (zero_add _))

/-- The gated product. -/
theorem act_at (g u : FVec Ideal S1x512x1408 .f32) : (k0_pay1 (F := Ideal) g u (ix2 a b) : EReal) =
    g (ix3 0 a b) * Ideal.logistic (g (ix3 0 a b)) * u (ix3 0 a b) := by
  unfold k0_pay1
  pointwise
end

/-! ## The arrays that the kernel is launched on -/

theorem index_maps : ∀ t : Fin cfg0.N, (cfg0.win 0).index t = ![t.val % 8, 0] ∧ (cfg0.win 1).index t = ![t.val / 8, 0, 0] ∧
    (cfg0.win 2).index t = ![t.val / 8 + 2, 0, 0] ∧ (cfg0.win 3).index t = ![0, t.val % 8, t.val / 8] ∧
    (cfg0.win 4).index t = ![t.val % 8, t.val / 8] := by
  decide +kernel

variable (m : (ℓ : Loc nD τ sig) → Buf (Elt Ideal) ℓ) (c : Dev nD)

/-- The input and the weight matrix. -/
abbrev H : ℕ → ℕ → EReal := entry (R := 4096) (C := 1024) (m ((c : Thread nD τ).loc main_arg0))
abbrev W : ℕ → ℕ → EReal := entry (R := 1024) (C := 5632) (m ((c : Thread nD τ).loc main_arg1))

/-- The input as the kernel takes it. -/
def rounded (x : FVec Ideal S4096x1024 .f32) : FVec Ideal S4096x1024 .bf16 := truncf .bf16 x bitsLt_bf16_f32

theorem V_rounded : V m c main_v0 = rounded (m ((c : Thread nD τ).loc main_arg0)) := by
  unfold rounded
  unfold_abbrev_sides
  after_results

theorem V_blocks : V m c main_v2 = blocks (m ((c : Thread nD τ).loc main_arg1)) := by
  unfold blocks
  unfold_abbrev_sides
  after_results
  rfl

/-! ## The blocks that a point sees -/

theorem block_input (t : Fin cfg0.N) (a : Fin 512) (k : Fin 1024) :
    (iblk m c 0 t (ix2 a k) : EReal) = H m c (512 * (t.val % 8) + a) k := by
  have ha := a.isLt
  have v : V m c (Pipeline.arrRef spec0 0) = _ := V_rounded m c
  refine Eq.trans ?_ (entry_at (R := 4096) (C := 1024) (m ((c : Thread nD τ).loc main_arg0))
    ⟨512 * (t.val % 8) + a, by omega⟩ k)
  unfold iblk
  rw [v]
  blk_ext [index_maps t]

theorem block_gate (t : Fin cfg0.N) (k : Fin 1024) (b : Fin 1408) :
    (iblk m c 1 t (ix3 0 k b) : EReal) = W m c k (1408 * (t.val / 8) + b) := by
  have hN : t.val < 16 := lt_of_lt_of_eq t.isLt N_0
  have v : V m c (Pipeline.arrRef spec0 1) = _ := V_blocks m c
  have e := blocks_at (m ((c : Thread nD τ).loc main_arg1)) ⟨t.val / 8, by omega⟩ k b
  refine Eq.trans ?_ (e.trans (entry_at _ _ _))
  unfold iblk
  rw [v]
  blk_ext [index_maps t]

theorem block_up (t : Fin cfg0.N) (k : Fin 1024) (b : Fin 1408) :
    (iblk m c 2 t (ix3 0 k b) : EReal) = W m c k (2816 + (1408 * (t.val / 8) + b)) := by
  have hN : t.val < 16 := lt_of_lt_of_eq t.isLt N_0
  have v : V m c (Pipeline.arrRef spec0 2) = _ := V_blocks m c
  have e := blocks_at (m ((c : Thread nD τ).loc main_arg1)) ⟨t.val / 8 + 2, by omega⟩ k b
  rw [show 2816 + (1408 * (t.val / 8) + b.val) = 1408 * (t.val / 8 + 2) + b.val by omega]
  refine Eq.trans ?_ (e.trans (entry_at _ _ _))
  unfold iblk
  rw [v]
  blk_ext [index_maps t]

/-! ## The run -/

/-- The projection at row `r`, column `j`. -/
def product (h w : ℕ → ℕ → EReal) (r j : ℕ) : EReal := ∑ k : Fin 1024, h r k * w k j

/-- The gate projection (`z` is 0) and the up projection, as one array. -/
def value (h w : ℕ → ℕ → EReal) (z r j : ℕ) : EReal :=
  if z = 0 then product h w r j else product h w r (2816 + j)
def projections (h w : ℕ → ℕ → EReal) : FVec Ideal S2x4096x2816 .f32 := fun i =>
  value h w (i 0).val (i 1).val (i 2).val

/-- Their gated product. -/
def gated (h w : ℕ → ℕ → EReal) (r j : ℕ) : EReal :=
  product h w r j * Ideal.logistic (product h w r j) * product h w r (2816 + j)
def activations (h w : ℕ → ℕ → EReal) : FVec Ideal S4096x2816 .bf16 := fun i =>
  gated h w (i 0).val (i 1).val

theorem first_point (t : Fin cfg0.N) (a : Fin 512) (b : Fin 1408) :
    (first (F := Ideal) (iblk m c 0 t) (iblk m c 1 t) (ix3 0 a b) : EReal) =
      product (H m c) (W m c) (512 * (t.val % 8) + a) (1408 * (t.val / 8) + b) :=
  (first_at (iblk m c 0 t) (iblk m c 1 t) a b).trans (Finset.sum_congr rfl fun k _ =>
    congrArg₂ (· * ·) (block_input m c t a k) (block_gate m c t k b))

theorem second_point (t : Fin cfg0.N) (a : Fin 512) (b : Fin 1408) :
    (second (F := Ideal) (iblk m c 0 t) (iblk m c 2 t) (ix3 0 a b) : EReal) =
      product (H m c) (W m c) (512 * (t.val % 8) + a) (2816 + (1408 * (t.val / 8) + b)) :=
  (second_at (iblk m c 0 t) (iblk m c 2 t) a b).trans (Finset.sum_congr rfl fun k _ =>
    congrArg₂ (· * ·) (block_input m c t a k) (block_up m c t k b))

/-- What a point writes out. -/
theorem point_pair (t : Fin cfg0.N) (z : Fin 2) (a : Fin 512) (b : Fin 1408) :
    ((outsAt0 m c t).1 (ix3 z a b) : EReal) =
      value (H m c) (W m c) z (512 * (t.val % 8) + a) (1408 * (t.val / 8) + b) := by
  unfold outsAt0
  dsimp only
  rw [out_pair]
  unfold value
  rw [← first_point, ← second_point]
  rfl

theorem point_act (t : Fin cfg0.N) (a : Fin 512) (b : Fin 1408) :
    ((outsAt0 m c t).2 (ix2 a b) : EReal) =
      gated (H m c) (W m c) (512 * (t.val % 8) + a) (1408 * (t.val / 8) + b) := by
  unfold outsAt0
  dsimp only
  rw [out_act, act_at]
  unfold gated
  rw [first_point, second_point]

theorem array_pair : (dats m 0 c).arrAt 3 cfg0.N = projections (H m c) (W m c) := by
  refine (dats m 0 c).arrAt_eq_of_covers 3 _ (by decide +kernel) fun t hf y => ?_
  obtain ⟨z, a, b, rfl⟩ : ∃ (z : Fin 2) (a : Fin 512) (b : Fin 1408), y = ix3 z a b := ⟨y 0, y 1, y 2, eq_ix3 y⟩
  have e : (dats m 0 c).flushed 3 t (ix3 z a b) = (outsAt0 m c t).1 (ix3 z a b) := by
    show (cfg0.win 3).cut (grid0.coords t) ((dats m 0 c).after 3 t) (ix3 z a b) = _
    rw [after0_3]
    rfl
  refine e.trans ((point_pair m c t z a b).trans ?_)
  unfold projections
  blk_simp [index_maps t]
  rw [Nat.mul_comm 512, Nat.mul_comm 1408]

theorem array_act : (dats m 0 c).arrAt 4 cfg0.N = activations (H m c) (W m c) := by
  refine (dats m 0 c).arrAt_eq_of_covers 4 _ (by decide +kernel) fun t hf y => ?_
  obtain ⟨a, b, rfl⟩ : ∃ (a : Fin 512) (b : Fin 1408), y = ix2 a b := ⟨y 0, y 1, eq_ix2 y⟩
  have e : (dats m 0 c).flushed 4 t (ix2 a b) = (outsAt0 m c t).2 (ix2 a b) := by
    show (cfg0.win 4).cut (grid0.coords t) ((dats m 0 c).after 4 t) (ix2 a b) = _
    rw [after0_4]
    rfl
  refine e.trans ((point_act m c t a b).trans ?_)
  unfold activations
  blk_simp [index_maps t]
  rw [Nat.mul_comm 512, Nat.mul_comm 1408]

theorem run_values (ρ : Dev nD → PrngReg) : θ_run defs (onTc (τ := τ) (main (F := Ideal))) ⟨m, fun _ => 0, ρ⟩ fun r => ∀ c : Dev nD,
    r.2.mem ((c : Thread nD τ).loc main_v3_0) = projections (H m c) (W m c)
    ∧ r.2.mem ((c : Thread nD τ).loc main_v3_1) = activations (H m c) (W m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (array_pair m c), (h c).2.1.trans (array_act m c), (h c).2.2⟩)
    (Value.run_blocks m ρ)

end Cert.Kernel6Ideal.Hand
-- ==== Proof.DgateValue.lean ====
/- What the gradients of the FFN's gate and up projections are: the kernel multiplies the rows of the output's gradient by
the rows of the second weight matrix, halves the product, and takes the gradients of the gated product from it. -/
module

public import proofs.«01_k».proof.Proof.Tiles
public import proofs.«01_k».proof.Proof.Gen.Kernel7Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel7Ideal.Hand

open Cert.Kernel7Ideal Cert.Kernel7Ideal.Gen Idealize.ShloMosaic Idealize.ShloMosaic.TcCoe Idealize.SL.Sem
open Cert.Ffn

theorem off_zero2 : (![0, 0] : Fin 2 → ℕ) = fun _ => 0 := by funext i; revert i; decide

/-! ## What a point computes, at an index -/

section
variable (x0 : FVec Ideal S512x1024 .f32) (x1 : FVec Ideal S1408x1024 .f32) (x2 : FVec Ideal S2x512x1408 .f32)
  (g u : FVec Ideal S1x512x1408 .f32) (a : Fin 512) (b : Fin 1408)

/-- The product with the second weight matrix, halved. -/
theorem product_at : (k0_pay1 (F := Ideal) x0 x1 (ix2 a b) : EReal) =
    half * ∑ k : Fin 1024, (x0 (ix2 a k) : EReal) * x1 (ix2 b k) := by
  unfold k0_pay1
  pointwise
  rfl

theorem gate_at (z : Fin 1) : (k0_pay4 (F := Ideal) x0 x1 g u (ix3 z a b) : EReal) =
    dgate (k0_pay1 (F := Ideal) x0 x1 (ix2 a b)) (g (ix3 0 a b)) (u (ix3 0 a b)) := by
  unfold k0_pay4 k0_pay3 k0_pay2 dgate
  pointwise

theorem up_at (z : Fin 1) : (k0_pay5 (F := Ideal) x0 x1 g (ix3 z a b) : EReal) =
    dup (k0_pay1 (F := Ideal) x0 x1 (ix2 a b)) (g (ix3 0 a b)) := by
  unfold k0_pay5 k0_pay3 k0_pay2 dup
  pointwise

/-- The two halves of a block, as they are loaded. -/
theorem load_first : @Eq EReal (View.ld (Val := Elt Ideal) (e' := .f32) x2 r0_2 (ix3 0 a b)) <| x2 (ix3 0 a b) :=
  congrArg x2 (funext fun
    | ⟨0, _⟩ => rfl
    | ⟨1, _⟩ => Fin.ext ((Rect.idx_unit_val ..).trans (Nat.zero_add _))
    | ⟨2, _⟩ => Fin.ext ((Rect.idx_unit_val ..).trans (Nat.zero_add _)))

theorem load_second : @Eq EReal (View.ld (Val := Elt Ideal) (e' := .f32) x2 r0_3 (ix3 0 a b)) <| x2 (ix3 1 a b) :=
  congrArg x2 (funext fun
    | ⟨0, _⟩ => rfl
    | ⟨1, _⟩ => Fin.ext ((Rect.idx_unit_val ..).trans (Nat.zero_add _))
    | ⟨2, _⟩ => Fin.ext ((Rect.idx_unit_val ..).trans (Nat.zero_add _)))

/-- The two stores, each at an index of its own half of the block. -/
theorem out_at (z : Fin 2) : (out0_3 (F := Ideal) x0 x1 x2 (ix3 z a b) : EReal) =
    if z.val = 0 then dgate (k0_pay1 (F := Ideal) x0 x1 (ix2 a b)) (x2 (ix3 0 a b)) (x2 (ix3 1 a b))
    else dup (k0_pay1 (F := Ideal) x0 x1 (ix2 a b)) (x2 (ix3 0 a b)) := by
  canon_tiles x h
  all_goals
    obtain ⟨p, q, r, rfl⟩ : ∃ (p : Fin 1) (q : Fin 512) (r : Fin 1408), x = ix3 p q r := ⟨x 0, x 1, x 2, eq_ix3 x⟩
    obtain rfl : a = q := Fin.ext h1
    obtain rfl : b = r := Fin.ext h2
    rw [View.ld_unit_zero (S := S512x1024) off_zero2, View.ld_unit_zero (S := S1408x1024) off_zero2]
  · have hz : z.val = 1 + p.val := h0
    rw [if_neg (by omega)]
    refine (up_at x0 x1 _ a b p).trans (congrArg (dup _) (load_first x2 a b))
  · have hz : z.val = p.val := h0
    rw [if_pos (by omega)]
    refine (gate_at x0 x1 _ _ a b p).trans (congrArg₂ (dgate _) (load_first x2 a b) (load_second x2 a b))
end

/-! ## The arrays that the kernel is launched on -/

theorem index_maps : ∀ t : Fin cfg0.N, (cfg0.win 0).index t = ![t.val % 8, 0] ∧ (cfg0.win 1).index t = ![t.val / 8, 0] ∧
    (cfg0.win 2).index t = ![0, t.val % 8, t.val / 8] ∧ (cfg0.win 3).index t = ![0, t.val % 8, t.val / 8] := by
  decide +kernel

variable (m : (ℓ : Loc nD τ sig) → Buf (Elt Ideal) ℓ) (c : Dev nD)

/-- The gate and up projections, the weight matrix and the output's gradient. -/
abbrev G : ℕ → ℕ → EReal := entry (R := 4096) (C := 2816) (m ((c : Thread nD τ).loc main_arg0))
abbrev U : ℕ → ℕ → EReal := entry (R := 4096) (C := 2816) (m ((c : Thread nD τ).loc main_arg1))
abbrev W : ℕ → ℕ → EReal := entry (R := 2816) (C := 1024) (m ((c : Thread nD τ).loc main_arg2))
abbrev D : ℕ → ℕ → EReal := entry (R := 4096) (C := 1024) (m ((c : Thread nD τ).loc main_arg3))

/-- The two projections as one array. -/
def stacked (g u : FVec Ideal S4096x2816 .f32) : FVec Ideal S2x4096x2816 .f32 :=
  concatenate S2x4096x2816 0 [⟨S1x4096x2816, broadcastInDim S1x4096x2816 ![1, 2] bcast_S4096x2816_S1x4096x2816_1_2 g⟩,
    ⟨S1x4096x2816, broadcastInDim S1x4096x2816 ![1, 2] bcast_S4096x2816_S1x4096x2816_1_2 u⟩]
    concatenates_S1x4096x2816_S1x4096x2816_S2x4096x2816_d0

theorem stacked_gate (g u : FVec Ideal S4096x2816 .f32) (r : Fin 4096) (j : Fin 2816) :
    (stacked g u (ix3 0 r j) : EReal) = g (ix2 r j) := by
  unfold stacked
  pointwise

theorem stacked_up (g u : FVec Ideal S4096x2816 .f32) (r : Fin 4096) (j : Fin 2816) :
    (stacked g u (ix3 1 r j) : EReal) = u (ix2 r j) := by
  unfold stacked
  pointwise

theorem V_stacked : V m c main_v2 = stacked (m ((c : Thread nD τ).loc main_arg0)) (m ((c : Thread nD τ).loc main_arg1)) := by
  unfold stacked
  unfold_abbrev_sides
  after_results

/-! ## The blocks that a point sees -/

theorem block_ct (t : Fin cfg0.N) (a : Fin 512) (k : Fin 1024) :
    (iblk m c 0 t (ix2 a k) : EReal) = D m c (512 * (t.val % 8) + a) k := by
  have ha := a.isLt
  have v : V m c (Pipeline.arrRef spec0 0) = _ := V_main_arg3 m c
  refine Eq.trans ?_ (entry_at (R := 4096) (C := 1024) (m ((c : Thread nD τ).loc main_arg3))
    ⟨512 * (t.val % 8) + a, by omega⟩ k)
  unfold iblk
  rw [v]
  blk_ext [index_maps t]

theorem block_weight (t : Fin cfg0.N) (b : Fin 1408) (k : Fin 1024) :
    (iblk m c 1 t (ix2 b k) : EReal) = W m c (1408 * (t.val / 8) + b) k := by
  have hN : t.val < 16 := lt_of_lt_of_eq t.isLt N_0
  have hb := b.isLt
  have v : V m c (Pipeline.arrRef spec0 1) = _ := V_main_arg2 m c
  refine Eq.trans ?_ (entry_at (R := 2816) (C := 1024) (m ((c : Thread nD τ).loc main_arg2))
    ⟨1408 * (t.val / 8) + b, by omega⟩ k)
  unfold iblk
  rw [v]
  blk_ext [index_maps t]

theorem block_gate (t : Fin cfg0.N) (a : Fin 512) (b : Fin 1408) :
    (iblk m c 2 t (ix3 0 a b) : EReal) = G m c (512 * (t.val % 8) + a) (1408 * (t.val / 8) + b) := by
  have hN : t.val < 16 := lt_of_lt_of_eq t.isLt N_0
  have ha := a.isLt
  have hb := b.isLt
  have v : V m c (Pipeline.arrRef spec0 2) = _ := V_stacked m c
  refine Eq.trans ?_ ((stacked_gate (m ((c : Thread nD τ).loc main_arg0)) (m ((c : Thread nD τ).loc main_arg1))
      ⟨512 * (t.val % 8) + a, by omega⟩ ⟨1408 * (t.val / 8) + b, by omega⟩).trans
    (entry_at (R := 4096) (C := 2816) (m ((c : Thread nD τ).loc main_arg0)) _ _))
  unfold iblk
  rw [v]
  blk_ext [index_maps t]

theorem block_up (t : Fin cfg0.N) (a : Fin 512) (b : Fin 1408) :
    (iblk m c 2 t (ix3 1 a b) : EReal) = U m c (512 * (t.val % 8) + a) (1408 * (t.val / 8) + b) := by
  have hN : t.val < 16 := lt_of_lt_of_eq t.isLt N_0
  have ha := a.isLt
  have hb := b.isLt
  have v : V m c (Pipeline.arrRef spec0 2) = _ := V_stacked m c
  refine Eq.trans ?_ ((stacked_up (m ((c : Thread nD τ).loc main_arg0)) (m ((c : Thread nD τ).loc main_arg1))
      ⟨512 * (t.val % 8) + a, by omega⟩ ⟨1408 * (t.val / 8) + b, by omega⟩).trans
    (entry_at (R := 4096) (C := 2816) (m ((c : Thread nD τ).loc main_arg1)) _ _))
  unfold iblk
  rw [v]
  blk_ext [index_maps t]

/-! ## The run -/

/-- The gradient of the gated product at row `r`, column `j`. -/
def product (w d : ℕ → ℕ → EReal) (r j : ℕ) : EReal := half * ∑ k : Fin 1024, d r k * w j k

/-- The gradients of the gate projection (`z` is 0) and of the up projection. -/
def value (g u w d : ℕ → ℕ → EReal) (z r j : ℕ) : EReal :=
  if z = 0 then dgate (product w d r j) (g r j) (u r j) else dup (product w d r j) (g r j)

/-- The two gradients as one array. -/
def result (g u w d : ℕ → ℕ → EReal) : FVec Ideal S2x4096x2816 .bf16 := fun i =>
  value g u w d (i 0).val (i 1).val (i 2).val

theorem product_point (t : Fin cfg0.N) (a : Fin 512) (b : Fin 1408) :
    (k0_pay1 (F := Ideal) (iblk m c 0 t) (iblk m c 1 t) (ix2 a b) : EReal) =
      product (W m c) (D m c) (512 * (t.val % 8) + a) (1408 * (t.val / 8) + b) := by
  refine (product_at (iblk m c 0 t) (iblk m c 1 t) a b).trans (congrArg (half * ·) (Finset.sum_congr rfl fun k _ => ?_))
  exact congrArg₂ (· * ·) (block_ct m c t a k) (block_weight m c t b k)

/-- What a point writes out. -/
theorem point_at (t : Fin cfg0.N) (z : Fin 2) (a : Fin 512) (b : Fin 1408) :
    (out0_3 (F := Ideal) (iblk m c 0 t) (iblk m c 1 t) (iblk m c 2 t) (ix3 z a b) : EReal) =
      value (G m c) (U m c) (W m c) (D m c) z (512 * (t.val % 8) + a) (1408 * (t.val / 8) + b) := by
  refine (out_at (iblk m c 0 t) (iblk m c 1 t) (iblk m c 2 t) a b z).trans ?_
  unfold value
  rw [product_point, ← block_gate m c t a b, ← block_up m c t a b]

theorem array : (dats m 0 c).arrAt 3 cfg0.N = result (G m c) (U m c) (W m c) (D m c) := by
  refine (dats m 0 c).arrAt_eq_of_covers 3 _ (by decide +kernel) fun t hf y => ?_
  obtain ⟨z, a, b, rfl⟩ : ∃ (z : Fin 2) (a : Fin 512) (b : Fin 1408), y = ix3 z a b := ⟨y 0, y 1, y 2, eq_ix3 y⟩
  have e : (dats m 0 c).flushed 3 t (ix3 z a b) = out0_3 (iblk m c 0 t) (iblk m c 1 t) (iblk m c 2 t) (ix3 z a b) := by
    show (cfg0.win 3).cut (grid0.coords t) ((dats m 0 c).after 3 t) (ix3 z a b) = _
    rw [after0_3]
    rfl
  refine e.trans ((point_at m c t z a b).trans ?_)
  unfold result
  blk_simp [index_maps t]
  rw [Nat.mul_comm 512, Nat.mul_comm 1408]

theorem run_values (ρ : Dev nD → PrngReg) : θ_run defs (onTc (τ := τ) (main (F := Ideal))) ⟨m, fun _ => 0, ρ⟩ fun r => ∀ c : Dev nD,
    r.2.mem ((c : Thread nD τ).loc main_v3) = result (G m c) (U m c) (W m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (array m c), (h c).2⟩) (Value.run_blocks m ρ)

end Cert.Kernel7Ideal.Hand
-- ==== Proof.InReference.lean ====
/- The reference's gate and up projections of the FFN and their gated product, entry by entry. -/
module

public import proofs.«01_k».proof.Proof.InValue
public import proofs.«01_k».proof.Proof.DgateValue
public import proofs.«01_k».proof.Proof.Gen.Reference6Ideal.Run

@[expose] public section

set_option maxRecDepth 16384

noncomputable section

namespace Cert.Reference6Ideal.Hand

open Cert.Reference6Ideal Cert.Reference6Ideal.Facts₀ Idealize.ShloMosaic Idealize.ShloMosaic.TcCoe Idealize.SL.Sem
open Cert.Ffn
open Cert.Kernel7Ideal.Hand (stacked stacked_gate stacked_up)

section
variable (h : FVec Ideal S4096x1024 .f32) (w : FVec Ideal S1024x5632 .f32) (g u : FVec Ideal S4096x2816 .f32)

/-- The projection onto all the columns, and its two halves. -/
def product : FVec Ideal S4096x5632 .f32 :=
  Host.dotGeneral (F := Ideal) (φ₁ := .f32) (φ₂ := .f32) dot_S4096x1024_S1024x5632_S4096x5632_1_0_0_1_n_n none h w
def gate (p : FVec Ideal S4096x5632 .f32) : FVec Ideal S4096x2816 .f32 :=
  extractStridedSlice S4096x2816 ![0, 0] p slices_S4096x5632_S4096x2816_0_0
def up (p : FVec Ideal S4096x5632 .f32) : FVec Ideal S4096x2816 .f32 :=
  extractStridedSlice S4096x2816 ![0, 2816] p slices_S4096x5632_S4096x2816_0_2816

theorem product_at (r : Fin 4096) (j : Fin 5632) :
    (product h w (ix2 r j) : EReal) = Cert.Kernel6Ideal.Hand.product (entry (R := 4096) (C := 1024) h)
      (entry (R := 1024) (C := 5632) w) r j := by
  unfold product Cert.Kernel6Ideal.Hand.product
  pointwise
  exact Finset.sum_congr rfl fun k _ => congrArg₂ (· * ·) (entry_at h r k) (entry_at w k j)

theorem gate_at (r : Fin 4096) (j : Fin 2816) :
    (gate (product h w) (ix2 r j) : EReal) = Cert.Kernel6Ideal.Hand.product (entry (R := 4096) (C := 1024) h)
      (entry (R := 1024) (C := 5632) w) r j := by
  refine Eq.trans ?_ (product_at h w r ⟨j, by omega⟩)
  unfold gate
  pointwise

theorem up_at (r : Fin 4096) (j : Fin 2816) :
    (up (product h w) (ix2 r j) : EReal) = Cert.Kernel6Ideal.Hand.product (entry (R := 4096) (C := 1024) h)
      (entry (R := 1024) (C := 5632) w) r (2816 + j) := by
  refine Eq.trans ?_ (product_at h w r ⟨2816 + j, by omega⟩)
  unfold up
  pointwise

/-- The reference's projections are the kernel's. -/
theorem stacked_eq : stacked (gate (product h w)) (up (product h w)) = Cert.Kernel6Ideal.Hand.projections
    (entry (R := 4096) (C := 1024) h) (entry (R := 1024) (C := 5632) w) := by
  funext i
  obtain ⟨z, r, j, rfl⟩ : ∃ (z : Fin 2) (r : Fin 4096) (j : Fin 2816), i = ix3 z r j := ⟨i 0, i 1, i 2, eq_ix3 i⟩
  unfold Cert.Kernel6Ideal.Hand.projections Cert.Kernel6Ideal.Hand.value
  match z with
  | ⟨0, _⟩ => exact (stacked_gate _ _ r j).trans (gate_at h w r j)
  | ⟨1, _⟩ => exact (stacked_up _ _ r j).trans (up_at h w r j)

/-- The gated product. -/
def gated : FVec Ideal S4096x2816 .bf16 :=
  truncf .bf16 (mulf (mulf g (Host.divf (broadcastInDim S4096x2816 ![] bcast_S_S4096x2816 (constant S_ .f32 0x3F800000#32))
    (addf (broadcastInDim S4096x2816 ![] bcast_S_S4096x2816 (constant S_ .f32 0x3F800000#32)) (Host.exp (Host.negf g))))) u)
    bitsLt_bf16_f32

theorem gated_at (r : Fin 4096) (j : Fin 2816) :
    (gated g u (ix2 r j) : EReal) = g (ix2 r j) * Ideal.logistic (g (ix2 r j)) * u (ix2 r j) := by
  unfold gated Ideal.logistic
  pointwise

theorem gated_eq : gated (gate (product h w)) (up (product h w)) = Cert.Kernel6Ideal.Hand.activations
    (entry (R := 4096) (C := 1024) h) (entry (R := 1024) (C := 5632) w) := by
  funext i
  obtain ⟨r, j, rfl⟩ : ∃ (r : Fin 4096) (j : Fin 2816), i = ix2 r j := ⟨i 0, i 1, eq_ix2 i⟩
  refine (gated_at _ _ r j).trans ?_
  rw [gate_at, up_at]
  rfl
end

variable (m : (ℓ : Loc nD τ sig) → Buf (Elt Ideal) ℓ) (ρ : Dev nD → PrngReg)

theorem run_values : θ_run defs (onTc (τ := τ) (main (F := Ideal))) ⟨m, fun _ => 0, ρ⟩ fun r => ∀ c : Dev nD,
    r.2.mem ((c.tc : Thread nD τ).loc main_v5) = Cert.Kernel6Ideal.Hand.projections
        (entry (R := 4096) (C := 1024) (m ((c.tc : Thread nD τ).loc main_arg0)))
        (entry (R := 1024) (C := 5632) (m ((c.tc : Thread nD τ).loc main_arg1)))
    ∧ r.2.mem ((c.tc : Thread nD τ).loc main_v8) = Cert.Kernel6Ideal.Hand.activations
        (entry (R := 4096) (C := 1024) (m ((c.tc : Thread nD τ).loc main_arg0)))
        (entry (R := 1024) (C := 5632) (m ((c.tc : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (stacked_eq _ _), (h c).2.1.trans (gated_eq _ _), (h c).2.2⟩)
    (Value.run (F := Ideal) m ρ)

end Cert.Reference6Ideal.Hand
-- ==== Proof.DgateReference.lean ====
/- The reference's gradients of the FFN's gate and up projections, entry by entry. -/
module

public import proofs.«01_k».proof.Proof.DgateValue
public import proofs.«01_k».proof.Proof.Gen.Reference7Ideal.Run

@[expose] public section

set_option maxRecDepth 16384

noncomputable section

namespace Cert.Reference7Ideal.Hand

open Cert.Reference7Ideal Cert.Reference7Ideal.Facts₀ Idealize.ShloMosaic Idealize.ShloMosaic.TcCoe Idealize.SL.Sem
open Cert.Ffn

section
variable (g u : FVec Ideal S4096x2816 .f32) (w : FVec Ideal S2816x1024 .f32) (d p s : FVec Ideal S4096x2816 .f32)
  (o : FVec Ideal S4096x1024 .f32)

/-- The gradient of the gated product. -/
def product : FVec Ideal S4096x2816 .f32 :=
  Host.dotGeneral (F := Ideal) (φ₁ := .f32) (φ₂ := .f32) dot_S4096x1024_S2816x1024_S4096x2816_1_1_0_0_n_n none
    (mulf (broadcastInDim S4096x1024 ![] bcast_S_S4096x1024 (constant S_ .f32 0x3F000000#32)) o) w

theorem product_at (r : Fin 4096) (j : Fin 2816) :
    (product w o (ix2 r j) : EReal) = Cert.Kernel7Ideal.Hand.product (entry (R := 2816) (C := 1024) w)
      (entry (R := 4096) (C := 1024) o) r j := by
  unfold product Cert.Kernel7Ideal.Hand.product
  rw [mul_comm half, half_sum]
  pointwise
  refine Finset.sum_congr rfl fun k _ => ?_
  rw [← entry_at w j k, ← entry_at o r k, mul_comm (o _ * w _), ← mul_assoc]
  rfl

/-- One, and the logistic of the gate projection. -/
def ones : FVec Ideal S4096x2816 .f32 := broadcastInDim S4096x2816 ![] bcast_S_S4096x2816 (constant S_ .f32 0x3F800000#32)
def slope : FVec Ideal S4096x2816 .f32 := Host.divf ones (addf ones (Host.exp (Host.negf g)))

theorem ones_at (r : Fin 4096) (j : Fin 2816) : (ones (ix2 r j) : EReal) = 1 := by
  unfold ones
  pointwise

theorem slope_at (r : Fin 4096) (j : Fin 2816) : (slope g (ix2 r j) : EReal) = Ideal.logistic (g (ix2 r j)) := by
  unfold slope Ideal.logistic
  pointwise
  rw [ones_at]

/-- The two gradients as one array. -/
def gradients : FVec Ideal S2x4096x2816 .bf16 :=
  truncf .bf16 (concatenate S2x4096x2816 0
    [⟨S1x4096x2816, broadcastInDim S1x4096x2816 ![1, 2] bcast_S4096x2816_S1x4096x2816_1_2
      (addf (mulf (mulf p u) s) (mulf (mulf g (mulf p u)) (mulf s (subf ones s))))⟩,
    ⟨S1x4096x2816, broadcastInDim S1x4096x2816 ![1, 2] bcast_S4096x2816_S1x4096x2816_1_2 (mulf (mulf g s) p)⟩]
    concatenates_S1x4096x2816_S1x4096x2816_S2x4096x2816_d0) bitsLt_bf16_f32

theorem gradient_gate (r : Fin 4096) (j : Fin 2816) :
    (gradients g u p (slope g) (ix3 0 r j) : EReal) = dgate (p (ix2 r j)) (g (ix2 r j)) (u (ix2 r j)) := by
  unfold gradients dgate
  pointwise
  rw [ones_at, slope_at]

theorem gradient_up (r : Fin 4096) (j : Fin 2816) :
    (gradients g u p (slope g) (ix3 1 r j) : EReal) = dup (p (ix2 r j)) (g (ix2 r j)) := by
  unfold gradients dup
  pointwise
  rw [slope_at]

/-- The reference's result is the kernel's. -/
theorem gradients_eq : gradients g u (product w o) (slope g) = Cert.Kernel7Ideal.Hand.result
    (entry (R := 4096) (C := 2816) g) (entry (R := 4096) (C := 2816) u)
    (entry (R := 2816) (C := 1024) w) (entry (R := 4096) (C := 1024) o) := by
  funext i
  obtain ⟨z, r, j, rfl⟩ : ∃ (z : Fin 2) (r : Fin 4096) (j : Fin 2816), i = ix3 z r j := ⟨i 0, i 1, i 2, eq_ix3 i⟩
  unfold Cert.Kernel7Ideal.Hand.result Cert.Kernel7Ideal.Hand.value
  match z with
  | ⟨0, _⟩ =>
    refine (gradient_gate g u (product w o) r j).trans ?_
    rw [product_at, entry_at g r j, entry_at u r j]
    rfl
  | ⟨1, _⟩ =>
    refine (gradient_up g u (product w o) r j).trans ?_
    rw [product_at, entry_at g r j]
    rfl
end

variable (m : (ℓ : Loc nD τ sig) → Buf (Elt Ideal) ℓ) (ρ : Dev nD → PrngReg)

theorem run_values : θ_run defs (onTc (τ := τ) (main (F := Ideal))) ⟨m, fun _ => 0, ρ⟩ fun r => ∀ c : Dev nD,
    r.2.mem ((c.tc : Thread nD τ).loc main_v14) = Cert.Kernel7Ideal.Hand.result
        (entry (R := 4096) (C := 2816) (m ((c.tc : Thread nD τ).loc main_arg0)))
        (entry (R := 4096) (C := 2816) (m ((c.tc : Thread nD τ).loc main_arg1)))
        (entry (R := 2816) (C := 1024) (m ((c.tc : Thread nD τ).loc main_arg2)))
        (entry (R := 4096) (C := 1024) (m ((c.tc : Thread nD τ).loc main_arg3)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans (gradients_eq _ _ _ _), (h c).2⟩) (Value.run (F := Ideal) m ρ)

end Cert.Reference7Ideal.Hand
-- ==== Proof.Products.lean ====
/- A matrix product taken tile by tile, for the mixer's products: the product of two arrays in each of the three
layouts, and the sum that a block holds after its last tile. -/
module

public import proofs.«01_k».proof.Proof.Tiles

@[expose] public section

noncomputable section

namespace Cert.Ffn

open Idealize.ShloMosaic

theorem off_zero2 : (![0, 0] : Fin 2 → ℕ) = fun _ => 0 := by funext i; revert i; decide

/-- An array as the kernels take it. -/
def rounded {S : Shape} (x : FVec Ideal S .f32) : FVec Ideal S .bf16 := truncf .bf16 x (by decide)

/-- The columns of `x` times those of `y`, over `K` rows. -/
def columnsTimes {R C : ℕ} (K : ℕ) (x y : ℕ → ℕ → EReal) : (⟨2, ![R, C]⟩ : Shape).Idx → EReal := fun i =>
  ∑ k : Fin K, x k (i 0).val * y k (i 1).val

/-- The rows of `x` times those of `y`, over `K` columns. -/
def rowsTimes {R C : ℕ} (K : ℕ) (x y : ℕ → ℕ → EReal) : (⟨2, ![R, C]⟩ : Shape).Idx → EReal := fun i =>
  ∑ k : Fin K, x (i 0).val k * y (i 1).val k

/-- The product of `x` and `y`. -/
def times {R C : ℕ} (K : ℕ) (x y : ℕ → ℕ → EReal) : (⟨2, ![R, C]⟩ : Shape).Idx → EReal := fun i =>
  ∑ k : Fin K, x (i 0).val k * y k (i 1).val

/-- The array `x` added to `g`. -/
def plus {R C : ℕ} (x : ℕ → ℕ → EReal) (g : (⟨2, ![R, C]⟩ : Shape).Idx → EReal) : (⟨2, ![R, C]⟩ : Shape).Idx → EReal :=
  fun i => x (i 0).val (i 1).val + g i

theorem eq_plus {R C : ℕ} (x : FVec Ideal ⟨2, ![R, C]⟩ .f32) (g : FVec Ideal ⟨2, ![R, C]⟩ .f32) :
    addf x g = plus (entry x) g := by
  funext i
  obtain ⟨a, b, rfl⟩ : ∃ (a : Fin R) (b : Fin C), i = ix2 a b := ⟨i 0, i 1, eq_ix2 i⟩
  exact congrArg (· + g (ix2 a b)) (entry_at x a b)

theorem eq_columnsTimes {K R C : ℕ} (x : (⟨2, ![K, R]⟩ : Shape).Idx → EReal) (y : (⟨2, ![K, C]⟩ : Shape).Idx → EReal)
    (g : (⟨2, ![R, C]⟩ : Shape).Idx → EReal)
    (h : ∀ (a : Fin R) (b : Fin C), g (ix2 a b) = ∑ k : Fin K, x (ix2 k a) * y (ix2 k b)) :
    g = columnsTimes K (entry x) (entry y) := by
  funext i
  obtain ⟨a, b, rfl⟩ : ∃ (a : Fin R) (b : Fin C), i = ix2 a b := ⟨i 0, i 1, eq_ix2 i⟩
  exact (h a b).trans (Finset.sum_congr rfl fun k _ => congrArg₂ (· * ·) (entry_at x k a) (entry_at y k b))

theorem eq_rowsTimes {K R C : ℕ} (x : (⟨2, ![R, K]⟩ : Shape).Idx → EReal) (y : (⟨2, ![C, K]⟩ : Shape).Idx → EReal)
    (g : (⟨2, ![R, C]⟩ : Shape).Idx → EReal)
    (h : ∀ (a : Fin R) (b : Fin C), g (ix2 a b) = ∑ k : Fin K, x (ix2 a k) * y (ix2 b k)) :
    g = rowsTimes K (entry x) (entry y) := by
  funext i
  obtain ⟨a, b, rfl⟩ : ∃ (a : Fin R) (b : Fin C), i = ix2 a b := ⟨i 0, i 1, eq_ix2 i⟩
  exact (h a b).trans (Finset.sum_congr rfl fun k _ => congrArg₂ (· * ·) (entry_at x a k) (entry_at y b k))

theorem eq_times {K R C : ℕ} (x : (⟨2, ![R, K]⟩ : Shape).Idx → EReal) (y : (⟨2, ![K, C]⟩ : Shape).Idx → EReal)
    (g : (⟨2, ![R, C]⟩ : Shape).Idx → EReal)
    (h : ∀ (a : Fin R) (b : Fin C), g (ix2 a b) = ∑ k : Fin K, x (ix2 a k) * y (ix2 k b)) :
    g = times K (entry x) (entry y) := by
  funext i
  obtain ⟨a, b, rfl⟩ : ∃ (a : Fin R) (b : Fin C), i = ix2 a b := ⟨i 0, i 1, eq_ix2 i⟩
  exact (h a b).trans (Finset.sum_congr rfl fun k _ => congrArg₂ (· * ·) (entry_at x a k) (entry_at y k b))

/-- The `C` columns of `x` from column `o` on. -/
def fromColumn {R W : ℕ} (C o : ℕ) (h : (⟨2, ![R, W]⟩ : Shape).Slices ![0, o] ⟨2, ![R, C]⟩) (x : FVec Ideal ⟨2, ![R, W]⟩ .f32) : FVec Ideal ⟨2, ![R, C]⟩ .f32 :=
  extractStridedSlice ⟨2, ![R, C]⟩ ![0, o] x h

/-- What adds `b` terms of its block at each of the block's `p` points, and is cleared at the first, holds all the
block's terms after the last. -/
theorem block_sum {N p b : ℕ} (hp : 0 < p) (acc : (n : ℕ) → n < N → EReal) (f : ℕ → ℕ → EReal)
    (first : ∀ n h, n % p = 0 → acc n h = ∑ k : Fin b, f (n / p) (b * (n % p) + k))
    (next : ∀ n h, (n + 1) % p ≠ 0 → acc (n + 1) h =
      acc n (Nat.lt_of_succ_lt h) + ∑ k : Fin b, f ((n + 1) / p) (b * ((n + 1) % p) + k))
    (n : ℕ) (h : n < N) (last : n % p + 1 = p) : acc n h = ∑ k : Fin (p * b), f (n / p) k := by
  refine (sum_since hp acc (fun n => ∑ k : Fin b, f (n / p) (b * (n % p) + k)) first next n h).trans ?_
  rw [last, ← sum_tiles b (f (n / p)) p]
  refine Finset.sum_congr rfl fun s hs => ?_
  have hs := Finset.mem_range.mp hs
  rw [Nat.mul_add_mod, Nat.mod_eq_of_lt hs, Nat.mul_add_div hp, Nat.div_eq_of_lt hs, Nat.add_zero]

/-- A sum that is cleared at the first of a block's `p` points, and to which every point adds its `b` terms, is the sum
of all the block's terms at the last. `step t` is what the point `t` makes of the sum it finds. -/
theorem sum_points {N p b R C : ℕ} (hp : 0 < p) {z : FVec Ideal ⟨2, ![R, C]⟩ .f32}
    {step : Fin N → FVec Ideal ⟨2, ![R, C]⟩ .f32 → FVec Ideal ⟨2, ![R, C]⟩ .f32}
    {s : (n : ℕ) → n < N → FVec Ideal ⟨2, ![R, C]⟩ .f32} {f : ℕ → ℕ → EReal} {i : (⟨2, ![R, C]⟩ : Shape).Idx}
    (zero : (z i : EReal) = 0)
    (add : ∀ t acc, (step t acc i : EReal) = acc i + ∑ k : Fin b, f (t.val / p) (b * (t.val % p) + k))
    (first : ∀ n h, n % p = 0 → s n h = step ⟨n, h⟩ z)
    (next : ∀ n h, (n + 1) % p ≠ 0 → s (n + 1) h = step ⟨n + 1, h⟩ (s n (Nat.lt_of_succ_lt h)))
    (t : Fin N) (last : t.val % p + 1 = p) : (s t.val t.isLt i : EReal) = ∑ k : Fin (p * b), f (t.val / p) k :=
  block_sum hp (fun n h => (s n h i : EReal)) f
    (fun n h e => (congrFun (first n h e) i).trans ((add _ z).trans (by rw [zero, zero_add])))
    (fun n h e => (congrFun (next n h e) i).trans (add _ _)) t.val t.isLt last

/-- The terms of two tiles. -/
theorem sum_two (b : ℕ) (f : ℕ → EReal) :
    (∑ k : Fin b, f (b * 0 + k)) + ∑ k : Fin b, f (b * 1 + k) = ∑ k : Fin (2 * b), f k := by
  rw [← sum_tiles b f 2, Finset.sum_range_succ, Finset.sum_range_one]

/-- The same where the points add the products of the columns of two blocks, which are the tiles of `x` and `y`; the sum is
then a block of `columnsTimes`. -/
theorem columns_points {N p b R C : ℕ} (hp : 0 < p) {z : FVec Ideal ⟨2, ![R, C]⟩ .f32}
    {step : Fin N → FVec Ideal ⟨2, ![R, C]⟩ .f32 → FVec Ideal ⟨2, ![R, C]⟩ .f32}
    {s : (n : ℕ) → n < N → FVec Ideal ⟨2, ![R, C]⟩ .f32} {x y : ℕ → ℕ → EReal}
    {u : Fin N → Fin b → Fin R → EReal} {v : Fin N → Fin b → Fin C → EReal}
    (left : ∀ t k a, u t k a = x (b * (t.val % p) + k) a)
    (right : ∀ t k c, v t k c = y (b * (t.val % p) + k) (C * (t.val / p) + c))
    (zero : ∀ a c, (z (ix2 a c) : EReal) = 0)
    (add : ∀ t acc a c, (step t acc (ix2 a c) : EReal) = acc (ix2 a c) + ∑ k : Fin b, u t k a * v t k c)
    (first : ∀ t, t.val % p = 0 → s t.val t.isLt = step t z)
    (middle : ∀ t, t.val % p ≠ 0 → t.val % p + 1 ≠ p → s t.val t.isLt =
      step t (s (t.val - 1) (lt_of_le_of_lt (Nat.sub_le _ _) t.isLt)))
    (final : ∀ t, t.val % p ≠ 0 → t.val % p + 1 = p → s t.val t.isLt =
      step t (s (t.val - 1) (lt_of_le_of_lt (Nat.sub_le _ _) t.isLt)))
    (t : Fin N) (last : t.val % p + 1 = p) (a : Fin R) (c : Fin C) :
    (s t.val t.isLt (ix2 a c) : EReal) = ∑ r : Fin (p * b), x r a * y r (C * (t.val / p) + c) := by
  refine sum_points hp (z := z) (step := step) (f := fun j r => x r a * y r (C * j + c)) (zero a c)
    (fun t acc => (add t acc a c).trans (congrArg (acc (ix2 a c) + ·) (Finset.sum_congr rfl fun k _ =>
      congrArg₂ (· * ·) (left t k a) (right t k c)))) (fun n h e => first ⟨n, h⟩ e) (fun n h e => ?_) t last
  by_cases l : (n + 1) % p + 1 = p
  · exact final ⟨n + 1, h⟩ e l
  · exact middle ⟨n + 1, h⟩ e l

/-- The same of a block of two points: what the second makes of what the first makes of the cleared sum. -/
theorem sum_two_points {N b R C : ℕ} {z : FVec Ideal ⟨2, ![R, C]⟩ .f32}
    {step : Fin N → FVec Ideal ⟨2, ![R, C]⟩ .f32 → FVec Ideal ⟨2, ![R, C]⟩ .f32}
    {f : ℕ → ℕ → EReal} {i : (⟨2, ![R, C]⟩ : Shape).Idx} (zero : (z i : EReal) = 0)
    (add : ∀ t acc, (step t acc i : EReal) = acc i + ∑ k : Fin b, f (t.val / 2) (b * (t.val % 2) + k))
    (t : Fin N) (last : t.val % 2 = 1) (h : t.val - 1 < N) :
    (step t (step ⟨t.val - 1, h⟩ z) i : EReal) = ∑ k : Fin (2 * b), f (t.val / 2) k := by
  rw [add, add, zero, zero_add, last, show (t.val - 1) % 2 = 0 by omega, show (t.val - 1) / 2 = t.val / 2 by omega]
  exact sum_two b (f (t.val / 2))

/-- The product of columns as the reference takes it, with the factors the other way round. -/
theorem eq_columnsTimes_comm {K R C : ℕ} (x : (⟨2, ![K, R]⟩ : Shape).Idx → EReal)
    (y : (⟨2, ![K, C]⟩ : Shape).Idx → EReal) (g : (⟨2, ![R, C]⟩ : Shape).Idx → EReal)
    (h : ∀ (a : Fin R) (b : Fin C), g (ix2 a b) = ∑ k : Fin K, y (ix2 k b) * x (ix2 k a)) :
    g = columnsTimes K (entry x) (entry y) :=
  eq_columnsTimes x y g fun a b => (h a b).trans (Finset.sum_congr rfl fun _ _ => mul_comm _ _)

end Cert.Ffn
-- ==== Proof.DwRkvValue.lean ====
/- What the gradient of the mixer's first projection is: the kernel adds up, tile by tile of rows, the products of the
columns of the normalised input with the columns of the projection's gradient. -/
module

public import proofs.«01_k».proof.Proof.Products
public import proofs.«01_k».proof.Proof.Gen.Kernel8Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel8Ideal.Hand

open Cert.Kernel8Ideal Cert.Kernel8Ideal.Gen Idealize.ShloMosaic Idealize.ShloMosaic.TcCoe Idealize.SL.Sem
open Cert.Ffn

/-! ## What each kind of point leaves -/

section
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x0 : Vec F S1024x1024 .bf16) (x1 : Vec F S1024x1024 .bf16) (xs : Vec F S1024x1024 .f32)

/-- The first point of a block clears the sum and adds its product; the others add theirs. -/
theorem sum_first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) off_zero2]
  simp only [View.readCov_unit_zero (S := S1024x1024) _ off_zero2, View.readAt_eq_ld, h3.read_unread, h4.read_unread,
    View.ld_unit_zero (S := S1024x1024) off_zero2]

theorem sum_middle (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero off_zero2]
  simp only [View.readAt_eq_ld, h3.read_unread, h4.read_unread, h6.read_unread, View.ld_unit_zero (S := S1024x1024) off_zero2]

theorem sum_last (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero off_zero2]
  simp only [View.readAt_eq_ld, h3.read_unread, h4.read_unread, h6.read_unread, View.ld_unit_zero (S := S1024x1024) off_zero2]

/-- The last writes the sum out. -/
theorem out_last (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero off_zero2]
  simp only [View.readCov_unit_zero (S := S1024x1024) _ off_zero2, View.readAt_eq_ld, h3.read_unread, h4.read_unread,
    h6.read_unread, View.ld_unit_zero (S := S1024x1024) off_zero2]
end

/-! ## The blocks that a point sees -/

theorem index_maps : ∀ t : Fin cfg0.N, (cfg0.win 0).index t = ![t.val % 4, 0] ∧
    (cfg0.win 1).index t = ![t.val % 4, t.val / 4] ∧ (cfg0.win 2).index t = ![0, t.val / 4] := by
  decide +kernel

/-- A block is written back after its last point. -/
theorem flush_last : ∀ t : Fin cfg0.N, (cfg0.win 2).flush t = true → t.val % 4 = 3 := by
  decide +kernel

variable (m : (ℓ : Loc nD τ sig) → Buf (Elt Ideal) ℓ) (c : Dev nD)

/-- The normalised input and the projection's gradient. -/
abbrev X : ℕ → ℕ → EReal := entry (R := 4096) (C := 1024) (m ((c : Thread nD τ).loc main_arg0))
abbrev D : ℕ → ℕ → EReal := entry (R := 4096) (C := 3072) (m ((c : Thread nD τ).loc main_arg2))

theorem block_left (t : Fin cfg0.N) (k a : Fin 1024) :
    (iblk m c 0 t (ix2 k a) : EReal) = X m c (1024 * (t.val % 4) + k) a := by
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * (t.val % 4) + k, by omega⟩ a)
  unfold iblk
  rw [show V m c (Pipeline.arrRef spec0 0) = _ from v]
  blk_ext [index_maps t]

theorem block_right (t : Fin cfg0.N) (k b : Fin 1024) :
    (iblk m c 1 t (ix2 k b) : EReal) = D m c (1024 * (t.val % 4) + k) (1024 * (t.val / 4) + b) := by
  have hN : t.val < 12 := lt_of_lt_of_eq t.isLt N_0
  have v : V m c main_v1 = rounded (S := S4096x3072) (m ((c : Thread nD τ).loc main_arg2)) := by
    unfold rounded
    unfold_abbrev_sides
    after_results
  refine Eq.trans ?_ (entry_at (R := 4096) (C := 3072) (m ((c : Thread nD τ).loc main_arg2))
    ⟨1024 * (t.val % 4) + k, by omega⟩ ⟨1024 * (t.val / 4) + b, by omega⟩)
  unfold iblk
  rw [show V m c (Pipeline.arrRef spec0 1) = _ from v]
  blk_ext [index_maps t]

/-! ## The gradient -/

/-- What the last point of a block writes out. -/
theorem out_at (t : Fin cfg0.N) (l : t.val % 4 = 3) (a b : Fin 1024) :
    ((outsAt0 m c t.val t.isLt).1 (ix2 a b) : EReal) =
      ∑ r : Fin 4096, X m c r a * D m c r (1024 * (t.val / 4) + b) := by
  refine Eq.trans ?_ (columns_points (p := 4) (b := 1024) (by decide) (z := k0_pay1) (s := fun n h => (outsAt0 m c n h).2)
    (step := fun t acc => k0_pay2 acc (iblk m c 0 t) (iblk m c 1 t)) (block_left m c) (block_right m c)
    (fun _ _ => by unfold k0_pay1; pointwise) (fun _ _ _ _ => by unfold k0_pay2; pointwise)
    (fun t e => ?_) (fun t e l => ?_) (fun t e l => ?_) t (by omega) a b)
  · rw [outsAt0_C m c t (by omega) l]
    dsimp only
    rw [out_last, sum_last]
    unfold k0_pay3
    pointwise
  · rw [outsAt0_A m c t e (by omega)]
    dsimp only
    rw [sum_first]
  · rw [outsAt0_B m c t e (by omega)]
    dsimp only
    rw [sum_middle]
  · rw [outsAt0_C m c t e (by omega)]
    dsimp only
    rw [sum_last]

theorem array : (dats m 0 c).arrAt 2 cfg0.N = columnsTimes 4096 (X m c) (D m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t (flush_last t hf) a b)).trans ?_
  unfold columnsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = columnsTimes 4096 (X m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel8Ideal.Hand
-- ==== Proof.DwQkvValue.lean ====
/- What the gradient of the mixer's projection to queries, keys and values is: the kernel adds up, tile by tile of rows, the products of the
columns of the normalised input with the columns of the projection's gradient. -/
module

public import proofs.«01_k».proof.Proof.Products
public import proofs.«01_k».proof.Proof.Gen.Kernel9Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel9Ideal.Hand

open Cert.Kernel9Ideal Cert.Kernel9Ideal.Gen Idealize.ShloMosaic Idealize.ShloMosaic.TcCoe Idealize.SL.Sem
open Cert.Ffn

/-! ## What each kind of point leaves -/

section
variable {F : FTy → Type} [FloatOps F]
variable (c : Dev nD) (i : grid0.Coords) (a3 : Memref sig .tc .vmem S1024x1024 .bf16) (h3 : a3.IsWhole)
  (a4 : Memref sig .tc .vmem S1024x1152 .bf16) (h4 : a4.IsWhole) (a5 : Memref sig .tc .vmem S1024x1152 .f32) (h5 : a5.IsWhole)
  (a6 : Memref sig .tc .vmem S1024x1152 .f32) (h6 : a6.IsWhole)
  (x0 : Vec F S1024x1024 .bf16) (x1 : Vec F S1024x1152 .bf16) (xs : Vec F S1024x1152 .f32)

/-- The first point of a block clears the sum and adds its product; the others add theirs. -/
theorem sum_first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1152) off_zero2]
  simp only [View.readCov_unit_zero (S := S1024x1152) _ off_zero2, View.readAt_eq_ld, h3.read_unread, h4.read_unread,
    View.ld_unit_zero (S := S1024x1024) off_zero2,
    View.ld_unit_zero (S := S1024x1152) off_zero2]

theorem sum_middle (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero off_zero2]
  simp only [View.readAt_eq_ld, h3.read_unread, h4.read_unread, h6.read_unread, View.ld_unit_zero (S := S1024x1024) off_zero2,
    View.ld_unit_zero (S := S1024x1152) off_zero2]

theorem sum_last (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero off_zero2]
  simp only [View.readAt_eq_ld, h3.read_unread, h4.read_unread, h6.read_unread, View.ld_unit_zero (S := S1024x1024) off_zero2,
    View.ld_unit_zero (S := S1024x1152) off_zero2]

/-- The last writes the sum out. -/
theorem out_last (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero off_zero2]
  simp only [View.readCov_unit_zero (S := S1024x1152) _ off_zero2, View.readAt_eq_ld, h3.read_unread, h4.read_unread,
    h6.read_unread, View.ld_unit_zero (S := S1024x1024) off_zero2,
    View.ld_unit_zero (S := S1024x1152) off_zero2]
end

/-! ## The blocks that a point sees -/

theorem index_maps : ∀ t : Fin cfg0.N, (cfg0.win 0).index t = ![t.val % 4, 0] ∧
    (cfg0.win 1).index t = ![t.val % 4, t.val / 4] ∧ (cfg0.win 2).index t = ![0, t.val / 4] := by
  decide +kernel

/-- A block is written back after its last point. -/
theorem flush_last : ∀ t : Fin cfg0.N, (cfg0.win 2).flush t = true → t.val % 4 = 3 := by
  decide +kernel

variable (m : (ℓ : Loc nD τ sig) → Buf (Elt Ideal) ℓ) (c : Dev nD)

/-- The normalised input and the projection's gradient. -/
abbrev X : ℕ → ℕ → EReal := entry (R := 4096) (C := 1024) (m ((c : Thread nD τ).loc main_arg0))
abbrev D : ℕ → ℕ → EReal := entry (R := 4096) (C := 2304) (m ((c : Thread nD τ).loc main_arg2))

theorem block_left (t : Fin cfg0.N) (k a : Fin 1024) :
    (iblk m c 0 t (ix2 k a) : EReal) = X m c (1024 * (t.val % 4) + k) a := by
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * (t.val % 4) + k, by omega⟩ a)
  unfold iblk
  rw [show V m c (Pipeline.arrRef spec0 0) = _ from v]
  blk_ext [index_maps t]

theorem block_right (t : Fin cfg0.N) (k : Fin 1024) (b : Fin 1152) :
    (iblk m c 1 t (ix2 k b) : EReal) = D m c (1024 * (t.val % 4) + k) (1152 * (t.val / 4) + b) := by
  have hN : t.val < 8 := lt_of_lt_of_eq t.isLt N_0
  have v : V m c main_v1 = rounded (S := S4096x2304) (m ((c : Thread nD τ).loc main_arg2)) := by
    unfold rounded
    unfold_abbrev_sides
    after_results
  refine Eq.trans ?_ (entry_at (R := 4096) (C := 2304) (m ((c : Thread nD τ).loc main_arg2))
    ⟨1024 * (t.val % 4) + k, by omega⟩ ⟨1152 * (t.val / 4) + b, by omega⟩)
  unfold iblk
  rw [show V m c (Pipeline.arrRef spec0 1) = _ from v]
  blk_ext [index_maps t]

/-! ## The gradient -/

/-- What the last point of a block writes out. -/
theorem out_at (t : Fin cfg0.N) (l : t.val % 4 = 3) (a : Fin 1024) (b : Fin 1152) :
    ((outsAt0 m c t.val t.isLt).1 (ix2 a b) : EReal) =
      ∑ r : Fin 4096, X m c r a * D m c r (1152 * (t.val / 4) + b) := by
  refine Eq.trans ?_ (columns_points (p := 4) (b := 1024) (by decide) (z := k0_pay1) (s := fun n h => (outsAt0 m c n h).2)
    (step := fun t acc => k0_pay2 acc (iblk m c 0 t) (iblk m c 1 t)) (block_left m c) (block_right m c)
    (fun _ _ => by unfold k0_pay1; pointwise) (fun _ _ _ _ => by unfold k0_pay2; pointwise)
    (fun t e => ?_) (fun t e l => ?_) (fun t e l => ?_) t (by omega) a b)
  · rw [outsAt0_C m c t (by omega) l]
    dsimp only
    rw [out_last, sum_last]
    unfold k0_pay3
    pointwise
  · rw [outsAt0_A m c t e (by omega)]
    dsimp only
    rw [sum_first]
  · rw [outsAt0_B m c t e (by omega)]
    dsimp only
    rw [sum_middle]
  · rw [outsAt0_C m c t e (by omega)]
    dsimp only
    rw [sum_last]

theorem array : (dats m 0 c).arrAt 2 cfg0.N = columnsTimes 4096 (X m c) (D m c) := by
  refine (dats m 0 c).arrAt_eq_of_covers 2 _ (by decide +kernel) fun t hf y => ?_
  obtain ⟨a, b, rfl⟩ : ∃ (a : Fin 1024) (b : Fin 1152), y = ix2 a b := ⟨y 0, y 1, eq_ix2 y⟩
  refine ((congrFun (Value.flushed2 m c t) (ix2 a b)).trans (out_at m c t (flush_last t hf) a b)).trans ?_
  unfold columnsTimes
  blk_simp [index_maps t]
  rw [Nat.mul_comm 1152]

theorem run_values (ρ : Dev nD → PrngReg) : θ_run defs (onTc (τ := τ) (main (F := Ideal))) ⟨m, fun _ => 0, ρ⟩ fun r => ∀ c : Dev nD,
    r.2.mem ((c : Thread nD τ).loc main_v2) = columnsTimes 4096 (X m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel9Ideal.Hand
-- ==== Proof.DwGateValue.lean ====
/- What the gradient of the mixer's gate projection is: the kernel adds up, tile by tile of rows, the products of the
columns of the normalised input with the columns of the projection's gradient. -/
module

public import proofs.«01_k».proof.Proof.Products
public import proofs.«01_k».proof.Proof.Gen.Kernel10Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel10Ideal.Hand

open Cert.Kernel10Ideal Cert.Kernel10Ideal.Gen Idealize.ShloMosaic Idealize.ShloMosaic.TcCoe Idealize.SL.Sem
open Cert.Ffn

/-! ## What each kind of point leaves -/

section
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x0 : Vec F S1024x1024 .bf16) (x1 : Vec F S1024x1024 .bf16) (xs : Vec F S1024x1024 .f32)

/-- The first point of a block clears the sum and adds its product; the others add theirs. -/
theorem sum_first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) off_zero2]
  simp only [View.readCov_unit_zero (S := S1024x1024) _ off_zero2, View.readAt_eq_ld, h3.read_unread, h4.read_unread,
    View.ld_unit_zero (S := S1024x1024) off_zero2]

theorem sum_middle (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero off_zero2]
  simp only [View.readAt_eq_ld, h3.read_unread, h4.read_unread, h6.read_unread, View.ld_unit_zero (S := S1024x1024) off_zero2]

theorem sum_last (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero off_zero2]
  simp only [View.readAt_eq_ld, h3.read_unread, h4.read_unread, h6.read_unread, View.ld_unit_zero (S := S1024x1024) off_zero2]

/-- The last writes the sum out. -/
theorem out_last (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero off_zero2]
  simp only [View.readCov_unit_zero (S := S1024x1024) _ off_zero2, View.readAt_eq_ld, h3.read_unread, h4.read_unread,
    h6.read_unread, View.ld_unit_zero (S := S1024x1024) off_zero2]
end

/-! ## The blocks that a point sees -/

theorem index_maps : ∀ t : Fin cfg0.N, (cfg0.win 0).index t = ![t.val % 4, 0] ∧
    (cfg0.win 1).index t = ![t.val % 4, t.val / 4] ∧ (cfg0.win 2).index t = ![0, t.val / 4] := by
  decide +kernel

/-- A block is written back after its last point. -/
theorem flush_last : ∀ t : Fin cfg0.N, (cfg0.win 2).flush t = true → t.val % 4 = 3 := by
  decide +kernel

variable (m : (ℓ : Loc nD τ sig) → Buf (Elt Ideal) ℓ) (c : Dev nD)

/-- The normalised input and the projection's gradient. -/
abbrev X : ℕ → ℕ → EReal := entry (R := 4096) (C := 1024) (m ((c : Thread nD τ).loc main_arg0))
abbrev D : ℕ → ℕ → EReal := entry (R := 4096) (C := 2048) (m ((c : Thread nD τ).loc main_arg2))

theorem block_left (t : Fin cfg0.N) (k a : Fin 1024) :
    (iblk m c 0 t (ix2 k a) : EReal) = X m c (1024 * (t.val % 4) + k) a := by
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * (t.val % 4) + k, by omega⟩ a)
  unfold iblk
  rw [show V m c (Pipeline.arrRef spec0 0) = _ from v]
  blk_ext [index_maps t]

theorem block_right (t : Fin cfg0.N) (k b : Fin 1024) :
    (iblk m c 1 t (ix2 k b) : EReal) = D m c (1024 * (t.val % 4) + k) (1024 * (t.val / 4) + b) := by
  have hN : t.val < 8 := lt_of_lt_of_eq t.isLt N_0
  have v : V m c main_v1 = rounded (S := S4096x2048) (m ((c : Thread nD τ).loc main_arg2)) := by
    unfold rounded
    unfold_abbrev_sides
    after_results
  refine Eq.trans ?_ (entry_at (R := 4096) (C := 2048) (m ((c : Thread nD τ).loc main_arg2))
    ⟨1024 * (t.val % 4) + k, by omega⟩ ⟨1024 * (t.val / 4) + b, by omega⟩)
  unfold iblk
  rw [show V m c (Pipeline.arrRef spec0 1) = _ from v]
  blk_ext [index_maps t]

/-! ## The gradient -/

/-- What the last point of a block writes out. -/
theorem out_at (t : Fin cfg0.N) (l : t.val % 4 = 3) (a b : Fin 1024) :
    ((outsAt0 m c t.val t.isLt).1 (ix2 a b) : EReal) =
      ∑ r : Fin 4096, X m c r a * D m c r (1024 * (t.val / 4) + b) := by
  refine Eq.trans ?_ (columns_points (p := 4) (b := 1024) (by decide) (z := k0_pay1) (s := fun n h => (outsAt0 m c n h).2)
    (step := fun t acc => k0_pay2 acc (iblk m c 0 t) (iblk m c 1 t)) (block_left m c) (block_right m c)
    (fun _ _ => by unfold k0_pay1; pointwise) (fun _ _ _ _ => by unfold k0_pay2; pointwise)
    (fun t e => ?_) (fun t e l => ?_) (fun t e l => ?_) t (by omega) a b)
  · rw [outsAt0_C m c t (by omega) l]
    dsimp only
    rw [out_last, sum_last]
    unfold k0_pay3
    pointwise
  · rw [outsAt0_A m c t e (by omega)]
    dsimp only
    rw [sum_first]
  · rw [outsAt0_B m c t e (by omega)]
    dsimp only
    rw [sum_middle]
  · rw [outsAt0_C m c t e (by omega)]
    dsimp only
    rw [sum_last]

theorem array : (dats m 0 c).arrAt 2 cfg0.N = columnsTimes 4096 (X m c) (D m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t (flush_last t hf) a b)).trans ?_
  unfold columnsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = columnsTimes 4096 (X m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel10Ideal.Hand
-- ==== Proof.DhRkvValue.lean ====
/- What the first projection's part of the gradient of the mixer's input is: the kernel adds up, over two tiles of columns,
the products of the rows of the projection's gradient with the rows of its weight matrix. -/
module

public import proofs.«01_k».proof.Proof.Products
public import proofs.«01_k».proof.Proof.Gen.Kernel11Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel11Ideal.Hand

open Cert.Kernel11Ideal Cert.Kernel11Ideal.Gen Idealize.ShloMosaic Idealize.ShloMosaic.TcCoe Idealize.SL.Sem
open Cert.Ffn

/-! ## What each kind of point leaves -/

section
variable {F : FTy → Type} [FloatOps F]
variable (c : Dev nD) (i : grid0.Coords) (a3 : Memref sig .tc .vmem S1024x1536 .bf16) (h3 : a3.IsWhole)
  (a4 : Memref sig .tc .vmem S1024x1536 .f32) (h4 : a4.IsWhole) (a5 : Memref sig .tc .vmem S1024x1024 .f32) (h5 : a5.IsWhole)
  (a6 : Memref sig .tc .vmem S1024x1024 .f32) (h6 : a6.IsWhole)
  (x0 : Vec F S1024x1536 .bf16) (x1 : Vec F S1024x1536 .f32) (xs : Vec F S1024x1024 .f32)

/-- The first of a block's two points clears the sum and adds its product. -/
theorem sum_first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) off_zero2]
  simp only [View.readCov_unit_zero (S := S1024x1024) _ off_zero2, View.readAt_eq_ld, h3.read_unread, h4.read_unread,
    View.ld_unit_zero (S := S1024x1536) off_zero2]

/-- The second adds its product and writes the sum out. -/
theorem out_last (hc0 : ¬cond0_0 i) (hc1 : cond0_1 i) :
    out0_B_2 c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero off_zero2]
  simp only [View.readCov_unit_zero (S := S1024x1024) _ off_zero2, View.readAt_eq_ld, h3.read_unread, h4.read_unread,
    h6.read_unread, View.ld_unit_zero (S := S1024x1024) off_zero2, View.ld_unit_zero (S := S1024x1536) off_zero2]
end

/-! ## The blocks that a point sees -/

theorem index_maps : ∀ t : Fin cfg0.N, (cfg0.win 0).index t = ![t.val / 2, t.val % 2] ∧
    (cfg0.win 1).index t = ![0, t.val % 2] ∧ (cfg0.win 2).index t = ![t.val / 2, 0] := by
  decide +kernel

/-- A block is written back after its last point. -/
theorem flush_last : ∀ t : Fin cfg0.N, (cfg0.win 2).flush t = true → t.val % 2 = 1 := by
  decide +kernel

variable (m : (ℓ : Loc nD τ sig) → Buf (Elt Ideal) ℓ) (c : Dev nD)

/-- The projection's gradient and its columns of the weight matrix. -/
abbrev D : ℕ → ℕ → EReal := entry (R := 4096) (C := 3072) (m ((c : Thread nD τ).loc main_arg2))
abbrev W : ℕ → ℕ → EReal := entry (fromColumn 3072 0 slices_S1024x7712_S1024x3072_0_0 (m ((c : Thread nD τ).loc main_arg1)))

theorem block_left (t : Fin cfg0.N) (a : Fin 1024) (k : Fin 1536) :
    (iblk m c 0 t (ix2 a k) : EReal) = D m c (1024 * (t.val / 2) + a) (1536 * (t.val % 2) + k) := by
  have hN : t.val < 8 := lt_of_lt_of_eq t.isLt N_0
  have v : V m c main_v0 = rounded (S := S4096x3072) (m ((c : Thread nD τ).loc main_arg2)) := by
    unfold rounded
    unfold_abbrev_sides
    after_results
  refine Eq.trans ?_ (entry_at (R := 4096) (C := 3072) (m ((c : Thread nD τ).loc main_arg2))
    ⟨1024 * (t.val / 2) + a, by omega⟩ ⟨1536 * (t.val % 2) + k, by omega⟩)
  unfold iblk
  rw [show V m c (Pipeline.arrRef spec0 0) = _ from v]
  blk_ext [index_maps t]

theorem block_right (t : Fin cfg0.N) (b : Fin 1024) (k : Fin 1536) :
    (iblk m c 1 t (ix2 b k) : EReal) = W m c b (1536 * (t.val % 2) + k) := by
  have v : V m c main_v1 = fromColumn 3072 0 slices_S1024x7712_S1024x3072_0_0 (m ((c : Thread nD τ).loc main_arg1)) := by
    unfold fromColumn
    unfold_abbrev_sides
    after_results
  refine Eq.trans ?_ (entry_at (fromColumn 3072 0 slices_S1024x7712_S1024x3072_0_0 (m ((c : Thread nD τ).loc main_arg1)))
    b ⟨1536 * (t.val % 2) + k, by omega⟩)
  unfold iblk
  rw [show V m c (Pipeline.arrRef spec0 1) = _ from v]
  blk_ext [index_maps t]

/-- What a point makes of the sum it finds. -/
abbrev step (t : Fin cfg0.N) (acc : FVec Ideal S1024x1024 .f32) : FVec Ideal S1024x1024 .f32 :=
  k0_pay2 acc (iblk m c 0 t) (iblk m c 1 t)

theorem step_at (a b : Fin 1024) (t : Fin cfg0.N) (acc : FVec Ideal S1024x1024 .f32) :
    (step m c t acc (ix2 a b) : EReal) = acc (ix2 a b) +
      ∑ k : Fin 1536, D m c (1024 * (t.val / 2) + a) (1536 * (t.val % 2) + k) * W m c b (1536 * (t.val % 2) + k) := by
  refine Eq.trans ?_ (congrArg (_ + ·) (Finset.sum_congr rfl fun k _ =>
    congrArg₂ (· * ·) (block_left m c t a k) (block_right m c t b k)))
  unfold step k0_pay2
  pointwise

/-! ## The gradient -/

/-- What the second point of a block writes out. -/
theorem out_at (t : Fin cfg0.N) (l : t.val % 2 = 1) (a b : Fin 1024) :
    ((outsAt0 m c t.val t.isLt).1 (ix2 a b) : EReal) =
      ∑ j : Fin 3072, D m c (1024 * (t.val / 2) + a) j * W m c b j := by
  have hp : t.val - 1 < cfg0.N := lt_of_le_of_lt (Nat.sub_le _ _) t.isLt
  refine Eq.trans ?_ (sum_two_points (z := k0_pay1)
    (f := fun i j => D m c (1024 * i + a) j * W m c b j) (by unfold k0_pay1; pointwise) (step_at m c a b) t l hp)
  rw [outsAt0_B m c t (by omega) l, outsAt0_A m c ⟨t.val - 1, hp⟩ (by dsimp only; omega) (by dsimp only; omega)]
  dsimp only
  rw [out_last, sum_first]
  unfold k0_pay3
  pointwise

theorem array : (dats m 0 c).arrAt 2 cfg0.N = rowsTimes 3072 (D m c) (W m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t (flush_last t hf) a b)).trans ?_
  unfold rowsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = rowsTimes 3072 (D m c) (W m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel11Ideal.Hand
-- ==== Proof.DhQkvValue.lean ====
/- What the gradient of the mixer's input is with the part of the projection to queries, keys and values: the kernel adds
up, over two tiles of columns, the products of the rows of the projection's gradient with the rows of its weight matrix,
and adds the sum to the gradient so far. -/
module

public import proofs.«01_k».proof.Proof.Products
public import proofs.«01_k».proof.Proof.Gen.Kernel12Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel12Ideal.Hand

open Cert.Kernel12Ideal Cert.Kernel12Ideal.Gen Idealize.ShloMosaic Idealize.ShloMosaic.TcCoe Idealize.SL.Sem
open Cert.Ffn

/-! ## What each kind of point leaves -/

section
variable {F : FTy → Type} [FloatOps F]
variable (c : Dev nD) (i : grid0.Coords) (a3 : Memref sig .tc .vmem S1024x1152 .bf16) (h3 : a3.IsWhole)
  (a4 : Memref sig .tc .vmem S1024x1152 .f32) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x1152 .bf16) (x1 : Vec F S1024x1152 .f32) (x2 xs : Vec F S1024x1024 .f32)

/-- The first of a block's two points clears the sum and adds its product. -/
theorem sum_first (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) off_zero2]
  simp only [View.readCov_unit_zero (S := S1024x1024) _ off_zero2, View.readAt_eq_ld, h3.read_unread, h4.read_unread,
    View.ld_unit_zero (S := S1024x1152) off_zero2]

/-- The second adds its product, adds the sum to its block of the gradient so far and writes that out. -/
theorem out_last (hc0 : ¬cond0_0 i) (hc1 : cond0_1 i) :
    out0_B_3 c i a3 h3 a4 h4 a5 h5 a6 h6 a7 h7 hc0 hc1 x0 x1 x2 xs = k0_pay3 (k0_pay2 xs x0 x1) x2 := by
  unfold out0_B_3
  rw [View.read_writes_eq_canon _ _ _ (cover0_B_3 c i a3 h3 a4 h4 a5 h5 a6 h6 a7 h7 hc0 hc1 x0 x1 x2 xs)]
  unfold kernelRun0_B
  dsimp only
  sl_unfold_words
  rw [View.canon_unit_zero off_zero2]
  simp only [View.readCov_unit_zero (S := S1024x1024) _ off_zero2, View.readAt_eq_ld, h3.read_unread, h4.read_unread,
    h5.read_unread, h7.read_unread, View.ld_unit_zero (S := S1024x1024) off_zero2, View.ld_unit_zero (S := S1024x1152) off_zero2]
end

/-! ## The blocks that a point sees -/

theorem index_maps : ∀ t : Fin cfg0.N, (cfg0.win 0).index t = ![t.val / 2, t.val % 2] ∧
    (cfg0.win 1).index t = ![0, t.val % 2] ∧ (cfg0.win 2).index t = ![t.val / 2, 0] ∧
    (cfg0.win 3).index t = ![t.val / 2, 0] := by
  decide +kernel

/-- A block is written back after its last point. -/
theorem flush_last : ∀ t : Fin cfg0.N, (cfg0.win 3).flush t = true → t.val % 2 = 1 := by
  decide +kernel

variable (m : (ℓ : Loc nD τ sig) → Buf (Elt Ideal) ℓ) (c : Dev nD)

/-- The projection's gradient, its columns of the weight matrix and the gradient so far. -/
abbrev D : ℕ → ℕ → EReal := entry (R := 4096) (C := 2304) (m ((c : Thread nD τ).loc main_arg2))
abbrev W : ℕ → ℕ → EReal := entry (fromColumn 2304 3360 slices_S1024x7712_S1024x2304_0_3360 (m ((c : Thread nD τ).loc main_arg1)))
abbrev G : ℕ → ℕ → EReal := entry (R := 4096) (C := 1024) (m ((c : Thread nD τ).loc main_arg3))

theorem block_left (t : Fin cfg0.N) (a : Fin 1024) (k : Fin 1152) :
    (iblk m c 0 t (ix2 a k) : EReal) = D m c (1024 * (t.val / 2) + a) (1152 * (t.val % 2) + k) := by
  have hN : t.val < 8 := lt_of_lt_of_eq t.isLt N_0
  have v : V m c main_v0 = rounded (S := S4096x2304) (m ((c : Thread nD τ).loc main_arg2)) := by
    unfold rounded
    unfold_abbrev_sides
    after_results
  refine Eq.trans ?_ (entry_at (R := 4096) (C := 2304) (m ((c : Thread nD τ).loc main_arg2))
    ⟨1024 * (t.val / 2) + a, by omega⟩ ⟨1152 * (t.val % 2) + k, by omega⟩)
  unfold iblk
  rw [show V m c (Pipeline.arrRef spec0 0) = _ from v]
  blk_ext [index_maps t]

theorem block_right (t : Fin cfg0.N) (b : Fin 1024) (k : Fin 1152) :
    (iblk m c 1 t (ix2 b k) : EReal) = W m c b (1152 * (t.val % 2) + k) := by
  have v : V m c main_v1 = fromColumn 2304 3360 slices_S1024x7712_S1024x2304_0_3360 (m ((c : Thread nD τ).loc main_arg1)) := by
    unfold fromColumn
    unfold_abbrev_sides
    after_results
  refine Eq.trans ?_ (entry_at (fromColumn 2304 3360 slices_S1024x7712_S1024x2304_0_3360 (m ((c : Thread nD τ).loc main_arg1)))
    b ⟨1152 * (t.val % 2) + k, by omega⟩)
  unfold iblk
  rw [show V m c (Pipeline.arrRef spec0 1) = _ from v]
  blk_ext [index_maps t]

theorem block_so_far (t : Fin cfg0.N) (a b : Fin 1024) :
    (iblk m c 2 t (ix2 a b) : EReal) = G m c (1024 * (t.val / 2) + a) b := by
  have hN : t.val < 8 := lt_of_lt_of_eq t.isLt N_0
  refine Eq.trans ?_ (entry_at (R := 4096) (C := 1024) (m ((c : Thread nD τ).loc main_arg3))
    ⟨1024 * (t.val / 2) + a, by omega⟩ b)
  unfold iblk
  rw [show V m c (Pipeline.arrRef spec0 2) = _ from V_main_arg3 m c]
  blk_ext [index_maps t]

/-- What a point makes of the sum it finds. -/
abbrev step (t : Fin cfg0.N) (acc : FVec Ideal S1024x1024 .f32) : FVec Ideal S1024x1024 .f32 :=
  k0_pay2 acc (iblk m c 0 t) (iblk m c 1 t)

theorem step_at (a b : Fin 1024) (t : Fin cfg0.N) (acc : FVec Ideal S1024x1024 .f32) :
    (step m c t acc (ix2 a b) : EReal) = acc (ix2 a b) +
      ∑ k : Fin 1152, D m c (1024 * (t.val / 2) + a) (1152 * (t.val % 2) + k) * W m c b (1152 * (t.val % 2) + k) := by
  simp only [← block_left m c t, ← block_right m c t]
  unfold step k0_pay2
  pointwise

/-! ## The gradient -/

/-- What the second point of a block writes out. -/
theorem out_at (t : Fin cfg0.N) (l : t.val % 2 = 1) (a b : Fin 1024) :
    ((outsAt0 m c t.val t.isLt).1 (ix2 a b) : EReal) = G m c (1024 * (t.val / 2) + a) b +
      ∑ j : Fin 2304, D m c (1024 * (t.val / 2) + a) j * W m c b j := by
  have hp : t.val - 1 < cfg0.N := lt_of_le_of_lt (Nat.sub_le _ _) t.isLt
  refine Eq.trans ?_ (congrArg₂ (· + ·) (block_so_far m c t a b) (sum_two_points (z := k0_pay1)
    (f := fun i j => D m c (1024 * i + a) j * W m c b j) (by unfold k0_pay1; pointwise) (step_at m c a b) t l hp))
  rw [outsAt0_B m c t (by omega) l, outsAt0_A m c ⟨t.val - 1, hp⟩ (by dsimp only; omega) (by dsimp only; omega)]
  dsimp only
  rw [out_last, sum_first]
  unfold k0_pay3
  pointwise

theorem array : (dats m 0 c).arrAt 3 cfg0.N = plus (G m c) (rowsTimes 2304 (D m c) (W m c)) := by
  refine (dats m 0 c).arrAt_eq_of_covers 3 _ (by decide +kernel) fun t hf y => ?_
  obtain ⟨a, b, rfl⟩ : ∃ (a b : Fin 1024), y = ix2 a b := ⟨y 0, y 1, eq_ix2 y⟩
  refine ((congrFun (Value.flushed3 m c t) (ix2 a b)).trans (out_at m c t (flush_last t hf) a b)).trans ?_
  unfold plus rowsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = plus (G m c) (rowsTimes 2304 (D m c) (W m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (array m c), (h c).2⟩) (Value.run_blocks m ρ)

end Cert.Kernel12Ideal.Hand
-- ==== Proof.DhGateValue.lean ====
/- What the gradient of the mixer's input is with the part of the gate projection: the kernel adds
up, over two tiles of columns, the products of the rows of the projection's gradient with the rows of its weight matrix,
and adds the sum to the gradient so far. -/
module

public import proofs.«01_k».proof.Proof.Products
public import proofs.«01_k».proof.Proof.Gen.Kernel13Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel13Ideal.Hand

open Cert.Kernel13Ideal Cert.Kernel13Ideal.Gen Idealize.ShloMosaic Idealize.ShloMosaic.TcCoe Idealize.SL.Sem
open Cert.Ffn

/-! ## What each kind of point leaves -/

section
variable {F : FTy → Type} [FloatOps F]
variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x1024 .bf16) (x1 : Vec F S1024x1024 .f32) (x2 xs : Vec F S1024x1024 .f32)

/-- The first of a block's two points clears the sum and adds its product. -/
theorem sum_first (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) off_zero2]
  simp only [View.readCov_unit_zero (S := S1024x1024) _ off_zero2, View.readAt_eq_ld, h3.read_unread, h4.read_unread,
    View.ld_unit_zero (S := S1024x1024) off_zero2]

/-- The second adds its product, adds the sum to its block of the gradient so far and writes that out. -/
theorem out_last (hc0 : ¬cond0_0 i) (hc1 : cond0_1 i) :
    out0_B_3 c i a3 h3 a4 h4 a5 h5 a6 h6 a7 h7 hc0 hc1 x0 x1 x2 xs = k0_pay3 (k0_pay2 xs x0 x1) x2 := by
  unfold out0_B_3
  rw [View.read_writes_eq_canon _ _ _ (cover0_B_3 c i a3 h3 a4 h4 a5 h5 a6 h6 a7 h7 hc0 hc1 x0 x1 x2 xs)]
  unfold kernelRun0_B
  dsimp only
  sl_unfold_words
  rw [View.canon_unit_zero off_zero2]
  simp only [View.readCov_unit_zero (S := S1024x1024) _ off_zero2, View.readAt_eq_ld, h3.read_unread, h4.read_unread,
    h5.read_unread, h7.read_unread, View.ld_unit_zero (S := S1024x1024) off_zero2]
end

/-! ## The blocks that a point sees -/

theorem index_maps : ∀ t : Fin cfg0.N, (cfg0.win 0).index t = ![t.val / 2, t.val % 2] ∧
    (cfg0.win 1).index t = ![0, t.val % 2] ∧ (cfg0.win 2).index t = ![t.val / 2, 0] ∧
    (cfg0.win 3).index t = ![t.val / 2, 0] := by
  decide +kernel

/-- A block is written back after its last point. -/
theorem flush_last : ∀ t : Fin cfg0.N, (cfg0.win 3).flush t = true → t.val % 2 = 1 := by
  decide +kernel

variable (m : (ℓ : Loc nD τ sig) → Buf (Elt Ideal) ℓ) (c : Dev nD)

/-- The projection's gradient, its columns of the weight matrix and the gradient so far. -/
abbrev D : ℕ → ℕ → EReal := entry (R := 4096) (C := 2048) (m ((c : Thread nD τ).loc main_arg2))
abbrev W : ℕ → ℕ → EReal := entry (fromColumn 2048 5664 slices_S1024x7712_S1024x2048_0_5664 (m ((c : Thread nD τ).loc main_arg1)))
abbrev G : ℕ → ℕ → EReal := entry (R := 4096) (C := 1024) (m ((c : Thread nD τ).loc main_arg3))

theorem block_left (t : Fin cfg0.N) (a k : Fin 1024) :
    (iblk m c 0 t (ix2 a k) : EReal) = D m c (1024 * (t.val / 2) + a) (1024 * (t.val % 2) + k) := by
  have hN : t.val < 8 := lt_of_lt_of_eq t.isLt N_0
  have v : V m c main_v0 = rounded (S := S4096x2048) (m ((c : Thread nD τ).loc main_arg2)) := by
    unfold rounded
    unfold_abbrev_sides
    after_results
  refine Eq.trans ?_ (entry_at (R := 4096) (C := 2048) (m ((c : Thread nD τ).loc main_arg2))
    ⟨1024 * (t.val / 2) + a, by omega⟩ ⟨1024 * (t.val % 2) + k, by omega⟩)
  unfold iblk
  rw [show V m c (Pipeline.arrRef spec0 0) = _ from v]
  blk_ext [index_maps t]

theorem block_right (t : Fin cfg0.N) (b k : Fin 1024) :
    (iblk m c 1 t (ix2 b k) : EReal) = W m c b (1024 * (t.val % 2) + k) := by
  have v : V m c main_v1 = fromColumn 2048 5664 slices_S1024x7712_S1024x2048_0_5664 (m ((c : Thread nD τ).loc main_arg1)) := by
    unfold fromColumn
    unfold_abbrev_sides
    after_results
  refine Eq.trans ?_ (entry_at (fromColumn 2048 5664 slices_S1024x7712_S1024x2048_0_5664 (m ((c : Thread nD τ).loc main_arg1)))
    b ⟨1024 * (t.val % 2) + k, by omega⟩)
  unfold iblk
  rw [show V m c (Pipeline.arrRef spec0 1) = _ from v]
  blk_ext [index_maps t]

theorem block_so_far (t : Fin cfg0.N) (a b : Fin 1024) :
    (iblk m c 2 t (ix2 a b) : EReal) = G m c (1024 * (t.val / 2) + a) b := by
  have hN : t.val < 8 := lt_of_lt_of_eq t.isLt N_0
  refine Eq.trans ?_ (entry_at (R := 4096) (C := 1024) (m ((c : Thread nD τ).loc main_arg3))
    ⟨1024 * (t.val / 2) + a, by omega⟩ b)
  unfold iblk
  rw [show V m c (Pipeline.arrRef spec0 2) = _ from V_main_arg3 m c]
  blk_ext [index_maps t]

/-- What a point makes of the sum it finds. -/
abbrev step (t : Fin cfg0.N) (acc : FVec Ideal S1024x1024 .f32) : FVec Ideal S1024x1024 .f32 :=
  k0_pay2 acc (iblk m c 0 t) (iblk m c 1 t)

theorem step_at (a b : Fin 1024) (t : Fin cfg0.N) (acc : FVec Ideal S1024x1024 .f32) :
    (step m c t acc (ix2 a b) : EReal) = acc (ix2 a b) +
      ∑ k : Fin 1024, D m c (1024 * (t.val / 2) + a) (1024 * (t.val % 2) + k) * W m c b (1024 * (t.val % 2) + k) := by
  simp only [← block_left m c t, ← block_right m c t]
  unfold step k0_pay2
  pointwise

/-! ## The gradient -/

/-- What the second point of a block writes out. -/
theorem out_at (t : Fin cfg0.N) (l : t.val % 2 = 1) (a b : Fin 1024) :
    ((outsAt0 m c t.val t.isLt).1 (ix2 a b) : EReal) = G m c (1024 * (t.val / 2) + a) b +
      ∑ j : Fin 2048, D m c (1024 * (t.val / 2) + a) j * W m c b j := by
  have hp : t.val - 1 < cfg0.N := lt_of_le_of_lt (Nat.sub_le _ _) t.isLt
  refine Eq.trans ?_ (congrArg₂ (· + ·) (block_so_far m c t a b) (sum_two_points (z := k0_pay1)
    (f := fun i j => D m c (1024 * i + a) j * W m c b j) (by unfold k0_pay1; pointwise) (step_at m c a b) t l hp))
  rw [outsAt0_B m c t (by omega) l, outsAt0_A m c ⟨t.val - 1, hp⟩ (by dsimp only; omega) (by dsimp only; omega)]
  dsimp only
  rw [out_last, sum_first]
  unfold k0_pay3
  pointwise

theorem array : (dats m 0 c).arrAt 3 cfg0.N = plus (G m c) (rowsTimes 2048 (D m c) (W m c)) := by
  refine (dats m 0 c).arrAt_eq_of_covers 3 _ (by decide +kernel) fun t hf y => ?_
  obtain ⟨a, b, rfl⟩ : ∃ (a b : Fin 1024), y = ix2 a b := ⟨y 0, y 1, eq_ix2 y⟩
  refine ((congrFun (Value.flushed3 m c t) (ix2 a b)).trans (out_at m c t (flush_last t hf) a b)).trans ?_
  unfold plus rowsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = plus (G m c) (rowsTimes 2048 (D m c) (W m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (array m c), (h c).2⟩) (Value.run_blocks m ρ)

end Cert.Kernel13Ideal.Hand
-- ==== Proof.ProjRkvValue.lean ====
/- What the mixer's first projection is: each point of the kernel multiplies a block of rows of the normalised input with a
block of columns of the weight matrix. -/
module

public import proofs.«01_k».proof.Proof.Products
public import proofs.«01_k».proof.Proof.Gen.Kernel14Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel14Ideal.Hand

open Cert.Kernel14Ideal Cert.Kernel14Ideal.Gen Idealize.ShloMosaic Idealize.ShloMosaic.TcCoe Idealize.SL.Sem
open Cert.Ffn

section
variable {F : FTy → Type} [FloatOps F]
variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole)
  (x0 : Vec F S1024x1024 .bf16) (x1 : Vec F S1024x1024 .f32)

/-- A point clears the sum, adds its product and writes the sum out. -/
theorem out_point (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero off_zero2]
  simp only [View.readCov_cons_toLoadRect, View.readCov_unit_zero (S := S1024x1024) _ off_zero2,
    View.readAt_eq_ld, h3.read_unread, h4.read_unread, View.ld_unit_zero (S := S1024x1024) off_zero2]
end

theorem index_maps : ∀ t : Fin cfg0.N, (cfg0.win 0).index t = ![t.val / 3, 0] ∧
    (cfg0.win 1).index t = ![0, t.val % 3] ∧ (cfg0.win 2).index t = ![t.val / 3, t.val % 3] := by
  decide +kernel

variable (m : (ℓ : Loc nD τ sig) → Buf (Elt Ideal) ℓ) (c : Dev nD)

/-- The normalised input and the projection's columns of the weight matrix. -/
abbrev X : ℕ → ℕ → EReal := entry (R := 4096) (C := 1024) (m ((c : Thread nD τ).loc main_arg0))
abbrev W : ℕ → ℕ → EReal := entry (fromColumn 3072 0 slices_S1024x7712_S1024x3072_0_0 (m ((c : Thread nD τ).loc main_arg1)))

theorem block_left (t : Fin cfg0.N) (a k : Fin 1024) :
    (iblk m c 0 t (ix2 a k) : EReal) = X m c (1024 * (t.val / 3) + a) k := by
  have hN : t.val < 12 := lt_of_lt_of_eq t.isLt N_0
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * (t.val / 3) + a, by omega⟩ k)
  unfold iblk
  rw [show V m c (Pipeline.arrRef spec0 0) = _ from v]
  blk_ext [index_maps t]

theorem block_right (t : Fin cfg0.N) (k b : Fin 1024) :
    (iblk m c 1 t (ix2 k b) : EReal) = W m c k (1024 * (t.val % 3) + b) := by
  have v : V m c main_v1 = fromColumn 3072 0 slices_S1024x7712_S1024x3072_0_0 (m ((c : Thread nD τ).loc main_arg1)) := by
    unfold fromColumn
    unfold_abbrev_sides
    after_results
  refine Eq.trans ?_ (entry_at (fromColumn 3072 0 slices_S1024x7712_S1024x3072_0_0 (m ((c : Thread nD τ).loc main_arg1)))
    k ⟨1024 * (t.val % 3) + b, by omega⟩)
  unfold iblk
  rw [show V m c (Pipeline.arrRef spec0 1) = _ from v]
  blk_ext [index_maps t]

/-- What a point writes out. -/
theorem out_at (t : Fin cfg0.N) (a b : Fin 1024) : (outsAt0 m c t (ix2 a b) : EReal) =
    ∑ k : Fin 1024, X m c (1024 * (t.val / 3) + a) k * W m c k (1024 * (t.val % 3) + b) := by
  unfold outsAt0
  rw [out_point]
  refine Eq.trans ?_ (Finset.sum_congr rfl fun k _ =>
    congrArg₂ (· * ·) (block_left m c t a k) (block_right m c t k b))
  unfold k0_pay3 k0_pay2 k0_pay1
  pointwise

theorem array : (dats m 0 c).arrAt 2 cfg0.N = times 1024 (X m c) (W m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t a b)).trans ?_
  unfold times
  blk_simp [index_maps t]
  rw [Nat.mul_comm 1024, Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = times 1024 (X m c) (W m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (array m c), (h c).2⟩) (Value.run_blocks m ρ)

end Cert.Kernel14Ideal.Hand
-- ==== Proof.ProjQkvValue.lean ====
/- What the mixer's projection to queries, keys and values is: each point of the kernel multiplies a block of rows of the normalised input with a
block of columns of the weight matrix. -/
module

public import proofs.«01_k».proof.Proof.Products
public import proofs.«01_k».proof.Proof.Gen.Kernel15Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel15Ideal.Hand

open Cert.Kernel15Ideal Cert.Kernel15Ideal.Gen Idealize.ShloMosaic Idealize.ShloMosaic.TcCoe Idealize.SL.Sem
open Cert.Ffn

section
variable {F : FTy → Type} [FloatOps F]
variable (c : Dev nD) (i : grid0.Coords) (a3 : Memref sig .tc .vmem S1024x1024 .bf16) (h3 : a3.IsWhole)
  (a4 : Memref sig .tc .vmem S1024x1152 .f32) (h4 : a4.IsWhole) (a5 : Memref sig .tc .vmem S1024x1152 .f32) (h5 : a5.IsWhole)
  (a6 : Memref sig .tc .vmem S1024x1152 .f32) (h6 : a6.IsWhole)
  (x0 : Vec F S1024x1024 .bf16) (x1 : Vec F S1024x1152 .f32)

/-- A point clears the sum, adds its product and writes the sum out. -/
theorem out_point (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero off_zero2]
  simp only [View.readCov_cons_toLoadRect, View.readCov_unit_zero (S := S1024x1152) _ off_zero2,
    View.readAt_eq_ld, h3.read_unread, h4.read_unread, View.ld_unit_zero (S := S1024x1024) off_zero2,
    View.ld_unit_zero (S := S1024x1152) off_zero2]
end

theorem index_maps : ∀ t : Fin cfg0.N, (cfg0.win 0).index t = ![t.val / 2, 0] ∧
    (cfg0.win 1).index t = ![0, t.val % 2] ∧ (cfg0.win 2).index t = ![t.val / 2, t.val % 2] := by
  decide +kernel

variable (m : (ℓ : Loc nD τ sig) → Buf (Elt Ideal) ℓ) (c : Dev nD)

/-- The normalised input and the projection's columns of the weight matrix. -/
abbrev X : ℕ → ℕ → EReal := entry (R := 4096) (C := 1024) (m ((c : Thread nD τ).loc main_arg0))
abbrev W : ℕ → ℕ → EReal := entry (fromColumn 2304 3360 slices_S1024x7712_S1024x2304_0_3360 (m ((c : Thread nD τ).loc main_arg1)))

theorem block_left (t : Fin cfg0.N) (a k : Fin 1024) :
    (iblk m c 0 t (ix2 a k) : EReal) = X m c (1024 * (t.val / 2) + a) k := by
  have hN : t.val < 8 := lt_of_lt_of_eq t.isLt N_0
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * (t.val / 2) + a, by omega⟩ k)
  unfold iblk
  rw [show V m c (Pipeline.arrRef spec0 0) = _ from v]
  blk_ext [index_maps t]

theorem block_right (t : Fin cfg0.N) (k : Fin 1024) (b : Fin 1152) :
    (iblk m c 1 t (ix2 k b) : EReal) = W m c k (1152 * (t.val % 2) + b) := by
  have v : V m c main_v1 = fromColumn 2304 3360 slices_S1024x7712_S1024x2304_0_3360 (m ((c : Thread nD τ).loc main_arg1)) := by
    unfold fromColumn
    unfold_abbrev_sides
    after_results
  refine Eq.trans ?_ (entry_at (fromColumn 2304 3360 slices_S1024x7712_S1024x2304_0_3360 (m ((c : Thread nD τ).loc main_arg1)))
    k ⟨1152 * (t.val % 2) + b, by omega⟩)
  unfold iblk
  rw [show V m c (Pipeline.arrRef spec0 1) = _ from v]
  blk_ext [index_maps t]

/-- What a point writes out. -/
theorem out_at (t : Fin cfg0.N) (a : Fin 1024) (b : Fin 1152) : (outsAt0 m c t (ix2 a b) : EReal) =
    ∑ k : Fin 1024, X m c (1024 * (t.val / 2) + a) k * W m c k (1152 * (t.val % 2) + b) := by
  unfold outsAt0
  rw [out_point]
  refine Eq.trans ?_ (Finset.sum_congr rfl fun k _ =>
    congrArg₂ (· * ·) (block_left m c t a k) (block_right m c t k b))
  unfold k0_pay3 k0_pay2 k0_pay1
  pointwise

theorem array : (dats m 0 c).arrAt 2 cfg0.N = times 1024 (X m c) (W m c) := by
  refine (dats m 0 c).arrAt_eq_of_covers 2 _ (by decide +kernel) fun t hf y => ?_
  obtain ⟨a, b, rfl⟩ : ∃ (a : Fin 1024) (b : Fin 1152), y = ix2 a b := ⟨y 0, y 1, eq_ix2 y⟩
  refine ((congrFun (Value.flushed2 m c t) (ix2 a b)).trans (out_at m c t a b)).trans ?_
  unfold times
  blk_simp [index_maps t]
  rw [Nat.mul_comm 1024, Nat.mul_comm 1152]

theorem run_values (ρ : Dev nD → PrngReg) : θ_run defs (onTc (τ := τ) (main (F := Ideal))) ⟨m, fun _ => 0, ρ⟩ fun r => ∀ c : Dev nD,
    r.2.mem ((c : Thread nD τ).loc main_v2) = times 1024 (X m c) (W m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (array m c), (h c).2⟩) (Value.run_blocks m ρ)

end Cert.Kernel15Ideal.Hand
-- ==== Proof.ProjGateValue.lean ====
/- What the mixer's gate projection is: each point of the kernel multiplies a block of rows of the normalised input with a
block of columns of the weight matrix. -/
module

public import proofs.«01_k».proof.Proof.Products
public import proofs.«01_k».proof.Proof.Gen.Kernel16Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.Kernel16Ideal.Hand

open Cert.Kernel16Ideal Cert.Kernel16Ideal.Gen Idealize.ShloMosaic Idealize.ShloMosaic.TcCoe Idealize.SL.Sem
open Cert.Ffn

section
variable {F : FTy → Type} [FloatOps F]
variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole)
  (x0 : Vec F S1024x1024 .bf16) (x1 : Vec F S1024x1024 .f32)

/-- A point clears the sum, adds its product and writes the sum out. -/
theorem out_point (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero off_zero2]
  simp only [View.readCov_cons_toLoadRect, View.readCov_unit_zero (S := S1024x1024) _ off_zero2,
    View.readAt_eq_ld, h3.read_unread, h4.read_unread, View.ld_unit_zero (S := S1024x1024) off_zero2]
end

theorem index_maps : ∀ t : Fin cfg0.N, (cfg0.win 0).index t = ![t.val / 2, 0] ∧
    (cfg0.win 1).index t = ![0, t.val % 2] ∧ (cfg0.win 2).index t = ![t.val / 2, t.val % 2] := by
  decide +kernel

variable (m : (ℓ : Loc nD τ sig) → Buf (Elt Ideal) ℓ) (c : Dev nD)

/-- The normalised input and the projection's columns of the weight matrix. -/
abbrev X : ℕ → ℕ → EReal := entry (R := 4096) (C := 1024) (m ((c : Thread nD τ).loc main_arg0))
abbrev W : ℕ → ℕ → EReal := entry (fromColumn 2048 5664 slices_S1024x7712_S1024x2048_0_5664 (m ((c : Thread nD τ).loc main_arg1)))

theorem block_left (t : Fin cfg0.N) (a k : Fin 1024) :
    (iblk m c 0 t (ix2 a k) : EReal) = X m c (1024 * (t.val / 2) + a) k := by
  have hN : t.val < 8 := lt_of_lt_of_eq t.isLt N_0
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * (t.val / 2) + a, by omega⟩ k)
  unfold iblk
  rw [show V m c (Pipeline.arrRef spec0 0) = _ from v]
  blk_ext [index_maps t]

theorem block_right (t : Fin cfg0.N) (k b : Fin 1024) :
    (iblk m c 1 t (ix2 k b) : EReal) = W m c k (1024 * (t.val % 2) + b) := by
  have v : V m c main_v1 = fromColumn 2048 5664 slices_S1024x7712_S1024x2048_0_5664 (m ((c : Thread nD τ).loc main_arg1)) := by
    unfold fromColumn
    unfold_abbrev_sides
    after_results
  refine Eq.trans ?_ (entry_at (fromColumn 2048 5664 slices_S1024x7712_S1024x2048_0_5664 (m ((c : Thread nD τ).loc main_arg1)))
    k ⟨1024 * (t.val % 2) + b, by omega⟩)
  unfold iblk
  rw [show V m c (Pipeline.arrRef spec0 1) = _ from v]
  blk_ext [index_maps t]

/-- What a point writes out. -/
theorem out_at (t : Fin cfg0.N) (a b : Fin 1024) : (outsAt0 m c t (ix2 a b) : EReal) =
    ∑ k : Fin 1024, X m c (1024 * (t.val / 2) + a) k * W m c k (1024 * (t.val % 2) + b) := by
  unfold outsAt0
  rw [out_point]
  refine Eq.trans ?_ (Finset.sum_congr rfl fun k _ =>
    congrArg₂ (· * ·) (block_left m c t a k) (block_right m c t k b))
  unfold k0_pay3 k0_pay2 k0_pay1
  pointwise

theorem array : (dats m 0 c).arrAt 2 cfg0.N = times 1024 (X m c) (W m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t a b)).trans ?_
  unfold times
  blk_simp [index_maps t]
  rw [Nat.mul_comm 1024, Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = times 1024 (X m c) (W m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (array m c), (h c).2⟩) (Value.run_blocks m ρ)

end Cert.Kernel16Ideal.Hand
-- ==== Proof.MixerDwReference.lean ====
/- The reference's gradients of the mixer's projections. -/
module

public import proofs.«01_k».proof.Proof.Products
public import proofs.«01_k».proof.Proof.Gen.Reference8Ideal.Run
public import proofs.«01_k».proof.Proof.Gen.Reference9Ideal.Run
public import proofs.«01_k».proof.Proof.Gen.Reference10Ideal.Run

@[expose] public section

set_option maxRecDepth 16384

noncomputable section

open Idealize.ShloMosaic Idealize.ShloMosaic.TcCoe Idealize.SL.Sem Cert.Ffn

namespace Cert.Reference8Ideal.Hand

open Cert.Reference8Ideal Cert.Reference8Ideal.Facts₀

theorem gradient_eq (h : FVec Ideal S4096x1024 .f32) (d : FVec Ideal S4096x3072 .f32) :
    transpose S1024x3072 [1, 0] (Host.dotGeneral (F := Ideal) (φ₁ := .f32) (φ₂ := .f32)
      dot_S4096x3072_S4096x1024_S3072x1024_0_0_1_1_n_n none d h) transposes_S3072x1024_S1024x3072_1_0 =
    columnsTimes 4096 (entry (R := 4096) (C := 1024) h) (entry (R := 4096) (C := 3072) d) :=
  eq_columnsTimes_comm (K := 4096) (R := 1024) (C := 3072) h d _ fun a b => by pointwise

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = columnsTimes 4096
        (entry (R := 4096) (C := 1024) (m ((c.tc : Thread nD τ).loc main_arg0)))
        (entry (R := 4096) (C := 3072) (m ((c.tc : Thread nD τ).loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans (gradient_eq _ _), (h c).2⟩) (Value.run (F := Ideal) m ρ)

end Cert.Reference8Ideal.Hand

namespace Cert.Reference9Ideal.Hand

open Cert.Reference9Ideal Cert.Reference9Ideal.Facts₀

theorem gradient_eq (h : FVec Ideal S4096x1024 .f32) (d : FVec Ideal S4096x2304 .f32) :
    transpose S1024x2304 [1, 0] (Host.dotGeneral (F := Ideal) (φ₁ := .f32) (φ₂ := .f32)
      dot_S4096x2304_S4096x1024_S2304x1024_0_0_1_1_n_n none d h) transposes_S2304x1024_S1024x2304_1_0 =
    columnsTimes 4096 (entry (R := 4096) (C := 1024) h) (entry (R := 4096) (C := 2304) d) :=
  eq_columnsTimes_comm (K := 4096) (R := 1024) (C := 2304) h d _ fun a b => by pointwise

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = columnsTimes 4096
        (entry (R := 4096) (C := 1024) (m ((c.tc : Thread nD τ).loc main_arg0)))
        (entry (R := 4096) (C := 2304) (m ((c.tc : Thread nD τ).loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans (gradient_eq _ _), (h c).2⟩) (Value.run (F := Ideal) m ρ)

end Cert.Reference9Ideal.Hand

namespace Cert.Reference10Ideal.Hand

open Cert.Reference10Ideal Cert.Reference10Ideal.Facts₀

theorem gradient_eq (h : FVec Ideal S4096x1024 .f32) (d : FVec Ideal S4096x2048 .f32) :
    transpose S1024x2048 [1, 0] (Host.dotGeneral (F := Ideal) (φ₁ := .f32) (φ₂ := .f32)
      dot_S4096x2048_S4096x1024_S2048x1024_0_0_1_1_n_n none d h) transposes_S2048x1024_S1024x2048_1_0 =
    columnsTimes 4096 (entry (R := 4096) (C := 1024) h) (entry (R := 4096) (C := 2048) d) :=
  eq_columnsTimes_comm (K := 4096) (R := 1024) (C := 2048) h d _ fun a b => by pointwise

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) = columnsTimes 4096
        (entry (R := 4096) (C := 1024) (m ((c.tc : Thread nD τ).loc main_arg0)))
        (entry (R := 4096) (C := 2048) (m ((c.tc : Thread nD τ).loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans (gradient_eq _ _), (h c).2⟩) (Value.run (F := Ideal) m ρ)

end Cert.Reference10Ideal.Hand
-- ==== Proof.MixerDhReference.lean ====
/- The reference's gradient of the mixer's input, projection by projection. -/
module

public import proofs.«01_k».proof.Proof.Products
public import proofs.«01_k».proof.Proof.Gen.Reference11Ideal.Run
public import proofs.«01_k».proof.Proof.Gen.Reference12Ideal.Run
public import proofs.«01_k».proof.Proof.Gen.Reference13Ideal.Run

@[expose] public section

set_option maxRecDepth 16384

noncomputable section

open Idealize.ShloMosaic Idealize.ShloMosaic.TcCoe Idealize.SL.Sem Cert.Ffn

namespace Cert.Reference11Ideal.Hand

open Cert.Reference11Ideal Cert.Reference11Ideal.Facts₀

theorem product_eq (w : FVec Ideal S1024x7712 .f32) (d : FVec Ideal S4096x3072 .f32) :
    Host.dotGeneral (F := Ideal) (φ₁ := .f32) (φ₂ := .f32)
      dot_S4096x3072_S1024x3072_S4096x1024_1_1_0_0_n_n none d
      (extractStridedSlice S1024x3072 ![0, 0] w slices_S1024x7712_S1024x3072_0_0) =
    rowsTimes 3072 (entry (R := 4096) (C := 3072) d)
        (entry (fromColumn 3072 0 slices_S1024x7712_S1024x3072_0_0 w)) :=
  eq_rowsTimes (K := 3072) (R := 4096) (C := 1024) d (fromColumn 3072 0 slices_S1024x7712_S1024x3072_0_0 w) _ fun a b => by
    unfold fromColumn
    pointwise

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v2) =
      rowsTimes 3072 (entry (R := 4096) (C := 3072) (m ((c.tc : Thread nD τ).loc main_arg2)))
        (entry (fromColumn 3072 0 slices_S1024x7712_S1024x3072_0_0 (m ((c.tc : Thread nD τ).loc main_arg1))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans (product_eq _ _), (h c).2⟩) (Value.run (F := Ideal) m ρ)

end Cert.Reference11Ideal.Hand

namespace Cert.Reference12Ideal.Hand

open Cert.Reference12Ideal Cert.Reference12Ideal.Facts₀

theorem product_eq (w : FVec Ideal S1024x7712 .f32) (d : FVec Ideal S4096x2304 .f32) :
    Host.dotGeneral (F := Ideal) (φ₁ := .f32) (φ₂ := .f32)
      dot_S4096x2304_S1024x2304_S4096x1024_1_1_0_0_n_n none d
      (extractStridedSlice S1024x2304 ![0, 3360] w slices_S1024x7712_S1024x2304_0_3360) =
    rowsTimes 2304 (entry (R := 4096) (C := 2304) d) (entry (fromColumn 2304 3360 slices_S1024x7712_S1024x2304_0_3360 w)) :=
  eq_rowsTimes (K := 2304) (R := 4096) (C := 1024) d (fromColumn 2304 3360 slices_S1024x7712_S1024x2304_0_3360 w) _ fun a b => by
    unfold fromColumn
    pointwise

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v3) =
      plus (entry (R := 4096) (C := 1024) (m ((c.tc : Thread nD τ).loc main_arg3))) (rowsTimes 2304 (entry (R := 4096) (C := 2304) (m ((c.tc : Thread nD τ).loc main_arg2)))
        (entry (fromColumn 2304 3360 slices_S1024x7712_S1024x2304_0_3360 (m ((c.tc : Thread nD τ).loc main_arg1)))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans ((congrArg (addf _) (product_eq _ _)).trans (eq_plus _ _)), (h c).2⟩) (Value.run (F := Ideal) m ρ)

end Cert.Reference12Ideal.Hand

namespace Cert.Reference13Ideal.Hand

open Cert.Reference13Ideal Cert.Reference13Ideal.Facts₀

theorem product_eq (w : FVec Ideal S1024x7712 .f32) (d : FVec Ideal S4096x2048 .f32) :
    Host.dotGeneral (F := Ideal) (φ₁ := .f32) (φ₂ := .f32)
      dot_S4096x2048_S1024x2048_S4096x1024_1_1_0_0_n_n none d
      (extractStridedSlice S1024x2048 ![0, 5664] w slices_S1024x7712_S1024x2048_0_5664) =
    rowsTimes 2048 (entry (R := 4096) (C := 2048) d) (entry (fromColumn 2048 5664 slices_S1024x7712_S1024x2048_0_5664 w)) :=
  eq_rowsTimes (K := 2048) (R := 4096) (C := 1024) d (fromColumn 2048 5664 slices_S1024x7712_S1024x2048_0_5664 w) _ fun a b => by
    unfold fromColumn
    pointwise

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v3) =
      plus (entry (R := 4096) (C := 1024) (m ((c.tc : Thread nD τ).loc main_arg3))) (rowsTimes 2048 (entry (R := 4096) (C := 2048) (m ((c.tc : Thread nD τ).loc main_arg2)))
        (entry (fromColumn 2048 5664 slices_S1024x7712_S1024x2048_0_5664 (m ((c.tc : Thread nD τ).loc main_arg1)))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans ((congrArg (addf _) (product_eq _ _)).trans (eq_plus _ _)), (h c).2⟩) (Value.run (F := Ideal) m ρ)

end Cert.Reference13Ideal.Hand
-- ==== Proof.ProjReference.lean ====
/- The reference's projections of the mixer's input. -/
module

public import proofs.«01_k».proof.Proof.Products
public import proofs.«01_k».proof.Proof.Gen.Reference14Ideal.Run
public import proofs.«01_k».proof.Proof.Gen.Reference15Ideal.Run
public import proofs.«01_k».proof.Proof.Gen.Reference16Ideal.Run

@[expose] public section

set_option maxRecDepth 16384

noncomputable section

open Idealize.ShloMosaic Idealize.ShloMosaic.TcCoe Idealize.SL.Sem Cert.Ffn

namespace Cert.Reference14Ideal.Hand

open Cert.Reference14Ideal Cert.Reference14Ideal.Facts₀

theorem product_eq (h : FVec Ideal S4096x1024 .f32) (w : FVec Ideal S1024x7712 .f32) :
    Host.dotGeneral (F := Ideal) (φ₁ := .f32) (φ₂ := .f32) dot_S4096x1024_S1024x3072_S4096x3072_1_0_0_1_n_n none h
      (extractStridedSlice S1024x3072 ![0, 0] w slices_S1024x7712_S1024x3072_0_0) =
    times 1024 (entry (R := 4096) (C := 1024) h) (entry (fromColumn 3072 0 slices_S1024x7712_S1024x3072_0_0 w)) :=
  eq_times (K := 1024) (R := 4096) (C := 3072) h (fromColumn 3072 0 slices_S1024x7712_S1024x3072_0_0 w) _ fun a b => by
    unfold fromColumn
    pointwise

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v1) =
      times 1024 (entry (R := 4096) (C := 1024) (m ((c.tc : Thread nD τ).loc main_arg0)))
        (entry (fromColumn 3072 0 slices_S1024x7712_S1024x3072_0_0 (m ((c.tc : Thread nD τ).loc main_arg1))))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (product_eq _ _), (h c).2⟩) (Value.run (F := Ideal) m ρ)

end Cert.Reference14Ideal.Hand

namespace Cert.Reference15Ideal.Hand

open Cert.Reference15Ideal Cert.Reference15Ideal.Facts₀

theorem product_eq (h : FVec Ideal S4096x1024 .f32) (w : FVec Ideal S1024x7712 .f32) :
    Host.dotGeneral (F := Ideal) (φ₁ := .f32) (φ₂ := .f32) dot_S4096x1024_S1024x2304_S4096x2304_1_0_0_1_n_n none h
      (extractStridedSlice S1024x2304 ![0, 3360] w slices_S1024x7712_S1024x2304_0_3360) =
    times 1024 (entry (R := 4096) (C := 1024) h) (entry (fromColumn 2304 3360 slices_S1024x7712_S1024x2304_0_3360 w)) :=
  eq_times (K := 1024) (R := 4096) (C := 2304) h (fromColumn 2304 3360 slices_S1024x7712_S1024x2304_0_3360 w) _ fun a b => by
    unfold fromColumn
    pointwise

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v1) =
      times 1024 (entry (R := 4096) (C := 1024) (m ((c.tc : Thread nD τ).loc main_arg0)))
        (entry (fromColumn 2304 3360 slices_S1024x7712_S1024x2304_0_3360 (m ((c.tc : Thread nD τ).loc main_arg1))))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (product_eq _ _), (h c).2⟩) (Value.run (F := Ideal) m ρ)

end Cert.Reference15Ideal.Hand

namespace Cert.Reference16Ideal.Hand

open Cert.Reference16Ideal Cert.Reference16Ideal.Facts₀

theorem product_eq (h : FVec Ideal S4096x1024 .f32) (w : FVec Ideal S1024x7712 .f32) :
    Host.dotGeneral (F := Ideal) (φ₁ := .f32) (φ₂ := .f32) dot_S4096x1024_S1024x2048_S4096x2048_1_0_0_1_n_n none h
      (extractStridedSlice S1024x2048 ![0, 5664] w slices_S1024x7712_S1024x2048_0_5664) =
    times 1024 (entry (R := 4096) (C := 1024) h) (entry (fromColumn 2048 5664 slices_S1024x7712_S1024x2048_0_5664 w)) :=
  eq_times (K := 1024) (R := 4096) (C := 2048) h (fromColumn 2048 5664 slices_S1024x7712_S1024x2048_0_5664 w) _ fun a b => by
    unfold fromColumn
    pointwise

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v1) =
      times 1024 (entry (R := 4096) (C := 1024) (m ((c.tc : Thread nD τ).loc main_arg0)))
        (entry (fromColumn 2048 5664 slices_S1024x7712_S1024x2048_0_5664 (m ((c.tc : Thread nD τ).loc main_arg1))))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (product_eq _ _), (h c).2⟩) (Value.run (F := Ideal) m ρ)

end Cert.Reference16Ideal.Hand
-- ==== Proof.MixOutValue.lean ====
/- The mixer's output product and its two gradients: what the three kernels leave, and what the references do. -/
module

public import proofs.«01_k».proof.Proof.Products
public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Reference17Ideal.Run
public import proofs.«01_k».proof.Proof.Gen.Reference18Ideal.Run
public import proofs.«01_k».proof.Proof.Gen.Reference19Ideal.Run
public import Idealize.ShloMosaic.Lib.Pipeline.ValueKit
public import Idealize.ShloMosaic.Lib.Pipeline.ReadBack
public import Idealize.ShloMosaic.Lib.Tactic.CleanTypes

@[expose] public section

set_option maxRecDepth 16384

noncomputable section

open Idealize.ShloMosaic Idealize.ShloMosaic.TcCoe Idealize.SL.Sem Cert.Ffn

/-! ## The gradient of the weights -/

namespace Cert.Kernel17Ideal.Hand

open Cert.Kernel17Ideal Cert.Kernel17Ideal.Gen

section
variable {F : FTy → Type} [FloatOps F]
variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole)
  (x0 : Vec F S1024x1024 .bf16) (x1 : Vec F S1024x1024 .f32) (xs : Vec F S1024x1024 .f32)

/-- The first point clears the sum and adds its product; the others add theirs. -/
theorem sum_first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) off_zero2]
  simp only [View.readCov_unit_zero (S := S1024x1024) _ off_zero2, View.readAt_eq_ld, h3.read_unread, h4.read_unread,
    View.ld_unit_zero (S := S1024x1024) off_zero2]

theorem sum_middle (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero off_zero2]
  simp only [View.readAt_eq_ld, h3.read_unread, h4.read_unread, h6.read_unread, View.ld_unit_zero (S := S1024x1024) off_zero2]

theorem sum_last (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero off_zero2]
  simp only [View.readAt_eq_ld, h3.read_unread, h4.read_unread, h6.read_unread, View.ld_unit_zero (S := S1024x1024) off_zero2]

/-- The last writes the sum out. -/
theorem out_last (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero off_zero2]
  simp only [View.readCov_unit_zero (S := S1024x1024) _ off_zero2, View.readAt_eq_ld, h3.read_unread, h4.read_unread,
    h6.read_unread, View.ld_unit_zero (S := S1024x1024) off_zero2]
end

theorem index_maps : ∀ t : Fin cfg0.N, (cfg0.win 0).index t = ![t.val % 4, 0] ∧
    (cfg0.win 1).index t = ![t.val % 4, t.val / 4] ∧ (cfg0.win 2).index t = ![0, t.val / 4] := by
  decide +kernel

theorem flush_last : ∀ t : Fin cfg0.N, (cfg0.win 2).flush t = true → t.val % 4 = 3 := by
  decide +kernel

variable (m : (ℓ : Loc nD τ sig) → Buf (Elt Ideal) ℓ) (c : Dev nD)

/-- The merged branches and the output's gradient. -/
abbrev X : ℕ → ℕ → EReal := entry (R := 4096) (C := 1024) (m ((c : Thread nD τ).loc main_arg0))
abbrev D : ℕ → ℕ → EReal := entry (R := 4096) (C := 1024) (m ((c : Thread nD τ).loc main_arg2))

theorem block_left (t : Fin cfg0.N) (k a : Fin 1024) :
    (iblk m c 0 t (ix2 k a) : EReal) = X m c (1024 * (t.val % 4) + k) a := by
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * (t.val % 4) + k, by omega⟩ a)
  unfold iblk
  rw [show V m c (Pipeline.arrRef spec0 0) = _ from v]
  blk_ext [index_maps t]

theorem block_right (t : Fin cfg0.N) (k b : Fin 1024) :
    (iblk m c 1 t (ix2 k b) : EReal) = D m c (1024 * (t.val % 4) + k) (1024 * (t.val / 4) + b) := by
  have hN : t.val < 4 := lt_of_lt_of_eq t.isLt N_0
  refine Eq.trans ?_ (entry_at (R := 4096) (C := 1024) (m ((c : Thread nD τ).loc main_arg2))
    ⟨1024 * (t.val % 4) + k, by omega⟩ ⟨1024 * (t.val / 4) + b, by omega⟩)
  unfold iblk
  rw [show V m c (Pipeline.arrRef spec0 1) = _ from V_main_arg2 m c]
  blk_ext [index_maps t]

/-- What the last point writes out. -/
theorem out_at (t : Fin cfg0.N) (l : t.val % 4 = 3) (a b : Fin 1024) :
    ((outsAt0 m c t.val t.isLt).1 (ix2 a b) : EReal) =
      ∑ r : Fin 4096, X m c r a * D m c r (1024 * (t.val / 4) + b) := by
  refine Eq.trans ?_ (columns_points (p := 4) (b := 1024) (by decide) (z := k0_pay1) (s := fun n h => (outsAt0 m c n h).2)
    (step := fun t acc => k0_pay2 acc (iblk m c 0 t) (iblk m c 1 t)) (block_left m c) (block_right m c)
    (fun _ _ => by unfold k0_pay1; pointwise) (fun _ _ _ _ => by unfold k0_pay2; pointwise)
    (fun t e => ?_) (fun t e l => ?_) (fun t e l => ?_) t (by omega) a b)
  · rw [outsAt0_C m c t (by omega) l]
    dsimp only
    rw [out_last, sum_last]
    unfold k0_pay3
    pointwise
  · rw [outsAt0_A m c t e (by omega)]
    dsimp only
    rw [sum_first]
  · rw [outsAt0_B m c t e (by omega)]
    dsimp only
    rw [sum_middle]
  · rw [outsAt0_C m c t e (by omega)]
    dsimp only
    rw [sum_last]

theorem array : (dats m 0 c).arrAt 2 cfg0.N = columnsTimes 4096 (X m c) (D m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t (flush_last t hf) a b)).trans ?_
  unfold columnsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v1) = columnsTimes 4096 (X m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel17Ideal.Hand

/-! ## The gradient of the merged branches -/

namespace Cert.Kernel18Ideal.Hand

open Cert.Kernel18Ideal Cert.Kernel18Ideal.Gen

section
variable {F : FTy → Type} [FloatOps F]
variable (c : Dev nD) (i : grid0.Coords) (a3 : Memref sig .tc .vmem S1024x1024 .f32) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole) (x0 x1 : Vec F S1024x1024 .f32)

/-- A point clears the sum, adds its product and writes the sum out. -/
theorem out_point (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero off_zero2]
  simp only [View.readCov_cons_toLoadRect, View.readCov_unit_zero (S := S1024x1024) _ off_zero2,
    View.readAt_eq_ld, h3.read_unread, h4.read_unread, View.ld_unit_zero (S := S1024x1024) off_zero2]
end

theorem index_maps : ∀ t : Fin cfg0.N, (cfg0.win 0).index t = ![t.val, 0] ∧
    (cfg0.win 1).index t = ![0, 0] ∧ (cfg0.win 2).index t = ![t.val, 0] := by
  decide +kernel

variable (m : (ℓ : Loc nD τ sig) → Buf (Elt Ideal) ℓ) (c : Dev nD)

/-- The output's gradient and the weight matrix. -/
abbrev D : ℕ → ℕ → EReal := entry (R := 4096) (C := 1024) (m ((c : Thread nD τ).loc main_arg2))
abbrev W : ℕ → ℕ → EReal := entry (R := 1024) (C := 1024) (m ((c : Thread nD τ).loc main_arg1))

theorem block_left (t : Fin cfg0.N) (a k : Fin 1024) :
    (iblk m c 0 t (ix2 a k) : EReal) = D m c (1024 * t.val + a) k := by
  have hN : t.val < 4 := lt_of_lt_of_eq t.isLt N_0
  refine Eq.trans ?_ (entry_at (R := 4096) (C := 1024) (m ((c : Thread nD τ).loc main_arg2))
    ⟨1024 * t.val + a, by omega⟩ k)
  unfold iblk
  rw [show V m c (Pipeline.arrRef spec0 0) = _ from V_main_arg2 m c]
  blk_ext [index_maps t]

theorem block_right (t : Fin cfg0.N) (b k : Fin 1024) : (iblk m c 1 t (ix2 b k) : EReal) = W m c b k := by
  refine Eq.trans ?_ (entry_at (R := 1024) (C := 1024) (m ((c : Thread nD τ).loc main_arg1)) b k)
  unfold iblk
  rw [show V m c (Pipeline.arrRef spec0 1) = _ from V_main_arg1 m c]
  blk_ext [index_maps t]

theorem out_at (t : Fin cfg0.N) (a b : Fin 1024) : (outsAt0 m c t (ix2 a b) : EReal) =
    ∑ k : Fin 1024, D m c (1024 * t.val + a) k * W m c b k := by
  simp only [← block_left m c t, ← block_right m c t]
  unfold outsAt0
  rw [out_point]
  unfold k0_pay3 k0_pay2 k0_pay1
  pointwise

theorem array : (dats m 0 c).arrAt 2 cfg0.N = rowsTimes 1024 (D m c) (W m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t a b)).trans ?_
  unfold rowsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v0) = rowsTimes 1024 (D m c) (W m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel18Ideal.Hand

/-! ## The output -/

namespace Cert.Kernel19Ideal.Hand

open Cert.Kernel19Ideal Cert.Kernel19Ideal.Gen

section
variable {F : FTy → Type} [FloatOps F]
variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x1024 .bf16) (x1 x2 : Vec F S1024x1024 .f32)

/-- A point clears the sum, adds its product, adds the sum to the input's block and writes that out. -/
theorem out_point (hc0 : cond0_0 i) (hc1 : cond0_1 i) :
    out0_A_3 c i a3 h3 a4 h4 a5 h5 a6 h6 a7 h7 hc0 hc1 x0 x1 x2 = k0_pay3 (k0_pay2 k0_pay1 x0 x1) x2 := by
  unfold out0_A_3
  rw [View.read_writes_eq_canon _ _ _ (cover0_A_3 c i a3 h3 a4 h4 a5 h5 a6 h6 a7 h7 hc0 hc1 x0 x1 x2)]
  unfold kernelRun0_A
  dsimp only
  sl_unfold_words
  rw [View.canon_unit_zero off_zero2]
  simp only [View.readCov_cons_toLoadRect, View.readCov_unit_zero (S := S1024x1024) _ off_zero2,
    View.readAt_eq_ld, h3.read_unread, h4.read_unread, h5.read_unread, View.ld_unit_zero (S := S1024x1024) off_zero2]
end

theorem index_maps : ∀ t : Fin cfg0.N, (cfg0.win 0).index t = ![t.val, 0] ∧
    (cfg0.win 1).index t = ![0, 0] ∧ (cfg0.win 2).index t = ![t.val, 0] ∧ (cfg0.win 3).index t = ![t.val, 0] := by
  decide +kernel

variable (m : (ℓ : Loc nD τ sig) → Buf (Elt Ideal) ℓ) (c : Dev nD)

/-- The merged branches, the weight matrix and the input. -/
abbrev X : ℕ → ℕ → EReal := entry (R := 4096) (C := 1024) (m ((c : Thread nD τ).loc main_arg0))
abbrev W : ℕ → ℕ → EReal := entry (R := 1024) (C := 1024) (m ((c : Thread nD τ).loc main_arg1))
abbrev G : ℕ → ℕ → EReal := entry (R := 4096) (C := 1024) (m ((c : Thread nD τ).loc main_arg2))

theorem block_left (t : Fin cfg0.N) (a k : Fin 1024) :
    (iblk m c 0 t (ix2 a k) : EReal) = X m c (1024 * t.val + a) k := by
  have hN : t.val < 4 := lt_of_lt_of_eq t.isLt N_0
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * t.val + a, by omega⟩ k)
  unfold iblk
  rw [show V m c (Pipeline.arrRef spec0 0) = _ from v]
  blk_ext [index_maps t]

theorem block_right (t : Fin cfg0.N) (k b : Fin 1024) : (iblk m c 1 t (ix2 k b) : EReal) = W m c k b := by
  refine Eq.trans ?_ (entry_at (R := 1024) (C := 1024) (m ((c : Thread nD τ).loc main_arg1)) k b)
  unfold iblk
  rw [show V m c (Pipeline.arrRef spec0 1) = _ from V_main_arg1 m c]
  blk_ext [index_maps t]

theorem block_input (t : Fin cfg0.N) (a b : Fin 1024) :
    (iblk m c 2 t (ix2 a b) : EReal) = G m c (1024 * t.val + a) b := by
  have hN : t.val < 4 := lt_of_lt_of_eq t.isLt N_0
  refine Eq.trans ?_ (entry_at (R := 4096) (C := 1024) (m ((c : Thread nD τ).loc main_arg2))
    ⟨1024 * t.val + a, by omega⟩ b)
  unfold iblk
  rw [show V m c (Pipeline.arrRef spec0 2) = _ from V_main_arg2 m c]
  blk_ext [index_maps t]

theorem out_at (t : Fin cfg0.N) (a b : Fin 1024) : (outsAt0 m c t (ix2 a b) : EReal) = G m c (1024 * t.val + a) b +
    ∑ k : Fin 1024, X m c (1024 * t.val + a) k * W m c k b := by
  refine Eq.trans ?_ (congrArg₂ (· + ·) (block_input m c t a b) (Finset.sum_congr rfl fun k _ =>
    congrArg₂ (· * ·) (block_left m c t a k) (block_right m c t k b)))
  unfold outsAt0
  rw [out_point]
  unfold k0_pay3 k0_pay2 k0_pay1
  pointwise

theorem array : (dats m 0 c).arrAt 3 cfg0.N = plus (G m c) (times 1024 (X m c) (W m c)) := by
  refine (dats m 0 c).arrAt_eq_of_covers 3 _ (by decide +kernel) fun t hf y => ?_
  obtain ⟨a, b, rfl⟩ : ∃ (a b : Fin 1024), y = ix2 a b := ⟨y 0, y 1, eq_ix2 y⟩
  refine ((congrFun (Value.flushed3 m c t) (ix2 a b)).trans (out_at m c t a b)).trans ?_
  unfold plus times
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v1) = plus (G m c) (times 1024 (X m c) (W m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel19Ideal.Hand

/-! ## The references' products -/

theorem Cert.Reference17Ideal.Hand.gradient_eq (x d : FVec Ideal Cert.Reference17Ideal.S4096x1024 .f32) :
    transpose Cert.Reference17Ideal.S1024x1024 [1, 0] (Host.dotGeneral (F := Ideal) (φ₁ := .f32) (φ₂ := .f32)
      Cert.Reference17Ideal.dot_S4096x1024_S4096x1024_S1024x1024_0_0_1_1_n_n none d x)
      Cert.Reference17Ideal.Facts₀.transposes_S1024x1024_S1024x1024_1_0 =
    columnsTimes 4096 (entry (R := 4096) (C := 1024) x) (entry (R := 4096) (C := 1024) d) :=
  eq_columnsTimes_comm (K := 4096) (R := 1024) (C := 1024) x d _ fun a b => by pointwise

theorem Cert.Reference18Ideal.Hand.gradient_eq (w : FVec Ideal Cert.Reference18Ideal.S1024x1024 .f32)
    (d : FVec Ideal Cert.Reference18Ideal.S4096x1024 .f32) :
    Host.dotGeneral (F := Ideal) (φ₁ := .f32) (φ₂ := .f32)
      Cert.Reference18Ideal.dot_S4096x1024_S1024x1024_S4096x1024_1_1_0_0_n_n none d w =
    rowsTimes 1024 (entry (R := 4096) (C := 1024) d) (entry (R := 1024) (C := 1024) w) :=
  eq_rowsTimes (K := 1024) (R := 4096) (C := 1024) d w _ fun a b => by pointwise

theorem Cert.Reference19Ideal.Hand.output_eq (x g : FVec Ideal Cert.Reference19Ideal.S4096x1024 .f32)
    (w : FVec Ideal Cert.Reference19Ideal.S1024x1024 .f32) :
    addf g (Host.dotGeneral (F := Ideal) (φ₁ := .f32) (φ₂ := .f32)
      Cert.Reference19Ideal.dot_S4096x1024_S1024x1024_S4096x1024_1_0_0_1_n_n none x w) =
    plus (entry (R := 4096) (C := 1024) g) (times 1024 (entry (R := 4096) (C := 1024) x) (entry (R := 1024) (C := 1024) w)) :=
  (congrArg (addf g) (eq_times (K := 1024) (R := 4096) (C := 1024) x w _ fun a b => by pointwise)).trans (eq_plus g _)
-- ==== Proof.BranchAValue.lean ====
/- The projection of the recurrence's output and its two gradients: what the three kernels leave, and the
reference's projection. -/
module

public import proofs.«01_k».proof.Proof.Products
public import proofs.«01_k».proof.Proof.Gen.Kernel20Ideal.Value
public import proofs.«01_k».proof.Proof.Gen.Kernel21Ideal.Value
public import proofs.«01_k».proof.Proof.Gen.Kernel22Ideal.Value
public import proofs.«01_k».proof.Proof.Gen.Reference22Ideal.Run
public import Idealize.ShloMosaic.Lib.Pipeline.ValueKit
public import Idealize.ShloMosaic.Lib.Pipeline.ReadBack
public import Idealize.ShloMosaic.Lib.Tactic.CleanTypes

@[expose] public section

set_option maxRecDepth 16384

noncomputable section

open Idealize.ShloMosaic Idealize.ShloMosaic.TcCoe Idealize.SL.Sem Cert.Ffn

/-! ## The gradient of the weights -/

namespace Cert.Kernel20Ideal.Hand

open Cert.Kernel20Ideal Cert.Kernel20Ideal.Gen

section
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x0 x1 : Vec F S1024x1024 .bf16) (xs : Vec F S1024x1024 .f32)

/-- The first point clears the sum and adds its product; the others add theirs. -/
theorem sum_first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) off_zero2]
  simp only [View.readCov_unit_zero (S := S1024x1024) _ off_zero2, View.readAt_eq_ld, h3.read_unread, h4.read_unread,
    View.ld_unit_zero (S := S1024x1024) off_zero2]

theorem sum_middle (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero off_zero2]
  simp only [View.readAt_eq_ld, h3.read_unread, h4.read_unread, h6.read_unread, View.ld_unit_zero (S := S1024x1024) off_zero2]

theorem sum_last (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero off_zero2]
  simp only [View.readAt_eq_ld, h3.read_unread, h4.read_unread, h6.read_unread, View.ld_unit_zero (S := S1024x1024) off_zero2]

/-- The last writes the sum out. -/
theorem out_last (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero off_zero2]
  simp only [View.readCov_unit_zero (S := S1024x1024) _ off_zero2, View.readAt_eq_ld, h3.read_unread, h4.read_unread,
    h6.read_unread, View.ld_unit_zero (S := S1024x1024) off_zero2]
end

theorem index_maps : ∀ t : Fin cfg0.N, (cfg0.win 0).index t = ![t.val % 4, 0] ∧
    (cfg0.win 1).index t = ![t.val % 4, t.val / 4] ∧ (cfg0.win 2).index t = ![0, t.val / 4] := by
  decide +kernel

theorem flush_last : ∀ t : Fin cfg0.N, (cfg0.win 2).flush t = true → t.val % 4 = 3 := by
  decide +kernel

variable (m : (ℓ : Loc nD τ sig) → Buf (Elt Ideal) ℓ) (c : Dev nD)

/-- The recurrence's output and the projection's gradient. -/
abbrev X : ℕ → ℕ → EReal := entry (R := 4096) (C := 1024) (m ((c : Thread nD τ).loc main_arg0))
abbrev D : ℕ → ℕ → EReal := entry (R := 4096) (C := 1024) (m ((c : Thread nD τ).loc main_arg2))

theorem block_left (t : Fin cfg0.N) (k a : Fin 1024) :
    (iblk m c 0 t (ix2 k a) : EReal) = X m c (1024 * (t.val % 4) + k) a := by
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * (t.val % 4) + k, by omega⟩ a)
  unfold iblk
  rw [show V m c (Pipeline.arrRef spec0 0) = _ from v]
  blk_ext [index_maps t]

theorem block_right (t : Fin cfg0.N) (k b : Fin 1024) :
    (iblk m c 1 t (ix2 k b) : EReal) = D m c (1024 * (t.val % 4) + k) (1024 * (t.val / 4) + b) := by
  have hN : t.val < 4 := lt_of_lt_of_eq t.isLt N_0
  have v : V m c main_v1 = rounded (S := S4096x1024) (m ((c : Thread nD τ).loc main_arg2)) := by
    unfold rounded
    unfold_abbrev_sides
    after_results
  refine Eq.trans ?_ (entry_at (R := 4096) (C := 1024) (m ((c : Thread nD τ).loc main_arg2))
    ⟨1024 * (t.val % 4) + k, by omega⟩ ⟨1024 * (t.val / 4) + b, by omega⟩)
  unfold iblk
  rw [show V m c (Pipeline.arrRef spec0 1) = _ from v]
  blk_ext [index_maps t]

/-- What the last point writes out. -/
theorem out_at (t : Fin cfg0.N) (l : t.val % 4 = 3) (a b : Fin 1024) :
    ((outsAt0 m c t.val t.isLt).1 (ix2 a b) : EReal) =
      ∑ r : Fin 4096, X m c r a * D m c r (1024 * (t.val / 4) + b) := by
  refine Eq.trans ?_ (columns_points (p := 4) (b := 1024) (by decide) (z := k0_pay1) (s := fun n h => (outsAt0 m c n h).2)
    (step := fun t acc => k0_pay2 acc (iblk m c 0 t) (iblk m c 1 t)) (block_left m c) (block_right m c)
    (fun _ _ => by unfold k0_pay1; pointwise) (fun _ _ _ _ => by unfold k0_pay2; pointwise)
    (fun t e => ?_) (fun t e l => ?_) (fun t e l => ?_) t (by omega) a b)
  · rw [outsAt0_C m c t (by omega) l]
    dsimp only
    rw [out_last, sum_last]
    unfold k0_pay3
    pointwise
  · rw [outsAt0_A m c t e (by omega)]
    dsimp only
    rw [sum_first]
  · rw [outsAt0_B m c t e (by omega)]
    dsimp only
    rw [sum_middle]
  · rw [outsAt0_C m c t e (by omega)]
    dsimp only
    rw [sum_last]

theorem array : (dats m 0 c).arrAt 2 cfg0.N = columnsTimes 4096 (X m c) (D m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t (flush_last t hf) a b)).trans ?_
  unfold columnsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = columnsTimes 4096 (X m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel20Ideal.Hand

/-! ## The gradient of the recurrence's output -/

namespace Cert.Kernel21Ideal.Hand

open Cert.Kernel21Ideal Cert.Kernel21Ideal.Gen

section
variable {F : FTy → Type} [FloatOps F]
variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole) (x0 : Vec F S1024x1024 .bf16) (x1 : Vec F S1024x1024 .f32)

/-- A point clears the sum, adds its product and writes the sum out. -/
theorem out_point (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero off_zero2]
  simp only [View.readCov_cons_toLoadRect, View.readCov_unit_zero (S := S1024x1024) _ off_zero2,
    View.readAt_eq_ld, h3.read_unread, h4.read_unread, View.ld_unit_zero (S := S1024x1024) off_zero2]
end

theorem index_maps : ∀ t : Fin cfg0.N, (cfg0.win 0).index t = ![t.val, 0] ∧
    (cfg0.win 1).index t = ![0, 0] ∧ (cfg0.win 2).index t = ![t.val, 0] := by
  decide +kernel

variable (m : (ℓ : Loc nD τ sig) → Buf (Elt Ideal) ℓ) (c : Dev nD)

/-- The projection's gradient and the weight matrix. -/
abbrev D : ℕ → ℕ → EReal := entry (R := 4096) (C := 1024) (m ((c : Thread nD τ).loc main_arg2))
abbrev W : ℕ → ℕ → EReal := entry (R := 1024) (C := 1024) (m ((c : Thread nD τ).loc main_arg1))

theorem block_left (t : Fin cfg0.N) (a k : Fin 1024) :
    (iblk m c 0 t (ix2 a k) : EReal) = D m c (1024 * t.val + a) k := by
  have hN : t.val < 4 := lt_of_lt_of_eq t.isLt N_0
  have v : V m c main_v0 = rounded (S := S4096x1024) (m ((c : Thread nD τ).loc main_arg2)) := by
    unfold rounded
    unfold_abbrev_sides
    after_results
  refine Eq.trans ?_ (entry_at (R := 4096) (C := 1024) (m ((c : Thread nD τ).loc main_arg2))
    ⟨1024 * t.val + a, by omega⟩ k)
  unfold iblk
  rw [show V m c (Pipeline.arrRef spec0 0) = _ from v]
  blk_ext [index_maps t]

theorem block_right (t : Fin cfg0.N) (b k : Fin 1024) : (iblk m c 1 t (ix2 b k) : EReal) = W m c b k := by
  refine Eq.trans ?_ (entry_at (R := 1024) (C := 1024) (m ((c : Thread nD τ).loc main_arg1)) b k)
  unfold iblk
  rw [show V m c (Pipeline.arrRef spec0 1) = _ from V_main_arg1 m c]
  blk_ext [index_maps t]

theorem out_at (t : Fin cfg0.N) (a b : Fin 1024) : (outsAt0 m c t (ix2 a b) : EReal) =
    ∑ k : Fin 1024, D m c (1024 * t.val + a) k * W m c b k := by
  simp only [← block_left m c t, ← block_right m c t]
  unfold outsAt0
  rw [out_point]
  unfold k0_pay3 k0_pay2 k0_pay1
  pointwise

theorem array : (dats m 0 c).arrAt 2 cfg0.N = rowsTimes 1024 (D m c) (W m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t a b)).trans ?_
  unfold rowsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v1) = rowsTimes 1024 (D m c) (W m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel21Ideal.Hand

/-! ## The projection -/

namespace Cert.Kernel22Ideal.Hand

open Cert.Kernel22Ideal Cert.Kernel22Ideal.Gen

section
variable {F : FTy → Type} [FloatOps F]
variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole) (x0 : Vec F S1024x1024 .bf16) (x1 : Vec F S1024x1024 .f32)

/-- A point clears the sum, adds its product and writes the sum out. -/
theorem out_point (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero off_zero2]
  simp only [View.readCov_cons_toLoadRect, View.readCov_unit_zero (S := S1024x1024) _ off_zero2,
    View.readAt_eq_ld, h3.read_unread, h4.read_unread, View.ld_unit_zero (S := S1024x1024) off_zero2]
end

theorem index_maps : ∀ t : Fin cfg0.N, (cfg0.win 0).index t = ![t.val, 0] ∧
    (cfg0.win 1).index t = ![0, 0] ∧ (cfg0.win 2).index t = ![t.val, 0] := by
  decide +kernel

variable (m : (ℓ : Loc nD τ sig) → Buf (Elt Ideal) ℓ) (c : Dev nD)

/-- The recurrence's output and the weight matrix. -/
abbrev X : ℕ → ℕ → EReal := entry (R := 4096) (C := 1024) (m ((c : Thread nD τ).loc main_arg0))
abbrev W : ℕ → ℕ → EReal := entry (R := 1024) (C := 1024) (m ((c : Thread nD τ).loc main_arg1))

theorem block_left (t : Fin cfg0.N) (a k : Fin 1024) :
    (iblk m c 0 t (ix2 a k) : EReal) = X m c (1024 * t.val + a) k := by
  have hN : t.val < 4 := lt_of_lt_of_eq t.isLt N_0
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * t.val + a, by omega⟩ k)
  unfold iblk
  rw [show V m c (Pipeline.arrRef spec0 0) = _ from v]
  blk_ext [index_maps t]

theorem block_right (t : Fin cfg0.N) (k b : Fin 1024) : (iblk m c 1 t (ix2 k b) : EReal) = W m c k b := by
  refine Eq.trans ?_ (entry_at (R := 1024) (C := 1024) (m ((c : Thread nD τ).loc main_arg1)) k b)
  unfold iblk
  rw [show V m c (Pipeline.arrRef spec0 1) = _ from V_main_arg1 m c]
  blk_ext [index_maps t]

theorem out_at (t : Fin cfg0.N) (a b : Fin 1024) : (outsAt0 m c t (ix2 a b) : EReal) =
    ∑ k : Fin 1024, X m c (1024 * t.val + a) k * W m c k b := by
  simp only [← block_left m c t, ← block_right m c t]
  unfold outsAt0
  rw [out_point]
  unfold k0_pay3 k0_pay2 k0_pay1
  pointwise

theorem array : (dats m 0 c).arrAt 2 cfg0.N = times 1024 (X m c) (W m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t a b)).trans ?_
  unfold times
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v1) = times 1024 (X m c) (W m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (array m c), (h c).2⟩) (Value.run_blocks m ρ)

end Cert.Kernel22Ideal.Hand

/-! ## The reference's projection

The products of the two gradients are the mixer's output's, at the same shapes. -/

theorem Cert.Reference22Ideal.Hand.product_eq (x : FVec Ideal Cert.Reference22Ideal.S4096x1024 .f32)
    (w : FVec Ideal Cert.Reference22Ideal.S1024x1024 .f32) :
    Host.dotGeneral (F := Ideal) (φ₁ := .f32) (φ₂ := .f32)
      Cert.Reference22Ideal.dot_S4096x1024_S1024x1024_S4096x1024_1_0_0_1_n_n none x w =
    times 1024 (entry (R := 4096) (C := 1024) x) (entry (R := 1024) (C := 1024) w) :=
  eq_times (K := 1024) (R := 4096) (C := 1024) x w _ fun a b => by pointwise
-- ==== Proof.BranchBValue.lean ====
/- The projection of the attention's output, 768 columns wide, and its two gradients: what the three kernels leave, and
the references' products. -/
module

public import proofs.«01_k».proof.Proof.Products
public import proofs.«01_k».proof.Proof.Gen.Kernel23Ideal.Value
public import proofs.«01_k».proof.Proof.Gen.Kernel24Ideal.Value
public import proofs.«01_k».proof.Proof.Gen.Kernel25Ideal.Value
public import proofs.«01_k».proof.Proof.Gen.Reference23Ideal.Run
public import proofs.«01_k».proof.Proof.Gen.Reference24Ideal.Run
public import proofs.«01_k».proof.Proof.Gen.Reference25Ideal.Run
public import Idealize.ShloMosaic.Lib.Pipeline.ValueKit
public import Idealize.ShloMosaic.Lib.Pipeline.ReadBack
public import Idealize.ShloMosaic.Lib.Tactic.CleanTypes

@[expose] public section

set_option maxRecDepth 16384

noncomputable section

open Idealize.ShloMosaic Idealize.ShloMosaic.TcCoe Idealize.SL.Sem Cert.Ffn

/-! ## The gradient of the weights -/

namespace Cert.Kernel23Ideal.Hand

open Cert.Kernel23Ideal Cert.Kernel23Ideal.Gen

section
variable {F : FTy → Type} [FloatOps F]
variable (c : Dev nD) (i : grid0.Coords) (a3 : Memref sig .tc .vmem S1024x768 .bf16) (h3 : a3.IsWhole)
  (a4 : Memref sig .tc .vmem S1024x1024 .bf16) (h4 : a4.IsWhole) (a5 : Memref sig .tc .vmem S768x1024 .f32) (h5 : a5.IsWhole)
  (a6 : Memref sig .tc .vmem S768x1024 .f32) (h6 : a6.IsWhole)
  (x0 : Vec F S1024x768 .bf16) (x1 : Vec F S1024x1024 .bf16) (xs : Vec F S768x1024 .f32)

/-- The first point clears the sum and adds its product; the others add theirs. -/
theorem sum_first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S768x1024) off_zero2]
  simp only [View.readCov_unit_zero (S := S768x1024) _ off_zero2, View.readAt_eq_ld, h3.read_unread, h4.read_unread,
    View.ld_unit_zero (S := S1024x768) off_zero2, View.ld_unit_zero (S := S1024x1024) off_zero2]

theorem sum_middle (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero off_zero2]
  simp only [View.readAt_eq_ld, h3.read_unread, h4.read_unread, h6.read_unread, View.ld_unit_zero (S := S1024x768) off_zero2,
    View.ld_unit_zero (S := S1024x1024) off_zero2, View.ld_unit_zero (S := S768x1024) off_zero2]

theorem sum_last (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero off_zero2]
  simp only [View.readAt_eq_ld, h3.read_unread, h4.read_unread, h6.read_unread, View.ld_unit_zero (S := S1024x768) off_zero2,
    View.ld_unit_zero (S := S1024x1024) off_zero2, View.ld_unit_zero (S := S768x1024) off_zero2]

/-- The last writes the sum out. -/
theorem out_last (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero off_zero2]
  simp only [View.readCov_unit_zero (S := S768x1024) _ off_zero2, View.readAt_eq_ld, h3.read_unread, h4.read_unread,
    h6.read_unread, View.ld_unit_zero (S := S1024x768) off_zero2, View.ld_unit_zero (S := S1024x1024) off_zero2,
    View.ld_unit_zero (S := S768x1024) off_zero2]
end

theorem index_maps : ∀ t : Fin cfg0.N, (cfg0.win 0).index t = ![t.val % 4, 0] ∧
    (cfg0.win 1).index t = ![t.val % 4, t.val / 4] ∧ (cfg0.win 2).index t = ![0, t.val / 4] := by
  decide +kernel

theorem flush_last : ∀ t : Fin cfg0.N, (cfg0.win 2).flush t = true → t.val % 4 = 3 := by
  decide +kernel

variable (m : (ℓ : Loc nD τ sig) → Buf (Elt Ideal) ℓ) (c : Dev nD)

/-- The attention's output and the projection's gradient. -/
abbrev X : ℕ → ℕ → EReal := entry (R := 4096) (C := 768) (m ((c : Thread nD τ).loc main_arg0))
abbrev D : ℕ → ℕ → EReal := entry (R := 4096) (C := 1024) (m ((c : Thread nD τ).loc main_arg2))

theorem block_left (t : Fin cfg0.N) (k : Fin 1024) (a : Fin 768) :
    (iblk m c 0 t (ix2 k a) : EReal) = X m c (1024 * (t.val % 4) + k) a := by
  have v : V m c main_v0 = rounded (S := S4096x768) (m ((c : Thread nD τ).loc main_arg0)) := by
    unfold rounded
    unfold_abbrev_sides
    after_results
  refine Eq.trans ?_ (entry_at (R := 4096) (C := 768) (m ((c : Thread nD τ).loc main_arg0))
    ⟨1024 * (t.val % 4) + k, by omega⟩ a)
  unfold iblk
  rw [show V m c (Pipeline.arrRef spec0 0) = _ from v]
  blk_ext [index_maps t]

theorem block_right (t : Fin cfg0.N) (k b : Fin 1024) :
    (iblk m c 1 t (ix2 k b) : EReal) = D m c (1024 * (t.val % 4) + k) (1024 * (t.val / 4) + b) := by
  have hN : t.val < 4 := lt_of_lt_of_eq t.isLt N_0
  have v : V m c main_v1 = rounded (S := S4096x1024) (m ((c : Thread nD τ).loc main_arg2)) := by
    unfold rounded
    unfold_abbrev_sides
    after_results
  refine Eq.trans ?_ (entry_at (R := 4096) (C := 1024) (m ((c : Thread nD τ).loc main_arg2))
    ⟨1024 * (t.val % 4) + k, by omega⟩ ⟨1024 * (t.val / 4) + b, by omega⟩)
  unfold iblk
  rw [show V m c (Pipeline.arrRef spec0 1) = _ from v]
  blk_ext [index_maps t]

/-- What the last point writes out. -/
theorem out_at (t : Fin cfg0.N) (l : t.val % 4 = 3) (a : Fin 768) (b : Fin 1024) :
    ((outsAt0 m c t.val t.isLt).1 (ix2 a b) : EReal) =
      ∑ r : Fin 4096, X m c r a * D m c r (1024 * (t.val / 4) + b) := by
  refine Eq.trans ?_ (columns_points (p := 4) (b := 1024) (by decide) (z := k0_pay1) (s := fun n h => (outsAt0 m c n h).2)
    (step := fun t acc => k0_pay2 acc (iblk m c 0 t) (iblk m c 1 t)) (block_left m c) (block_right m c)
    (fun _ _ => by unfold k0_pay1; pointwise) (fun _ _ _ _ => by unfold k0_pay2; pointwise)
    (fun t e => ?_) (fun t e l => ?_) (fun t e l => ?_) t (by omega) a b)
  · rw [outsAt0_C m c t (by omega) l]
    dsimp only
    rw [out_last, sum_last]
    unfold k0_pay3
    pointwise
  · rw [outsAt0_A m c t e (by omega)]
    dsimp only
    rw [sum_first]
  · rw [outsAt0_B m c t e (by omega)]
    dsimp only
    rw [sum_middle]
  · rw [outsAt0_C m c t e (by omega)]
    dsimp only
    rw [sum_last]

theorem array : (dats m 0 c).arrAt 2 cfg0.N = columnsTimes 4096 (X m c) (D m c) := by
  refine (dats m 0 c).arrAt_eq_of_covers 2 _ (by decide +kernel) fun t hf y => ?_
  obtain ⟨a, b, rfl⟩ : ∃ (a : Fin 768) (b : Fin 1024), y = ix2 a b := ⟨y 0, y 1, eq_ix2 y⟩
  refine ((congrFun (Value.flushed2 m c t) (ix2 a b)).trans (out_at m c t (flush_last t hf) a b)).trans ?_
  unfold columnsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = columnsTimes 4096 (X m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel23Ideal.Hand

/-! ## The gradient of the attention's output -/

namespace Cert.Kernel24Ideal.Hand

open Cert.Kernel24Ideal Cert.Kernel24Ideal.Gen

section
variable {F : FTy → Type} [FloatOps F]
variable (c : Dev nD) (i : grid0.Coords) (a3 : Memref sig .tc .vmem S1024x1024 .bf16) (h3 : a3.IsWhole)
  (a4 : Memref sig .tc .vmem S768x1024 .f32) (h4 : a4.IsWhole) (a5 : Memref sig .tc .vmem S1024x768 .f32) (h5 : a5.IsWhole)
  (a6 : Memref sig .tc .vmem S1024x768 .f32) (h6 : a6.IsWhole) (x0 : Vec F S1024x1024 .bf16) (x1 : Vec F S768x1024 .f32)

/-- A point clears the sum, adds its product and writes the sum out. -/
theorem out_point (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero off_zero2]
  simp only [View.readCov_cons_toLoadRect, View.readCov_unit_zero (S := S1024x768) _ off_zero2,
    View.readAt_eq_ld, h3.read_unread, h4.read_unread, View.ld_unit_zero (S := S1024x1024) off_zero2,
    View.ld_unit_zero (S := S768x1024) off_zero2]
end

theorem index_maps : ∀ t : Fin cfg0.N, (cfg0.win 0).index t = ![t.val, 0] ∧
    (cfg0.win 1).index t = ![0, 0] ∧ (cfg0.win 2).index t = ![t.val, 0] := by
  decide +kernel

variable (m : (ℓ : Loc nD τ sig) → Buf (Elt Ideal) ℓ) (c : Dev nD)

/-- The projection's gradient and the weight matrix. -/
abbrev D : ℕ → ℕ → EReal := entry (R := 4096) (C := 1024) (m ((c : Thread nD τ).loc main_arg2))
abbrev W : ℕ → ℕ → EReal := entry (R := 768) (C := 1024) (m ((c : Thread nD τ).loc main_arg1))

theorem block_left (t : Fin cfg0.N) (a k : Fin 1024) :
    (iblk m c 0 t (ix2 a k) : EReal) = D m c (1024 * t.val + a) k := by
  have hN : t.val < 4 := lt_of_lt_of_eq t.isLt N_0
  have v : V m c main_v0 = rounded (S := S4096x1024) (m ((c : Thread nD τ).loc main_arg2)) := by
    unfold rounded
    unfold_abbrev_sides
    after_results
  refine Eq.trans ?_ (entry_at (R := 4096) (C := 1024) (m ((c : Thread nD τ).loc main_arg2))
    ⟨1024 * t.val + a, by omega⟩ k)
  unfold iblk
  rw [show V m c (Pipeline.arrRef spec0 0) = _ from v]
  blk_ext [index_maps t]

theorem block_right (t : Fin cfg0.N) (b : Fin 768) (k : Fin 1024) :
    (iblk m c 1 t (ix2 b k) : EReal) = W m c b k := by
  refine Eq.trans ?_ (entry_at (R := 768) (C := 1024) (m ((c : Thread nD τ).loc main_arg1)) b k)
  unfold iblk
  rw [show V m c (Pipeline.arrRef spec0 1) = _ from V_main_arg1 m c]
  blk_ext [index_maps t]

theorem out_at (t : Fin cfg0.N) (a : Fin 1024) (b : Fin 768) : (outsAt0 m c t (ix2 a b) : EReal) =
    ∑ k : Fin 1024, D m c (1024 * t.val + a) k * W m c b k := by
  simp only [← block_left m c t, ← block_right m c t]
  unfold outsAt0
  rw [out_point]
  unfold k0_pay3 k0_pay2 k0_pay1
  pointwise

theorem array : (dats m 0 c).arrAt 2 cfg0.N = rowsTimes 1024 (D m c) (W m c) := by
  refine (dats m 0 c).arrAt_eq_of_covers 2 _ (by decide +kernel) fun t hf y => ?_
  obtain ⟨a, b, rfl⟩ : ∃ (a : Fin 1024) (b : Fin 768), y = ix2 a b := ⟨y 0, y 1, eq_ix2 y⟩
  refine ((congrFun (Value.flushed2 m c t) (ix2 a b)).trans (out_at m c t a b)).trans ?_
  unfold rowsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v1) = rowsTimes 1024 (D m c) (W m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel24Ideal.Hand

/-! ## The projection -/

namespace Cert.Kernel25Ideal.Hand

open Cert.Kernel25Ideal Cert.Kernel25Ideal.Gen

section
variable {F : FTy → Type} [FloatOps F]
variable (c : Dev nD) (i : grid0.Coords) (a3 : Memref sig .tc .vmem S1024x768 .bf16) (h3 : a3.IsWhole)
  (a4 : Memref sig .tc .vmem S768x1024 .f32) (h4 : a4.IsWhole) (a5 : Memref sig .tc .vmem S1024x1024 .f32) (h5 : a5.IsWhole)
  (a6 : Memref sig .tc .vmem S1024x1024 .f32) (h6 : a6.IsWhole) (x0 : Vec F S1024x768 .bf16) (x1 : Vec F S768x1024 .f32)

/-- A point clears the sum, adds its product and writes the sum out. -/
theorem out_point (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero off_zero2]
  simp only [View.readCov_cons_toLoadRect, View.readCov_unit_zero (S := S1024x1024) _ off_zero2,
    View.readAt_eq_ld, h3.read_unread, h4.read_unread, View.ld_unit_zero (S := S1024x768) off_zero2,
    View.ld_unit_zero (S := S768x1024) off_zero2]
end

theorem index_maps : ∀ t : Fin cfg0.N, (cfg0.win 0).index t = ![t.val, 0] ∧
    (cfg0.win 1).index t = ![0, 0] ∧ (cfg0.win 2).index t = ![t.val, 0] := by
  decide +kernel

variable (m : (ℓ : Loc nD τ sig) → Buf (Elt Ideal) ℓ) (c : Dev nD)

/-- The attention's output and the weight matrix. -/
abbrev X : ℕ → ℕ → EReal := entry (R := 4096) (C := 768) (m ((c : Thread nD τ).loc main_arg0))
abbrev W : ℕ → ℕ → EReal := entry (R := 768) (C := 1024) (m ((c : Thread nD τ).loc main_arg1))

theorem block_left (t : Fin cfg0.N) (a : Fin 1024) (k : Fin 768) :
    (iblk m c 0 t (ix2 a k) : EReal) = X m c (1024 * t.val + a) k := by
  have hN : t.val < 4 := lt_of_lt_of_eq t.isLt N_0
  have v : V m c main_v0 = rounded (S := S4096x768) (m ((c : Thread nD τ).loc main_arg0)) := by
    unfold rounded
    unfold_abbrev_sides
    after_results
  refine Eq.trans ?_ (entry_at (R := 4096) (C := 768) (m ((c : Thread nD τ).loc main_arg0))
    ⟨1024 * t.val + a, by omega⟩ k)
  unfold iblk
  rw [show V m c (Pipeline.arrRef spec0 0) = _ from v]
  blk_ext [index_maps t]

theorem block_right (t : Fin cfg0.N) (k : Fin 768) (b : Fin 1024) :
    (iblk m c 1 t (ix2 k b) : EReal) = W m c k b := by
  refine Eq.trans ?_ (entry_at (R := 768) (C := 1024) (m ((c : Thread nD τ).loc main_arg1)) k b)
  unfold iblk
  rw [show V m c (Pipeline.arrRef spec0 1) = _ from V_main_arg1 m c]
  blk_ext [index_maps t]

theorem out_at (t : Fin cfg0.N) (a b : Fin 1024) : (outsAt0 m c t (ix2 a b) : EReal) =
    ∑ k : Fin 768, X m c (1024 * t.val + a) k * W m c k b := by
  simp only [← block_left m c t, ← block_right m c t]
  unfold outsAt0
  rw [out_point]
  unfold k0_pay3 k0_pay2 k0_pay1
  pointwise

theorem array : (dats m 0 c).arrAt 2 cfg0.N = times 768 (X m c) (W m c) := by
  refine (dats m 0 c).arrAt_eq_of_covers 2 _ (by decide +kernel) fun t hf y => ?_
  obtain ⟨a, b, rfl⟩ : ∃ (a b : Fin 1024), y = ix2 a b := ⟨y 0, y 1, eq_ix2 y⟩
  refine ((congrFun (Value.flushed2 m c t) (ix2 a b)).trans (out_at m c t a b)).trans ?_
  unfold times
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v1) = times 768 (X m c) (W m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (array m c), (h c).2⟩) (Value.run_blocks m ρ)

end Cert.Kernel25Ideal.Hand

/-! ## The references' products -/

theorem Cert.Reference23Ideal.Hand.gradient_eq (x : FVec Ideal Cert.Reference23Ideal.S4096x768 .f32)
    (d : FVec Ideal Cert.Reference23Ideal.S4096x1024 .f32) :
    transpose Cert.Reference23Ideal.S768x1024 [1, 0] (Host.dotGeneral (F := Ideal) (φ₁ := .f32) (φ₂ := .f32)
      Cert.Reference23Ideal.dot_S4096x1024_S4096x768_S1024x768_0_0_1_1_n_n none d x)
      Cert.Reference23Ideal.Facts₀.transposes_S1024x768_S768x1024_1_0 =
    columnsTimes 4096 (entry (R := 4096) (C := 768) x) (entry (R := 4096) (C := 1024) d) :=
  eq_columnsTimes_comm (K := 4096) (R := 768) (C := 1024) x d _ fun a b => by pointwise

theorem Cert.Reference24Ideal.Hand.gradient_eq (w : FVec Ideal Cert.Reference24Ideal.S768x1024 .f32)
    (d : FVec Ideal Cert.Reference24Ideal.S4096x1024 .f32) :
    Host.dotGeneral (F := Ideal) (φ₁ := .f32) (φ₂ := .f32)
      Cert.Reference24Ideal.dot_S4096x1024_S768x1024_S4096x768_1_1_0_0_n_n none d w =
    rowsTimes 1024 (entry (R := 4096) (C := 1024) d) (entry (R := 768) (C := 1024) w) :=
  eq_rowsTimes (K := 1024) (R := 4096) (C := 768) d w _ fun a b => by pointwise

theorem Cert.Reference25Ideal.Hand.product_eq (x : FVec Ideal Cert.Reference25Ideal.S4096x768 .f32)
    (w : FVec Ideal Cert.Reference25Ideal.S768x1024 .f32) :
    Host.dotGeneral (F := Ideal) (φ₁ := .f32) (φ₂ := .f32)
      Cert.Reference25Ideal.dot_S4096x768_S768x1024_S4096x1024_1_0_0_1_n_n none x w =
    times 768 (entry (R := 4096) (C := 768) x) (entry (R := 768) (C := 1024) w) :=
  eq_times (K := 768) (R := 4096) (C := 1024) x w _ fun a b => by pointwise
-- ==== Proof.LoraValue.lean ====
/- The mixer's low-rank projection, 288 columns wide, and its two gradients: what the three kernels leave, and the
references' products. -/
module

public import proofs.«01_k».proof.Proof.Products
public import proofs.«01_k».proof.Proof.Gen.Kernel26Ideal.Value
public import proofs.«01_k».proof.Proof.Gen.Kernel27Ideal.Value
public import proofs.«01_k».proof.Proof.Gen.Kernel28Ideal.Value
public import proofs.«01_k».proof.Proof.Gen.Reference26Ideal.Run
public import proofs.«01_k».proof.Proof.Gen.Reference27Ideal.Run
public import proofs.«01_k».proof.Proof.Gen.Reference28Ideal.Run
public import Idealize.ShloMosaic.Lib.Pipeline.ValueKit
public import Idealize.ShloMosaic.Lib.Pipeline.ReadBack
public import Idealize.ShloMosaic.Lib.Tactic.CleanTypes

@[expose] public section

set_option maxRecDepth 16384

noncomputable section

open Idealize.ShloMosaic Idealize.ShloMosaic.TcCoe Idealize.SL.Sem Cert.Ffn

/-! ## The gradient of the weights -/

namespace Cert.Kernel26Ideal.Hand

open Cert.Kernel26Ideal Cert.Kernel26Ideal.Gen

section
variable {F : FTy → Type} [FloatOps F]
variable (c : Dev nD) (i : grid0.Coords) (a3 : Memref sig .tc .vmem S1024x1024 .bf16) (h3 : a3.IsWhole)
  (a4 : Memref sig .tc .vmem S1024x288 .bf16) (h4 : a4.IsWhole) (a5 : Memref sig .tc .vmem S1024x288 .f32) (h5 : a5.IsWhole)
  (a6 : Memref sig .tc .vmem S1024x288 .f32) (h6 : a6.IsWhole)
  (x0 : Vec F S1024x1024 .bf16) (x1 : Vec F S1024x288 .bf16) (xs : Vec F S1024x288 .f32)

/-- The first point clears the sum and adds its product; the others add theirs. -/
theorem sum_first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x288) off_zero2]
  simp only [View.readCov_unit_zero (S := S1024x288) _ off_zero2, View.readAt_eq_ld, h3.read_unread, h4.read_unread,
    View.ld_unit_zero (S := S1024x1024) off_zero2, View.ld_unit_zero (S := S1024x288) off_zero2]

theorem sum_middle (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero off_zero2]
  simp only [View.readAt_eq_ld, h3.read_unread, h4.read_unread, h6.read_unread,
    View.ld_unit_zero (S := S1024x1024) off_zero2, View.ld_unit_zero (S := S1024x288) off_zero2]

theorem sum_last (hc0 : ¬cond0_0 i) (hc1 : cond0_1 i) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero off_zero2]
  simp only [View.readAt_eq_ld, h3.read_unread, h4.read_unread, h6.read_unread,
    View.ld_unit_zero (S := S1024x1024) off_zero2, View.ld_unit_zero (S := S1024x288) off_zero2]

/-- The last writes the sum out. -/
theorem out_last (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero off_zero2]
  simp only [View.readCov_unit_zero (S := S1024x288) _ off_zero2, View.readAt_eq_ld, h3.read_unread, h4.read_unread,
    h6.read_unread, View.ld_unit_zero (S := S1024x1024) off_zero2, View.ld_unit_zero (S := S1024x288) off_zero2]
end

theorem index_maps : ∀ t : Fin cfg0.N, (cfg0.win 0).index t = ![t.val % 4, 0] ∧
    (cfg0.win 1).index t = ![t.val % 4, t.val / 4] ∧ (cfg0.win 2).index t = ![0, t.val / 4] := by
  decide +kernel

theorem flush_last : ∀ t : Fin cfg0.N, (cfg0.win 2).flush t = true → t.val % 4 = 3 := by
  decide +kernel

variable (m : (ℓ : Loc nD τ sig) → Buf (Elt Ideal) ℓ) (c : Dev nD)

/-- The normalised input and the projection's gradient. -/
abbrev X : ℕ → ℕ → EReal := entry (R := 4096) (C := 1024) (m ((c : Thread nD τ).loc main_arg0))
abbrev D : ℕ → ℕ → EReal := entry (R := 4096) (C := 288) (m ((c : Thread nD τ).loc main_arg2))

theorem block_left (t : Fin cfg0.N) (k a : Fin 1024) :
    (iblk m c 0 t (ix2 k a) : EReal) = X m c (1024 * (t.val % 4) + k) a := by
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * (t.val % 4) + k, by omega⟩ a)
  unfold iblk
  rw [show V m c (Pipeline.arrRef spec0 0) = _ from v]
  blk_ext [index_maps t]

theorem block_right (t : Fin cfg0.N) (k : Fin 1024) (b : Fin 288) :
    (iblk m c 1 t (ix2 k b) : EReal) = D m c (1024 * (t.val % 4) + k) (288 * (t.val / 4) + b) := by
  have hN : t.val < 4 := lt_of_lt_of_eq t.isLt N_0
  have v : V m c main_v1 = rounded (S := S4096x288) (m ((c : Thread nD τ).loc main_arg2)) := by
    unfold rounded
    unfold_abbrev_sides
    after_results
  refine Eq.trans ?_ (entry_at (R := 4096) (C := 288) (m ((c : Thread nD τ).loc main_arg2))
    ⟨1024 * (t.val % 4) + k, by omega⟩ ⟨288 * (t.val / 4) + b, by omega⟩)
  unfold iblk
  rw [show V m c (Pipeline.arrRef spec0 1) = _ from v]
  blk_ext [index_maps t]

/-- What the last point writes out. -/
theorem out_at (t : Fin cfg0.N) (l : t.val % 4 = 3) (a : Fin 1024) (b : Fin 288) :
    ((outsAt0 m c t.val t.isLt).1 (ix2 a b) : EReal) =
      ∑ r : Fin 4096, X m c r a * D m c r (288 * (t.val / 4) + b) := by
  refine Eq.trans ?_ (columns_points (p := 4) (b := 1024) (by decide) (z := k0_pay1) (s := fun n h => (outsAt0 m c n h).2)
    (step := fun t acc => k0_pay2 acc (iblk m c 0 t) (iblk m c 1 t)) (block_left m c) (block_right m c)
    (fun _ _ => by unfold k0_pay1; pointwise) (fun _ _ _ _ => by unfold k0_pay2; pointwise)
    (fun t e => ?_) (fun t e l => ?_) (fun t e l => ?_) t (by omega) a b)
  · rw [outsAt0_C m c t (by omega) l]
    dsimp only
    rw [out_last, sum_last]
    unfold k0_pay3
    pointwise
  · rw [outsAt0_A m c t e (by omega)]
    dsimp only
    rw [sum_first]
  · rw [outsAt0_B m c t e (by omega)]
    dsimp only
    rw [sum_middle]
  · rw [outsAt0_C m c t e (by omega)]
    dsimp only
    rw [sum_last]

theorem array : (dats m 0 c).arrAt 2 cfg0.N = columnsTimes 4096 (X m c) (D m c) := by
  refine (dats m 0 c).arrAt_eq_of_covers 2 _ (by decide +kernel) fun t hf y => ?_
  obtain ⟨a, b, rfl⟩ : ∃ (a : Fin 1024) (b : Fin 288), y = ix2 a b := ⟨y 0, y 1, eq_ix2 y⟩
  refine ((congrFun (Value.flushed2 m c t) (ix2 a b)).trans (out_at m c t (flush_last t hf) a b)).trans ?_
  unfold columnsTimes
  blk_simp [index_maps t]
  rw [Nat.mul_comm 288]

theorem run_values (ρ : Dev nD → PrngReg) : θ_run defs (onTc (τ := τ) (main (F := Ideal))) ⟨m, fun _ => 0, ρ⟩ fun r => ∀ c : Dev nD,
    r.2.mem ((c : Thread nD τ).loc main_v2) = columnsTimes 4096 (X m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (array m c), (h c).2⟩) (Value.run_blocks m ρ)

end Cert.Kernel26Ideal.Hand

/-! ## The gradient of the input, added to the gradient so far -/

namespace Cert.Kernel27Ideal.Hand

open Cert.Kernel27Ideal Cert.Kernel27Ideal.Gen

section
variable {F : FTy → Type} [FloatOps F]
variable (c : Dev nD) (i : grid0.Coords) (a3 : Memref sig .tc .vmem S1024x288 .bf16) (h3 : a3.IsWhole)
  (a4 : Memref sig .tc .vmem S1024x288 .f32) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x288 .bf16) (x1 : Vec F S1024x288 .f32) (x2 : Vec F S1024x1024 .f32)

/-- A point clears the sum, adds its product, adds the sum to its block of the gradient so far and writes that out. -/
theorem out_point (hc0 : cond0_0 i) (hc1 : cond0_1 i) :
    out0_A_3 c i a3 h3 a4 h4 a5 h5 a6 h6 a7 h7 hc0 hc1 x0 x1 x2 = k0_pay3 (k0_pay2 k0_pay1 x0 x1) x2 := by
  unfold out0_A_3
  rw [View.read_writes_eq_canon _ _ _ (cover0_A_3 c i a3 h3 a4 h4 a5 h5 a6 h6 a7 h7 hc0 hc1 x0 x1 x2)]
  unfold kernelRun0_A
  dsimp only
  sl_unfold_words
  rw [View.canon_unit_zero off_zero2]
  simp only [View.readCov_cons_toLoadRect, View.readCov_unit_zero (S := S1024x1024) _ off_zero2,
    View.readAt_eq_ld, h3.read_unread, h4.read_unread, h5.read_unread, View.ld_unit_zero (S := S1024x288) off_zero2,
    View.ld_unit_zero (S := S1024x1024) off_zero2]
end

theorem index_maps : ∀ t : Fin cfg0.N, (cfg0.win 0).index t = ![t.val, 0] ∧
    (cfg0.win 1).index t = ![0, 0] ∧ (cfg0.win 2).index t = ![t.val, 0] ∧ (cfg0.win 3).index t = ![t.val, 0] := by
  decide +kernel

variable (m : (ℓ : Loc nD τ sig) → Buf (Elt Ideal) ℓ) (c : Dev nD)

/-- The projection's gradient, its columns of the weight matrix and the gradient so far. -/
abbrev D : ℕ → ℕ → EReal := entry (R := 4096) (C := 288) (m ((c : Thread nD τ).loc main_arg2))
abbrev W : ℕ → ℕ → EReal := entry (fromColumn 288 3072 slices_S1024x7712_S1024x288_0_3072 (m ((c : Thread nD τ).loc main_arg1)))
abbrev G : ℕ → ℕ → EReal := entry (R := 4096) (C := 1024) (m ((c : Thread nD τ).loc main_arg3))

theorem block_left (t : Fin cfg0.N) (a : Fin 1024) (k : Fin 288) :
    (iblk m c 0 t (ix2 a k) : EReal) = D m c (1024 * t.val + a) k := by
  have hN : t.val < 4 := lt_of_lt_of_eq t.isLt N_0
  have v : V m c main_v0 = rounded (S := S4096x288) (m ((c : Thread nD τ).loc main_arg2)) := by
    unfold rounded
    unfold_abbrev_sides
    after_results
  refine Eq.trans ?_ (entry_at (R := 4096) (C := 288) (m ((c : Thread nD τ).loc main_arg2))
    ⟨1024 * t.val + a, by omega⟩ k)
  unfold iblk
  rw [show V m c (Pipeline.arrRef spec0 0) = _ from v]
  blk_ext [index_maps t]

theorem block_right (t : Fin cfg0.N) (b : Fin 1024) (k : Fin 288) :
    (iblk m c 1 t (ix2 b k) : EReal) = W m c b k := by
  have v : V m c main_v1 = fromColumn 288 3072 slices_S1024x7712_S1024x288_0_3072 (m ((c : Thread nD τ).loc main_arg1)) := by
    unfold fromColumn
    unfold_abbrev_sides
    after_results
  refine Eq.trans ?_ (entry_at (fromColumn 288 3072 slices_S1024x7712_S1024x288_0_3072 (m ((c : Thread nD τ).loc main_arg1))) b k)
  unfold iblk
  rw [show V m c (Pipeline.arrRef spec0 1) = _ from v]
  blk_ext [index_maps t]

theorem block_so_far (t : Fin cfg0.N) (a b : Fin 1024) :
    (iblk m c 2 t (ix2 a b) : EReal) = G m c (1024 * t.val + a) b := by
  have hN : t.val < 4 := lt_of_lt_of_eq t.isLt N_0
  refine Eq.trans ?_ (entry_at (R := 4096) (C := 1024) (m ((c : Thread nD τ).loc main_arg3))
    ⟨1024 * t.val + a, by omega⟩ b)
  unfold iblk
  rw [show V m c (Pipeline.arrRef spec0 2) = _ from V_main_arg3 m c]
  blk_ext [index_maps t]

theorem out_at (t : Fin cfg0.N) (a b : Fin 1024) : (outsAt0 m c t (ix2 a b) : EReal) = G m c (1024 * t.val + a) b +
    ∑ k : Fin 288, D m c (1024 * t.val + a) k * W m c b k := by
  refine Eq.trans ?_ (congrArg₂ (· + ·) (block_so_far m c t a b) (Finset.sum_congr rfl fun k _ =>
    congrArg₂ (· * ·) (block_left m c t a k) (block_right m c t b k)))
  unfold outsAt0
  rw [out_point]
  unfold k0_pay3 k0_pay2 k0_pay1
  pointwise

theorem array : (dats m 0 c).arrAt 3 cfg0.N = plus (G m c) (rowsTimes 288 (D m c) (W m c)) := by
  refine (dats m 0 c).arrAt_eq_of_covers 3 _ (by decide +kernel) fun t hf y => ?_
  obtain ⟨a, b, rfl⟩ : ∃ (a b : Fin 1024), y = ix2 a b := ⟨y 0, y 1, eq_ix2 y⟩
  refine ((congrFun (Value.flushed3 m c t) (ix2 a b)).trans (out_at m c t a b)).trans ?_
  unfold plus rowsTimes
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = plus (G m c) (rowsTimes 288 (D m c) (W m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (array m c), (h c).2⟩) (Value.run_blocks m ρ)

end Cert.Kernel27Ideal.Hand

/-! ## The projection -/

namespace Cert.Kernel28Ideal.Hand

open Cert.Kernel28Ideal Cert.Kernel28Ideal.Gen

section
variable {F : FTy → Type} [FloatOps F]
variable (c : Dev nD) (i : grid0.Coords) (a3 : Memref sig .tc .vmem S1024x1024 .bf16) (h3 : a3.IsWhole)
  (a4 : Memref sig .tc .vmem S1024x288 .f32) (h4 : a4.IsWhole) (a5 : Memref sig .tc .vmem S1024x288 .f32) (h5 : a5.IsWhole)
  (a6 : Memref sig .tc .vmem S1024x288 .f32) (h6 : a6.IsWhole) (x0 : Vec F S1024x1024 .bf16) (x1 : Vec F S1024x288 .f32)

/-- A point clears the sum, adds its product and writes the sum out. -/
theorem out_point (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero off_zero2]
  simp only [View.readCov_cons_toLoadRect, View.readCov_unit_zero (S := S1024x288) _ off_zero2,
    View.readAt_eq_ld, h3.read_unread, h4.read_unread, View.ld_unit_zero (S := S1024x1024) off_zero2,
    View.ld_unit_zero (S := S1024x288) off_zero2]
end

theorem index_maps : ∀ t : Fin cfg0.N, (cfg0.win 0).index t = ![t.val, 0] ∧
    (cfg0.win 1).index t = ![0, 0] ∧ (cfg0.win 2).index t = ![t.val, 0] := by
  decide +kernel

variable (m : (ℓ : Loc nD τ sig) → Buf (Elt Ideal) ℓ) (c : Dev nD)

/-- The normalised input and the projection's columns of the weight matrix. -/
abbrev X : ℕ → ℕ → EReal := entry (R := 4096) (C := 1024) (m ((c : Thread nD τ).loc main_arg0))
abbrev W : ℕ → ℕ → EReal := entry (fromColumn 288 3072 slices_S1024x7712_S1024x288_0_3072 (m ((c : Thread nD τ).loc main_arg1)))

theorem block_left (t : Fin cfg0.N) (a k : Fin 1024) :
    (iblk m c 0 t (ix2 a k) : EReal) = X m c (1024 * t.val + a) k := by
  have hN : t.val < 4 := lt_of_lt_of_eq t.isLt N_0
  have v : V m c main_v0 = rounded (S := S4096x1024) (m ((c : Thread nD τ).loc main_arg0)) := by
    unfold rounded
    unfold_abbrev_sides
    after_results
  refine Eq.trans ?_ (entry_at (R := 4096) (C := 1024) (m ((c : Thread nD τ).loc main_arg0))
    ⟨1024 * t.val + a, by omega⟩ k)
  unfold iblk
  rw [show V m c (Pipeline.arrRef spec0 0) = _ from v]
  blk_ext [index_maps t]

theorem block_right (t : Fin cfg0.N) (k : Fin 1024) (b : Fin 288) :
    (iblk m c 1 t (ix2 k b) : EReal) = W m c k b := by
  have v : V m c main_v1 = fromColumn 288 3072 slices_S1024x7712_S1024x288_0_3072 (m ((c : Thread nD τ).loc main_arg1)) := by
    unfold fromColumn
    unfold_abbrev_sides
    after_results
  refine Eq.trans ?_ (entry_at (fromColumn 288 3072 slices_S1024x7712_S1024x288_0_3072 (m ((c : Thread nD τ).loc main_arg1))) k b)
  unfold iblk
  rw [show V m c (Pipeline.arrRef spec0 1) = _ from v]
  blk_ext [index_maps t]

theorem out_at (t : Fin cfg0.N) (a : Fin 1024) (b : Fin 288) : (outsAt0 m c t (ix2 a b) : EReal) =
    ∑ k : Fin 1024, X m c (1024 * t.val + a) k * W m c k b := by
  simp only [← block_left m c t, ← block_right m c t]
  unfold outsAt0
  rw [out_point]
  unfold k0_pay3 k0_pay2 k0_pay1
  pointwise

theorem array : (dats m 0 c).arrAt 2 cfg0.N = times 1024 (X m c) (W m c) := by
  refine (dats m 0 c).arrAt_eq_of_covers 2 _ (by decide +kernel) fun t hf y => ?_
  obtain ⟨a, b, rfl⟩ : ∃ (a : Fin 1024) (b : Fin 288), y = ix2 a b := ⟨y 0, y 1, eq_ix2 y⟩
  refine ((congrFun (Value.flushed2 m c t) (ix2 a b)).trans (out_at m c t a b)).trans ?_
  unfold times
  blk_simp [index_maps t]
  rw [Nat.mul_comm 1024]

theorem run_values (ρ : Dev nD → PrngReg) : θ_run defs (onTc (τ := τ) (main (F := Ideal))) ⟨m, fun _ => 0, ρ⟩ fun r => ∀ c : Dev nD,
    r.2.mem ((c : Thread nD τ).loc main_v2) = times 1024 (X m c) (W m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (array m c), (h c).2⟩) (Value.run_blocks m ρ)

end Cert.Kernel28Ideal.Hand

/-! ## The references' products -/

theorem Cert.Reference26Ideal.Hand.gradient_eq (x : FVec Ideal Cert.Reference26Ideal.S4096x1024 .f32)
    (d : FVec Ideal Cert.Reference26Ideal.S4096x288 .f32) :
    transpose Cert.Reference26Ideal.S1024x288 [1, 0] (Host.dotGeneral (F := Ideal) (φ₁ := .f32) (φ₂ := .f32)
      Cert.Reference26Ideal.dot_S4096x288_S4096x1024_S288x1024_0_0_1_1_n_n none d x)
      Cert.Reference26Ideal.Facts₀.transposes_S288x1024_S1024x288_1_0 =
    columnsTimes 4096 (entry (R := 4096) (C := 1024) x) (entry (R := 4096) (C := 288) d) :=
  eq_columnsTimes_comm (K := 4096) (R := 1024) (C := 288) x d _ fun a b => by pointwise

section
open Cert.Reference27Ideal Cert.Reference27Ideal.Facts₀

theorem Cert.Reference27Ideal.Hand.gradient_eq (w : FVec Ideal S1024x7712 .f32) (d : FVec Ideal S4096x288 .f32)
    (g : FVec Ideal S4096x1024 .f32) :
    addf g (Host.dotGeneral (F := Ideal) (φ₁ := .f32) (φ₂ := .f32) dot_S4096x288_S1024x288_S4096x1024_1_1_0_0_n_n none d
      (extractStridedSlice S1024x288 ![0, 3072] w slices_S1024x7712_S1024x288_0_3072)) =
    plus (entry (R := 4096) (C := 1024) g) (rowsTimes 288 (entry (R := 4096) (C := 288) d)
      (entry (fromColumn 288 3072 slices_S1024x7712_S1024x288_0_3072 w))) :=
  (congrArg (addf g) (eq_rowsTimes (K := 288) (R := 4096) (C := 1024) d
    (fromColumn 288 3072 slices_S1024x7712_S1024x288_0_3072 w) _ fun a b => by
      unfold fromColumn
      pointwise)).trans (eq_plus g _)
end

section
open Cert.Reference28Ideal Cert.Reference28Ideal.Facts₀

theorem Cert.Reference28Ideal.Hand.product_eq (x : FVec Ideal S4096x1024 .f32) (w : FVec Ideal S1024x7712 .f32) :
    Host.dotGeneral (F := Ideal) (φ₁ := .f32) (φ₂ := .f32) dot_S4096x1024_S1024x288_S4096x288_1_0_0_1_n_n none x
      (extractStridedSlice S1024x288 ![0, 3072] w slices_S1024x7712_S1024x288_0_3072) =
    times 1024 (entry (R := 4096) (C := 1024) x) (entry (fromColumn 288 3072 slices_S1024x7712_S1024x288_0_3072 w)) :=
  eq_times (K := 1024) (R := 4096) (C := 288) x (fromColumn 288 3072 slices_S1024x7712_S1024x288_0_3072 w) _ fun a b => by
    unfold fromColumn
    pointwise
end
-- ==== Proof.NormMergeValue.lean ====
/- The mixer's normalised input and the merge of its two branches: what the two kernels leave, and the references' arrays. -/
module

public import proofs.«01_k».proof.Proof.Products
public import proofs.«01_k».proof.Proof.Gen.Kernel29Ideal.Value
public import proofs.«01_k».proof.Proof.Gen.Kernel30Ideal.Frame
public import proofs.«01_k».proof.Proof.Gen.Reference29Ideal.Run
public import proofs.«01_k».proof.Proof.Gen.Reference30Ideal.Run
public import Idealize.ShloMosaic.Lib.Pipeline.ValueKit
public import Idealize.ShloMosaic.Lib.Pipeline.ReadBack
public import Idealize.ShloMosaic.Lib.Tactic.CleanTypes

@[expose] public section

set_option maxRecDepth 16384

noncomputable section

open Idealize.ShloMosaic Idealize.ShloMosaic.TcCoe Idealize.SL.Sem

namespace Cert.Ffn

/-- A list's entry at a number, nothing outside it. -/
def listed {N : ℕ} (g : (⟨1, ![N]⟩ : Shape).Idx → EReal) (n : ℕ) : EReal := if h : n < N then g (ix1 ⟨n, h⟩) else 0

theorem listed_at {N : ℕ} (g : (⟨1, ![N]⟩ : Shape).Idx → EReal) (n : Fin N) : g (ix1 n) = listed g n := by
  unfold listed
  rw [dif_pos n.isLt]

/-- A row over the root of the mean of its squares, 1024 of them, plus the small constant, times the gain. -/
def normed (x : ℕ → ℕ → EReal) (g : ℕ → EReal) : (⟨2, ![4096, 1024]⟩ : Shape).Idx → EReal := fun i =>
  x (i 0).val (i 1).val * Ideal.rsqrt (Ideal.div (∑ k : Fin 1024, x (i 0).val k * x (i 0).val k)
    (Ideal.ofBits FTy.f32 0x44800000#32) + Ideal.ofBits FTy.f32 0x358637BD#32) * g (i 1).val

/-- Each branch times the logistic of its half of the gate plus that half of the bias, added. -/
def merged (p u v : ℕ → ℕ → EReal) (g : ℕ → EReal) : (⟨2, ![4096, 1024]⟩ : Shape).Idx → EReal := fun i =>
  Ideal.logistic (p (i 0).val (i 1).val + g (i 1).val) * u (i 0).val (i 1).val
    + Ideal.logistic (p (i 0).val (1024 + (i 1).val) + g (1024 + (i 1).val)) * v (i 0).val (i 1).val

end Cert.Ffn

open Cert.Ffn

/-! ## The normalised input -/

namespace Cert.Kernel29Ideal.Hand

open Cert.Kernel29Ideal Cert.Kernel29Ideal.Gen

theorem index_maps : ∀ t : Fin cfg0.N, (cfg0.win 0).index t = ![t.val, 0] ∧
    (cfg0.win 1).index t = ![0, 0] ∧ (cfg0.win 2).index t = ![t.val, 0] := by
  decide +kernel

/-- A point's block of the result, from its block of rows and the gain. -/
theorem out_block (x : FVec Ideal S512x1024 .f32) (g : FVec Ideal S1x1024 .f32) (a : Fin 512) (b : Fin 1024) :
    (out0_2 (F := Ideal) x g (ix2 a b) : EReal) = x (ix2 a b) * Ideal.rsqrt (Ideal.div (∑ k : Fin 1024, x (ix2 a k) * x (ix2 a k))
      (Ideal.ofBits FTy.f32 0x44800000#32) + Ideal.ofBits FTy.f32 0x358637BD#32) * g (ix2 (0 : Fin 1) b) := by
  unfold out0_2
  rw [View.canon_unit_zero off_zero2, View.ld_unit_zero (S := S512x1024) off_zero2, View.ld_unit_zero (S := S1x1024) off_zero2]
  unfold k0_pay1
  pointwise

variable (m : (ℓ : Loc nD τ sig) → Buf (Elt Ideal) ℓ) (c : Dev nD)

/-- The rows and the gain. -/
abbrev X : ℕ → ℕ → EReal := entry (R := 4096) (C := 1024) (m ((c : Thread nD τ).loc main_arg0))
abbrev Y : ℕ → EReal := listed (N := 1024) (m ((c : Thread nD τ).loc main_arg1))

theorem block_rows (t : Fin cfg0.N) (a : Fin 512) (b : Fin 1024) : (iblk m c 0 t (ix2 a b) : EReal) = X m c (512 * t.val + a) b := by
  have hN : t.val < 8 := lt_of_lt_of_eq t.isLt N_0
  refine Eq.trans ?_ (entry_at (R := 4096) (C := 1024) (m ((c : Thread nD τ).loc main_arg0)) ⟨512 * t.val + a, by omega⟩ b)
  unfold iblk
  rw [show V m c (Pipeline.arrRef spec0 0) = _ from V_main_arg0 m c]
  blk_ext [index_maps t]

theorem block_gain (t : Fin cfg0.N) (b : Fin 1024) :
    (iblk m c 1 t (ix2 (0 : Fin 1) b) : EReal) = Y m c b := by
  have v : V m c main_v0 = shapeCast S1x1024 (s := S1024) (m ((c : Thread nD τ).loc main_arg1)) shapeCasts_S1024_S1x1024 := by
    unfold_abbrev_sides
    after_results
    rfl
  refine (Eq.trans (b := (shapeCast S1x1024 (s := S1024) (m ((c : Thread nD τ).loc main_arg1)) shapeCasts_S1024_S1x1024
    (ix2 (0 : Fin 1) b) : EReal)) ?_ (by pointwise)).trans (listed_at (N := 1024) (m ((c : Thread nD τ).loc main_arg1)) b)
  unfold iblk
  rw [show V m c (Pipeline.arrRef spec0 1) = _ from v]
  blk_ext [index_maps t]

theorem array : (dats m 0 c).arrAt 2 cfg0.N = normed (X m c) (Y m c) := by
  refine (dats m 0 c).arrAt_eq_of_covers 2 _ (by decide +kernel) fun t hf y => ?_
  obtain ⟨a, b, rfl⟩ : ∃ (a : Fin 512) (b : Fin 1024), y = ix2 a b := ⟨y 0, y 1, eq_ix2 y⟩
  refine ((congrFun (Value.flushed2 m c t) (ix2 a b)).trans (out_block _ _ a b)).trans ?_
  rw [block_gain, block_rows]
  simp only [block_rows]
  unfold normed
  blk_simp [index_maps t]
  rw [Nat.mul_comm 512]

theorem run_values (ρ : Dev nD → PrngReg) : θ_run defs (onTc (τ := τ) (main (F := Ideal))) ⟨m, fun _ => 0, ρ⟩ fun r => ∀ c : Dev nD,
    r.2.mem ((c : Thread nD τ).loc main_v1) = normed (X m c) (Y m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (array m c), (h c).2⟩) (Value.run_blocks m ρ)

end Cert.Kernel29Ideal.Hand

namespace Cert.Reference29Ideal.Hand

open Cert.Reference29Ideal Cert.Reference29Ideal.Facts₀

theorem normed_eq (x : FVec Ideal S4096x1024 .f32) (g : FVec Ideal S1024 .f32) :
    truncf (F := Ideal) .bf16 (mulf (mulf x (broadcastInDim S4096x1024 ![0, 1] bcast_S4096x1_S4096x1024_0_1
      (Host.rsqrt (addf (Host.divf (broadcastInDim S4096x1 ![0] bcast_S4096_S4096x1_0
          (Host.reduceAdd (mulf x x) (constant S_ .f32 0x00000000#32) reducesTo_S4096x1024_S4096_d1 h_S_))
          (broadcastInDim S4096x1 ![] bcast_S_S4096x1 (constant S_ .f32 0x44800000#32)))
        (broadcastInDim S4096x1 ![] bcast_S_S4096x1 (constant S_ .f32 0x358637BD#32))))))
      (broadcastInDim S4096x1024 ![0, 1] bcast_S1x1024_S4096x1024_0_1 (broadcastInDim S1x1024 ![1] bcast_S1024_S1x1024_1 g)))
      bitsLt_bf16_f32 = normed (entry (R := 4096) (C := 1024) x) (listed (N := 1024) g) := by
  funext i
  obtain ⟨a, b, rfl⟩ : ∃ (a : Fin 4096) (b : Fin 1024), i = ix2 a b := ⟨i 0, i 1, eq_ix2 i⟩
  refine Eq.trans (b := x (ix2 a b) * Ideal.rsqrt (Ideal.div (∑ k : Fin 1024, x (ix2 a k) * x (ix2 a k))
    (Ideal.ofBits FTy.f32 0x44800000#32) + Ideal.ofBits FTy.f32 0x358637BD#32) * g (ix1 b)) (by pointwise) ?_
  simp only [entry_at (R := 4096) (C := 1024) x, listed_at (N := 1024) g]
  rfl

end Cert.Reference29Ideal.Hand

/-! ## The merged branches -/

namespace Cert.Kernel30Ideal.Hand

open Cert.Kernel30Ideal Cert.Kernel30Ideal.Gen

theorem index_maps : ∀ t : Fin cfg0.N, (cfg0.win 0).index t = ![t.val, 0] ∧ (cfg0.win 1).index t = ![t.val, 0] ∧
    (cfg0.win 2).index t = ![t.val, 0] ∧ (cfg0.win 3).index t = ![0, 0] ∧ (cfg0.win 4).index t = ![t.val, 0] := by
  decide +kernel

/-- A point's block of the result, from its blocks of the gate and the branches and from the bias. -/
theorem out_block (p : FVec Ideal S256x2048 .f32) (u v : FVec Ideal S256x1024 .f32) (g : FVec Ideal S1x2048 .f32) (a : Fin 256)
    (b : Fin 1024) : (out0_4 (F := Ideal) p u v g (ix2 a b) : EReal) =
      Ideal.logistic (p (ix2 a (⟨b, by omega⟩ : Fin 2048)) + g (ix2 (0 : Fin 1) (⟨b, by omega⟩ : Fin 2048))) * u (ix2 a b)
      + Ideal.logistic (p (ix2 a (⟨1024 + b, by omega⟩ : Fin 2048)) + g (ix2 (0 : Fin 1) (⟨1024 + b, by omega⟩ : Fin 2048)))
        * v (ix2 a b) := by
  unfold out0_4
  rw [View.canon_unit_zero off_zero2, View.ld_unit_zero (S := S256x2048) off_zero2, View.ld_unit_zero (S := S256x1024) off_zero2,
    View.ld_unit_zero (S := S256x1024) off_zero2, View.ld_unit_zero (S := S1x2048) off_zero2]
  unfold k0_pay1
  pointwise

variable (m : (ℓ : Loc nD τ sig) → Buf (Elt Ideal) ℓ) (c : Dev nD)

/-- The gate before its logistic, the branches and the bias. -/
abbrev G : ℕ → ℕ → EReal := entry (R := 4096) (C := 2048) (m ((c : Thread nD τ).loc main_arg0))
abbrev A : ℕ → ℕ → EReal := entry (R := 4096) (C := 1024) (m ((c : Thread nD τ).loc main_arg1))
abbrev B : ℕ → ℕ → EReal := entry (R := 4096) (C := 1024) (m ((c : Thread nD τ).loc main_arg2))
abbrev H : ℕ → EReal := listed (N := 2048) (m ((c : Thread nD τ).loc main_arg3))

theorem block_gate (t : Fin cfg0.N) (a : Fin 256) (b : Fin 2048) : (iblk m c 0 t (ix2 a b) : EReal) = G m c (256 * t.val + a) b := by
  have hN : t.val < 16 := lt_of_lt_of_eq t.isLt N_0
  refine Eq.trans ?_ (entry_at (R := 4096) (C := 2048) (m ((c : Thread nD τ).loc main_arg0)) ⟨256 * t.val + a, by omega⟩ b)
  unfold iblk
  rw [show V m c (Pipeline.arrRef spec0 0) = _ from V_main_arg0 m c]
  blk_ext [index_maps t]

theorem block_first (t : Fin cfg0.N) (a : Fin 256) (b : Fin 1024) : (iblk m c 1 t (ix2 a b) : EReal) = A m c (256 * t.val + a) b := by
  have hN : t.val < 16 := lt_of_lt_of_eq t.isLt N_0
  refine Eq.trans ?_ (entry_at (R := 4096) (C := 1024) (m ((c : Thread nD τ).loc main_arg1)) ⟨256 * t.val + a, by omega⟩ b)
  unfold iblk
  rw [show V m c (Pipeline.arrRef spec0 1) = _ from V_main_arg1 m c]
  blk_ext [index_maps t]

theorem block_second (t : Fin cfg0.N) (a : Fin 256) (b : Fin 1024) : (iblk m c 2 t (ix2 a b) : EReal) = B m c (256 * t.val + a) b := by
  have hN : t.val < 16 := lt_of_lt_of_eq t.isLt N_0
  refine Eq.trans ?_ (entry_at (R := 4096) (C := 1024) (m ((c : Thread nD τ).loc main_arg2)) ⟨256 * t.val + a, by omega⟩ b)
  unfold iblk
  rw [show V m c (Pipeline.arrRef spec0 2) = _ from V_main_arg2 m c]
  blk_ext [index_maps t]

theorem block_bias (t : Fin cfg0.N) (b : Fin 2048) :
    (iblk m c 3 t (ix2 (0 : Fin 1) b) : EReal) = H m c b := by
  have v : V m c main_v0 = shapeCast S1x2048 (s := S2048) (m ((c : Thread nD τ).loc main_arg3)) shapeCasts_S2048_S1x2048 := by
    unfold_abbrev_sides
    after_results
    rfl
  refine (Eq.trans (b := (shapeCast S1x2048 (s := S2048) (m ((c : Thread nD τ).loc main_arg3)) shapeCasts_S2048_S1x2048
    (ix2 (0 : Fin 1) b) : EReal)) ?_ (by pointwise)).trans (listed_at (N := 2048) (m ((c : Thread nD τ).loc main_arg3)) b)
  unfold iblk
  rw [show V m c (Pipeline.arrRef spec0 3) = _ from v]
  blk_ext [index_maps t]

theorem array : (dats m 0 c).arrAt 4 cfg0.N = merged (G m c) (A m c) (B m c) (H m c) := by
  refine (dats m 0 c).arrAt_eq_of_covers 4 _ (by decide +kernel) fun t hf y => ?_
  obtain ⟨a, b, rfl⟩ : ∃ (a : Fin 256) (b : Fin 1024), y = ix2 a b := ⟨y 0, y 1, eq_ix2 y⟩
  refine ((congrArg (fun o => (cfg0.win 4).cut (grid0.coords t) o (ix2 a b)) (after0_4 m c t)).trans
    (out_block _ _ _ _ a b)).trans ?_
  simp only [block_gate, block_first, block_second, block_bias]
  unfold merged
  blk_simp [index_maps t]
  rw [Nat.mul_comm 256]

/-- The bias lies outside every window; the other arguments are only read. -/
theorem run_values (ρ : Dev nD → PrngReg) : θ_run defs (onTc (τ := τ) (main (F := Ideal))) ⟨m, fun _ => 0, ρ⟩ fun r => ∀ c : Dev nD,
    r.2.mem ((c : Thread nD τ).loc main_v1) = merged (G m c) (A m c) (B m c) (H m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun r h c => ?_) (run_main m ρ)
  have read (w) (hw : (cfg0.win w).isOut = false) := ((h c).1 w).trans (((dats m 0 c).arrAt_in w hw _).trans (A_eq m c w))
  exact ⟨((h c).1 4).trans (array m c), (read 0 rfl).trans (V_main_arg0 m c), (read 1 rfl).trans (V_main_arg1 m c),
    (read 2 rfl).trans (V_main_arg2 m c),
    ((h c).2 main_arg3 (Pipeline.mem_restRefs_of main_arg3 (by decide) (by decide))).trans (V_main_arg3 m c)⟩

end Cert.Kernel30Ideal.Hand

namespace Cert.Reference30Ideal.Hand

open Cert.Reference30Ideal Cert.Reference30Ideal.Facts₀

/-- One over one plus the exponential of the negated gate is its logistic. -/
abbrev gates (p : FVec Ideal S4096x2048 .f32) (g : FVec Ideal S2048 .f32) : FVec Ideal S4096x2048 .f32 :=
  Host.divf (broadcastInDim S4096x2048 ![] bcast_S_S4096x2048 (constant S_ .f32 0x3F800000#32))
    (addf (broadcastInDim S4096x2048 ![] bcast_S_S4096x2048 (constant S_ .f32 0x3F800000#32))
      (Host.exp (Host.negf (addf p (broadcastInDim S4096x2048 ![0, 1] bcast_S1x2048_S4096x2048_0_1
        (broadcastInDim S1x2048 ![1] bcast_S2048_S1x2048_1 g))))))

theorem gates_at (p : FVec Ideal S4096x2048 .f32) (g : FVec Ideal S2048 .f32) (a : Fin 4096) (b : Fin 2048) :
    (gates p g (ix2 a b) : EReal) = Ideal.logistic (entry (R := 4096) (C := 2048) p a b + listed (N := 2048) g b) := by
  rw [← entry_at (R := 4096) (C := 2048) p, ← listed_at (N := 2048) g]
  unfold gates Ideal.logistic
  pointwise

theorem merged_eq (p : FVec Ideal S4096x2048 .f32) (u v : FVec Ideal S4096x1024 .f32) (g : FVec Ideal S2048 .f32) :
    truncf (F := Ideal) .bf16 (addf (mulf (extractStridedSlice S4096x1024 ![0, 0] (gates p g) slices_S4096x2048_S4096x1024_0_0) u)
      (mulf (extractStridedSlice S4096x1024 ![0, 1024] (gates p g) slices_S4096x2048_S4096x1024_0_1024) v)) bitsLt_bf16_f32 =
    merged (entry (R := 4096) (C := 2048) p) (entry (R := 4096) (C := 1024) u) (entry (R := 4096) (C := 1024) v)
      (listed (N := 2048) g) := by
  funext i
  obtain ⟨a, b, rfl⟩ : ∃ (a : Fin 4096) (b : Fin 1024), i = ix2 a b := ⟨i 0, i 1, eq_ix2 i⟩
  generalize e : gates p g = s
  refine Eq.trans (b := s (ix2 a (⟨b, by omega⟩ : Fin 2048)) * u (ix2 a b) + s (ix2 a (⟨1024 + b, by omega⟩ : Fin 2048)) * v (ix2 a b))
    (by pointwise) ?_
  subst e
  rw [gates_at, gates_at, entry_at (R := 4096) (C := 1024) u, entry_at (R := 4096) (C := 1024) v]
  rfl

end Cert.Reference30Ideal.Hand

end
-- ==== Proof.NormsValue.lean ====
/- A feed-forward block's normalised input, and the gradients of the norm's input and of its gain. -/
module

public import proofs.«01_k».proof.Proof.NormMergeValue
public import proofs.«01_k».proof.Proof.Gen.Kernel31Ideal.Value
public import proofs.«01_k».proof.Proof.Gen.Kernel32Ideal.Value
public import proofs.«01_k».proof.Proof.Gen.Reference32Ideal.Run
public import Idealize.ShloMosaic.Lib.Pipeline.ValueKit
public import Idealize.ShloMosaic.Lib.Pipeline.ReadBack
public import Idealize.ShloMosaic.Lib.Tactic.CleanTypes

@[expose] public section

set_option maxRecDepth 16384

noncomputable section

open Idealize.ShloMosaic Idealize.ShloMosaic.TcCoe Idealize.SL.Sem

namespace Cert.Ffn

/-- The mean of a row's squares, plus the small constant. -/
def square (x : ℕ → EReal) : EReal :=
  Ideal.div (∑ k : Fin 1024, x k * x k) (Ideal.ofBits FTy.f32 0x44800000#32) + Ideal.ofBits FTy.f32 0x358637BD#32

/-- The mean's gradient over the number of entries, from a row, its gradient and the gain. -/
def pull (x d g : ℕ → EReal) : EReal :=
  Ideal.div ((∑ k : Fin 1024, x k * (d k * g k)) * (Ideal.ofBits FTy.f32 0xBF000000#32 * Ideal.div (Ideal.rsqrt (square x)) (square x)))
    (Ideal.ofBits FTy.f32 0x44800000#32)

/-- The gradient of the norm's input, added to the gradient past the block. -/
def inputGradient (x d y : ℕ → ℕ → EReal) (g : ℕ → EReal) : (⟨2, ![4096, 1024]⟩ : Shape).Idx → EReal := fun i =>
  y (i 0).val (i 1).val + (d (i 0).val (i 1).val * g (i 1).val * Ideal.rsqrt (square (x (i 0).val))
    + x (i 0).val (i 1).val * pull (x (i 0).val) (d (i 0).val) g + pull (x (i 0).val) (d (i 0).val) g * x (i 0).val (i 1).val)

/-- The gradient of the gain, a sum over the rows. -/
def gainGradient (x d : ℕ → ℕ → EReal) : (⟨2, ![1, 1024]⟩ : Shape).Idx → EReal := fun i =>
  ∑ r : Fin 4096, x r (i 1).val * Ideal.rsqrt (square (x r)) * d r (i 1).val

end Cert.Ffn

open Cert.Ffn

/-! ## The normalised input, with a token of zeros -/

namespace Cert.Kernel31Ideal.Hand

open Cert.Kernel31Ideal Cert.Kernel31Ideal.Gen

theorem index_maps : ∀ t : Fin cfg0.N, (cfg0.win 0).index t = ![t.val, 0] ∧ (cfg0.win 1).index t = ![0, 0] ∧
    (cfg0.win 2).index t = ![0, 0] ∧ (cfg0.win 3).index t = ![t.val, 0] := by
  decide +kernel

/-- The block of the mixer's norm, with the token's first entry added. -/
theorem out_block (x : FVec Ideal S512x1024 .f32) (g : FVec Ideal S1x1024 .f32) (z : FVec Ideal S8x128 .f32) (a : Fin 512)
    (b : Fin 1024) : (out0_3 (F := Ideal) x g z (ix2 a b) : EReal) =
      x (ix2 a b) * Ideal.rsqrt (Ideal.div (∑ k : Fin 1024, x (ix2 a k) * x (ix2 a k)) (Ideal.ofBits FTy.f32 0x44800000#32)
        + Ideal.ofBits FTy.f32 0x358637BD#32) * g (ix2 (0 : Fin 1) b) + z (ix2 (0 : Fin 8) (0 : Fin 128)) := by
  unfold out0_3
  rw [View.canon_unit_zero off_zero2, View.ld_unit_zero (S := S512x1024) off_zero2, View.ld_unit_zero (S := S1x1024) off_zero2,
    View.ld_unit_zero (S := S8x128) off_zero2]
  unfold k0_pay1
  pointwise

variable (m : (ℓ : Loc nD τ sig) → Buf (Elt Ideal) ℓ) (c : Dev nD)

abbrev X : ℕ → ℕ → EReal := entry (R := 4096) (C := 1024) (m ((c : Thread nD τ).loc main_arg0))
abbrev Y : ℕ → EReal := listed (N := 1024) (m ((c : Thread nD τ).loc main_arg1))

theorem block_rows (t : Fin cfg0.N) (a : Fin 512) (b : Fin 1024) : (iblk m c 0 t (ix2 a b) : EReal) = X m c (512 * t.val + a) b := by
  have hN : t.val < 8 := lt_of_lt_of_eq t.isLt N_0
  refine Eq.trans ?_ (entry_at (R := 4096) (C := 1024) (m ((c : Thread nD τ).loc main_arg0)) ⟨512 * t.val + a, by omega⟩ b)
  unfold iblk
  rw [show V m c (Pipeline.arrRef spec0 0) = _ from V_main_arg0 m c]
  blk_ext [index_maps t]

theorem block_gain (t : Fin cfg0.N) (b : Fin 1024) : (iblk m c 1 t (ix2 (0 : Fin 1) b) : EReal) = Y m c b := by
  have v : V m c main_v1 = shapeCast S1x1024 (s := S1024) (m ((c : Thread nD τ).loc main_arg1)) shapeCasts_S1024_S1x1024 := by
    unfold_abbrev_sides
    after_results
    rfl
  refine (Eq.trans (b := (shapeCast S1x1024 (s := S1024) (m ((c : Thread nD τ).loc main_arg1)) shapeCasts_S1024_S1x1024
    (ix2 (0 : Fin 1) b) : EReal)) ?_ (by pointwise)).trans (listed_at (N := 1024) (m ((c : Thread nD τ).loc main_arg1)) b)
  unfold iblk
  rw [show V m c (Pipeline.arrRef spec0 1) = _ from v]
  blk_ext [index_maps t]

theorem block_token (t : Fin cfg0.N) : (iblk m c 2 t (ix2 (0 : Fin 8) (0 : Fin 128)) : EReal) = (0 : EReal) := by
  have v : V m c main_v0 = broadcastInDim S8x128 ![] bcast_S_S8x128 (constant (F := Ideal) S_ .f32 0x00000000#32) := by
    unfold_abbrev_sides
    after_results
  refine Eq.trans (b := (broadcastInDim S8x128 ![] bcast_S_S8x128 (constant (F := Ideal) S_ .f32 0x00000000#32)
    (ix2 (0 : Fin 8) (0 : Fin 128)) : EReal)) ?_ (by pointwise)
  unfold iblk
  rw [show V m c (Pipeline.arrRef spec0 2) = _ from v]
  blk_ext [index_maps t]

theorem array : (dats m 0 c).arrAt 3 cfg0.N = normed (X m c) (Y m c) := by
  refine (dats m 0 c).arrAt_eq_of_covers 3 _ (by decide +kernel) fun t hf y => ?_
  obtain ⟨a, b, rfl⟩ : ∃ (a : Fin 512) (b : Fin 1024), y = ix2 a b := ⟨y 0, y 1, eq_ix2 y⟩
  refine ((congrFun (Value.flushed3 m c t) (ix2 a b)).trans (out_block _ _ _ a b)).trans ?_
  rw [block_token, add_zero]
  simp only [block_rows, block_gain]
  unfold normed
  blk_simp [index_maps t]
  rw [Nat.mul_comm 512]

theorem run_values (ρ : Dev nD → PrngReg) : θ_run defs (onTc (τ := τ) (main (F := Ideal))) ⟨m, fun _ => 0, ρ⟩ fun r => ∀ c : Dev nD,
    r.2.mem ((c : Thread nD τ).loc main_v2) = normed (X m c) (Y m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (array m c), (h c).2⟩) (Value.run_blocks m ρ)

end Cert.Kernel31Ideal.Hand

/-! ## The norm's gradients -/

namespace Cert.Kernel32Ideal.Hand

open Cert.Kernel32Ideal Cert.Kernel32Ideal.Gen

section
variable {F : FTy → Type} [FloatOps F]
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S256x1024 .f32) (h3 : a3.IsWhole)
  (a4 : Memref sig .tc .vmem S1x1024 .f32) (h4 : a4.IsWhole) (a5 : Memref sig .tc .vmem S256x1024 .f32) (h5 : a5.IsWhole)
  (a6 : Memref sig .tc .vmem S1x1024 .f32) (h6 : a6.IsWhole)
  (x0 x1 x2 : Vec F S256x1024 .f32) (x3 xo : Vec F S1x1024 .f32)

/-- The first point writes its rows' gradient, -/
theorem rows_first (hc0 : cond0_0 i) :
    out0_A_4 c i a1 h1 a2 h2 a3 h3 a4 h4 a5 h5 a6 h6 hc0 x0 x1 x2 x3 = k0_pay6 x0 x1 x2 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  sl_unfold_words
  rw [View.canon_unit_zero off_zero2]
  simp only [View.readAt_eq_ld, h1.read_unread, h2.read_unread, h3.read_unread, h4.read_unread,
    View.ld_unit_zero (S := S256x1024) off_zero2, View.ld_unit_zero (S := S1x1024) off_zero2]

/-- as do the others. -/
theorem rows_next (hc0 : ¬cond0_0 i) :
    out0_B_4 c i a1 h1 a2 h2 a3 h3 a4 h4 a5 h5 a6 h6 hc0 x0 x1 x2 x3 xo = k0_pay6 x0 x1 x2 x3 := by
  unfold out0_B_4
  rw [View.read_writes_eq_canon _ _ _ (cover0_B_4 c i a1 h1 a2 h2 a3 h3 a4 h4 a5 h5 a6 h6 hc0 x0 x1 x2 x3 xo)]
  unfold kernelRun0_B
  dsimp only
  sl_unfold_words
  rw [View.canon_unit_zero off_zero2]
  simp only [View.readAt_eq_ld, h1.read_unread, h2.read_unread, h3.read_unread, h4.read_unread,
    View.ld_unit_zero (S := S256x1024) off_zero2, View.ld_unit_zero (S := S1x1024) off_zero2]

/-- It clears the gain's gradient and adds its rows' part; -/
theorem gain_first (hc0 : cond0_0 i) :
    out0_A_5 c i a1 h1 a2 h2 a3 h3 a4 h4 a5 h5 a6 h6 hc0 x0 x1 x2 x3 = k0_pay2 (k0_pay5 x0 x1) k0_pay1 := by
  unfold out0_A_5
  rw [View.read_writes_eq_canon _ _ _ (cover0_A_5 c i a1 h1 a2 h2 a3 h3 a4 h4 a5 h5 a6 h6 hc0 x0 x1 x2 x3)]
  unfold kernelRun0_A
  dsimp only
  sl_unfold_words
  rw [View.canon_cons_unit_zero (S := S1x1024) off_zero2]
  simp only [View.readCov_unit_zero (S := S1x1024) _ off_zero2, View.readAt_eq_ld, h1.read_unread, h2.read_unread,
    View.ld_unit_zero (S := S256x1024) off_zero2, View.ld_unit_zero (S := S1x1024) off_zero2]

/-- the others add theirs. -/
theorem gain_next (hc0 : ¬cond0_0 i) :
    out0_B_5 c i a1 h1 a2 h2 a3 h3 a4 h4 a5 h5 a6 h6 hc0 x0 x1 x2 x3 xo = k0_pay2 (k0_pay5 x0 x1) xo := by
  unfold out0_B_5
  rw [View.read_writes_eq_canon _ _ _ (cover0_B_5 c i a1 h1 a2 h2 a3 h3 a4 h4 a5 h5 a6 h6 hc0 x0 x1 x2 x3 xo)]
  unfold kernelRun0_B
  dsimp only
  sl_unfold_words
  rw [View.canon_unit_zero off_zero2]
  simp only [View.readAt_eq_ld, h1.read_unread, h2.read_unread, h6.read_unread,
    View.ld_unit_zero (S := S256x1024) off_zero2, View.ld_unit_zero (S := S1x1024) off_zero2]
end

theorem index_maps : ∀ t : Fin cfg0.N, (cfg0.win 0).index t = ![t.val, 0] ∧ (cfg0.win 1).index t = ![t.val, 0] ∧
    (cfg0.win 2).index t = ![t.val, 0] ∧ (cfg0.win 3).index t = ![0, 0] ∧ (cfg0.win 4).index t = ![t.val, 0] ∧
    (cfg0.win 5).index t = ![0, 0] := by
  decide +kernel

theorem flush_last : ∀ t : Fin cfg0.N, (cfg0.win 5).flush t = true → t.val % 16 + 1 = 16 := by
  decide +kernel

theorem rows_at (x d y : FVec Ideal S256x1024 .f32) (g : FVec Ideal S1x1024 .f32) (p q r : ℕ → EReal) (a : Fin 256)
    (hx : ∀ k : Fin 1024, (x (ix2 a k) : EReal) = p k) (hd : ∀ k : Fin 1024, (d (ix2 a k) : EReal) = q k)
    (hg : ∀ k : Fin 1024, (g (ix2 (0 : Fin 1) k) : EReal) = r k) (b : Fin 1024) :
    (k0_pay6 (F := Ideal) x d y g (ix2 a b) : EReal) =
      y (ix2 a b) + (q b * r b * Ideal.rsqrt (square p) + p b * pull p q r + pull p q r * p b) := by
  unfold pull square
  simp only [← hx, ← hd, ← hg]
  unfold k0_pay6 k0_pay4 k0_pay3
  pointwise
  simp only [Fin.sum_univ_one]

theorem gain_at (x d : FVec Ideal S256x1024 .f32) (o : FVec Ideal S1x1024 .f32) (b : Fin 1024) :
    (k0_pay2 (F := Ideal) (k0_pay5 x d) o (ix2 (0 : Fin 1) b) : EReal) = o (ix2 (0 : Fin 1) b) + ∑ a : Fin 256,
      x (ix2 a b) * Ideal.rsqrt (Ideal.div (∑ k : Fin 1024, x (ix2 a k) * x (ix2 a k)) (Ideal.ofBits FTy.f32 0x44800000#32)
        + Ideal.ofBits FTy.f32 0x358637BD#32) * d (ix2 a b) := by
  unfold k0_pay2 k0_pay5 k0_pay4 k0_pay3
  pointwise

variable (m : (ℓ : Loc nD τ sig) → Buf (Elt Ideal) ℓ) (c : Dev nD)

/-- The rows, the gradient of what the norm gives, the gradient past the block, and the gain. -/
abbrev X : ℕ → ℕ → EReal := entry (R := 4096) (C := 1024) (m ((c : Thread nD τ).loc main_arg0))
abbrev D : ℕ → ℕ → EReal := entry (R := 4096) (C := 1024) (m ((c : Thread nD τ).loc main_arg1))
abbrev P : ℕ → ℕ → EReal := entry (R := 4096) (C := 1024) (m ((c : Thread nD τ).loc main_arg2))
abbrev Y : ℕ → EReal := listed (N := 1024) (m ((c : Thread nD τ).loc main_arg3))

theorem block_rows (t : Fin cfg0.N) (a : Fin 256) (b : Fin 1024) : (iblk m c 0 t (ix2 a b) : EReal) = X m c (256 * t.val + a) b := by
  have hN : t.val < 16 := lt_of_lt_of_eq t.isLt N_0
  refine Eq.trans ?_ (entry_at (R := 4096) (C := 1024) (m ((c : Thread nD τ).loc main_arg0)) ⟨256 * t.val + a, by omega⟩ b)
  unfold iblk
  rw [show V m c (Pipeline.arrRef spec0 0) = _ from V_main_arg0 m c]
  blk_ext [index_maps t]

theorem block_gradient (t : Fin cfg0.N) (a : Fin 256) (b : Fin 1024) :
    (iblk m c 1 t (ix2 a b) : EReal) = D m c (256 * t.val + a) b := by
  have hN : t.val < 16 := lt_of_lt_of_eq t.isLt N_0
  refine Eq.trans ?_ (entry_at (R := 4096) (C := 1024) (m ((c : Thread nD τ).loc main_arg1)) ⟨256 * t.val + a, by omega⟩ b)
  unfold iblk
  rw [show V m c (Pipeline.arrRef spec0 1) = _ from V_main_arg1 m c]
  blk_ext [index_maps t]

theorem block_past (t : Fin cfg0.N) (a : Fin 256) (b : Fin 1024) : (iblk m c 2 t (ix2 a b) : EReal) = P m c (256 * t.val + a) b := by
  have hN : t.val < 16 := lt_of_lt_of_eq t.isLt N_0
  refine Eq.trans ?_ (entry_at (R := 4096) (C := 1024) (m ((c : Thread nD τ).loc main_arg2)) ⟨256 * t.val + a, by omega⟩ b)
  unfold iblk
  rw [show V m c (Pipeline.arrRef spec0 2) = _ from V_main_arg2 m c]
  blk_ext [index_maps t]

theorem block_gain (t : Fin cfg0.N) (b : Fin 1024) : (iblk m c 3 t (ix2 (0 : Fin 1) b) : EReal) = Y m c b := by
  have v : V m c main_v0 = shapeCast S1x1024 (s := S1024) (m ((c : Thread nD τ).loc main_arg3)) shapeCasts_S1024_S1x1024 := by
    unfold_abbrev_sides
    after_results
    rfl
  refine (Eq.trans (b := (shapeCast S1x1024 (s := S1024) (m ((c : Thread nD τ).loc main_arg3)) shapeCasts_S1024_S1x1024
    (ix2 (0 : Fin 1) b) : EReal)) ?_ (by pointwise)).trans (listed_at (N := 1024) (m ((c : Thread nD τ).loc main_arg3)) b)
  unfold iblk
  rw [show V m c (Pipeline.arrRef spec0 3) = _ from v]
  blk_ext [index_maps t]

theorem rows_point (t : Fin cfg0.N) :
    (outsAt0 m c t.val t.isLt).1 = k0_pay6 (iblk m c 0 t) (iblk m c 1 t) (iblk m c 2 t) (iblk m c 3 t) := by
  by_cases e : t.val % 16 = 0
  · rw [outsAt0_A m c t e]
    dsimp only
    rw [rows_first]
  · rw [outsAt0_B m c t e]
    dsimp only
    rw [rows_next]

theorem gain_last (t : Fin cfg0.N) (l : t.val % 16 + 1 = 16) (b : Fin 1024) :
    ((outsAt0 m c t.val t.isLt).2 (ix2 (0 : Fin 1) b) : EReal) =
      ∑ r : Fin 4096, X m c r b * Ideal.rsqrt (square (X m c r)) * D m c r b := by
  refine sum_points (p := 16) (b := 256) (by decide) (z := k0_pay1) (s := fun n h => (outsAt0 m c n h).2)
    (step := fun t acc => k0_pay2 (k0_pay5 (iblk m c 0 t) (iblk m c 1 t)) acc)
    (f := fun _ r => X m c r b * Ideal.rsqrt (square (X m c r)) * D m c r b)
    (by unfold k0_pay1; pointwise) (fun t acc => ?_) (fun n h e => ?_) (fun n h e => ?_) t l
  · have hN : t.val < 16 := lt_of_lt_of_eq t.isLt N_0
    rw [gain_at, Nat.mod_eq_of_lt hN]
    unfold square
    simp only [block_rows, block_gradient]
  · rw [outsAt0_A m c ⟨n, h⟩ e]
    dsimp only
    rw [gain_first]
  · rw [outsAt0_B m c ⟨n + 1, h⟩ e]
    dsimp only
    rw [gain_next]
    rfl

theorem rows_array : (dats m 0 c).arrAt 4 cfg0.N = inputGradient (X m c) (D m c) (P m c) (Y m c) := by
  refine (dats m 0 c).arrAt_eq_of_covers 4 _ (by decide +kernel) fun t hf y => ?_
  obtain ⟨a, b, rfl⟩ : ∃ (a : Fin 256) (b : Fin 1024), y = ix2 a b := ⟨y 0, y 1, eq_ix2 y⟩
  refine (congrFun (Value.flushed4 m c t) (ix2 a b)).trans ((congrFun (rows_point m c t) (ix2 a b)).trans
    ((rows_at _ _ _ _ _ _ _ a (block_rows m c t a) (block_gradient m c t a) (block_gain m c t) b).trans ?_))
  rw [block_past]
  unfold inputGradient
  blk_simp [index_maps t]
  rw [Nat.mul_comm 256]

theorem gain_array : (dats m 0 c).arrAt 5 cfg0.N = gainGradient (X m c) (D m c) := by
  refine (dats m 0 c).arrAt_eq_of_covers 5 _ (by decide +kernel) fun t hf y => ?_
  obtain ⟨a, b, rfl⟩ : ∃ (a : Fin 1) (b : Fin 1024), y = ix2 a b := ⟨y 0, y 1, eq_ix2 y⟩
  obtain rfl : a = 0 := Subsingleton.elim _ _
  refine (congrFun (Value.flushed5 m c t) (ix2 0 b)).trans ((gain_last m c t (flush_last t hf) b).trans ?_)
  unfold gainGradient
  blk_simp [index_maps t]

theorem run_values (ρ : Dev nD → PrngReg) : θ_run defs (onTc (τ := τ) (main (F := Ideal))) ⟨m, fun _ => 0, ρ⟩ fun r => ∀ c : Dev nD,
    r.2.mem ((c : Thread nD τ).loc main_v1_0) = inputGradient (X m c) (D m c) (P m c) (Y m c)
    ∧ r.2.mem ((c : Thread nD τ).loc main_v1_1) = gainGradient (X m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (rows_array m c), (h c).2.1.trans (gain_array m c), (h c).2.2⟩)
    (Value.run_blocks m ρ)

end Cert.Kernel32Ideal.Hand

namespace Cert.Reference32Ideal.Hand

open Cert.Reference32Ideal Cert.Reference32Ideal.Facts₀

section
variable (x d y : FVec Ideal S4096x1024 .f32) (g : FVec Ideal S1024 .f32)

/-- The means of the rows' squares, plus the small constant. -/
abbrev squares : FVec Ideal S4096x1 .f32 :=
  addf (Host.divf (broadcastInDim S4096x1 ![0] bcast_S4096_S4096x1_0
      (Host.reduceAdd (mulf x x) (constant S_ .f32 0x00000000#32) reducesTo_S4096x1024_S4096_d1 h_S_))
      (broadcastInDim S4096x1 ![] bcast_S_S4096x1 (constant S_ .f32 0x44800000#32)))
    (broadcastInDim S4096x1 ![] bcast_S_S4096x1 (constant S_ .f32 0x358637BD#32))

/-- The gradient times the gain. -/
abbrev gained : FVec Ideal S4096x1024 .f32 :=
  mulf d (broadcastInDim S4096x1024 ![0, 1] bcast_S1x1024_S4096x1024_0_1 (broadcastInDim S1x1024 ![1] bcast_S1024_S1x1024_1 g))

/-- The means' gradients over the number of entries. -/
abbrev pulls : FVec Ideal S4096 .f32 :=
  Host.reduceAdd (Host.divf (mulf (shapeCast S4096x1 (Host.reduceAdd (mulf x (gained d g)) (constant S_ .f32 0x00000000#32)
      reducesTo_S4096x1024_S4096_d1 h_S_) shapeCasts_S4096_S4096x1)
      (mulf (broadcastInDim S4096x1 ![] bcast_S_S4096x1 (constant S_ .f32 0xBF000000#32))
        (Host.divf (Host.rsqrt (squares x)) (squares x))))
    (broadcastInDim S4096x1 ![] bcast_S_S4096x1 (constant S_ .f32 0x44800000#32)))
    (constant S_ .f32 0x00000000#32) reducesTo_S4096x1_S4096_d1 h_S_

theorem squares_at (a : Fin 4096) : (squares x (ix2 a (0 : Fin 1)) : EReal) = square (entry (R := 4096) (C := 1024) x a) := by
  unfold square
  simp only [← entry_at (R := 4096) (C := 1024) x]
  unfold squares
  pointwise

theorem gained_at (a : Fin 4096) (b : Fin 1024) :
    (gained d g (ix2 a b) : EReal) = entry (R := 4096) (C := 1024) d a b * listed (N := 1024) g b := by
  rw [← entry_at (R := 4096) (C := 1024) d, ← listed_at (N := 1024) g]
  unfold gained
  pointwise

theorem pulls_at (a : Fin 4096) : (pulls x d g (ix1 a) : EReal) =
    pull (entry (R := 4096) (C := 1024) x a) (entry (R := 4096) (C := 1024) d a) (listed (N := 1024) g) := by
  unfold pull
  rw [← squares_at]
  simp only [← gained_at, ← entry_at (R := 4096) (C := 1024) x]
  unfold pulls
  generalize squares x = s
  generalize gained d g = e
  pointwise
  rw [Fin.sum_univ_one]

theorem input_eq : addf (F := Ideal) y (addf (addf (mulf (gained d g)
      (broadcastInDim S4096x1024 ![0, 1] bcast_S4096x1_S4096x1024_0_1 (Host.rsqrt (squares x))))
      (mulf x (broadcastInDim S4096x1024 ![0] bcast_S4096_S4096x1024_0 (pulls x d g))))
      (mulf (broadcastInDim S4096x1024 ![0] bcast_S4096_S4096x1024_0 (pulls x d g)) x)) =
    inputGradient (entry (R := 4096) (C := 1024) x) (entry (R := 4096) (C := 1024) d) (entry (R := 4096) (C := 1024) y)
      (listed (N := 1024) g) := by
  funext i
  obtain ⟨a, b, rfl⟩ : ∃ (a : Fin 4096) (b : Fin 1024), i = ix2 a b := ⟨i 0, i 1, eq_ix2 i⟩
  refine Eq.trans (b := y (ix2 a b) + (gained d g (ix2 a b) * Ideal.rsqrt (squares x (ix2 a (0 : Fin 1)))
    + x (ix2 a b) * pulls x d g (ix1 a) + pulls x d g (ix1 a) * x (ix2 a b))) ?_ ?_
  · generalize pulls x d g = p
    generalize squares x = s
    generalize gained d g = e
    pointwise
  · rw [pulls_at, squares_at, gained_at, entry_at (R := 4096) (C := 1024) x, entry_at (R := 4096) (C := 1024) y]
    rfl

theorem gain_eq : shapeCast S1x1024 (Host.reduceAdd (F := Ideal) (shapeCast S1x1024 (Host.reduceAdd (mulf (mulf x
      (broadcastInDim S4096x1024 ![0, 1] bcast_S4096x1_S4096x1024_0_1 (Host.rsqrt (squares x)))) d)
      (constant S_ .f32 0x00000000#32) reducesTo_S4096x1024_S1024_d0 h_S_) shapeCasts_S1024_S1x1024)
      (constant S_ .f32 0x00000000#32) reducesTo_S1x1024_S1024_d0 h_S_) shapeCasts_S1024_S1x1024 =
    gainGradient (entry (R := 4096) (C := 1024) x) (entry (R := 4096) (C := 1024) d) := by
  funext i
  obtain ⟨a, b, rfl⟩ : ∃ (a : Fin 1) (b : Fin 1024), i = ix2 a b := ⟨i 0, i 1, eq_ix2 i⟩
  refine Eq.trans (b := ∑ r : Fin 4096, x (ix2 r b) * Ideal.rsqrt (squares x (ix2 r (0 : Fin 1))) * d (ix2 r b)) ?_ ?_
  · generalize squares x = s
    pointwise
    rw [Fin.sum_univ_one]
  · simp only [squares_at, entry_at (R := 4096) (C := 1024) x, entry_at (R := 4096) (C := 1024) d]
    rfl
end

end Cert.Reference32Ideal.Hand

end
-- ==== Proof.MixNormGradientValue.lean ====
/- The gradients of the mixer's norm, of its rows and of its gain. -/
module

public import proofs.«01_k».proof.Proof.NormsValue
public import proofs.«01_k».proof.Proof.Gen.Kernel34Ideal.Value

@[expose] public section

set_option maxRecDepth 16384

noncomputable section

open Idealize.ShloMosaic Idealize.ShloMosaic.TcCoe Idealize.SL.Sem

open Cert.Ffn

namespace Cert.Kernel34Ideal.Hand

open Cert.Kernel34Ideal Cert.Kernel34Ideal.Gen

section
variable {F : FTy → Type} [FloatOps F]
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S256x1024 .f32) (h3 : a3.IsWhole)
  (a4 : Memref sig .tc .vmem S1x1024 .f32) (h4 : a4.IsWhole) (a5 : Memref sig .tc .vmem S8x128 .f32) (h5 : a5.IsWhole)
  (a6 : Memref sig .tc .vmem S256x1024 .f32) (h6 : a6.IsWhole) (a7 : Memref sig .tc .vmem S1x1024 .f32) (h7 : a7.IsWhole)
  (x0 x1 x2 : Vec F S256x1024 .f32) (x3 xo : Vec F S1x1024 .f32) (x4 : Vec F S8x128 .f32)

/-- The first point writes its rows' gradient, the token's zero added, -/
theorem rows_first (hc0 : cond0_0 i) : out0_A_5 c i a1 h1 a2 h2 a3 h3 a4 h4 a5 h5 a6 h6 a7 h7 hc0 x0 x1 x2 x3 x4 =
    k0_pay1 (k0_pay4 x4) (k0_pay8 x0 x1 x2 x3) := by
  unfold out0_A_5
  rw [View.read_writes_eq_canon _ _ _ (cover0_A_5 c i a1 h1 a2 h2 a3 h3 a4 h4 a5 h5 a6 h6 a7 h7 hc0 x0 x1 x2 x3 x4)]
  unfold kernelRun0_A
  dsimp only
  sl_unfold_words
  rw [View.canon_unit_zero off_zero2]
  simp only [View.readAt_eq_ld, h1.read_unread, h2.read_unread, h3.read_unread, h4.read_unread, h5.read_unread,
    View.ld_unit_zero (S := S256x1024) off_zero2, View.ld_unit_zero (S := S1x1024) off_zero2,
    View.ld_unit_zero (S := S8x128) off_zero2]

/-- clears the gain's gradient and adds its rows' part; -/
theorem gain_first (hc0 : cond0_0 i) : out0_A_6 c i a1 h1 a2 h2 a3 h3 a4 h4 a5 h5 a6 h6 a7 h7 hc0 x0 x1 x2 x3 x4 =
    k0_pay3 (k0_pay7 x0 x1) k0_pay2 := by
  unfold out0_A_6
  rw [View.read_writes_eq_canon _ _ _ (cover0_A_6 c i a1 h1 a2 h2 a3 h3 a4 h4 a5 h5 a6 h6 a7 h7 hc0 x0 x1 x2 x3 x4)]
  unfold kernelRun0_A
  dsimp only
  sl_unfold_words
  rw [View.canon_cons_unit_zero (S := S1x1024) off_zero2]
  simp only [View.readCov_unit_zero (S := S1x1024) _ off_zero2, View.readAt_eq_ld, h1.read_unread, h2.read_unread,
    View.ld_unit_zero (S := S256x1024) off_zero2]

/-- the others write theirs -/
theorem rows_next (hc0 : ¬cond0_0 i) : out0_B_5 c i a1 h1 a2 h2 a3 h3 a4 h4 a5 h5 a6 h6 a7 h7 hc0 x0 x1 x2 x3 x4 xo =
    k0_pay1 (k0_pay4 x4) (k0_pay8 x0 x1 x2 x3) := by
  unfold out0_B_5
  rw [View.read_writes_eq_canon _ _ _ (cover0_B_5 c i a1 h1 a2 h2 a3 h3 a4 h4 a5 h5 a6 h6 a7 h7 hc0 x0 x1 x2 x3 x4 xo)]
  unfold kernelRun0_B
  dsimp only
  sl_unfold_words
  rw [View.canon_unit_zero off_zero2]
  simp only [View.readAt_eq_ld, h1.read_unread, h2.read_unread, h3.read_unread, h4.read_unread, h5.read_unread,
    View.ld_unit_zero (S := S256x1024) off_zero2, View.ld_unit_zero (S := S1x1024) off_zero2,
    View.ld_unit_zero (S := S8x128) off_zero2]

/-- and add their rows' part. -/
theorem gain_next (hc0 : ¬cond0_0 i) : out0_B_6 c i a1 h1 a2 h2 a3 h3 a4 h4 a5 h5 a6 h6 a7 h7 hc0 x0 x1 x2 x3 x4 xo =
    k0_pay3 (k0_pay7 x0 x1) xo := by
  unfold out0_B_6
  rw [View.read_writes_eq_canon _ _ _ (cover0_B_6 c i a1 h1 a2 h2 a3 h3 a4 h4 a5 h5 a6 h6 a7 h7 hc0 x0 x1 x2 x3 x4 xo)]
  unfold kernelRun0_B
  dsimp only
  sl_unfold_words
  rw [View.canon_unit_zero off_zero2]
  simp only [View.readAt_eq_ld, h1.read_unread, h2.read_unread, h7.read_unread, View.ld_unit_zero (S := S256x1024) off_zero2,
    View.ld_unit_zero (S := S1x1024) off_zero2]
end

theorem index_maps : ∀ t : Fin cfg0.N, (cfg0.win 0).index t = ![t.val, 0] ∧ (cfg0.win 1).index t = ![t.val, 0] ∧
    (cfg0.win 2).index t = ![t.val, 0] ∧ (cfg0.win 3).index t = ![0, 0] ∧ (cfg0.win 4).index t = ![0, 0] ∧
    (cfg0.win 5).index t = ![t.val, 0] ∧ (cfg0.win 6).index t = ![0, 0] := by
  decide +kernel

theorem flush_last : ∀ t : Fin cfg0.N, (cfg0.win 6).flush t = true → t.val % 16 + 1 = 16 := by
  decide +kernel

/-- The rows' gradient is computed as the feed-forward norm's is. -/
theorem rows_same (x d y : Vec Ideal S256x1024 .f32) (g : Vec Ideal S1x1024 .f32) :
    k0_pay8 (F := Ideal) x d y g = Cert.Kernel32Ideal.Gen.k0_pay6 (F := Ideal) x d y g := rfl

theorem gain_same (x d : Vec Ideal S256x1024 .f32) (o : Vec Ideal S1x1024 .f32) :
    k0_pay3 (F := Ideal) (k0_pay7 x d) o = Cert.Kernel32Ideal.Gen.k0_pay2 (F := Ideal) (Cert.Kernel32Ideal.Gen.k0_pay5 x d) o := rfl

theorem token_at (z : Vec Ideal S8x128 .f32) (y : Vec Ideal S256x1024 .f32) (a : Fin 256) (b : Fin 1024) :
    (k0_pay1 (F := Ideal) (k0_pay4 z) y (ix2 a b) : EReal) = y (ix2 a b) + z (ix2 (0 : Fin 8) (0 : Fin 128)) := by
  unfold k0_pay1 k0_pay4
  pointwise

variable (m : (ℓ : Loc nD τ sig) → Buf (Elt Ideal) ℓ) (c : Dev nD)

abbrev X : ℕ → ℕ → EReal := entry (R := 4096) (C := 1024) (m ((c : Thread nD τ).loc main_arg0))
abbrev D : ℕ → ℕ → EReal := entry (R := 4096) (C := 1024) (m ((c : Thread nD τ).loc main_arg1))
abbrev P : ℕ → ℕ → EReal := entry (R := 4096) (C := 1024) (m ((c : Thread nD τ).loc main_arg2))
abbrev Y : ℕ → EReal := listed (N := 1024) (m ((c : Thread nD τ).loc main_arg3))

theorem block_rows (t : Fin cfg0.N) (a : Fin 256) (b : Fin 1024) : (iblk m c 0 t (ix2 a b) : EReal) = X m c (256 * t.val + a) b := by
  have hN : t.val < 16 := lt_of_lt_of_eq t.isLt N_0
  refine Eq.trans ?_ (entry_at (R := 4096) (C := 1024) (m ((c : Thread nD τ).loc main_arg0)) ⟨256 * t.val + a, by omega⟩ b)
  unfold iblk
  rw [show V m c (Pipeline.arrRef spec0 0) = _ from V_main_arg0 m c]
  blk_ext [index_maps t]

theorem block_gradient (t : Fin cfg0.N) (a : Fin 256) (b : Fin 1024) :
    (iblk m c 1 t (ix2 a b) : EReal) = D m c (256 * t.val + a) b := by
  have hN : t.val < 16 := lt_of_lt_of_eq t.isLt N_0
  refine Eq.trans ?_ (entry_at (R := 4096) (C := 1024) (m ((c : Thread nD τ).loc main_arg1)) ⟨256 * t.val + a, by omega⟩ b)
  unfold iblk
  rw [show V m c (Pipeline.arrRef spec0 1) = _ from V_main_arg1 m c]
  blk_ext [index_maps t]

theorem block_past (t : Fin cfg0.N) (a : Fin 256) (b : Fin 1024) : (iblk m c 2 t (ix2 a b) : EReal) = P m c (256 * t.val + a) b := by
  have hN : t.val < 16 := lt_of_lt_of_eq t.isLt N_0
  refine Eq.trans ?_ (entry_at (R := 4096) (C := 1024) (m ((c : Thread nD τ).loc main_arg2)) ⟨256 * t.val + a, by omega⟩ b)
  unfold iblk
  rw [show V m c (Pipeline.arrRef spec0 2) = _ from V_main_arg2 m c]
  blk_ext [index_maps t]

theorem block_gain (t : Fin cfg0.N) (b : Fin 1024) : (iblk m c 3 t (ix2 (0 : Fin 1) b) : EReal) = Y m c b := by
  have v : V m c main_v1 = shapeCast S1x1024 (s := S1024) (m ((c : Thread nD τ).loc main_arg3)) shapeCasts_S1024_S1x1024 := by
    unfold_abbrev_sides
    after_results
    rfl
  refine (Eq.trans (b := (shapeCast S1x1024 (s := S1024) (m ((c : Thread nD τ).loc main_arg3)) shapeCasts_S1024_S1x1024
    (ix2 (0 : Fin 1) b) : EReal)) ?_ (by pointwise)).trans (listed_at (N := 1024) (m ((c : Thread nD τ).loc main_arg3)) b)
  unfold iblk
  rw [show V m c (Pipeline.arrRef spec0 3) = _ from v]
  blk_ext [index_maps t]

/-- The token is zero. -/
theorem block_token (t : Fin cfg0.N) : (iblk m c 4 t (ix2 (0 : Fin 8) (0 : Fin 128)) : EReal) = (0 : EReal) := by
  have v : V m c main_v0 = broadcastInDim S8x128 ![] bcast_S_S8x128 (constant (F := Ideal) S_ .f32 0x00000000#32) := by
    unfold_abbrev_sides
    after_results
  refine Eq.trans (b := (broadcastInDim S8x128 ![] bcast_S_S8x128 (constant (F := Ideal) S_ .f32 0x00000000#32)
    (ix2 (0 : Fin 8) (0 : Fin 128)) : EReal)) ?_ (by pointwise)
  unfold iblk
  rw [show V m c (Pipeline.arrRef spec0 4) = _ from v]
  blk_ext [index_maps t]

theorem rows_point (t : Fin cfg0.N) : (outsAt0 m c t.val t.isLt).1 =
    k0_pay1 (k0_pay4 (iblk m c 4 t)) (k0_pay8 (iblk m c 0 t) (iblk m c 1 t) (iblk m c 2 t) (iblk m c 3 t)) := by
  by_cases e : t.val % 16 = 0
  · rw [outsAt0_A m c t e]
    dsimp only
    rw [rows_first]
  · rw [outsAt0_B m c t e]
    dsimp only
    rw [rows_next]

theorem gain_last (t : Fin cfg0.N) (l : t.val % 16 + 1 = 16) (b : Fin 1024) :
    ((outsAt0 m c t.val t.isLt).2 (ix2 (0 : Fin 1) b) : EReal) =
      ∑ r : Fin 4096, X m c r b * Ideal.rsqrt (square (X m c r)) * D m c r b := by
  refine sum_points (p := 16) (b := 256) (by decide) (z := k0_pay2) (s := fun n h => (outsAt0 m c n h).2)
    (step := fun t acc => k0_pay3 (k0_pay7 (iblk m c 0 t) (iblk m c 1 t)) acc)
    (f := fun _ r => X m c r b * Ideal.rsqrt (square (X m c r)) * D m c r b)
    (by unfold k0_pay2; pointwise) (fun t acc => ?_) (fun n h e => ?_) (fun n h e => ?_) t l
  · have hN : t.val < 16 := lt_of_lt_of_eq t.isLt N_0
    rw [gain_same, Cert.Kernel32Ideal.Hand.gain_at, Nat.mod_eq_of_lt hN]
    unfold square
    simp only [block_rows, block_gradient]
  · rw [outsAt0_A m c ⟨n, h⟩ e]
    dsimp only
    rw [gain_first]
  · rw [outsAt0_B m c ⟨n + 1, h⟩ e]
    dsimp only
    rw [gain_next]
    rfl

theorem rows_array : (dats m 0 c).arrAt 5 cfg0.N = inputGradient (X m c) (D m c) (P m c) (Y m c) := by
  refine (dats m 0 c).arrAt_eq_of_covers 5 _ (by decide +kernel) fun t hf y => ?_
  obtain ⟨a, b, rfl⟩ : ∃ (a : Fin 256) (b : Fin 1024), y = ix2 a b := ⟨y 0, y 1, eq_ix2 y⟩
  refine (congrFun (Value.flushed5 m c t) (ix2 a b)).trans ((congrFun (rows_point m c t) (ix2 a b)).trans ?_)
  rw [token_at, block_token, add_zero, rows_same]
  refine (Cert.Kernel32Ideal.Hand.rows_at _ _ _ _ _ _ _ a (block_rows m c t a) (block_gradient m c t a) (block_gain m c t) b).trans ?_
  rw [block_past]
  unfold inputGradient
  blk_simp [index_maps t]
  rw [Nat.mul_comm 256]

theorem gain_array : (dats m 0 c).arrAt 6 cfg0.N = gainGradient (X m c) (D m c) := by
  refine (dats m 0 c).arrAt_eq_of_covers 6 _ (by decide +kernel) fun t hf y => ?_
  obtain ⟨a, b, rfl⟩ : ∃ (a : Fin 1) (b : Fin 1024), y = ix2 a b := ⟨y 0, y 1, eq_ix2 y⟩
  obtain rfl : a = 0 := Subsingleton.elim _ _
  refine (congrFun (Value.flushed6 m c t) (ix2 0 b)).trans ((gain_last m c t (flush_last t hf) b).trans ?_)
  unfold gainGradient
  blk_simp [index_maps t]

theorem run_values (ρ : Dev nD → PrngReg) : θ_run defs (onTc (τ := τ) (main (F := Ideal))) ⟨m, fun _ => 0, ρ⟩ fun r => ∀ c : Dev nD,
    r.2.mem ((c : Thread nD τ).loc main_v2_0) = inputGradient (X m c) (D m c) (P m c) (Y m c)
    ∧ r.2.mem ((c : Thread nD τ).loc main_v2_1) = gainGradient (X m c) (D m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (rows_array m c), (h c).2.1.trans (gain_array m c), (h c).2.2⟩)
    (Value.run_blocks m ρ)

end Cert.Kernel34Ideal.Hand

end
-- ==== Proof.MergeGradientValue.lean ====
/- The gradients of the merge of the mixer's branches: of the gate, of both branches and of the gate's bias. -/
module

public import proofs.«01_k».proof.Proof.NormMergeValue
public import proofs.«01_k».proof.Proof.Gen.Kernel33Ideal.Value
public import proofs.«01_k».proof.Proof.Gen.Reference33Ideal.Run
public import Idealize.ShloMosaic.Lib.Pipeline.ValueKit
public import Idealize.ShloMosaic.Lib.Pipeline.ReadBack
public import Idealize.ShloMosaic.Lib.Tactic.CleanTypes

@[expose] public section

set_option maxRecDepth 16384

noncomputable section

open Idealize.ShloMosaic Idealize.ShloMosaic.TcCoe Idealize.SL.Sem

namespace Cert.Ffn

/-- The gate of a row and a column. -/
def gate (p : ℕ → ℕ → EReal) (g : ℕ → EReal) (r j : ℕ) : EReal := Ideal.logistic (p r j + g j)

/-- The gradient of what a gate multiplies: the first branch's columns, then the second's. -/
def gated (u v d : ℕ → ℕ → EReal) (r j : ℕ) : EReal := if j < 1024 then d r j * u r j else d r (j - 1024) * v r (j - 1024)

/-- The gradient of a gate before its logistic. -/
def slanted (p u v d : ℕ → ℕ → EReal) (g : ℕ → EReal) (r j : ℕ) : EReal := gated u v d r j * (gate p g r j * (1 - gate p g r j))

def gateGradient (p u v d : ℕ → ℕ → EReal) (g : ℕ → EReal) : (⟨2, ![4096, 2048]⟩ : Shape).Idx → EReal := fun i =>
  slanted p u v d g (i 0).val (i 1).val

/-- The bias's gradient, a sum over the rows. -/
def biasGradient (p u v d : ℕ → ℕ → EReal) (g : ℕ → EReal) : (⟨2, ![1, 2048]⟩ : Shape).Idx → EReal := fun i =>
  ∑ r : Fin 4096, slanted p u v d g r (i 1).val

/-- The branches' gradients. -/
def firstGradient (p d : ℕ → ℕ → EReal) (g : ℕ → EReal) : (⟨2, ![4096, 1024]⟩ : Shape).Idx → EReal := fun i =>
  gate p g (i 0).val (i 1).val * d (i 0).val (i 1).val

def secondGradient (p d : ℕ → ℕ → EReal) (g : ℕ → EReal) : (⟨2, ![4096, 1024]⟩ : Shape).Idx → EReal := fun i =>
  gate p g (i 0).val (1024 + (i 1).val) * d (i 0).val (i 1).val

end Cert.Ffn

open Cert.Ffn

namespace Cert.Kernel33Ideal.Hand

open Cert.Kernel33Ideal Cert.Kernel33Ideal.Gen

section
variable {F : FTy → Type} [FloatOps F]
variable (c : Dev nD) (i : grid0.Coords) (a1 : Memref sig .tc .vmem S256x2048 .f32) (h1 : a1.IsWhole)
  (a2 : Memref sig .tc .vmem S256x1024 .f32) (h2 : a2.IsWhole) (a3 : Memref sig .tc .vmem S256x1024 .f32) (h3 : a3.IsWhole)
  (a4 : Memref sig .tc .vmem S256x1024 .f32) (h4 : a4.IsWhole) (a5 : Memref sig .tc .vmem S1x2048 .f32) (h5 : a5.IsWhole)
  (a6 : Memref sig .tc .vmem S256x2048 .bf16) (h6 : a6.IsWhole) (a7 : Memref sig .tc .vmem S256x1024 .bf16) (h7 : a7.IsWhole)
  (a8 : Memref sig .tc .vmem S256x1024 .bf16) (h8 : a8.IsWhole) (a9 : Memref sig .tc .vmem S1x2048 .f32) (h9 : a9.IsWhole)
  (x0 : Vec F S256x2048 .f32) (x1 x2 x3 : Vec F S256x1024 .f32) (x4 xo : Vec F S1x2048 .f32)

/-- The first point writes the gradients of its rows' gates and branches, -/
theorem gate_first (hc0 : cond0_0 i) :
    out0_A_5 c i a1 h1 a2 h2 a3 h3 a4 h4 a5 h5 a6 h6 a7 h7 a8 h8 a9 h9 hc0 x0 x1 x2 x3 x4 = k0_pay8 x0 x1 x2 x3 x4 := by
  unfold out0_A_5
  rw [View.read_writes_eq_canon _ _ _ (cover0_A_5 c i a1 h1 a2 h2 a3 h3 a4 h4 a5 h5 a6 h6 a7 h7 a8 h8 a9 h9 hc0 x0 x1 x2 x3 x4)]
  unfold kernelRun0_A
  dsimp only
  sl_unfold_words
  rw [View.canon_unit_zero off_zero2]
  simp only [View.readAt_eq_ld, h1.read_unread, h2.read_unread, h3.read_unread, h4.read_unread, h5.read_unread,
    View.ld_unit_zero (S := S256x2048) off_zero2, View.ld_unit_zero (S := S256x1024) off_zero2,
    View.ld_unit_zero (S := S1x2048) off_zero2]

theorem branch_first (hc0 : cond0_0 i) :
    out0_A_6 c i a1 h1 a2 h2 a3 h3 a4 h4 a5 h5 a6 h6 a7 h7 a8 h8 a9 h9 hc0 x0 x1 x2 x3 x4 = k0_pay9 x0 x3 x4 := by
  unfold out0_A_6
  rw [View.read_writes_eq_canon _ _ _ (cover0_A_6 c i a1 h1 a2 h2 a3 h3 a4 h4 a5 h5 a6 h6 a7 h7 a8 h8 a9 h9 hc0 x0 x1 x2 x3 x4)]
  unfold kernelRun0_A
  dsimp only
  sl_unfold_words
  rw [View.canon_unit_zero off_zero2]
  simp only [View.readAt_eq_ld, h1.read_unread, h4.read_unread, h5.read_unread, View.ld_unit_zero (S := S256x2048) off_zero2,
    View.ld_unit_zero (S := S256x1024) off_zero2, View.ld_unit_zero (S := S1x2048) off_zero2]

theorem second_first (hc0 : cond0_0 i) :
    out0_A_7 c i a1 h1 a2 h2 a3 h3 a4 h4 a5 h5 a6 h6 a7 h7 a8 h8 a9 h9 hc0 x0 x1 x2 x3 x4 = k0_pay10 x0 x3 x4 := by
  unfold out0_A_7
  rw [View.read_writes_eq_canon _ _ _ (cover0_A_7 c i a1 h1 a2 h2 a3 h3 a4 h4 a5 h5 a6 h6 a7 h7 a8 h8 a9 h9 hc0 x0 x1 x2 x3 x4)]
  unfold kernelRun0_A
  dsimp only
  sl_unfold_words
  rw [View.canon_unit_zero off_zero2]
  simp only [View.readAt_eq_ld, h1.read_unread, h4.read_unread, h5.read_unread, View.ld_unit_zero (S := S256x2048) off_zero2,
    View.ld_unit_zero (S := S256x1024) off_zero2, View.ld_unit_zero (S := S1x2048) off_zero2]

/-- clears the bias's gradient and adds its rows' part; -/
theorem bias_first (hc0 : cond0_0 i) :
    out0_A_8 c i a1 h1 a2 h2 a3 h3 a4 h4 a5 h5 a6 h6 a7 h7 a8 h8 a9 h9 hc0 x0 x1 x2 x3 x4 =
      k0_pay2 (k0_pay7 x0 x1 x2 x3 x4) k0_pay1 := by
  unfold out0_A_8
  rw [View.read_writes_eq_canon _ _ _ (cover0_A_8 c i a1 h1 a2 h2 a3 h3 a4 h4 a5 h5 a6 h6 a7 h7 a8 h8 a9 h9 hc0 x0 x1 x2 x3 x4)]
  unfold kernelRun0_A
  dsimp only
  sl_unfold_words
  rw [View.canon_cons_unit_zero (S := S1x2048) off_zero2]
  simp only [View.readCov_unit_zero (S := S1x2048) _ off_zero2, View.readAt_eq_ld, h1.read_unread, h2.read_unread,
    h3.read_unread, h4.read_unread, h5.read_unread, View.ld_unit_zero (S := S256x2048) off_zero2,
    View.ld_unit_zero (S := S256x1024) off_zero2, View.ld_unit_zero (S := S1x2048) off_zero2]

/-- the others write theirs -/
theorem gate_next (hc0 : ¬cond0_0 i) :
    out0_B_5 c i a1 h1 a2 h2 a3 h3 a4 h4 a5 h5 a6 h6 a7 h7 a8 h8 a9 h9 hc0 x0 x1 x2 x3 x4 xo = k0_pay8 x0 x1 x2 x3 x4 := by
  unfold out0_B_5
  rw [View.read_writes_eq_canon _ _ _ (cover0_B_5 c i a1 h1 a2 h2 a3 h3 a4 h4 a5 h5 a6 h6 a7 h7 a8 h8 a9 h9 hc0 x0 x1 x2 x3 x4 xo)]
  unfold kernelRun0_B
  dsimp only
  sl_unfold_words
  rw [View.canon_unit_zero off_zero2]
  simp only [View.readAt_eq_ld, h1.read_unread, h2.read_unread, h3.read_unread, h4.read_unread, h5.read_unread,
    View.ld_unit_zero (S := S256x2048) off_zero2, View.ld_unit_zero (S := S256x1024) off_zero2,
    View.ld_unit_zero (S := S1x2048) off_zero2]

theorem branch_next (hc0 : ¬cond0_0 i) :
    out0_B_6 c i a1 h1 a2 h2 a3 h3 a4 h4 a5 h5 a6 h6 a7 h7 a8 h8 a9 h9 hc0 x0 x1 x2 x3 x4 xo = k0_pay9 x0 x3 x4 := by
  unfold out0_B_6
  rw [View.read_writes_eq_canon _ _ _ (cover0_B_6 c i a1 h1 a2 h2 a3 h3 a4 h4 a5 h5 a6 h6 a7 h7 a8 h8 a9 h9 hc0 x0 x1 x2 x3 x4 xo)]
  unfold kernelRun0_B
  dsimp only
  sl_unfold_words
  rw [View.canon_unit_zero off_zero2]
  simp only [View.readAt_eq_ld, h1.read_unread, h4.read_unread, h5.read_unread, View.ld_unit_zero (S := S256x2048) off_zero2,
    View.ld_unit_zero (S := S256x1024) off_zero2, View.ld_unit_zero (S := S1x2048) off_zero2]

theorem second_next (hc0 : ¬cond0_0 i) :
    out0_B_7 c i a1 h1 a2 h2 a3 h3 a4 h4 a5 h5 a6 h6 a7 h7 a8 h8 a9 h9 hc0 x0 x1 x2 x3 x4 xo = k0_pay10 x0 x3 x4 := by
  unfold out0_B_7
  rw [View.read_writes_eq_canon _ _ _ (cover0_B_7 c i a1 h1 a2 h2 a3 h3 a4 h4 a5 h5 a6 h6 a7 h7 a8 h8 a9 h9 hc0 x0 x1 x2 x3 x4 xo)]
  unfold kernelRun0_B
  dsimp only
  sl_unfold_words
  rw [View.canon_unit_zero off_zero2]
  simp only [View.readAt_eq_ld, h1.read_unread, h4.read_unread, h5.read_unread, View.ld_unit_zero (S := S256x2048) off_zero2,
    View.ld_unit_zero (S := S256x1024) off_zero2, View.ld_unit_zero (S := S1x2048) off_zero2]

/-- and add their rows' part. -/
theorem bias_next (hc0 : ¬cond0_0 i) :
    out0_B_8 c i a1 h1 a2 h2 a3 h3 a4 h4 a5 h5 a6 h6 a7 h7 a8 h8 a9 h9 hc0 x0 x1 x2 x3 x4 xo =
      k0_pay2 (k0_pay7 x0 x1 x2 x3 x4) xo := by
  unfold out0_B_8
  rw [View.read_writes_eq_canon _ _ _ (cover0_B_8 c i a1 h1 a2 h2 a3 h3 a4 h4 a5 h5 a6 h6 a7 h7 a8 h8 a9 h9 hc0 x0 x1 x2 x3 x4 xo)]
  unfold kernelRun0_B
  dsimp only
  sl_unfold_words
  rw [View.canon_unit_zero off_zero2]
  simp only [View.readAt_eq_ld, h1.read_unread, h2.read_unread, h3.read_unread, h4.read_unread, h5.read_unread, h9.read_unread,
    View.ld_unit_zero (S := S256x2048) off_zero2, View.ld_unit_zero (S := S256x1024) off_zero2,
    View.ld_unit_zero (S := S1x2048) off_zero2]
end

theorem index_maps : ∀ t : Fin cfg0.N, (cfg0.win 0).index t = ![t.val, 0] ∧ (cfg0.win 1).index t = ![t.val, 0] ∧
    (cfg0.win 2).index t = ![t.val, 0] ∧ (cfg0.win 3).index t = ![t.val, 0] ∧ (cfg0.win 4).index t = ![0, 0] ∧
    (cfg0.win 5).index t = ![t.val, 0] ∧ (cfg0.win 6).index t = ![t.val, 0] ∧ (cfg0.win 7).index t = ![t.val, 0] ∧
    (cfg0.win 8).index t = ![0, 0] := by
  decide +kernel

theorem flush_last : ∀ t : Fin cfg0.N, (cfg0.win 8).flush t = true → t.val % 16 + 1 = 16 := by
  decide +kernel

theorem gates_at (p : Vec Ideal S256x2048 .f32) (g : Vec Ideal S1x2048 .f32) (a : Fin 256) (j : Fin 2048) :
    (k0_pay3 (F := Ideal) p g (ix2 a j) : EReal) = Ideal.logistic (p (ix2 a j) + g (ix2 (0 : Fin 1) j)) := by
  unfold k0_pay3
  pointwise

theorem slanted_at (p : Vec Ideal S256x2048 .f32) (u v d : Vec Ideal S256x1024 .f32) (g : Vec Ideal S1x2048 .f32) (a : Fin 256)
    (j : Fin 2048) : (k0_pay6 (F := Ideal) p u v d g (ix2 a j) : EReal) =
      (if h : j.val < 1024 then (d (ix2 a (⟨j.val, h⟩ : Fin 1024)) * u (ix2 a (⟨j.val, h⟩ : Fin 1024)) : EReal)
        else d (ix2 a (⟨j.val - 1024, by omega⟩ : Fin 1024)) * v (ix2 a (⟨j.val - 1024, by omega⟩ : Fin 1024)))
      * (Ideal.logistic (p (ix2 a j) + g (ix2 (0 : Fin 1) j)) * (1 - Ideal.logistic (p (ix2 a j) + g (ix2 (0 : Fin 1) j)))) := by
  rw [← gates_at]
  unfold k0_pay6 k0_pay5 k0_pay4
  generalize k0_pay3 p g = s
  pointwise
  split <;> simp

theorem bias_at (p : Vec Ideal S256x2048 .f32) (u v d : Vec Ideal S256x1024 .f32) (g o : Vec Ideal S1x2048 .f32) (j : Fin 2048) :
    (k0_pay2 (F := Ideal) (k0_pay7 p u v d g) o (ix2 (0 : Fin 1) j) : EReal) =
      o (ix2 (0 : Fin 1) j) + ∑ a : Fin 256, k0_pay6 (F := Ideal) p u v d g (ix2 a j) := by
  unfold k0_pay2 k0_pay7
  generalize k0_pay6 p u v d g = s
  pointwise

theorem branch_at (p : Vec Ideal S256x2048 .f32) (d : Vec Ideal S256x1024 .f32) (g : Vec Ideal S1x2048 .f32) (a : Fin 256)
    (b : Fin 1024) : (k0_pay9 (F := Ideal) p d g (ix2 a b) : EReal) =
      k0_pay3 (F := Ideal) p g (ix2 a (⟨b, by omega⟩ : Fin 2048)) * d (ix2 a b) := by
  unfold k0_pay9 k0_pay4
  generalize k0_pay3 p g = s
  pointwise

theorem second_at (p : Vec Ideal S256x2048 .f32) (d : Vec Ideal S256x1024 .f32) (g : Vec Ideal S1x2048 .f32) (a : Fin 256)
    (b : Fin 1024) : (k0_pay10 (F := Ideal) p d g (ix2 a b) : EReal) =
      k0_pay3 (F := Ideal) p g (ix2 a (⟨1024 + b, by omega⟩ : Fin 2048)) * d (ix2 a b) := by
  unfold k0_pay10 k0_pay5
  generalize k0_pay3 p g = s
  pointwise

variable (m : (ℓ : Loc nD τ sig) → Buf (Elt Ideal) ℓ) (c : Dev nD)

abbrev G : ℕ → ℕ → EReal := entry (R := 4096) (C := 2048) (m ((c : Thread nD τ).loc main_arg0))
abbrev A : ℕ → ℕ → EReal := entry (R := 4096) (C := 1024) (m ((c : Thread nD τ).loc main_arg1))
abbrev B : ℕ → ℕ → EReal := entry (R := 4096) (C := 1024) (m ((c : Thread nD τ).loc main_arg2))
abbrev D : ℕ → ℕ → EReal := entry (R := 4096) (C := 1024) (m ((c : Thread nD τ).loc main_arg3))
abbrev H : ℕ → EReal := listed (N := 2048) (m ((c : Thread nD τ).loc main_arg4))

theorem block_gate (t : Fin cfg0.N) (a : Fin 256) (j : Fin 2048) : (iblk m c 0 t (ix2 a j) : EReal) = G m c (256 * t.val + a) j := by
  have hN : t.val < 16 := lt_of_lt_of_eq t.isLt N_0
  refine Eq.trans ?_ (entry_at (R := 4096) (C := 2048) (m ((c : Thread nD τ).loc main_arg0)) ⟨256 * t.val + a, by omega⟩ j)
  unfold iblk
  rw [show V m c (Pipeline.arrRef spec0 0) = _ from V_main_arg0 m c]
  blk_ext [index_maps t]

theorem block_branch (t : Fin cfg0.N) (a : Fin 256) (b : Fin 1024) : (iblk m c 1 t (ix2 a b) : EReal) = A m c (256 * t.val + a) b := by
  have hN : t.val < 16 := lt_of_lt_of_eq t.isLt N_0
  refine Eq.trans ?_ (entry_at (R := 4096) (C := 1024) (m ((c : Thread nD τ).loc main_arg1)) ⟨256 * t.val + a, by omega⟩ b)
  unfold iblk
  rw [show V m c (Pipeline.arrRef spec0 1) = _ from V_main_arg1 m c]
  blk_ext [index_maps t]

theorem block_second (t : Fin cfg0.N) (a : Fin 256) (b : Fin 1024) : (iblk m c 2 t (ix2 a b) : EReal) = B m c (256 * t.val + a) b := by
  have hN : t.val < 16 := lt_of_lt_of_eq t.isLt N_0
  refine Eq.trans ?_ (entry_at (R := 4096) (C := 1024) (m ((c : Thread nD τ).loc main_arg2)) ⟨256 * t.val + a, by omega⟩ b)
  unfold iblk
  rw [show V m c (Pipeline.arrRef spec0 2) = _ from V_main_arg2 m c]
  blk_ext [index_maps t]

theorem block_gradient (t : Fin cfg0.N) (a : Fin 256) (b : Fin 1024) :
    (iblk m c 3 t (ix2 a b) : EReal) = D m c (256 * t.val + a) b := by
  have hN : t.val < 16 := lt_of_lt_of_eq t.isLt N_0
  refine Eq.trans ?_ (entry_at (R := 4096) (C := 1024) (m ((c : Thread nD τ).loc main_arg3)) ⟨256 * t.val + a, by omega⟩ b)
  unfold iblk
  rw [show V m c (Pipeline.arrRef spec0 3) = _ from V_main_arg3 m c]
  blk_ext [index_maps t]

theorem block_bias (t : Fin cfg0.N) (j : Fin 2048) : (iblk m c 4 t (ix2 (0 : Fin 1) j) : EReal) = H m c j := by
  have v : V m c main_v0 = shapeCast S1x2048 (s := S2048) (m ((c : Thread nD τ).loc main_arg4)) shapeCasts_S2048_S1x2048 := by
    unfold_abbrev_sides
    after_results
    rfl
  refine (Eq.trans (b := (shapeCast S1x2048 (s := S2048) (m ((c : Thread nD τ).loc main_arg4)) shapeCasts_S2048_S1x2048
    (ix2 (0 : Fin 1) j) : EReal)) ?_ (by pointwise)).trans (listed_at (N := 2048) (m ((c : Thread nD τ).loc main_arg4)) j)
  unfold iblk
  rw [show V m c (Pipeline.arrRef spec0 4) = _ from v]
  blk_ext [index_maps t]

theorem block_slanted (t : Fin cfg0.N) (a : Fin 256) (j : Fin 2048) :
    (k0_pay6 (F := Ideal) (iblk m c 0 t) (iblk m c 1 t) (iblk m c 2 t) (iblk m c 3 t) (iblk m c 4 t) (ix2 a j) : EReal) =
      slanted (G m c) (A m c) (B m c) (D m c) (H m c) (256 * t.val + a) j := by
  rw [slanted_at]
  simp only [block_gate, block_branch, block_second, block_gradient, block_bias, dite_eq_ite]
  rfl

theorem points (t : Fin cfg0.N) :
    (outsAt0 m c t.val t.isLt).1 = k0_pay8 (iblk m c 0 t) (iblk m c 1 t) (iblk m c 2 t) (iblk m c 3 t) (iblk m c 4 t)
    ∧ (outsAt0 m c t.val t.isLt).2.1 = k0_pay9 (iblk m c 0 t) (iblk m c 3 t) (iblk m c 4 t)
    ∧ (outsAt0 m c t.val t.isLt).2.2.1 = k0_pay10 (iblk m c 0 t) (iblk m c 3 t) (iblk m c 4 t) := by
  by_cases e : t.val % 16 = 0
  · rw [outsAt0_A m c t e]
    dsimp only
    rw [gate_first, branch_first, second_first]
    exact ⟨rfl, rfl, rfl⟩
  · rw [outsAt0_B m c t e]
    dsimp only
    rw [gate_next, branch_next, second_next]
    exact ⟨rfl, rfl, rfl⟩

theorem bias_last (t : Fin cfg0.N) (l : t.val % 16 + 1 = 16) (j : Fin 2048) :
    ((outsAt0 m c t.val t.isLt).2.2.2 (ix2 (0 : Fin 1) j) : EReal) =
      ∑ r : Fin 4096, slanted (G m c) (A m c) (B m c) (D m c) (H m c) r j := by
  refine sum_points (p := 16) (b := 256) (by decide) (z := k0_pay1) (s := fun n h => (outsAt0 m c n h).2.2.2)
    (step := fun t acc => k0_pay2 (k0_pay7 (iblk m c 0 t) (iblk m c 1 t) (iblk m c 2 t) (iblk m c 3 t) (iblk m c 4 t)) acc)
    (f := fun _ r => slanted (G m c) (A m c) (B m c) (D m c) (H m c) r j)
    (by unfold k0_pay1; pointwise) (fun t acc => ?_) (fun n h e => ?_) (fun n h e => ?_) t l
  · have hN : t.val < 16 := lt_of_lt_of_eq t.isLt N_0
    rw [bias_at, Nat.mod_eq_of_lt hN]
    simp only [block_slanted]
  · rw [outsAt0_A m c ⟨n, h⟩ e]
    dsimp only
    rw [bias_first]
  · rw [outsAt0_B m c ⟨n + 1, h⟩ e]
    dsimp only
    rw [bias_next]
    rfl

theorem gate_array : (dats m 0 c).arrAt 5 cfg0.N = gateGradient (G m c) (A m c) (B m c) (D m c) (H m c) := by
  refine (dats m 0 c).arrAt_eq_of_covers 5 _ (by decide +kernel) fun t hf y => ?_
  obtain ⟨a, b, rfl⟩ : ∃ (a : Fin 256) (b : Fin 2048), y = ix2 a b := ⟨y 0, y 1, eq_ix2 y⟩
  refine (congrFun (Value.flushed5 m c t) (ix2 a b)).trans ((congrFun (points m c t).1 (ix2 a b)).trans
    (Eq.trans (block_slanted m c t a b) ?_))
  unfold gateGradient
  blk_simp [index_maps t]
  rw [Nat.mul_comm 256]

theorem first_array : (dats m 0 c).arrAt 6 cfg0.N = firstGradient (G m c) (D m c) (H m c) := by
  refine (dats m 0 c).arrAt_eq_of_covers 6 _ (by decide +kernel) fun t hf y => ?_
  obtain ⟨a, b, rfl⟩ : ∃ (a : Fin 256) (b : Fin 1024), y = ix2 a b := ⟨y 0, y 1, eq_ix2 y⟩
  refine (congrFun (Value.flushed6 m c t) (ix2 a b)).trans ((congrFun (points m c t).2.1 (ix2 a b)).trans
    ((branch_at _ _ _ a b).trans ?_))
  rw [gates_at, block_gate, block_bias, block_gradient]
  unfold firstGradient gate
  blk_simp [index_maps t]
  rw [Nat.mul_comm 256]

theorem second_array : (dats m 0 c).arrAt 7 cfg0.N = secondGradient (G m c) (D m c) (H m c) := by
  refine (dats m 0 c).arrAt_eq_of_covers 7 _ (by decide +kernel) fun t hf y => ?_
  obtain ⟨a, b, rfl⟩ : ∃ (a : Fin 256) (b : Fin 1024), y = ix2 a b := ⟨y 0, y 1, eq_ix2 y⟩
  refine (congrFun (Value.flushed7 m c t) (ix2 a b)).trans ((congrFun (points m c t).2.2 (ix2 a b)).trans
    ((second_at _ _ _ a b).trans ?_))
  rw [gates_at, block_gate, block_bias, block_gradient]
  unfold secondGradient gate
  blk_simp [index_maps t]
  rw [Nat.mul_comm 256]

theorem bias_array : (dats m 0 c).arrAt 8 cfg0.N = biasGradient (G m c) (A m c) (B m c) (D m c) (H m c) := by
  refine (dats m 0 c).arrAt_eq_of_covers 8 _ (by decide +kernel) fun t hf y => ?_
  obtain ⟨a, b, rfl⟩ : ∃ (a : Fin 1) (b : Fin 2048), y = ix2 a b := ⟨y 0, y 1, eq_ix2 y⟩
  obtain rfl : a = 0 := Subsingleton.elim _ _
  refine (congrFun (Value.flushed8 m c t) (ix2 0 b)).trans ((bias_last m c t (flush_last t hf) b).trans ?_)
  unfold biasGradient
  blk_simp [index_maps t]

theorem run_values (ρ : Dev nD → PrngReg) : θ_run defs (onTc (τ := τ) (main (F := Ideal))) ⟨m, fun _ => 0, ρ⟩ fun r => ∀ c : Dev nD,
    r.2.mem ((c : Thread nD τ).loc main_v1_0) = gateGradient (G m c) (A m c) (B m c) (D m c) (H m c)
    ∧ r.2.mem ((c : Thread nD τ).loc main_v1_1) = firstGradient (G m c) (D m c) (H m c)
    ∧ r.2.mem ((c : Thread nD τ).loc main_v1_2) = secondGradient (G m c) (D m c) (H m c)
    ∧ r.2.mem ((c : Thread nD τ).loc main_v1_3) = biasGradient (G m c) (A m c) (B m c) (D m c) (H m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (gate_array m c), (h c).2.1.trans (first_array m c),
    (h c).2.2.1.trans (second_array m c), (h c).2.2.2.1.trans (bias_array m c), (h c).2.2.2.2⟩) (Value.run_blocks m ρ)

end Cert.Kernel33Ideal.Hand

namespace Cert.Reference33Ideal.Hand

open Cert.Reference33Ideal Cert.Reference33Ideal.Facts₀
open Cert.Reference30Ideal.Hand (gates gates_at)

variable (p : FVec Ideal S4096x2048 .f32) (u v d : FVec Ideal S4096x1024 .f32) (g : FVec Ideal S2048 .f32)

/-- The gates' gradients, each branch's part padded with zeros over the other's columns. -/
abbrev slants : FVec Ideal S4096x2048 .f32 :=
  mulf (addf
      (pad S4096x2048 ![0, 1024] ![0, 0] ![0, 0] (mulf (shapeCast S4096x1024 d shapeCasts_S4096x1024_S4096x1024) v)
        (constant S_ .f32 0x00000000#32) pads_S4096x1024_S4096x2048_000_102400 h_S_)
      (pad S4096x2048 ![0, 0] ![0, 1024] ![0, 0] (mulf (shapeCast S4096x1024 d shapeCasts_S4096x1024_S4096x1024) u)
        (constant S_ .f32 0x00000000#32) pads_S4096x1024_S4096x2048_000_010240 h_S_))
    (mulf (gates p g) (subf (broadcastInDim S4096x2048 ![] bcast_S_S4096x2048 (constant S_ .f32 0x3F800000#32)) (gates p g)))

theorem slants_at (a : Fin 4096) (j : Fin 2048) : (slants p u v d g (ix2 a j) : EReal) =
    slanted (entry (R := 4096) (C := 2048) p) (entry (R := 4096) (C := 1024) u) (entry (R := 4096) (C := 1024) v)
      (entry (R := 4096) (C := 1024) d) (listed (N := 2048) g) a j := by
  unfold slanted gate
  rw [← gates_at]
  unfold slants
  generalize gates p g = s
  refine Eq.trans (b := (if h : j.val < 1024 then (d (ix2 a (⟨j.val, h⟩ : Fin 1024)) * u (ix2 a (⟨j.val, h⟩ : Fin 1024)) : EReal)
      else d (ix2 a (⟨j.val - 1024, by omega⟩ : Fin 1024)) * v (ix2 a (⟨j.val - 1024, by omega⟩ : Fin 1024)))
    * (s (ix2 a j) * (1 - s (ix2 a j)))) ?_ ?_
  · pointwise
    by_cases h : j.val < 1024
    · rw [dif_neg (by omega), dif_pos h, dif_pos h, zero_add]
    · rw [dif_pos (by omega), dif_neg h, dif_neg h, add_zero]
  · simp only [entry_at (R := 4096) (C := 1024) u, entry_at (R := 4096) (C := 1024) v, entry_at (R := 4096) (C := 1024) d, dite_eq_ite]
    rfl

theorem gate_eq : truncf (F := Ideal) .bf16 (slants p u v d g) bitsLt_bf16_f32 =
    gateGradient (entry (R := 4096) (C := 2048) p) (entry (R := 4096) (C := 1024) u) (entry (R := 4096) (C := 1024) v)
      (entry (R := 4096) (C := 1024) d) (listed (N := 2048) g) := by
  funext i
  obtain ⟨a, j, rfl⟩ : ∃ (a : Fin 4096) (j : Fin 2048), i = ix2 a j := ⟨i 0, i 1, eq_ix2 i⟩
  exact slants_at p u v d g a j

theorem first_eq : truncf (F := Ideal) .bf16 (mulf (extractStridedSlice S4096x1024 ![0, 0] (gates p g) slices_S4096x2048_S4096x1024_0_0)
    (shapeCast S4096x1024 d shapeCasts_S4096x1024_S4096x1024)) bitsLt_bf16_f32 =
    firstGradient (entry (R := 4096) (C := 2048) p) (entry (R := 4096) (C := 1024) d) (listed (N := 2048) g) := by
  funext i
  obtain ⟨a, b, rfl⟩ : ∃ (a : Fin 4096) (b : Fin 1024), i = ix2 a b := ⟨i 0, i 1, eq_ix2 i⟩
  generalize e : gates p g = s
  refine Eq.trans (b := s (ix2 a (⟨b, by omega⟩ : Fin 2048)) * d (ix2 a b)) (by pointwise) ?_
  subst e
  rw [gates_at, entry_at (R := 4096) (C := 1024) d]
  rfl

theorem second_eq : truncf (F := Ideal) .bf16 (mulf (extractStridedSlice S4096x1024 ![0, 1024] (gates p g)
    slices_S4096x2048_S4096x1024_0_1024) (shapeCast S4096x1024 d shapeCasts_S4096x1024_S4096x1024)) bitsLt_bf16_f32 =
    secondGradient (entry (R := 4096) (C := 2048) p) (entry (R := 4096) (C := 1024) d) (listed (N := 2048) g) := by
  funext i
  obtain ⟨a, b, rfl⟩ : ∃ (a : Fin 4096) (b : Fin 1024), i = ix2 a b := ⟨i 0, i 1, eq_ix2 i⟩
  generalize e : gates p g = s
  refine Eq.trans (b := s (ix2 a (⟨1024 + b, by omega⟩ : Fin 2048)) * d (ix2 a b)) (by pointwise) ?_
  subst e
  rw [gates_at, entry_at (R := 4096) (C := 1024) d]
  rfl

theorem bias_eq : shapeCast S1x2048 (Host.reduceAdd (shapeCast S1x2048 (Host.reduceAdd (slants p u v d g)
      (constant (F := Ideal) S_ .f32 0x00000000#32) reducesTo_S4096x2048_S2048_d0 h_S_) shapeCasts_S2048_S1x2048)
      (constant (F := Ideal) S_ .f32 0x00000000#32) reducesTo_S1x2048_S2048_d0 h_S_) shapeCasts_S2048_S1x2048 =
    biasGradient (entry (R := 4096) (C := 2048) p) (entry (R := 4096) (C := 1024) u) (entry (R := 4096) (C := 1024) v)
      (entry (R := 4096) (C := 1024) d) (listed (N := 2048) g) := by
  funext i
  obtain ⟨z, j, rfl⟩ : ∃ (z : Fin 1) (j : Fin 2048), i = ix2 z j := ⟨i 0, i 1, eq_ix2 i⟩
  obtain rfl : z = 0 := Subsingleton.elim _ _
  refine Eq.trans (b := ∑ r : Fin 4096, slants p u v d g (ix2 r j)) ?_ (Finset.sum_congr rfl fun r _ => slants_at p u v d g r j)
  generalize slants p u v d g = s
  pointwise
  rw [Fin.sum_univ_one]

end Cert.Reference33Ideal.Hand

end
-- ==== Proof.lean ====
/- The claims of the certificate. Both programs' frames, the naming of the mask, and the value claim: on arrays of reals
   the kernel and the reference both leave the gradients that `Cert.Attn` defines over the reals. -/
module

public import proofs.«01_k».proof.Defs
public import proofs.«01_k».proof.Proof.Gen.Kernel
public import proofs.«01_k».proof.Proof.KernelFrameBits
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.KernelValue
public import proofs.«01_k».proof.Proof.ReferenceValue
public import proofs.«01_k».proof.Proof.Entries
public import proofs.«01_k».proof.Proof.Gen.Kernel2.Frame
public import proofs.«01_k».proof.Proof.Gen.Kernel2Ideal.Value
public import proofs.«01_k».proof.Proof.Gen.Reference2Ideal.Run
public import proofs.«01_k».proof.Proof.DwinReference
public import proofs.«01_k».proof.Proof.Gen.Kernel3.Frame
public import proofs.«01_k».proof.Proof.Gen.Kernel3Ideal.Value
public import proofs.«01_k».proof.Proof.Gen.Reference3Ideal.Run
public import proofs.«01_k».proof.Proof.DhReference
public import Idealize.ShloMosaic.Adequacy
public import Idealize.ShloMosaic.Init
public import proofs.«01_k».proof.Proof.Gen.Kernel4.Frame
public import proofs.«01_k».proof.Proof.Gen.Kernel4Ideal.Value
public import proofs.«01_k».proof.Proof.Gen.Reference4Ideal.Run
public import proofs.«01_k».proof.Proof.DwoutReference
public import proofs.«01_k».proof.Proof.Gen.Kernel5.Frame
public import proofs.«01_k».proof.Proof.Gen.Kernel5Ideal.Value
public import proofs.«01_k».proof.Proof.Gen.Reference5Ideal.Run
public import proofs.«01_k».proof.Proof.OutReference
public import proofs.«01_k».proof.Proof.Gen.Kernel6.Frame
public import proofs.«01_k».proof.Proof.Gen.Kernel6Ideal.Value
public import proofs.«01_k».proof.Proof.Gen.Reference6Ideal.Run
public import proofs.«01_k».proof.Proof.InReference
public import proofs.«01_k».proof.Proof.Gen.Kernel7.Frame
public import proofs.«01_k».proof.Proof.Gen.Kernel7Ideal.Value
public import proofs.«01_k».proof.Proof.Gen.Reference7Ideal.Run
public import proofs.«01_k».proof.Proof.DgateReference
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Kernel30Ideal.Frame
public import proofs.«01_k».proof.Proof.Gen.Reference30Ideal.Run
public import proofs.«01_k».proof.Proof.DwRkvValue
public import proofs.«01_k».proof.Proof.DwQkvValue
public import proofs.«01_k».proof.Proof.DwGateValue
public import proofs.«01_k».proof.Proof.DhRkvValue
public import proofs.«01_k».proof.Proof.DhQkvValue
public import proofs.«01_k».proof.Proof.DhGateValue
public import proofs.«01_k».proof.Proof.ProjRkvValue
public import proofs.«01_k».proof.Proof.ProjQkvValue
public import proofs.«01_k».proof.Proof.ProjGateValue
public import proofs.«01_k».proof.Proof.MixerDwReference
public import proofs.«01_k».proof.Proof.MixerDhReference
public import proofs.«01_k».proof.Proof.ProjReference
public import proofs.«01_k».proof.Proof.MixOutValue
public import proofs.«01_k».proof.Proof.BranchAValue
public import proofs.«01_k».proof.Proof.BranchBValue
public import proofs.«01_k».proof.Proof.LoraValue
public import proofs.«01_k».proof.Proof.NormMergeValue
public import proofs.«01_k».proof.Proof.NormsValue
public import proofs.«01_k».proof.Proof.MixNormGradientValue
public import proofs.«01_k».proof.Proof.MergeGradientValue

@[expose] public section

noncomputable section

namespace Cert.Proof

open Idealize Idealize.ShloMosaic Idealize.SL.Sem Cert.Attn

/-- The side conditions of the precondition's operations. -/
theorem finite_facts : Cert.Pre_finite.Facts := ⟨by decide, by decide, by decide⟩

theorem quiescent_kernel : Cert.quiescent_Kernel (hKernel := Cert.Kernel.Gen.facts) :=
  fun m ρ _ => Cert.Kernel.Hand.frame m ρ

theorem quiescent_kernelIdeal : Cert.quiescent_KernelIdeal (hKernelIdeal := Cert.KernelIdeal.Gen.facts) :=
  fun m ρ _ => Cert.KernelIdeal.Hand.frame m ρ

/-- The reference's run keeps its arguments; it declares no semaphore. -/
theorem quiescent_referenceIdeal : Cert.quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

/-- On arrays of reals both programs leave the gradients over the reals. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m ρ m' ρ' pre agree
  let Q : Dev Cert.KernelIdeal.nD → ℕ → ℕ → ℝ := fun c =>
    entries (R := 4096) (C := 768) (m ((c.tc : Thread Cert.KernelIdeal.nD Cert.KernelIdeal.τ).loc Cert.KernelIdeal.main_arg0))
  let K : Dev Cert.KernelIdeal.nD → ℕ → ℕ → ℝ := fun c =>
    entries (R := 4096) (C := 768) (m ((c.tc : Thread Cert.KernelIdeal.nD Cert.KernelIdeal.τ).loc Cert.KernelIdeal.main_arg1))
  let W : Dev Cert.KernelIdeal.nD → ℕ → ℕ → ℝ := fun c =>
    entries (R := 4096) (C := 2304) (m ((c.tc : Thread Cert.KernelIdeal.nD Cert.KernelIdeal.τ).loc Cert.KernelIdeal.main_arg2))
  let O : Dev Cert.KernelIdeal.nD → ℕ → ℕ → ℝ := fun c =>
    entries (R := 4096) (C := 256) (m ((c.tc : Thread Cert.KernelIdeal.nD Cert.KernelIdeal.τ).loc Cert.KernelIdeal.main_arg3))
  let L : Dev Cert.KernelIdeal.nD → ℕ → ℕ → ℝ := fun c =>
    entries (R := 4096) (C := 256) (m ((c.tc : Thread Cert.KernelIdeal.nD Cert.KernelIdeal.τ).loc Cert.KernelIdeal.main_arg4))
  have reals : ∀ c, Cert.KernelIdeal.Hand.Reals m c (Q c) (K c) (W c) (O c) (L c) := fun c => by
    obtain ⟨q, k, v, o, l⟩ := @finite_at finite_facts _ _ _ _ _ (pre c)
    exact ⟨q, k, v, o, l⟩
  have args : ∀ c, Cert.ReferenceIdeal.Hand.Args (StableHlo.launchContents m' c) (Q c) (K c) (W c) (O c) (L c) := fun c => by
    obtain ⟨e0, e1, e2, e3, e4⟩ := agree c
    obtain ⟨q, k, v, o, l⟩ := reals c
    exact ⟨fun r d => (congrFun e0 _).trans (q r d), fun r d => (congrFun e1 _).trans (k r d),
      fun r d => (congrFun e2 _).trans (v r d), fun r d => (congrFun e3 _).trans (o r d),
      fun r d => (congrFun e4 _).trans (l r d)⟩
  have whole : ∀ X : ℕ → ℕ → ℝ, Cert.KernelIdeal.Hand.colsFrom 0 X = X := fun X => by
    funext r d
    exact congrArg (X r) (Nat.zero_add d)
  have run := Cert.KernelIdeal.Hand.run_values m ρ reals
  simp only [whole] at run
  exact ⟨_, _, _, run, Cert.ReferenceIdeal.Hand.run_values m' ρ' Q K W O L args⟩

/-! ## What the other programs' claims share -/

section
variable {nD : Nat} {τ : Topo} {sig : RefSig} {Val : EltTy → Type} {Λ : Labels} {defs : Defs nD τ sig Val Λ}
  {p : (c : Thread nD τ) → Prog (TpuEff nD τ sig Val Λ c.2) PUnit} {s : MemSt nD τ sig Val}
  {A : Dev nD → PUnit × MemSt nD τ sig Val → Prop}

/-- A run of a program that declares no semaphore ends at rest with what it keeps. -/
theorem rests {R : Dev nD → PUnit × MemSt nD τ sig Val → Prop} (none : sig.nSem + sig.nDmaSem = 0)
    (run : θ_run defs p s fun r => ∀ c, R c r ∧ A c r) :
    θ_run defs p s fun r => (∀ c, A c r) ∧ r.2.sem = fun _ => 0 :=
  θ_run_mono run fun r h => ⟨fun c => (h c).2, sem_eq_zero_of_no_sems none r.2⟩

/-- A run that leaves `v` leaves anything equal to `v`. -/
theorem leaves {B : Dev nD → Type} {o : (c : Dev nD) → PUnit × MemSt nD τ sig Val → B c} {v w : (c : Dev nD) → B c}
    (run : θ_run defs p s fun r => ∀ c, o c r = v c ∧ A c r) (e : ∀ c, v c = w c) :
    θ_run defs p s fun r => ∀ c, o c r = w c ∧ A c r :=
  θ_run_mono run fun _ h c => ⟨(h c).1.trans (e c), (h c).2⟩
end

/-! ## The FFN -/

/-- The gradient of the first weight matrix. -/
theorem algebraic2 : Cert.algebraic_Kernel2Ideal_Reference2Ideal (hKernel2Ideal := Cert.Kernel2Ideal.Gen.facts)
    (hReference2Ideal := Cert.Reference2Ideal.Gen.facts) := fun m ρ m' ρ' _ agree =>
  ⟨_, Cert.Kernel2Ideal.Hand.run_values m ρ, leaves (Cert.Reference2Ideal.Hand.run_values m' ρ') fun c => by
    obtain ⟨e0, _, e2, e3⟩ := agree c
    rw [e0, e2, e3]⟩

/-- The gradient of the input. -/
theorem algebraic3 : Cert.algebraic_Kernel3Ideal_Reference3Ideal (hKernel3Ideal := Cert.Kernel3Ideal.Gen.facts)
    (hReference3Ideal := Cert.Reference3Ideal.Gen.facts) := fun m ρ m' ρ' _ agree =>
  ⟨_, Cert.Kernel3Ideal.Hand.run_values m ρ, leaves (Cert.Reference3Ideal.Hand.run_values m' ρ') fun c => by
    obtain ⟨_, e1, e2, e3⟩ := agree c
    rw [e1, e2, e3]⟩

/-- The gradient of the second weight matrix. -/
theorem algebraic4 : Cert.algebraic_Kernel4Ideal_Reference4Ideal (hKernel4Ideal := Cert.Kernel4Ideal.Gen.facts)
    (hReference4Ideal := Cert.Reference4Ideal.Gen.facts) := fun m ρ m' ρ' _ agree =>
  ⟨_, Cert.Kernel4Ideal.Hand.run_values m ρ, leaves (Cert.Reference4Ideal.Hand.run_values m' ρ') fun c => by
    obtain ⟨e0, _, e2⟩ := agree c
    rw [e0, e2]⟩

/-- The output. -/
theorem algebraic5 : Cert.algebraic_Kernel5Ideal_Reference5Ideal (hKernel5Ideal := Cert.Kernel5Ideal.Gen.facts)
    (hReference5Ideal := Cert.Reference5Ideal.Gen.facts) := fun m ρ m' ρ' _ agree =>
  ⟨_, Cert.Kernel5Ideal.Hand.run_values m ρ, leaves (Cert.Reference5Ideal.Hand.run_values m' ρ') fun c => by
    obtain ⟨e0, e1, e2⟩ := agree c
    rw [e0, e1, e2]⟩

/-- The gate and up projections and their gated product: two results. -/
theorem quiescent_reference6Ideal : Cert.quiescent_Reference6Ideal (hReference6Ideal := Cert.Reference6Ideal.Gen.facts) :=
  fun m ρ _ => θ_run_mono (Cert.Reference6Ideal.Value.run (F := Ideal) m ρ)
    fun r h => ⟨fun c => (h c).2.2, sem_eq_zero_of_no_sems (by decide) r.2⟩

theorem algebraic6 : Cert.algebraic_Kernel6Ideal_Reference6Ideal (hKernel6Ideal := Cert.Kernel6Ideal.Gen.facts)
    (hReference6Ideal := Cert.Reference6Ideal.Gen.facts) := by
  intro m ρ m' ρ' _ agree
  refine ⟨_, _, Cert.Kernel6Ideal.Hand.run_values m ρ, θ_run_mono (Cert.Reference6Ideal.Hand.run_values m' ρ') fun r h c => ?_⟩
  obtain ⟨e0, e1⟩ := agree c
  refine ⟨(h c).1.trans ?_, (h c).2.1.trans ?_, (h c).2.2⟩
  · rw [e0, e1]
  · rw [e0, e1]

/-- The gradients of the gate and up projections. -/
theorem algebraic7 : Cert.algebraic_Kernel7Ideal_Reference7Ideal (hKernel7Ideal := Cert.Kernel7Ideal.Gen.facts)
    (hReference7Ideal := Cert.Reference7Ideal.Gen.facts) := fun m ρ m' ρ' _ agree =>
  ⟨_, Cert.Kernel7Ideal.Hand.run_values m ρ, leaves (Cert.Reference7Ideal.Hand.run_values m' ρ') fun c => by
    obtain ⟨e0, e1, e2, e3⟩ := agree c
    rw [e0, e1, e2, e3]⟩

/-! ## The mixer's projections: the gradients of their weights -/

theorem algebraic8 : Cert.algebraic_Kernel8Ideal_Reference8Ideal (hKernel8Ideal := Cert.Kernel8Ideal.Gen.facts)
    (hReference8Ideal := Cert.Reference8Ideal.Gen.facts) := fun m ρ m' ρ' _ agree =>
  ⟨_, Cert.Kernel8Ideal.Hand.run_values m ρ, leaves (Cert.Reference8Ideal.Hand.run_values m' ρ') fun c => by
    rw [(agree c).1, (agree c).2.2]⟩

theorem algebraic9 : Cert.algebraic_Kernel9Ideal_Reference9Ideal (hKernel9Ideal := Cert.Kernel9Ideal.Gen.facts)
    (hReference9Ideal := Cert.Reference9Ideal.Gen.facts) := fun m ρ m' ρ' _ agree =>
  ⟨_, Cert.Kernel9Ideal.Hand.run_values m ρ, leaves (Cert.Reference9Ideal.Hand.run_values m' ρ') fun c => by
    rw [(agree c).1, (agree c).2.2]⟩

theorem algebraic10 : Cert.algebraic_Kernel10Ideal_Reference10Ideal (hKernel10Ideal := Cert.Kernel10Ideal.Gen.facts)
    (hReference10Ideal := Cert.Reference10Ideal.Gen.facts) := fun m ρ m' ρ' _ agree =>
  ⟨_, Cert.Kernel10Ideal.Hand.run_values m ρ, leaves (Cert.Reference10Ideal.Hand.run_values m' ρ') fun c => by
    rw [(agree c).1, (agree c).2.2]⟩

/-! ## The gradient of the mixer's input: its parts, each added to the ones before -/

theorem algebraic11 : Cert.algebraic_Kernel11Ideal_Reference11Ideal (hKernel11Ideal := Cert.Kernel11Ideal.Gen.facts)
    (hReference11Ideal := Cert.Reference11Ideal.Gen.facts) := fun m ρ m' ρ' _ agree =>
  ⟨_, Cert.Kernel11Ideal.Hand.run_values m ρ, leaves (Cert.Reference11Ideal.Hand.run_values m' ρ') fun c => by
    rw [(agree c).2.1, (agree c).2.2]⟩

theorem algebraic12 : Cert.algebraic_Kernel12Ideal_Reference12Ideal (hKernel12Ideal := Cert.Kernel12Ideal.Gen.facts)
    (hReference12Ideal := Cert.Reference12Ideal.Gen.facts) := fun m ρ m' ρ' _ agree =>
  ⟨_, Cert.Kernel12Ideal.Hand.run_values m ρ, leaves (Cert.Reference12Ideal.Hand.run_values m' ρ') fun c => by
    rw [(agree c).2.1, (agree c).2.2.1, (agree c).2.2.2]⟩

theorem algebraic13 : Cert.algebraic_Kernel13Ideal_Reference13Ideal (hKernel13Ideal := Cert.Kernel13Ideal.Gen.facts)
    (hReference13Ideal := Cert.Reference13Ideal.Gen.facts) := fun m ρ m' ρ' _ agree =>
  ⟨_, Cert.Kernel13Ideal.Hand.run_values m ρ, leaves (Cert.Reference13Ideal.Hand.run_values m' ρ') fun c => by
    rw [(agree c).2.1, (agree c).2.2.1, (agree c).2.2.2]⟩

/-! ## The mixer's projections -/

theorem algebraic14 : Cert.algebraic_Kernel14Ideal_Reference14Ideal (hKernel14Ideal := Cert.Kernel14Ideal.Gen.facts)
    (hReference14Ideal := Cert.Reference14Ideal.Gen.facts) := fun m ρ m' ρ' _ agree =>
  ⟨_, Cert.Kernel14Ideal.Hand.run_values m ρ, leaves (Cert.Reference14Ideal.Hand.run_values m' ρ') fun c => by
    rw [(agree c).1, (agree c).2]⟩

theorem algebraic15 : Cert.algebraic_Kernel15Ideal_Reference15Ideal (hKernel15Ideal := Cert.Kernel15Ideal.Gen.facts)
    (hReference15Ideal := Cert.Reference15Ideal.Gen.facts) := fun m ρ m' ρ' _ agree =>
  ⟨_, Cert.Kernel15Ideal.Hand.run_values m ρ, leaves (Cert.Reference15Ideal.Hand.run_values m' ρ') fun c => by
    rw [(agree c).1, (agree c).2]⟩

theorem algebraic16 : Cert.algebraic_Kernel16Ideal_Reference16Ideal (hKernel16Ideal := Cert.Kernel16Ideal.Gen.facts)
    (hReference16Ideal := Cert.Reference16Ideal.Gen.facts) := fun m ρ m' ρ' _ agree =>
  ⟨_, Cert.Kernel16Ideal.Hand.run_values m ρ, leaves (Cert.Reference16Ideal.Hand.run_values m' ρ') fun c => by
    rw [(agree c).1, (agree c).2]⟩

/-! ## The mixer's output: the gradient of its weights, of its input, and itself -/

theorem algebraic17 : Cert.algebraic_Kernel17Ideal_Reference17Ideal (hKernel17Ideal := Cert.Kernel17Ideal.Gen.facts)
    (hReference17Ideal := Cert.Reference17Ideal.Gen.facts) := fun m ρ m' ρ' _ agree =>
  ⟨_, Cert.Kernel17Ideal.Hand.run_values m ρ, leaves (Cert.Reference17Ideal.Value.run (F := Ideal) m' ρ') fun c =>
    (Cert.Reference17Ideal.Hand.gradient_eq _ _).trans (by rw [(agree c).1, (agree c).2.2])⟩

theorem algebraic18 : Cert.algebraic_Kernel18Ideal_Reference18Ideal (hKernel18Ideal := Cert.Kernel18Ideal.Gen.facts)
    (hReference18Ideal := Cert.Reference18Ideal.Gen.facts) := fun m ρ m' ρ' _ agree =>
  ⟨_, Cert.Kernel18Ideal.Hand.run_values m ρ, leaves (Cert.Reference18Ideal.Value.run (F := Ideal) m' ρ') fun c =>
    (Cert.Reference18Ideal.Hand.gradient_eq _ _).trans (by rw [(agree c).2.1, (agree c).2.2])⟩

theorem algebraic19 : Cert.algebraic_Kernel19Ideal_Reference19Ideal (hKernel19Ideal := Cert.Kernel19Ideal.Gen.facts)
    (hReference19Ideal := Cert.Reference19Ideal.Gen.facts) := fun m ρ m' ρ' _ agree =>
  ⟨_, Cert.Kernel19Ideal.Hand.run_values m ρ, leaves (Cert.Reference19Ideal.Value.run (F := Ideal) m' ρ') fun c =>
    (Cert.Reference19Ideal.Hand.output_eq _ _ _).trans (by rw [(agree c).1, (agree c).2.1, (agree c).2.2])⟩

/-! ## The projection of the recurrence's output, with its two gradients first -/

theorem algebraic20 : Cert.algebraic_Kernel20Ideal_Reference20Ideal (hKernel20Ideal := Cert.Kernel20Ideal.Gen.facts)
    (hReference20Ideal := Cert.Reference20Ideal.Gen.facts) := fun m ρ m' ρ' _ agree =>
  ⟨_, Cert.Kernel20Ideal.Hand.run_values m ρ, leaves (Cert.Reference20Ideal.Value.run (F := Ideal) m' ρ') fun c =>
    (Cert.Reference17Ideal.Hand.gradient_eq _ _).trans (by rw [(agree c).1, (agree c).2.2])⟩

theorem algebraic21 : Cert.algebraic_Kernel21Ideal_Reference21Ideal (hKernel21Ideal := Cert.Kernel21Ideal.Gen.facts)
    (hReference21Ideal := Cert.Reference21Ideal.Gen.facts) := fun m ρ m' ρ' _ agree =>
  ⟨_, Cert.Kernel21Ideal.Hand.run_values m ρ, leaves (Cert.Reference21Ideal.Value.run (F := Ideal) m' ρ') fun c =>
    (Cert.Reference18Ideal.Hand.gradient_eq _ _).trans (by rw [(agree c).2.1, (agree c).2.2])⟩

theorem algebraic22 : Cert.algebraic_Kernel22Ideal_Reference22Ideal (hKernel22Ideal := Cert.Kernel22Ideal.Gen.facts)
    (hReference22Ideal := Cert.Reference22Ideal.Gen.facts) := fun m ρ m' ρ' _ agree =>
  ⟨_, Cert.Kernel22Ideal.Hand.run_values m ρ, leaves (Cert.Reference22Ideal.Value.run (F := Ideal) m' ρ') fun c =>
    (Cert.Reference22Ideal.Hand.product_eq _ _).trans (by rw [(agree c).1, (agree c).2])⟩

/-! ## The projection of the attention's output, likewise -/

theorem algebraic23 : Cert.algebraic_Kernel23Ideal_Reference23Ideal (hKernel23Ideal := Cert.Kernel23Ideal.Gen.facts)
    (hReference23Ideal := Cert.Reference23Ideal.Gen.facts) := fun m ρ m' ρ' _ agree =>
  ⟨_, Cert.Kernel23Ideal.Hand.run_values m ρ, leaves (Cert.Reference23Ideal.Value.run (F := Ideal) m' ρ') fun c =>
    (Cert.Reference23Ideal.Hand.gradient_eq _ _).trans (by rw [(agree c).1, (agree c).2.2])⟩

theorem algebraic24 : Cert.algebraic_Kernel24Ideal_Reference24Ideal (hKernel24Ideal := Cert.Kernel24Ideal.Gen.facts)
    (hReference24Ideal := Cert.Reference24Ideal.Gen.facts) := fun m ρ m' ρ' _ agree =>
  ⟨_, Cert.Kernel24Ideal.Hand.run_values m ρ, leaves (Cert.Reference24Ideal.Value.run (F := Ideal) m' ρ') fun c =>
    (Cert.Reference24Ideal.Hand.gradient_eq _ _).trans (by rw [(agree c).2.1, (agree c).2.2])⟩

theorem algebraic25 : Cert.algebraic_Kernel25Ideal_Reference25Ideal (hKernel25Ideal := Cert.Kernel25Ideal.Gen.facts)
    (hReference25Ideal := Cert.Reference25Ideal.Gen.facts) := fun m ρ m' ρ' _ agree =>
  ⟨_, Cert.Kernel25Ideal.Hand.run_values m ρ, leaves (Cert.Reference25Ideal.Value.run (F := Ideal) m' ρ') fun c =>
    (Cert.Reference25Ideal.Hand.product_eq _ _).trans (by rw [(agree c).1, (agree c).2])⟩

/-! ## The mixer's low-rank projection, likewise -/

theorem algebraic26 : Cert.algebraic_Kernel26Ideal_Reference26Ideal (hKernel26Ideal := Cert.Kernel26Ideal.Gen.facts)
    (hReference26Ideal := Cert.Reference26Ideal.Gen.facts) := fun m ρ m' ρ' _ agree =>
  ⟨_, Cert.Kernel26Ideal.Hand.run_values m ρ, leaves (Cert.Reference26Ideal.Value.run (F := Ideal) m' ρ') fun c =>
    (Cert.Reference26Ideal.Hand.gradient_eq _ _).trans (by rw [(agree c).1, (agree c).2.2])⟩

theorem algebraic27 : Cert.algebraic_Kernel27Ideal_Reference27Ideal (hKernel27Ideal := Cert.Kernel27Ideal.Gen.facts)
    (hReference27Ideal := Cert.Reference27Ideal.Gen.facts) := fun m ρ m' ρ' _ agree =>
  ⟨_, Cert.Kernel27Ideal.Hand.run_values m ρ, leaves (Cert.Reference27Ideal.Value.run (F := Ideal) m' ρ') fun c =>
    (Cert.Reference27Ideal.Hand.gradient_eq _ _ _).trans (by rw [(agree c).2.1, (agree c).2.2.1, (agree c).2.2.2])⟩

theorem algebraic28 : Cert.algebraic_Kernel28Ideal_Reference28Ideal (hKernel28Ideal := Cert.Kernel28Ideal.Gen.facts)
    (hReference28Ideal := Cert.Reference28Ideal.Gen.facts) := fun m ρ m' ρ' _ agree =>
  ⟨_, Cert.Kernel28Ideal.Hand.run_values m ρ, leaves (Cert.Reference28Ideal.Value.run (F := Ideal) m' ρ') fun c =>
    (Cert.Reference28Ideal.Hand.product_eq _ _).trans (by rw [(agree c).1, (agree c).2])⟩

/-! ## The mixer's normalised input and the merge of its branches -/

theorem algebraic29 : Cert.algebraic_Kernel29Ideal_Reference29Ideal (hKernel29Ideal := Cert.Kernel29Ideal.Gen.facts)
    (hReference29Ideal := Cert.Reference29Ideal.Gen.facts) := fun m ρ m' ρ' _ agree =>
  ⟨_, Cert.Kernel29Ideal.Hand.run_values m ρ, leaves (Cert.Reference29Ideal.Value.run (F := Ideal) m' ρ') fun c =>
    (Cert.Reference29Ideal.Hand.normed_eq _ _).trans (by rw [(agree c).1, (agree c).2])⟩

theorem algebraic30 : Cert.algebraic_Kernel30Ideal_Reference30Ideal (hKernel30Ideal := Cert.Kernel30Ideal.Gen.facts)
    (hReference30Ideal := Cert.Reference30Ideal.Gen.facts) := fun m ρ m' ρ' _ agree =>
  ⟨_, Cert.Kernel30Ideal.Hand.run_values m ρ, leaves (Cert.Reference30Ideal.Value.run (F := Ideal) m' ρ') fun c =>
    (Cert.Reference30Ideal.Hand.merged_eq _ _ _ _).trans
      (by rw [(agree c).1, (agree c).2.1, (agree c).2.2.1, (agree c).2.2.2])⟩

/-! ## A feed-forward block's norm and its gradients -/

theorem algebraic31 : Cert.algebraic_Kernel31Ideal_Reference31Ideal (hKernel31Ideal := Cert.Kernel31Ideal.Gen.facts)
    (hReference31Ideal := Cert.Reference31Ideal.Gen.facts) := fun m ρ m' ρ' _ agree =>
  ⟨_, Cert.Kernel31Ideal.Hand.run_values m ρ, leaves (Cert.Reference31Ideal.Value.run (F := Ideal) m' ρ') fun c =>
    (Cert.Reference29Ideal.Hand.normed_eq _ _).trans (by rw [(agree c).1, (agree c).2])⟩

theorem algebraic32 : Cert.algebraic_Kernel32Ideal_Reference32Ideal (hKernel32Ideal := Cert.Kernel32Ideal.Gen.facts)
    (hReference32Ideal := Cert.Reference32Ideal.Gen.facts) := by
  intro m ρ m' ρ' _ agree
  refine ⟨_, _, Cert.Kernel32Ideal.Hand.run_values m ρ, θ_run_mono (Cert.Reference32Ideal.Value.run (F := Ideal) m' ρ') fun r h c => ?_⟩
  obtain ⟨e0, e1, e2, e3⟩ := agree c
  refine ⟨(h c).1.trans ((Cert.Reference32Ideal.Hand.input_eq _ _ _ _).trans ?_),
    (h c).2.1.trans ((Cert.Reference32Ideal.Hand.gain_eq _ _).trans ?_), (h c).2.2⟩
  · rw [e0, e1, e2, e3]
  · rw [e0, e1]

theorem algebraic33 : Cert.algebraic_Kernel33Ideal_Reference33Ideal (hKernel33Ideal := Cert.Kernel33Ideal.Gen.facts)
    (hReference33Ideal := Cert.Reference33Ideal.Gen.facts) := by
  intro m ρ m' ρ' _ agree
  refine ⟨_, _, _, _, Cert.Kernel33Ideal.Hand.run_values m ρ,
    θ_run_mono (Cert.Reference33Ideal.Value.run (F := Ideal) m' ρ') fun r h c => ?_⟩
  obtain ⟨e0, e1, e2, e3, e4⟩ := agree c
  refine ⟨(h c).1.trans ((Cert.Reference33Ideal.Hand.gate_eq _ _ _ _ _).trans ?_),
    (h c).2.1.trans ((Cert.Reference33Ideal.Hand.first_eq _ _ _).trans ?_),
    (h c).2.2.1.trans ((Cert.Reference33Ideal.Hand.second_eq _ _ _).trans ?_),
    (h c).2.2.2.1.trans ((Cert.Reference33Ideal.Hand.bias_eq _ _ _ _ _).trans ?_), (h c).2.2.2.2⟩
  · rw [e0, e1, e2, e3, e4]
  · rw [e0, e3, e4]
  · rw [e0, e3, e4]
  · rw [e0, e1, e2, e3, e4]

theorem algebraic34 : Cert.algebraic_Kernel34Ideal_Reference34Ideal (hKernel34Ideal := Cert.Kernel34Ideal.Gen.facts)
    (hReference34Ideal := Cert.Reference34Ideal.Gen.facts) := by
  intro m ρ m' ρ' _ agree
  refine ⟨_, _, Cert.Kernel34Ideal.Hand.run_values m ρ, θ_run_mono (Cert.Reference34Ideal.Value.run (F := Ideal) m' ρ') fun r h c => ?_⟩
  obtain ⟨e0, e1, e2, e3⟩ := agree c
  refine ⟨(h c).1.trans ((Cert.Reference32Ideal.Hand.input_eq _ _ _ _).trans ?_),
    (h c).2.1.trans ((Cert.Reference32Ideal.Hand.gain_eq _ _).trans ?_), (h c).2.2⟩
  · rw [e0, e1, e2, e3]
  · rw [e0, e1]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts, finite_facts,
    quiescent_kernel, quiescent_kernelIdeal, fun m ρ _ => quiescent_kernelIdeal m ρ trivial,
    quiescent_referenceIdeal, fun m ρ _ => quiescent_referenceIdeal m ρ trivial,
    fun m ρ _ => Cert.Kernel2.Gen.frame m ρ, fun m ρ _ => Cert.Kernel2Ideal.Gen.frame m ρ,
    fun m ρ _ => rests (by decide) (Cert.Reference2Ideal.Value.run (F := Ideal) m ρ),
    fun m ρ _ => Cert.Kernel3.Gen.frame m ρ, fun m ρ _ => Cert.Kernel3Ideal.Gen.frame m ρ,
    fun m ρ _ => rests (by decide) (Cert.Reference3Ideal.Value.run (F := Ideal) m ρ),
    fun m ρ _ => Cert.Kernel4.Gen.frame m ρ, fun m ρ _ => Cert.Kernel4Ideal.Gen.frame m ρ,
    fun m ρ _ => rests (by decide) (Cert.Reference4Ideal.Value.run (F := Ideal) m ρ),
    fun m ρ _ => Cert.Kernel5.Gen.frame m ρ, fun m ρ _ => Cert.Kernel5Ideal.Gen.frame m ρ,
    fun m ρ _ => rests (by decide) (Cert.Reference5Ideal.Value.run (F := Ideal) m ρ),
    fun m ρ _ => Cert.Kernel6.Gen.frame m ρ, fun m ρ _ => Cert.Kernel6Ideal.Gen.frame m ρ,
    quiescent_reference6Ideal,
    fun m ρ _ => Cert.Kernel7.Gen.frame m ρ, fun m ρ _ => Cert.Kernel7Ideal.Gen.frame m ρ,
    fun m ρ _ => rests (by decide) (Cert.Reference7Ideal.Value.run (F := Ideal) m ρ),
    fun m ρ _ => Cert.Kernel8.Gen.frame m ρ, fun m ρ _ => Cert.Kernel8Ideal.Gen.frame m ρ,
    fun m ρ _ => rests (by decide) (Cert.Reference8Ideal.Value.run (F := Ideal) m ρ),
    fun m ρ _ => Cert.Kernel9.Gen.frame m ρ, fun m ρ _ => Cert.Kernel9Ideal.Gen.frame m ρ,
    fun m ρ _ => rests (by decide) (Cert.Reference9Ideal.Value.run (F := Ideal) m ρ),
    fun m ρ _ => Cert.Kernel10.Gen.frame m ρ, fun m ρ _ => Cert.Kernel10Ideal.Gen.frame m ρ,
    fun m ρ _ => rests (by decide) (Cert.Reference10Ideal.Value.run (F := Ideal) m ρ),
    fun m ρ _ => Cert.Kernel11.Gen.frame m ρ, fun m ρ _ => Cert.Kernel11Ideal.Gen.frame m ρ,
    fun m ρ _ => rests (by decide) (Cert.Reference11Ideal.Value.run (F := Ideal) m ρ),
    fun m ρ _ => Cert.Kernel12.Gen.frame m ρ, fun m ρ _ => Cert.Kernel12Ideal.Gen.frame m ρ,
    fun m ρ _ => rests (by decide) (Cert.Reference12Ideal.Value.run (F := Ideal) m ρ),
    fun m ρ _ => Cert.Kernel13.Gen.frame m ρ, fun m ρ _ => Cert.Kernel13Ideal.Gen.frame m ρ,
    fun m ρ _ => rests (by decide) (Cert.Reference13Ideal.Value.run (F := Ideal) m ρ),
    fun m ρ _ => Cert.Kernel14.Gen.frame m ρ, fun m ρ _ => Cert.Kernel14Ideal.Gen.frame m ρ,
    fun m ρ _ => rests (by decide) (Cert.Reference14Ideal.Value.run (F := Ideal) m ρ),
    fun m ρ _ => Cert.Kernel15.Gen.frame m ρ, fun m ρ _ => Cert.Kernel15Ideal.Gen.frame m ρ,
    fun m ρ _ => rests (by decide) (Cert.Reference15Ideal.Value.run (F := Ideal) m ρ),
    fun m ρ _ => Cert.Kernel16.Gen.frame m ρ, fun m ρ _ => Cert.Kernel16Ideal.Gen.frame m ρ,
    fun m ρ _ => rests (by decide) (Cert.Reference16Ideal.Value.run (F := Ideal) m ρ),
    fun m ρ _ => Cert.Kernel17.Gen.frame m ρ, fun m ρ _ => Cert.Kernel17Ideal.Gen.frame m ρ,
    fun m ρ _ => rests (by decide) (Cert.Reference17Ideal.Value.run (F := Ideal) m ρ),
    fun m ρ _ => Cert.Kernel18.Gen.frame m ρ, fun m ρ _ => Cert.Kernel18Ideal.Gen.frame m ρ,
    fun m ρ _ => rests (by decide) (Cert.Reference18Ideal.Value.run (F := Ideal) m ρ),
    fun m ρ _ => Cert.Kernel19.Gen.frame m ρ, fun m ρ _ => Cert.Kernel19Ideal.Gen.frame m ρ,
    fun m ρ _ => rests (by decide) (Cert.Reference19Ideal.Value.run (F := Ideal) m ρ),
    fun m ρ _ => Cert.Kernel20.Gen.frame m ρ, fun m ρ _ => Cert.Kernel20Ideal.Gen.frame m ρ,
    fun m ρ _ => rests (by decide) (Cert.Reference20Ideal.Value.run (F := Ideal) m ρ),
    fun m ρ _ => Cert.Kernel21.Gen.frame m ρ, fun m ρ _ => Cert.Kernel21Ideal.Gen.frame m ρ,
    fun m ρ _ => rests (by decide) (Cert.Reference21Ideal.Value.run (F := Ideal) m ρ),
    fun m ρ _ => Cert.Kernel22.Gen.frame m ρ, fun m ρ _ => Cert.Kernel22Ideal.Gen.frame m ρ,
    fun m ρ _ => rests (by decide) (Cert.Reference22Ideal.Value.run (F := Ideal) m ρ),
    fun m ρ _ => Cert.Kernel23.Gen.frame m ρ, fun m ρ _ => Cert.Kernel23Ideal.Gen.frame m ρ,
    fun m ρ _ => rests (by decide) (Cert.Reference23Ideal.Value.run (F := Ideal) m ρ),
    fun m ρ _ => Cert.Kernel24.Gen.frame m ρ, fun m ρ _ => Cert.Kernel24Ideal.Gen.frame m ρ,
    fun m ρ _ => rests (by decide) (Cert.Reference24Ideal.Value.run (F := Ideal) m ρ),
    fun m ρ _ => Cert.Kernel25.Gen.frame m ρ, fun m ρ _ => Cert.Kernel25Ideal.Gen.frame m ρ,
    fun m ρ _ => rests (by decide) (Cert.Reference25Ideal.Value.run (F := Ideal) m ρ),
    fun m ρ _ => Cert.Kernel26.Gen.frame m ρ, fun m ρ _ => Cert.Kernel26Ideal.Gen.frame m ρ,
    fun m ρ _ => rests (by decide) (Cert.Reference26Ideal.Value.run (F := Ideal) m ρ),
    fun m ρ _ => Cert.Kernel27.Gen.frame m ρ, fun m ρ _ => Cert.Kernel27Ideal.Gen.frame m ρ,
    fun m ρ _ => rests (by decide) (Cert.Reference27Ideal.Value.run (F := Ideal) m ρ),
    fun m ρ _ => Cert.Kernel28.Gen.frame m ρ, fun m ρ _ => Cert.Kernel28Ideal.Gen.frame m ρ,
    fun m ρ _ => rests (by decide) (Cert.Reference28Ideal.Value.run (F := Ideal) m ρ),
    fun m ρ _ => Cert.Kernel29.Gen.frame m ρ, fun m ρ _ => Cert.Kernel29Ideal.Gen.frame m ρ,
    fun m ρ _ => rests (by decide) (Cert.Reference29Ideal.Value.run (F := Ideal) m ρ),
    fun m ρ _ => Cert.Kernel30.Gen.frame m ρ, fun m ρ _ => Cert.Kernel30Ideal.Gen.frame m ρ,
    fun m ρ _ => rests (by decide) (Cert.Reference30Ideal.Value.run (F := Ideal) m ρ),
    fun m ρ _ => Cert.Kernel31.Gen.frame m ρ, fun m ρ _ => Cert.Kernel31Ideal.Gen.frame m ρ,
    fun m ρ _ => rests (by decide) (Cert.Reference31Ideal.Value.run (F := Ideal) m ρ),
    fun m ρ _ => Cert.Kernel32.Gen.frame m ρ, fun m ρ _ => Cert.Kernel32Ideal.Gen.frame m ρ,
    fun m ρ _ => rests (by decide) (θ_run_mono (Cert.Reference32Ideal.Value.run (F := Ideal) m ρ) fun _ h c => (h c).2),
    fun m ρ _ => Cert.Kernel33.Gen.frame m ρ, fun m ρ _ => Cert.Kernel33Ideal.Gen.frame m ρ,
    fun m ρ _ => rests (by decide) (θ_run_mono (Cert.Reference33Ideal.Value.run (F := Ideal) m ρ) fun _ h c => (h c).2.2.2),
    fun m ρ _ => Cert.Kernel34.Gen.frame m ρ, fun m ρ _ => Cert.Kernel34Ideal.Gen.frame m ρ,
    fun m ρ _ => rests (by decide) (θ_run_mono (Cert.Reference34Ideal.Value.run (F := Ideal) m ρ) fun _ h c => (h c).2),
    preserves, algebraic, trivial, algebraic2, trivial, algebraic3,
    trivial, algebraic4, trivial, algebraic5, trivial, algebraic6, trivial, algebraic7,
    trivial, algebraic8, trivial, algebraic9, trivial, algebraic10,
    trivial, algebraic11, trivial, algebraic12, trivial, algebraic13,
    trivial, algebraic14, trivial, algebraic15, trivial, algebraic16,
    trivial, algebraic17, trivial, algebraic18, trivial, algebraic19,
    trivial, algebraic20, trivial, algebraic21, trivial, algebraic22,
    trivial, algebraic23, trivial, algebraic24, trivial, algebraic25,
    trivial, algebraic26, trivial, algebraic27, trivial, algebraic28,
    trivial, algebraic29, trivial, algebraic30, trivial, algebraic31,
    trivial, algebraic32, trivial, algebraic33, trivial, algebraic34⟩

end Cert.Proof

end
